-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v3) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)) (v1 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_v10) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v10)) (v1 : (c : Dev Cert.Kernel7Ideal.nD) → Buf (Elt Ideal) ((c.tc : Thread Cert.Kernel7Ideal.nD Cert.Kernel7Ideal.τ).loc Cert.Kernel7Ideal.main_v12)) (v2 : (c : Dev Cert.Kernel7Ideal.nD) → Buf (Elt Ideal) ((c.tc : Thread Cert.Kernel7Ideal.nD Cert.Kernel7Ideal.τ).loc Cert.Kernel7Ideal.main_v6)) (v3 : (c : Dev Cert.Kernel7Ideal.nD) → Buf (Elt Ideal) ((c.tc : Thread Cert.Kernel7Ideal.nD Cert.Kernel7Ideal.τ).loc Cert.Kernel7Ideal.main_v5_2)) (v4 : (c : Dev Cert.Kernel7Ideal.nD) → Buf (Elt Ideal) ((c.tc : Thread Cert.Kernel7Ideal.nD Cert.Kernel7Ideal.τ).loc Cert.Kernel7Ideal.main_v5_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_v12) = v1 c
          ∧ r.2.mem ((c.tc : Thread Cert.Kernel7Ideal.nD Cert.Kernel7Ideal.τ).loc Cert.Kernel7Ideal.main_v6) = v2 c
          ∧ r.2.mem ((c.tc : Thread Cert.Kernel7Ideal.nD Cert.Kernel7Ideal.τ).loc Cert.Kernel7Ideal.main_v5_2) = v3 c
          ∧ r.2.mem ((c.tc : Thread Cert.Kernel7Ideal.nD Cert.Kernel7Ideal.τ).loc Cert.Kernel7Ideal.main_v5_3) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_v48) = v1 c
          ∧ r.2.mem ((c.tc : Thread Cert.Reference7Ideal.nD Cert.Reference7Ideal.τ).loc Cert.Reference7Ideal.main_v49) = v2 c
          ∧ r.2.mem ((c.tc : Thread Cert.Reference7Ideal.nD Cert.Reference7Ideal.τ).loc Cert.Reference7Ideal.main_v50) = v3 c
          ∧ r.2.mem ((c.tc : Thread Cert.Reference7Ideal.nD Cert.Reference7Ideal.τ).loc Cert.Reference7Ideal.main_v51) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2048x10240 : Shape := ⟨2, ![2048, 10240]⟩
abbrev S8x192 : Shape := ⟨2, ![8, 192]⟩
abbrev S2048x1024 : Shape := ⟨2, ![2048, 1024]⟩
abbrev S2048x2048 : Shape := ⟨2, ![2048, 2048]⟩
abbrev S_ : Shape := ⟨0, ![]⟩

class Facts : Prop where
  slices_S2048x10240_S2048x2048_0_3072 : S2048x10240.Slices ![0, 3072] S2048x2048
  bcast_S_S2048x2048 : S_.BroadcastsInDim S2048x2048 (![] : Fin 0 → Fin S2048x2048.rank)
  bcast_S_S8x192 : S_.BroadcastsInDim S8x192 (![] : Fin 0 → Fin S8x192.rank)

variable [Facts]

def fn {F : FTy → Type} [FloatOps F] (main_arg0 : FVec F S2048x10240 .f32) (main_arg1 : FVec F S8x192 .f32) (main_arg2 : FVec F S2048x1024 .bf16) : IVec S2048x2048 1 × IVec S8x192 1 :=
  let main_v0 : FVec F S2048x2048 .f32 := (extractStridedSlice S2048x2048 ![0, 3072] · slices_S2048x10240_S2048x2048_0_3072) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S8x192 .f32 := Host.absf main_arg1
  let main_cst_0 : FVec F S_ .f32 := constant S_ .f32 0x7F800000#32
  let main_v5 : FVec F S8x192 .f32 := broadcastInDim S8x192 ![] bcast_S_S8x192 main_cst_0
  let main_v6 : IVec S8x192 1 := cmpf .olt main_v4 main_v5
  (main_v3, main_v6)
-- ==== Pre_finite2.lean ====
abbrev S2048x2048 : Shape := ⟨2, ![2048, 2048]⟩
abbrev S2048x11264 : Shape := ⟨2, ![2048, 11264]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S2048x2048 .bf16) (main_arg1 : FVec F S2048x11264 .bf16) (main_arg2 : FVec F S5632x2048 .bf16) (main_arg3 : FVec F S2048x2048 .bf16) : IVec S2048x2048 1 × IVec S2048x11264 1 × IVec S5632x2048 1 × IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x11264 .f32 := (extf .f32 · bitsLt_bf16_f32) main_arg1
  let main_v5 : FVec F S2048x11264 .f32 := Host.absf main_v4
  let main_cst_0 : FVec F S_ .f32 := constant S_ .f32 0x7F800000#32
  let main_v6 : FVec F S2048x11264 .f32 := broadcastInDim S2048x11264 ![] bcast_S_S2048x11264 main_cst_0
  let main_v7 : IVec S2048x11264 1 := cmpf .olt main_v5 main_v6
  let main_v8 : FVec F S5632x2048 .f32 := (extf .f32 · bitsLt_bf16_f32) main_arg2
  let main_v9 : FVec F S5632x2048 .f32 := Host.absf main_v8
  let main_cst_1 : FVec F S_ .f32 := constant S_ .f32 0x7F800000#32
  let main_v10 : FVec F S5632x2048 .f32 := broadcastInDim S5632x2048 ![] bcast_S_S5632x2048 main_cst_1
  let main_v11 : IVec S5632x2048 1 := cmpf .olt main_v9 main_v10
  let main_v12 : FVec F S2048x2048 .f32 := (extf .f32 · bitsLt_bf16_f32) main_arg3
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  (main_v3, main_v7, main_v11, main_v15)
-- ==== Kernel.lean ====
abbrev S2048x10240 : Shape := ⟨2, ![2048, 10240]⟩
abbrev S8x192 : Shape := ⟨2, ![8, 192]⟩
abbrev S2048x1024 : Shape := ⟨2, ![2048, 1024]⟩
abbrev S_ : Shape := ⟨0, ![]⟩
abbrev S8x256 : Shape := ⟨2, ![8, 256]⟩
abbrev S8x768 : Shape := ⟨2, ![8, 768]⟩
abbrev S768x256 : Shape := ⟨2, ![768, 256]⟩
abbrev S8x769 : Shape := ⟨2, ![8, 769]⟩
abbrev S1x8x1x769 : Shape := ⟨4, ![1, 8, 1, 769]⟩
abbrev S1x8x128x769 : Shape := ⟨4, ![1, 8, 128, 769]⟩
abbrev S8x98432 : Shape := ⟨2, ![8, 98432]⟩
abbrev S8x98304 : Shape := ⟨2, ![8, 98304]⟩
abbrev S8x128x768 : Shape := ⟨3, ![8, 128, 768]⟩
abbrev S8x128x640 : Shape := ⟨3, ![8, 128, 640]⟩
abbrev S2048x256 : Shape := ⟨2, ![2048, 256]⟩
abbrev S2x128x640 : Shape := ⟨3, ![2, 128, 640]⟩
abbrev S2560x256 : Shape := ⟨2, ![2560, 256]⟩
abbrev S512x256 : Shape := ⟨2, ![512, 256]⟩
abbrev S256x768 : Shape := ⟨2, ![256, 768]⟩
abbrev S1x128x640 : Shape := ⟨3, ![1, 128, 640]⟩
abbrev S128x640 : Shape := ⟨2, ![128, 640]⟩
abbrev S128x128 : Shape := ⟨2, ![128, 128]⟩
abbrev S128x768 : Shape := ⟨2, ![128, 768]⟩
abbrev S256x128 : Shape := ⟨2, ![256, 128]⟩
abbrev S768x128 : Shape := ⟨2, ![768, 128]⟩
abbrev S256 : Shape := ⟨1, ![256]⟩
abbrev S256x1 : Shape := ⟨2, ![256, 1]⟩
abbrev S8x129x768 : Shape := ⟨3, ![8, 129, 768]⟩
abbrev S8x99072 : Shape := ⟨2, ![8, 99072]⟩
abbrev S8x128x769 : Shape := ⟨3, ![8, 128, 769]⟩
abbrev S8x1x256 : Shape := ⟨3, ![8, 1, 256]⟩
abbrev S1x128x768 : Shape := ⟨3, ![1, 128, 768]⟩
abbrev S1x1x256 : Shape := ⟨3, ![1, 1, 256]⟩
abbrev S768 : Shape := ⟨1, ![768]⟩
abbrev S1x768 : Shape := ⟨2, ![1, 768]⟩
abbrev S1x256 : Shape := ⟨2, ![1, 256]⟩

abbrev nBuf : Space → Nat
  | .hbm => 30
  | .vmem => 28
  | .smem => 0
  | _ => 0

abbrev bufTy : (tb : Table) → Fin (tcTables nBuf tb) → BufTy
  | .hbm, ⟨0, _⟩ => ⟨S2048x10240, .f32⟩
  | .hbm, ⟨1, _⟩ => ⟨S8x192, .f32⟩
  | .hbm, ⟨2, _⟩ => ⟨S2048x1024, .bf16⟩
  | .hbm, ⟨3, _⟩ => ⟨S_, .i32⟩
  | .hbm, ⟨4, _⟩ => ⟨S_, .f32⟩
  | .hbm, ⟨5, _⟩ => ⟨S8x256, .f32⟩
  | .hbm, ⟨6, _⟩ => ⟨S8x768, .f32⟩
  | .hbm, ⟨7, _⟩ => ⟨S_, .i32⟩
  | .hbm, ⟨8, _⟩ => ⟨S_, .f32⟩
  | .hbm, ⟨9, _⟩ => ⟨S8x769, .f32⟩
  | .hbm, ⟨10, _⟩ => ⟨S1x8x1x769, .f32⟩
  | .hbm, ⟨11, _⟩ => ⟨S1x8x128x769, .f32⟩
  | .hbm, ⟨12, _⟩ => ⟨S8x98432, .f32⟩
  | .hbm, ⟨13, _⟩ => ⟨S8x98304, .f32⟩
  | .hbm, ⟨14, _⟩ => ⟨S8x128x768, .f32⟩
  | .hbm, ⟨15, _⟩ => ⟨S8x128x640, .f32⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S8x128x640, .f32⟩
  | .hbm, ⟨20, _⟩ => ⟨S_, .i32⟩
  | .hbm, ⟨21, _⟩ => ⟨S_, .f32⟩
  | .hbm, ⟨22, _⟩ => ⟨S8x129x768, .f32⟩
  | .hbm, ⟨23, _⟩ => ⟨S8x99072, .f32⟩
  | .hbm, ⟨24, _⟩ => ⟨S8x98432, .f32⟩
  | .hbm, ⟨25, _⟩ => ⟨S8x128x769, .f32⟩
  | .hbm, ⟨26, _⟩ => ⟨S8x128x768, .f32⟩
  | .hbm, ⟨27, _⟩ => ⟨S8x1x256, .f32⟩
  | .hbm, ⟨28, _⟩ => ⟨S8x256, .f32⟩
  | .hbm, ⟨29, _⟩ => ⟨S8x192, .f32⟩
  | .local _ .vmem, ⟨0, _⟩ => ⟨S8x256, .f32⟩
  | .local _ .vmem, ⟨1, _⟩ => ⟨S8x768, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2x128x640, .f32⟩
  | .local _ .vmem, ⟨9, _⟩ => ⟨S2x128x640, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2x128x640, .f32⟩
  | .local _ .vmem, ⟨19, _⟩ => ⟨S2x128x640, .f32⟩
  | .local _ .vmem, ⟨20, _⟩ => ⟨S2560x256, .bf16⟩
  | .local _ .vmem, ⟨21, _⟩ => ⟨S2560x256, .bf16⟩
  | .local _ .vmem, ⟨22, _⟩ => ⟨S2560x256, .f32⟩
  | .local _ .vmem, ⟨23, _⟩ => ⟨S2560x256, .f32⟩
  | .local _ .vmem, ⟨24, _⟩ => ⟨S1x128x768, .f32⟩
  | .local _ .vmem, ⟨25, _⟩ => ⟨S1x128x768, .f32⟩
  | .local _ .vmem, ⟨26, _⟩ => ⟨S1x1x256, .f32⟩
  | .local _ .vmem, ⟨27, _⟩ => ⟨S1x1x256, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23

abbrev nD : Nat := 1
abbrev τ : Topo := Topo.v7x

variable {F : FTy → Type} [FloatOps F]

abbrev grid0 : Pipeline.Grid := .none

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![4], ![false]⟩

@[reducible] def k1_t1_loop : Scf.Loop 32 :=
  let c0_i32_41 : BitVec 32 := 0#32
  let c8_i32_42 : BitVec 32 := 8#32
  let v97 : BitVec 32 := Scalar.addi c0_i32_41 c8_i32_42
  let c1_i32_43 : BitVec 32 := 1#32
  ⟨c0_i32_41, v97, c1_i32_43⟩
def k1_mult1 (k1_t1 : Fin k1_t1_loop.trips) : BitVec 32 :=
  let c0_i32_41 : BitVec 32 := 0#32
  let c1_i32_43 : BitVec 32 := 1#32
  let arg14 : BitVec 32 := Scf.iv c0_i32_41 c1_i32_43 k1_t1
  let c256_i32 : BitVec 32 := 256#32
  let v104 : BitVec 32 := Scalar.muli arg14 c256_i32
  v104
def k1_off1 (k1_t1 : Fin k1_t1_loop.trips) : Fin 2 → Nat :=
  let c0_i32_41 : BitVec 32 := 0#32
  let c1_i32_43 : BitVec 32 := 1#32
  let arg14 : BitVec 32 := Scf.iv c0_i32_41 c1_i32_43 k1_t1
  let c256_i32 : BitVec 32 := 256#32
  let v104 : BitVec 32 := Scalar.muli arg14 c256_i32
  let v105 : BitVec 32 := v104
  let v106 : Index := Scalar.indexCast v105
  let c0_53 : Index := 0#32
  ![v106.toNat, 0]
def k1_off2 (k1_t1 : Fin k1_t1_loop.trips) : Fin 2 → Nat :=
  let c0_i32_41 : BitVec 32 := 0#32
  let c1_i32_43 : BitVec 32 := 1#32
  let arg14 : BitVec 32 := Scf.iv c0_i32_41 c1_i32_43 k1_t1
  let c256_i32 : BitVec 32 := 256#32
  let v104 : BitVec 32 := Scalar.muli arg14 c256_i32
  let v105 : BitVec 32 := v104
  let v109 : Index := Scalar.indexCast v105
  let c0_54 : Index := 0#32
  ![v109.toNat, 0]
def k1_off3 (k1_t1 : Fin k1_t1_loop.trips) : Fin 2 → Nat :=
  let c0_i32_41 : BitVec 32 := 0#32
  let c1_i32_43 : BitVec 32 := 1#32
  let arg14 : BitVec 32 := Scf.iv c0_i32_41 c1_i32_43 k1_t1
  let c256_i32 : BitVec 32 := 256#32
  let v104 : BitVec 32 := Scalar.muli arg14 c256_i32
  let v105 : BitVec 32 := v104
  let v178 : Index := Scalar.indexCast v105
  let c128 : Index := 128#32
  ![v178.toNat, 128]
def k1_off4 (k1_t1 : Fin k1_t1_loop.trips) : Fin 2 → Nat :=
  let c0_i32_41 : BitVec 32 := 0#32
  let c1_i32_43 : BitVec 32 := 1#32
  let arg14 : BitVec 32 := Scf.iv c0_i32_41 c1_i32_43 k1_t1
  let c256_i32 : BitVec 32 := 256#32
  let v104 : BitVec 32 := Scalar.muli arg14 c256_i32
  let v105 : BitVec 32 := v104
  let v181 : Index := Scalar.indexCast v105
  let c128_81 : Index := 128#32
  ![v181.toNat, 128]
def cc1_transform_0 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_6 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x128x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2x128x640 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S2048x10240 : Shape := ⟨2, ![2048, 10240]⟩
abbrev S8x192 : Shape := ⟨2, ![8, 192]⟩
abbrev S2048x1024 : Shape := ⟨2, ![2048, 1024]⟩
abbrev S2048x8x128 : Shape := ⟨3, ![2048, 8, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S8x2048x2048 : Shape := ⟨3, ![8, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩

abbrev nBuf : Space → Nat
  | .hbm => 209
  | .vmem => 0
  | .smem => 0
  | _ => 0

abbrev hbmTy0_0 (i : Nat) : BufTy := match i % 128 with
  | 0 => ⟨S2048x10240, .f32⟩
  | 1 => ⟨S8x192, .f32⟩
  | 2 => ⟨S2048x1024, .bf16⟩
  | 3 => ⟨S2048x1024, .f32⟩
  | 4 => ⟨S2048x8x128, .f32⟩
  | 5 => ⟨S2048x1024, .f32⟩
  | 6 => ⟨S2048x8x128, .f32⟩
  | 7 => ⟨S2048x1024, .f32⟩
  | 8 => ⟨S2048x8x128, .f32⟩
  | 9 => ⟨S2048x1024, .f32⟩
  | 10 => ⟨S2048x8x128, .f32⟩
  | 11 => ⟨S2048, .i32⟩
  | 12 => ⟨S2048x1, .i32⟩
  | 13 => ⟨S2048, .i32⟩
  | 14 => ⟨S1x2048, .i32⟩
  | 15 => ⟨S2048x2048, .i32⟩
  | 16 => ⟨S2048x2048, .i32⟩
  | 17 => ⟨S2048x2048, .i32⟩
  | 18 => ⟨S_, .i32⟩
  | 19 => ⟨S_, .i32⟩
  | 20 => ⟨S_, .i32⟩
  | 21 => ⟨S2048x2048, .i32⟩
  | 22 => ⟨S2048x2048, .i32⟩
  | 23 => ⟨S_, .i32⟩
  | 24 => ⟨S2048x2048, .i32⟩
  | 25 => ⟨S2048x2048, .i32⟩
  | 26 => ⟨S_, .i32⟩
  | 27 => ⟨S2048x2048, .i32⟩
  | 28 => ⟨S2048x2048, .i32⟩
  | 29 => ⟨S_, .i32⟩
  | 30 => ⟨S2048x2048, .i32⟩
  | 31 => ⟨S2048x2048, .i1⟩
  | 32 => ⟨S_, .i32⟩
  | 33 => ⟨S2048x2048, .i32⟩
  | 34 => ⟨S2048x2048, .i32⟩
  | 35 => ⟨S2048x2048, .i32⟩
  | 36 => ⟨S2048x2048x1, .i32⟩
  | 37 => ⟨S8x2048x2048, .f32⟩
  | 38 => ⟨S_, .i32⟩
  | 39 => ⟨S_, .i32⟩
  | 40 => ⟨S1x2048, .i32⟩
  | 41 => ⟨S1x2048, .i32⟩
  | 42 => ⟨S1x2048, .i32⟩
  | 43 => ⟨S_, .i32⟩
  | 44 => ⟨S1x2048, .i32⟩
  | 45 => ⟨S1x2048, .i1⟩
  | 46 => ⟨S1x2048, .i32⟩
  | 47 => ⟨S1x2048, .i32⟩
  | 48 => ⟨S_, .i32⟩
  | 49 => ⟨S1x2048, .i32⟩
  | 50 => ⟨S1x2048, .i1⟩
  | 51 => ⟨S1x2048, .i1⟩
  | 52 => ⟨S_, .i32⟩
  | 53 => ⟨S1x2048, .i32⟩
  | 54 => ⟨S1x2048, .i32⟩
  | 55 => ⟨S1x2048, .i32⟩
  | 56 => ⟨S_, .i32⟩
  | 57 => ⟨S_, .i32⟩
  | 58 => ⟨S2048x1, .i32⟩
  | 59 => ⟨S2048x1, .i32⟩
  | 60 => ⟨S2048x1, .i32⟩
  | 61 => ⟨S_, .i32⟩
  | 62 => ⟨S2048x1, .i32⟩
  | 63 => ⟨S2048x1, .i1⟩
  | 64 => ⟨S2048x1, .i32⟩
  | 65 => ⟨S2048x1, .i32⟩
  | 66 => ⟨S_, .i32⟩
  | 67 => ⟨S2048x1, .i32⟩
  | 68 => ⟨S2048x1, .i1⟩
  | 69 => ⟨S2048x1, .i1⟩
  | 70 => ⟨S_, .i32⟩
  | 71 => ⟨S2048x1, .i32⟩
  | 72 => ⟨S2048x1, .i32⟩
  | 73 => ⟨S2048x1, .i32⟩
  | 74 => ⟨S2048x2048, .i32⟩
  | 75 => ⟨S2048x2048, .i32⟩
  | 76 => ⟨S2048x2048, .i1⟩
  | 77 => ⟨S_, .i32⟩
  | 78 => ⟨S_, .i32⟩
  | 79 => ⟨S2048x1, .i32⟩
  | 80 => ⟨S2048x1, .i32⟩
  | 81 => ⟨S2048x1, .i32⟩
  | 82 => ⟨S_, .i32⟩
  | 83 => ⟨S2048x1, .i32⟩
  | 84 => ⟨S2048x1, .i1⟩
  | 85 => ⟨S2048x1, .i32⟩
  | 86 => ⟨S2048x1, .i32⟩
  | 87 => ⟨S_, .i32⟩
  | 88 => ⟨S2048x1, .i32⟩
  | 89 => ⟨S2048x1, .i1⟩
  | 90 => ⟨S2048x1, .i1⟩
  | 91 => ⟨S_, .i32⟩
  | 92 => ⟨S2048x1, .i32⟩
  | 93 => ⟨S2048x1, .i32⟩
  | 94 => ⟨S2048x1, .i32⟩
  | 95 => ⟨S_, .i32⟩
  | 96 => ⟨S_, .i32⟩
  | 97 => ⟨S1x2048, .i32⟩
  | 98 => ⟨S1x2048, .i32⟩
  | 99 => ⟨S1x2048, .i32⟩
  | 100 => ⟨S_, .i32⟩
  | 101 => ⟨S1x2048, .i32⟩
  | 102 => ⟨S1x2048, .i1⟩
  | 103 => ⟨S1x2048, .i32⟩
  | 104 => ⟨S1x2048, .i32⟩
  | 105 => ⟨S_, .i32⟩
  | 106 => ⟨S1x2048, .i32⟩
  | 107 => ⟨S1x2048, .i1⟩
  | 108 => ⟨S1x2048, .i1⟩
  | 109 => ⟨S_, .i32⟩
  | 110 => ⟨S1x2048, .i32⟩
  | 111 => ⟨S1x2048, .i32⟩
  | 112 => ⟨S1x2048, .i32⟩
  | 113 => ⟨S_, .i32⟩
  | 114 => ⟨S1x2048, .i32⟩
  | 115 => ⟨S1x2048, .i32⟩
  | 116 => ⟨S2048x2048, .i32⟩
  | 117 => ⟨S2048x2048, .i32⟩
  | 118 => ⟨S2048x2048, .i1⟩
  | 119 => ⟨S2048x2048, .i1⟩
  | 120 => ⟨S8x2048x2048, .f32⟩
  | 121 => ⟨S_, .f32⟩
  | 122 => ⟨S8x2048x2048, .f32⟩
  | 123 => ⟨S8x2048x2048, .f32⟩
  | 124 => ⟨S8x2048x2048, .f32⟩
  | 125 => ⟨S_, .f32⟩
  | 126 => ⟨S_, .f32⟩
  | 127 => ⟨S8x2048x2048, .i1⟩
  | _ => ⟨S2048x10240, .f32⟩

abbrev hbmTy0_1 (i : Nat) : BufTy := match i % 128 with
  | 0 => ⟨S8x2048x2048, .f32⟩
  | 1 => ⟨S8x2048x2048, .f32⟩
  | 2 => ⟨S_, .f32⟩
  | 3 => ⟨S8x2048x2048, .f32⟩
  | 4 => ⟨S_, .f32⟩
  | 5 => ⟨S8x2048, .f32⟩
  | 6 => ⟨S8x2048x1, .f32⟩
  | 7 => ⟨S8x2048x2048, .f32⟩
  | 8 => ⟨S8x2048x2048, .i1⟩
  | 9 => ⟨S8x2048x2048, .f32⟩
  | 10 => ⟨S_, .f32⟩
  | 11 => ⟨S8x2048, .f32⟩
  | 12 => ⟨S_, .f32⟩
  | 13 => ⟨S8x2048, .f32⟩
  | 14 => ⟨S8x2048, .f32⟩
  | 15 => ⟨S_, .f32⟩
  | 16 => ⟨S8x2048, .f32⟩
  | 17 => ⟨S8x2048, .i1⟩
  | 18 => ⟨S_, .f32⟩
  | 19 => ⟨S8x2048, .f32⟩
  | 20 => ⟨S8x2048, .i1⟩
  | 21 => ⟨S_, .f32⟩
  | 22 => ⟨S8x2048, .f32⟩
  | 23 => ⟨S_, .f32⟩
  | 24 => ⟨S8x2048, .f32⟩
  | 25 => ⟨S_, .f32⟩
  | 26 => ⟨S8x2048, .f32⟩
  | 27 => ⟨S8x2048, .f32⟩
  | 28 => ⟨S8x2048, .f32⟩
  | 29 => ⟨S8x2048x1, .f32⟩
  | 30 => ⟨S8x2048x2048, .f32⟩
  | 31 => ⟨S8x2048x2048, .f32⟩
  | 32 => ⟨S8x2048x2048, .f32⟩
  | 33 => ⟨S_, .f32⟩
  | 34 => ⟨S8x2048, .f32⟩
  | 35 => ⟨S8x2048x1, .f32⟩
  | 36 => ⟨S8x2048x2048, .f32⟩
  | 37 => ⟨S8x2048x2048, .f32⟩
  | 38 => ⟨S8x2048x1, .f32⟩
  | 39 => ⟨S_, .f32⟩
  | 40 => ⟨S8x2048x1, .f32⟩
  | 41 => ⟨S8x2048x1, .f32⟩
  | 42 => ⟨S8x128x2048, .f32⟩
  | 43 => ⟨S2048x8x128, .f32⟩
  | 44 => ⟨S8x128x2048, .f32⟩
  | 45 => ⟨S8x2048x2048, .f32⟩
  | 46 => ⟨S8x128x2048, .f32⟩
  | 47 => ⟨S2048x8x128, .f32⟩
  | 48 => ⟨S8x2048x2048, .f32⟩
  | 49 => ⟨S8x2048x2048, .f32⟩
  | 50 => ⟨S8x2048x2048, .f32⟩
  | 51 => ⟨S_, .f32⟩
  | 52 => ⟨S8x2048, .f32⟩
  | 53 => ⟨S8x2048x1, .f32⟩
  | 54 => ⟨S8x2048x1, .f32⟩
  | 55 => ⟨S8x2048x2048, .f32⟩
  | 56 => ⟨S8x2048x2048, .f32⟩
  | 57 => ⟨S_, .f32⟩
  | 58 => ⟨S8x2048, .f32⟩
  | 59 => ⟨S8x2048x2048, .f32⟩
  | 60 => ⟨S8x2048x2048, .f32⟩
  | 61 => ⟨S8x2048x2048, .f32⟩
  | 62 => ⟨S_, .f32⟩
  | 63 => ⟨S8x2048x2048, .f32⟩
  | 64 => ⟨S8x2048x2048, .f32⟩
  | 65 => ⟨S_, .f32⟩
  | 66 => ⟨S8x2048x2048, .f32⟩
  | 67 => ⟨S8x2048x2048, .f32⟩
  | 68 => ⟨S8x2048x128, .f32⟩
  | 69 => ⟨S2048x8x128, .f32⟩
  | 70 => ⟨S8x2048x128, .f32⟩
  | 71 => ⟨S2048x8x128, .f32⟩
  | 72 => ⟨S_, .f32⟩
  | 73 => ⟨S8x192, .f32⟩
  | 74 => ⟨S8x192, .f32⟩
  | 75 => ⟨S2048x1024, .f32⟩
  | 76 => ⟨S2048x1024, .bf16⟩
  | 77 => ⟨S2048x1024, .f32⟩
  | 78 => ⟨S2048x1024, .bf16⟩
  | 79 => ⟨S2048x1024, .f32⟩
  | 80 => ⟨S2048x1024, .bf16⟩
  | _ => ⟨S2048x10240, .f32⟩

abbrev hbmTy (i : Nat) : BufTy := match i / 128 with
  | 0 => hbmTy0_0 i
  | 1 => hbmTy0_1 i
  | _ => ⟨S2048x10240, .f32⟩

abbrev bufTy : (tb : Table) → Fin (tcTables nBuf tb) → BufTy
  | .hbm, ⟨i, _⟩ => hbmTy i
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v25 : Ref sig .tc := ⟨.hbm, 55, rfl⟩
abbrev main_c_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_c_6 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v30 : Ref sig .tc := ⟨.hbm, 94, rfl⟩
abbrev main_c_7 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_c : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_0 : Ref sig .tc := ⟨.hbm, 109, rfl⟩
abbrev main_call4_v12 : Ref sig .tc := ⟨.hbm, 110, rfl⟩
abbrev main_call4_v13 : Ref sig .tc := ⟨.hbm, 111, rfl⟩
abbrev main_v31 : Ref sig .tc := ⟨.hbm, 112, rfl⟩
abbrev main_c_8 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_cst : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_cst_9 : Ref sig .tc := ⟨.hbm, 125, rfl⟩
abbrev main_call5_v0 : Ref sig .tc := ⟨.hbm, 126, rfl⟩
abbrev main_v42_1 : Ref sig .tc := ⟨.hbm, 127, rfl⟩
abbrev main_call5_v2 : Ref sig .tc := ⟨.hbm, 128, rfl⟩
abbrev main_v42_0 : Ref sig .tc := ⟨.hbm, 129, rfl⟩
abbrev main_call5_cst : Ref sig .tc := ⟨.hbm, 130, rfl⟩
abbrev main_v42_2 : Ref sig .tc := ⟨.hbm, 131, rfl⟩
abbrev main_cst_10 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_cst_11 : Ref sig .tc := ⟨.hbm, 138, rfl⟩
abbrev main_v48 : Ref sig .tc := ⟨.hbm, 139, rfl⟩
abbrev main_cst_12 : Ref sig .tc := ⟨.hbm, 140, rfl⟩
abbrev main_v49 : Ref sig .tc := ⟨.hbm, 141, rfl⟩
abbrev main_v50 : Ref sig .tc := ⟨.hbm, 142, rfl⟩
abbrev main_cst_13 : Ref sig .tc := ⟨.hbm, 143, rfl⟩
abbrev main_v51 : Ref sig .tc := ⟨.hbm, 144, rfl⟩
abbrev main_v52 : Ref sig .tc := ⟨.hbm, 145, rfl⟩
abbrev main_cst_14 : Ref sig .tc := ⟨.hbm, 146, rfl⟩
abbrev main_v53 : Ref sig .tc := ⟨.hbm, 147, rfl⟩
abbrev main_v54 : Ref sig .tc := ⟨.hbm, 148, rfl⟩
abbrev main_cst_15 : Ref sig .tc := ⟨.hbm, 149, rfl⟩
abbrev main_v55 : Ref sig .tc := ⟨.hbm, 150, rfl⟩
abbrev main_cst_16 : Ref sig .tc := ⟨.hbm, 151, rfl⟩
abbrev main_v56 : Ref sig .tc := ⟨.hbm, 152, rfl⟩
abbrev main_cst_17 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_cst_18 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_cst_19 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_cst_20 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_cst_21 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_call6_cst : Ref sig .tc := ⟨.hbm, 190, rfl⟩
abbrev main_call6_v0 : Ref sig .tc := ⟨.hbm, 191, rfl⟩
abbrev main_v89 : Ref sig .tc := ⟨.hbm, 192, rfl⟩
abbrev main_cst_22 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_cst_23 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩

abbrev nD : Nat := 1
abbrev τ : Topo := Topo.v7x

variable {F : FTy → Type} [FloatOps F]
-- ==== Kernel2.lean ====
abbrev S2048x2048 : Shape := ⟨2, ![2048, 2048]⟩
abbrev S2048x11264 : Shape := ⟨2, ![2048, 11264]⟩
abbrev S5632x2048 : Shape := ⟨2, ![5632, 2048]⟩
abbrev S2048x8x1408 : Shape := ⟨3, ![2048, 8, 1408]⟩
abbrev S8x2048x1408 : Shape := ⟨3, ![8, 2048, 1408]⟩
abbrev S2048x5632 : Shape := ⟨2, ![2048, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S2048x1024 : Shape := ⟨2, ![2048, 1024]⟩
abbrev S1408x1024 : Shape := ⟨2, ![1408, 1024]⟩
abbrev S1408x2048 : Shape := ⟨2, ![1408, 2048]⟩
abbrev S1x1024x1408 : Shape := ⟨3, ![1, 1024, 1408]⟩
abbrev S1024x1408 : Shape := ⟨2, ![1024, 1408]⟩

abbrev nBuf : Space → Nat
  | .hbm => 16
  | .vmem => 42
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .bf16⟩
  | .hbm, ⟨4, _⟩ => ⟨S2048x8x1408, .bf16⟩
  | .hbm, ⟨5, _⟩ => ⟨S8x2048x1408, .bf16⟩
  | .hbm, ⟨6, _⟩ => ⟨S2048x5632, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S2048x5632, .bf16⟩
  | .hbm, ⟨11, _⟩ => ⟨S2048x5632, .bf16⟩
  | .hbm, ⟨12, _⟩ => ⟨S8x2048x1408, .bf16⟩
  | .hbm, ⟨13, _⟩ => ⟨S8x2048x1408, .bf16⟩
  | .hbm, ⟨14, _⟩ => ⟨S2048x8x1408, .bf16⟩
  | .hbm, ⟨15, _⟩ => ⟨S2048x11264, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S2048x1408, .bf16⟩
  | .local _ .vmem, ⟨13, _⟩ => ⟨S2048x1408, .bf16⟩
  | .local _ .vmem, ⟨14, _⟩ => ⟨S2048x1024, .bf16⟩
  | .local _ .vmem, ⟨15, _⟩ => ⟨S2048x1024, .bf16⟩
  | .local _ .vmem, ⟨16, _⟩ => ⟨S1408x1024, .bf16⟩
  | .local _ .vmem, ⟨17, _⟩ => ⟨S1408x1024, .bf16⟩
  | .local _ .vmem, ⟨18, _⟩ => ⟨S512x2048, .bf16⟩
  | .local _ .vmem, ⟨19, _⟩ => ⟨S512x2048, .bf16⟩
  | .local _ .vmem, ⟨20, _⟩ => ⟨S1408x2048, .bf16⟩
  | .local _ .vmem, ⟨21, _⟩ => ⟨S1408x2048, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x1408, .bf16⟩
  | .local _ .vmem, ⟨30, _⟩ => ⟨S2048x1024, .bf16⟩
  | .local _ .vmem, ⟨31, _⟩ => ⟨S2048x1024, .bf16⟩
  | .local _ .vmem, ⟨32, _⟩ => ⟨S2048x1408, .bf16⟩
  | .local _ .vmem, ⟨33, _⟩ => ⟨S2048x1408, .bf16⟩
  | .local _ .vmem, ⟨34, _⟩ => ⟨S1x1024x1408, .bf16⟩
  | .local _ .vmem, ⟨35, _⟩ => ⟨S1x1024x1408, .bf16⟩
  | .local _ .vmem, ⟨36, _⟩ => ⟨S2048x1024, .bf16⟩
  | .local _ .vmem, ⟨37, _⟩ => ⟨S2048x1024, .bf16⟩
  | .local _ .vmem, ⟨38, _⟩ => ⟨S2048x1408, .bf16⟩
  | .local _ .vmem, ⟨39, _⟩ => ⟨S2048x1408, .bf16⟩
  | .local _ .vmem, ⟨40, _⟩ => ⟨S1x1024x1408, .bf16⟩
  | .local _ .vmem, ⟨41, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

abbrev stage1_0 : Fin 2 → Memref sig .tc .vmem S2048x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1408x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference2Ideal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S11264x2048 : Shape := ⟨2, ![11264, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .bf16⟩
  | .hbm, ⟨4, _⟩ => ⟨S2048x2048, .f32⟩
  | .hbm, ⟨5, _⟩ => ⟨S2048x11264, .f32⟩
  | .hbm, ⟨6, _⟩ => ⟨S5632x2048, .f32⟩
  | .hbm, ⟨7, _⟩ => ⟨S2048x2048, .f32⟩
  | .hbm, ⟨8, _⟩ => ⟨S2048x11264, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x2048, .f32⟩
  | .hbm, ⟨26, _⟩ => ⟨S2048x5632, .f32⟩
  | .hbm, ⟨27, _⟩ => ⟨S5632x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x11264, .f32⟩
  | .hbm, ⟨36, _⟩ => ⟨S11264x2048, .f32⟩
  | .hbm, ⟨37, _⟩ => ⟨S2048x11264, .f32⟩
  | .hbm, ⟨38, _⟩ => ⟨S2048x2048, .f32⟩
  | .hbm, ⟨39, _⟩ => ⟨S2048x11264, .bf16⟩
  | .hbm, ⟨40, _⟩ => ⟨S5632x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S2048x2048 : Shape := ⟨2, ![2048, 2048]⟩
abbrev S2048x10240 : Shape := ⟨2, ![2048, 10240]⟩
abbrev S1024x10240 : Shape := ⟨2, ![1024, 10240]⟩
abbrev S1024x8x1280 : Shape := ⟨3, ![1024, 8, 1280]⟩
abbrev S8x1024x1280 : Shape := ⟨3, ![8, 1024, 1280]⟩
abbrev S1024x1024 : Shape := ⟨2, ![1024, 1024]⟩
abbrev S1x1024x1280 : Shape := ⟨3, ![1, 1024, 1280]⟩
abbrev S1024x1280 : Shape := ⟨2, ![1024, 1280]⟩
abbrev S8x2048x1280 : Shape := ⟨3, ![8, 2048, 1280]⟩
abbrev S2048x1024 : Shape := ⟨2, ![2048, 1024]⟩
abbrev S2048x1280 : Shape := ⟨2, ![2048, 1280]⟩
abbrev S2048x8x1280 : Shape := ⟨3, ![2048, 8, 1280]⟩

abbrev nBuf : Space → Nat
  | .hbm => 14
  | .vmem => 20
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x10240, .bf16⟩
  | .hbm, ⟨3, _⟩ => ⟨S1024x10240, .bf16⟩
  | .hbm, ⟨4, _⟩ => ⟨S1024x8x1280, .bf16⟩
  | .hbm, ⟨5, _⟩ => ⟨S8x1024x1280, .bf16⟩
  | .hbm, ⟨6, _⟩ => ⟨S1024x10240, .bf16⟩
  | .hbm, ⟨7, _⟩ => ⟨S1024x8x1280, .bf16⟩
  | .hbm, ⟨8, _⟩ => ⟨S8x1024x1280, .bf16⟩
  | .hbm, ⟨9, _⟩ => ⟨S2048x10240, .f32⟩
  | .hbm, ⟨10, _⟩ => ⟨S2048x10240, .f32⟩
  | .hbm, ⟨11, _⟩ => ⟨S8x2048x1280, .bf16⟩
  | .hbm, ⟨12, _⟩ => ⟨S2048x8x1280, .bf16⟩
  | .hbm, ⟨13, _⟩ => ⟨S2048x10240, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x1280, .bf16⟩
  | .local _ .vmem, ⟨9, _⟩ => ⟨S1x1024x1280, .bf16⟩
  | .local _ .vmem, ⟨10, _⟩ => ⟨S1024x1280, .f32⟩
  | .local _ .vmem, ⟨11, _⟩ => ⟨S1024x1280, .f32⟩
  | .local _ .vmem, ⟨12, _⟩ => ⟨S1024x1280, .f32⟩
  | .local _ .vmem, ⟨13, _⟩ => ⟨S1024x1280, .f32⟩
  | .local _ .vmem, ⟨14, _⟩ => ⟨S2048x1024, .bf16⟩
  | .local _ .vmem, ⟨15, _⟩ => ⟨S2048x1024, .bf16⟩
  | .local _ .vmem, ⟨16, _⟩ => ⟨S2048x1280, .bf16⟩
  | .local _ .vmem, ⟨17, _⟩ => ⟨S2048x1280, .bf16⟩
  | .local _ .vmem, ⟨18, _⟩ => ⟨S1x1024x1280, .bf16⟩
  | .local _ .vmem, ⟨19, _⟩ => ⟨S1x1024x1280, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.addi v0 c1_i32_0
  let c0_i32 : BitVec 32 := 0#32
  ![arg0.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024x1280 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference3Ideal.lean ====
abbrev S2048x2048 : Shape := ⟨2, ![2048, 2048]⟩
abbrev S2048x10240 : Shape := ⟨2, ![2048, 10240]⟩
abbrev S10240x2048 : Shape := ⟨2, ![10240, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x10240, .bf16⟩
  | .hbm, ⟨3, _⟩ => ⟨S2048x2048, .f32⟩
  | .hbm, ⟨4, _⟩ => ⟨S2048x10240, .f32⟩
  | .hbm, ⟨5, _⟩ => ⟨S2048x10240, .f32⟩
  | .hbm, ⟨6, _⟩ => ⟨S2048x10240, .f32⟩
  | .hbm, ⟨7, _⟩ => ⟨S10240x2048, .f32⟩
  | .hbm, ⟨8, _⟩ => ⟨S2048x10240, .f32⟩
  | .hbm, ⟨9, _⟩ => ⟨S2048x2048, .f32⟩
  | .hbm, ⟨10, _⟩ => ⟨S2048x10240, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x5632 : Shape := ⟨2, ![2048, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2048x2048 : Shape := ⟨2, ![2048, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x5632 : Shape := ⟨2, ![2048, 5632]⟩
abbrev S2048x11264 : Shape := ⟨2, ![2048, 11264]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x11264, .bf16⟩
  | .hbm, ⟨2, _⟩ => ⟨S2048x5632, .bf16⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2048x5632 : Shape := ⟨2, ![2048, 5632]⟩
abbrev S2048x11264 : Shape := ⟨2, ![2048, 11264]⟩
abbrev S2048x2048 : Shape := ⟨2, ![2048, 2048]⟩
abbrev S2048x8x1408 : Shape := ⟨3, ![2048, 8, 1408]⟩
abbrev S8x2048x1408 : Shape := ⟨3, ![8, 2048, 1408]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 6
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S2048x11264, .bf16⟩
  | .hbm, ⟨2, _⟩ => ⟨S2048x2048, .f32⟩
  | .hbm, ⟨3, _⟩ => ⟨S2048x8x1408, .bf16⟩
  | .hbm, ⟨4, _⟩ => ⟨S8x2048x1408, .bf16⟩
  | .hbm, ⟨5, _⟩ => ⟨S2048x2048, .f32⟩
  | .local _ .vmem, ⟨0, _⟩ => ⟨S512x1408, .bf16⟩
  | .local _ .vmem, ⟨1, _⟩ => ⟨S512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x5632 : Shape := ⟨2, ![2048, 5632]⟩
abbrev S2048x11264 : Shape := ⟨2, ![2048, 11264]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x11264, .bf16⟩
  | .hbm, ⟨2, _⟩ => ⟨S2048x2048, .f32⟩
  | .hbm, ⟨3, _⟩ => ⟨S2048x5632, .bf16⟩
  | .hbm, ⟨4, _⟩ => ⟨S2048x5632, .f32⟩
  | .hbm, ⟨5, _⟩ => ⟨S_, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S2048x2048, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2048x1024 : Shape := ⟨2, ![2048, 1024]⟩
abbrev S1024x2048 : Shape := ⟨2, ![1024, 2048]⟩
abbrev S2048x2048 : Shape := ⟨2, ![2048, 2048]⟩
abbrev S2048x10240 : Shape := ⟨2, ![2048, 10240]⟩
abbrev S1024x8x256 : Shape := ⟨3, ![1024, 8, 256]⟩
abbrev S8x1024x256 : Shape := ⟨3, ![8, 1024, 256]⟩
abbrev S512x1024 : Shape := ⟨2, ![512, 1024]⟩
abbrev S4x1024x256 : Shape := ⟨3, ![4, 1024, 256]⟩
abbrev S1x1024x256 : Shape := ⟨3, ![1, 1024, 256]⟩
abbrev S1024x256 : Shape := ⟨2, ![1024, 256]⟩
abbrev S512x256 : Shape := ⟨2, ![512, 256]⟩
abbrev S512x2048 : Shape := ⟨2, ![512, 2048]⟩
abbrev S1024x1024 : Shape := ⟨2, ![1024, 1024]⟩
abbrev S2048x512 : Shape := ⟨2, ![2048, 512]⟩
abbrev S4x512x256 : Shape := ⟨3, ![4, 512, 256]⟩
abbrev S1x512x256 : Shape := ⟨3, ![1, 512, 256]⟩

abbrev nBuf : Space → Nat
  | .hbm => 25
  | .vmem => 56
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x2048, .bf16⟩
  | .hbm, ⟨3, _⟩ => ⟨S1024x2048, .bf16⟩
  | .hbm, ⟨4, _⟩ => ⟨S2048x2048, .bf16⟩
  | .hbm, ⟨5, _⟩ => ⟨S2048x10240, .f32⟩
  | .hbm, ⟨6, _⟩ => ⟨S2048x2048, .bf16⟩
  | .hbm, ⟨7, _⟩ => ⟨S1024x8x256, .bf16⟩
  | .hbm, ⟨8, _⟩ => ⟨S8x1024x256, .bf16⟩
  | .hbm, ⟨9, _⟩ => ⟨S1024x8x256, .bf16⟩
  | .hbm, ⟨10, _⟩ => ⟨S8x1024x256, .bf16⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S8x1024x256, .bf16⟩
  | .hbm, ⟨20, _⟩ => ⟨S8x1024x256, .bf16⟩
  | .hbm, ⟨21, _⟩ => ⟨S1024x8x256, .bf16⟩
  | .hbm, ⟨22, _⟩ => ⟨S1024x2048, .bf16⟩
  | .hbm, ⟨23, _⟩ => ⟨S1024x8x256, .bf16⟩
  | .hbm, ⟨24, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S4x1024x256, .bf16⟩
  | .local _ .vmem, ⟨5, _⟩ => ⟨S4x1024x256, .bf16⟩
  | .local _ .vmem, ⟨6, _⟩ => ⟨S4x1024x256, .bf16⟩
  | .local _ .vmem, ⟨7, _⟩ => ⟨S4x1024x256, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S1024x2048, .bf16⟩
  | .local _ .vmem, ⟨21, _⟩ => ⟨S1024x2048, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S2048x1024, .bf16⟩
  | .local _ .vmem, ⟨39, _⟩ => ⟨S2048x1024, .bf16⟩
  | .local _ .vmem, ⟨40, _⟩ => ⟨S2048x1024, .bf16⟩
  | .local _ .vmem, ⟨41, _⟩ => ⟨S2048x1024, .bf16⟩
  | .local _ .vmem, ⟨42, _⟩ => ⟨S1024x1024, .bf16⟩
  | .local _ .vmem, ⟨43, _⟩ => ⟨S1024x1024, .bf16⟩
  | .local _ .vmem, ⟨44, _⟩ => ⟨S2048x512, .bf16⟩
  | .local _ .vmem, ⟨45, _⟩ => ⟨S2048x512, .bf16⟩
  | .local _ .vmem, ⟨46, _⟩ => ⟨S2048x1024, .bf16⟩
  | .local _ .vmem, ⟨47, _⟩ => ⟨S2048x1024, .bf16⟩
  | .local _ .vmem, ⟨48, _⟩ => ⟨S4x512x256, .bf16⟩
  | .local _ .vmem, ⟨49, _⟩ => ⟨S4x512x256, .bf16⟩
  | .local _ .vmem, ⟨50, _⟩ => ⟨S2048x512, .bf16⟩
  | .local _ .vmem, ⟨51, _⟩ => ⟨S2048x512, .bf16⟩
  | .local _ .vmem, ⟨52, _⟩ => ⟨S2048x1024, .bf16⟩
  | .local _ .vmem, ⟨53, _⟩ => ⟨S2048x1024, .bf16⟩
  | .local _ .vmem, ⟨54, _⟩ => ⟨S4x512x256, .bf16⟩
  | .local _ .vmem, ⟨55, _⟩ => ⟨S4x512x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem2_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S4x512x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S4x512x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference7Ideal.lean ====
abbrev S2048x1024 : Shape := ⟨2, ![2048, 1024]⟩
abbrev S1024x2048 : Shape := ⟨2, ![1024, 2048]⟩
abbrev S2048x2048 : Shape := ⟨2, ![2048, 2048]⟩
abbrev S2048x10240 : Shape := ⟨2, ![2048, 10240]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x2048, .bf16⟩
  | .hbm, ⟨3, _⟩ => ⟨S1024x2048, .bf16⟩
  | .hbm, ⟨4, _⟩ => ⟨S2048x2048, .bf16⟩
  | .hbm, ⟨5, _⟩ => ⟨S2048x10240, .f32⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .f32⟩
  | .hbm, ⟨11, _⟩ => ⟨S1024x2048, .f32⟩
  | .hbm, ⟨12, _⟩ => ⟨S1024x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x1024, .f32⟩
  | .hbm, ⟨51, _⟩ => ⟨S1024x2048, .f32⟩
  | .hbm, ⟨52, _⟩ => ⟨S2048x1024, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x1024, .f32⟩
  | .hbm, ⟨57, _⟩ => ⟨S1024x2048, .f32⟩
  | .hbm, ⟨58, _⟩ => ⟨S2048x1024, .f32⟩
  | .hbm, ⟨59, _⟩ => ⟨S2048x2048, .f32⟩
  | .hbm, ⟨60, _⟩ => ⟨S1024x2048, .bf16⟩
  | .hbm, ⟨61, _⟩ => ⟨S1024x2048, .bf16⟩
  | .hbm, ⟨62, _⟩ => ⟨S2048x2048, .bf16⟩
  | .hbm, ⟨63, _⟩ => ⟨S2048x2048, .bf16⟩
  | .hbm, ⟨64, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Kernel8.lean ====
abbrev S2048x10240 : Shape := ⟨2, ![2048, 10240]⟩
abbrev S1024x10240 : Shape := ⟨2, ![1024, 10240]⟩
abbrev S1024x8x1280 : Shape := ⟨3, ![1024, 8, 1280]⟩
abbrev S8x1024x1280 : Shape := ⟨3, ![8, 1024, 1280]⟩
abbrev S2048x2048 : Shape := ⟨2, ![2048, 2048]⟩
abbrev S1024x1280 : Shape := ⟨2, ![1024, 1280]⟩
abbrev S1x1024x1280 : Shape := ⟨3, ![1, 1024, 1280]⟩
abbrev S1024x1024 : Shape := ⟨2, ![1024, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S1024x10240, .bf16⟩
  | .hbm, ⟨3, _⟩ => ⟨S1024x8x1280, .bf16⟩
  | .hbm, ⟨4, _⟩ => ⟨S8x1024x1280, .bf16⟩
  | .hbm, ⟨5, _⟩ => ⟨S2048x2048, .f32⟩
  | .hbm, ⟨6, _⟩ => ⟨S2048x1024, .f32⟩
  | .local _ .vmem, ⟨0, _⟩ => ⟨S1024x1280, .bf16⟩
  | .local _ .vmem, ⟨1, _⟩ => ⟨S1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x10240 : Shape := ⟨2, ![2048, 10240]⟩
abbrev S1024x10240 : Shape := ⟨2, ![1024, 10240]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S1024x10240, .bf16⟩
  | .hbm, ⟨3, _⟩ => ⟨S1024x10240, .f32⟩
  | .hbm, ⟨4, _⟩ => ⟨S_, .f32⟩
  | .hbm, ⟨5, _⟩ => ⟨S2048x1024, .f32⟩
  | .hbm, ⟨6, _⟩ => ⟨S2048x10240, .f32⟩
  | .hbm, ⟨7, _⟩ => ⟨S2048x10240, .f32⟩
  | .hbm, ⟨8, _⟩ => ⟨S2048x1024, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x10240 : Shape := ⟨2, ![2048, 10240]⟩
abbrev S2048x2048 : Shape := ⟨2, ![2048, 2048]⟩
abbrev S1024x10240 : Shape := ⟨2, ![1024, 10240]⟩
abbrev S1024x8x1280 : Shape := ⟨3, ![1024, 8, 1280]⟩
abbrev S8x1024x1280 : Shape := ⟨3, ![8, 1024, 1280]⟩
abbrev S1024x1280 : Shape := ⟨2, ![1024, 1280]⟩
abbrev S1x1024x1280 : Shape := ⟨3, ![1, 1024, 1280]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S2048x2048, .f32⟩
  | .hbm, ⟨3, _⟩ => ⟨S1024x10240, .bf16⟩
  | .hbm, ⟨4, _⟩ => ⟨S1024x8x1280, .bf16⟩
  | .hbm, ⟨5, _⟩ => ⟨S8x1024x1280, .bf16⟩
  | .hbm, ⟨6, _⟩ => ⟨S2048x2048, .f32⟩
  | .local _ .vmem, ⟨0, _⟩ => ⟨S1024x1280, .bf16⟩
  | .local _ .vmem, ⟨1, _⟩ => ⟨S1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.addi v0 c1_i32_0
  let c0_i32 : BitVec 32 := 0#32
  ![arg0.toNat, v1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x10240 : Shape := ⟨2, ![2048, 10240]⟩
abbrev S2048x2048 : Shape := ⟨2, ![2048, 2048]⟩
abbrev S1024x10240 : Shape := ⟨2, ![1024, 10240]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S2048x2048, .f32⟩
  | .hbm, ⟨3, _⟩ => ⟨S1024x10240, .bf16⟩
  | .hbm, ⟨4, _⟩ => ⟨S1024x10240, .f32⟩
  | .hbm, ⟨5, _⟩ => ⟨S_, .f32⟩
  | .hbm, ⟨6, _⟩ => ⟨S2048x1024, .f32⟩
  | .hbm, ⟨7, _⟩ => ⟨S2048x10240, .f32⟩
  | .hbm, ⟨8, _⟩ => ⟨S2048x10240, .f32⟩
  | .hbm, ⟨9, _⟩ => ⟨S2048x1024, .f32⟩
  | .hbm, ⟨10, _⟩ => ⟨S2048x1024, .f32⟩
  | .hbm, ⟨11, _⟩ => ⟨S2048x2048, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Entry.lean ====
/-
  Entering and leaving a call, in the propositions the launch gives: what is held is split into the call's arrays and the
  rest, and joined again at the end.
-/
module
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
@[expose] public section
noncomputable section
namespace Cert.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {nD : ℕ} {τ : Topo} {sig : RefSig} {Val : EltTy → Type} {U : Type} [URA U]
local notation "𝕄" => MT nD τ sig Unit Val ℕ U ℕ

/-- What a thread holds beside its buffers. -/
abbrev Rest (c : Dev nD) : sProp 𝕄 := iprop((∃ r, prngReg c r) ∗ ∃ W, owes (c : Thread nD τ) (0 : CellTallies nD τ sig Unit) W)

theorem enter (c : Dev nD) {B A Z P O T : sProp 𝕄} (hs : B ⊢ iprop(A ∗ Z)) (hp : (BI.emp : sProp 𝕄) ⊢ P)
    (ho : iprop(∃ W, owes (c : Thread nD τ) (0 : CellTallies nD τ sig Unit) W) ⊢ O) :
    iprop((B ∗ Rest c) ∗ BI.emp ∗ T) ⊢ |={Set.univ}=> iprop(A ∗ P ∗ O ∗ (∃ r, prngReg c r) ∗ Z) := by
  iintro ⟨⟨Hub, Hp, HO⟩, -, -⟩
  ihave H := hs $$ Hub
  icases H with ⟨Ha, Hrest⟩
  imodintro
  isplitl [Ha]; · iexact Ha
  isplitr; · iapply hp; iempintro
  isplitl [HO]; · iapply ho; iexact HO
  isplitl [Hp]; · iexact Hp
  iexact Hrest

theorem leave (c : Dev nD) {B A Z O : sProp 𝕄} (hj : iprop(A ∗ Z) ⊢ B)
    (ho : O ⊢ iprop(∃ W, owes (c : Thread nD τ) (0 : CellTallies nD τ sig Unit) W)) :
    iprop(A ∗ O ∗ (∃ r, prngReg c r) ∗ Z) ⊢ |={Set.univ}=> iprop(B ∗ Rest c) := by
  iintro ⟨Ha, HO, HY, Hrest⟩
  imodintro
  isplitl [Ha Hrest]
  · iapply hj; isplitl [Ha] <;> iassumption
  isplitl [HY]; · iexact HY
  iapply ho; iexact HO

section
variable {Λ₀ : Idealize.SL.Sem.Labels} {cfg : Cfg sig Λ₀} {c : Dev nD} (dat : Dat τ Val Unit ℕ U ℕ cfg c)

theorem owes_in (t) (h : dat.owed t = 0) (h' : ∀ x, x ∈ dat.recorded t) : iprop(∃ W, owes (c : Thread nD τ) (0 : CellTallies nD τ sig Unit) W) ⊢ dat.owesAt () t := by
  unfold Pipeline.Dat.owesAt Pipeline.owesWithin
  rw [h]
  iintro ⟨%W, HO⟩; iexists W; isplitr; · ipureintro; exact fun _ _ => Or.inl (h' _)
  iexact HO
theorem owes_out (t) (h : dat.owed t = 0) : dat.owesAt () t ⊢ iprop(∃ W, owes (c : Thread nD τ) (0 : CellTallies nD τ sig Unit) W) := by
  unfold Pipeline.Dat.owesAt Pipeline.owesWithin
  rw [h]
  iintro ⟨%W, -, HO⟩; iexists W; iexact HO
end

theorem swap_in {X P R : sProp 𝕄} : iprop(X ∗ P ∗ R) ⊢ iprop(R ∗ X) := by
  iintro ⟨Hp, -, Hr⟩
  isplitl [Hr]; · iexact Hr
  iexact Hp
theorem swap_out {X R : sProp 𝕄} : iprop(R ∗ X) ⊢ iprop(X ∗ BI.emp ∗ R) := by
  iintro ⟨Hr, Hp⟩
  isplitl [Hp]; · iexact Hp
  isplitr; · iempintro
  iexact Hr
end Cert.Entry
end
-- ==== Proof.KernelIdealBody.lean ====
/-
  What the attention's backward kernel leaves in its output blocks at one point of the grid, as lists of stores in closed
  form, and the proof that the body runs from any contents of its scratch buffers to exactly these stores.
  The lists do not depend on what the output block of the queries' gradient held before.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One trip's pieces do not depend on what the queries' gradient block held. -/
theorem trip_indep (𝒱 : Variants) (c : Dev nD) (bd : Option 𝒱.V) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2x128x640 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2x128x640 .f32) (harg9 : arg9.IsWhole) (arg10 : Memref sig .tc .vmem S2560x256 .bf16) (harg10 : arg10.IsWhole) (arg11 : Memref sig .tc .vmem S2560x256 .bf16) (harg11 : arg11.IsWhole) (arg12 : Memref sig .tc .vmem S2560x256 .f32) (harg12 : arg12.IsWhole) (arg13 : Memref sig .tc .vmem S2560x256 .f32) (harg13 : arg13.IsWhole) (v29 : IVec S256x768 32) (v53 : IVec S256x768 32) (v55 : IVec S256x768 32) (v74 : IVec S256x768 1) (v83 : Vec F S1x128x640 .f32) (v90 : Vec F S1x128x640 .f32) (X_arg1 : BufTy.Contents (Elt F) arg1.view.ty) (X_arg5 : BufTy.Contents (Elt F) arg5.view.ty) (X_arg10 : BufTy.Contents (Elt F) arg10.view.ty) (X_arg11 : BufTy.Contents (Elt F) arg11.view.ty) (k : Fin k1_t1_loop.trips)
    (f f2 : BufTy.Contents (Elt F) arg6.view.ty) (g : BufTy.Contents (Elt F) arg9.view.ty) (h : BufTy.Contents (Elt F) arg12.view.ty) (l : BufTy.Contents (Elt F) arg13.view.ty) :
    tripL_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 v29 v53 v55 v74 v83 v90 X_arg1 X_arg5 X_arg10 X_arg11 k f g h l = tripL_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 v29 v53 v55 v74 v83 v90 X_arg1 X_arg5 X_arg10 X_arg11 k f2 g h l := by
  unfold tripL_k1_t1 trip_k1_t1; rfl

/-- Nor do the pieces of the first `n` trips. -/
theorem pb_indep (𝒱 : Variants) (c : Dev nD) (bd : Option 𝒱.V) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2x128x640 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2x128x640 .f32) (harg9 : arg9.IsWhole) (arg10 : Memref sig .tc .vmem S2560x256 .bf16) (harg10 : arg10.IsWhole) (arg11 : Memref sig .tc .vmem S2560x256 .bf16) (harg11 : arg11.IsWhole) (arg12 : Memref sig .tc .vmem S2560x256 .f32) (harg12 : arg12.IsWhole) (arg13 : Memref sig .tc .vmem S2560x256 .f32) (harg13 : arg13.IsWhole) (v29 : IVec S256x768 32) (v53 : IVec S256x768 32) (v55 : IVec S256x768 32) (v74 : IVec S256x768 1) (v83 : Vec F S1x128x640 .f32) (v90 : Vec F S1x128x640 .f32) (X_arg1 : BufTy.Contents (Elt F) arg1.view.ty) (X_arg5 : BufTy.Contents (Elt F) arg5.view.ty) (X_arg10 : BufTy.Contents (Elt F) arg10.view.ty) (X_arg11 : BufTy.Contents (Elt F) arg11.view.ty) (f f2 : BufTy.Contents (Elt F) arg6.view.ty) (g : BufTy.Contents (Elt F) arg9.view.ty) (h : BufTy.Contents (Elt F) arg12.view.ty) (l : BufTy.Contents (Elt F) arg13.view.ty) (n : ℕ) :
    pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 v29 v53 v55 v74 v83 v90 X_arg1 X_arg5 X_arg10 X_arg11 f g h l n = pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 v29 v53 v55 v74 v83 v90 X_arg1 X_arg5 X_arg10 X_arg11 f2 g h l n := by
  induction n with
  | zero => rfl
  | succ n ih =>
    rw [pb_k1_t1.eq_2, pb_k1_t1.eq_2, ih]
    unfold pb_k1_t1Step
    split
    · rw [trip_indep 𝒱 c bd i arg1 harg1 arg2 harg2 arg3 harg3 arg4 harg4 arg5 harg5 arg6 harg6 arg7 harg7 arg8 harg8 arg9 harg9 arg10 harg10 arg11 harg11 arg12 harg12 arg13 harg13 v29 v53 v55 v74 v83 v90 X_arg1 X_arg5 X_arg10 X_arg11 ⟨n, _⟩ (arg6.view.writes (Elt F) f _) (arg6.view.writes (Elt F) f2 _)]
    · rfl

section Pieces

variable (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2x128x640 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2x128x640 .f32) (harg9 : arg9.IsWhole) (arg10 : Memref sig .tc .vmem S2560x256 .bf16) (harg10 : arg10.IsWhole) (arg11 : Memref sig .tc .vmem S2560x256 .bf16) (harg11 : arg11.IsWhole) (arg12 : Memref sig .tc .vmem S2560x256 .f32) (harg12 : arg12.IsWhole) (arg13 : Memref sig .tc .vmem S2560x256 .f32) (harg13 : arg13.IsWhole)
  (x0 : Vec F S2048x256 .f32) (x1 : Vec F S2048x256 .f32) (x2 : Vec F S2048x256 .f32) (x3 : Vec F S2x128x640 .f32) (x4 : Vec F S2048x256 .bf16)

/-- The pieces of the first `n` trips of the loop over query tiles, from the buffers as the loop finds them. -/
def loopPieces (n : ℕ) : List (View.Piece (Elt F) S2048x256 .bf16) × List (View.Piece (Elt F) S2x128x640 .f32) × List (View.Piece (Elt F) S2560x256 .f32) × List (View.Piece (Elt F) S2560x256 .f32) :=
  pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34
    (View.readAt (Elt F) arg4.view (Rect.unit (s := S2x128x640) ![0, 0, 0] ![1, 128, 640] inb_S2x128x640_S1x128x640_0_0_0).toLoadRect (harg4.unread x3))
    (View.readAt (Elt F) arg4.view (Rect.unit (s := S2x128x640) ![1, 0, 0] ![1, 128, 640] inb_S2x128x640_S1x128x640_1_0_0).toLoadRect (harg4.unread x3))
    (harg1.unread x0) (harg5.unread x4)
    (arg10.view.writes (Elt F) arg10.view.junk
      [⟨Rect.unit ![512, 0] ![2048, 256] inb_S2560x256_S2048x256_512_0,
          k1_pay27 (View.readAt (Elt F) arg2.view (Rect.unit (s := S2048x256) ![0, 0] ![2048, 256] inb_S2048x256_S2048x256_0_0).toLoadRect (harg2.unread x1))⟩,
        ⟨Rect.unit ![0, 0] ![512, 256] inb_S2560x256_S512x256_0_0, k1_pay25⟩])
    (arg11.view.writes (Elt F) arg11.view.junk
      [⟨Rect.unit ![512, 0] ![2048, 256] inb_S2560x256_S2048x256_512_0,
          k1_pay28 (View.readAt (Elt F) arg3.view (Rect.unit (s := S2048x256) ![0, 0] ![2048, 256] inb_S2048x256_S2048x256_0_0).toLoadRect (harg3.unread x2))⟩,
        ⟨Rect.unit ![0, 0] ![512, 256] inb_S2560x256_S512x256_0_0, k1_pay26⟩])
    arg6.view.junk
    (arg9.view.writes (Elt F) arg9.view.junk [⟨Rect.unit ![0, 0, 0] ![2, 128, 640] inb_S2x128x640_S2x128x640_0_0_0, k1_pay31⟩])
    (arg12.view.writes (Elt F) arg12.view.junk [⟨Rect.unit ![0, 0] ![2560, 256] inb_S2560x256_S2560x256_0_0, k1_pay29⟩])
    (arg13.view.writes (Elt F) arg13.view.junk [⟨Rect.unit ![0, 0] ![2560, 256] inb_S2560x256_S2560x256_0_0, k1_pay30⟩])
    n

/-- The stores of the queries' gradient. -/
def piecesO5 : List (View.Piece (Elt F) S2048x256 .bf16) :=
  (loopPieces c i arg1 harg1 arg2 harg2 arg3 harg3 arg4 harg4 arg5 harg5 arg6 harg6 arg7 harg7 arg8 harg8 arg9 harg9 arg10 harg10 arg11 harg11 arg12 harg12 arg13 harg13 x0 x1 x2 x3 x4 (Scf.trips k1_t1_loop.lb k1_t1_loop.ub k1_t1_loop.st)).1

/-- The store of the keys' gradient: the accumulator past its 512 rows of padding. -/
def piecesO6 : List (View.Piece (Elt F) S2048x256 .bf16) :=
  [⟨Rect.unit ![0, 0] ![2048, 256] inb_S2048x256_S2048x256_0_0,
    k1_pay8 (arg12.view.readCov
      ((loopPieces c i arg1 harg1 arg2 harg2 arg3 harg3 arg4 harg4 arg5 harg5 arg6 harg6 arg7 harg7 arg8 harg8 arg9 harg9 arg10 harg10 arg11 harg11 arg12 harg12 arg13 harg13 x0 x1 x2 x3 x4 (Scf.trips k1_t1_loop.lb k1_t1_loop.ub k1_t1_loop.st)).2.2.1
        ++ [⟨Rect.unit ![0, 0] ![2560, 256] inb_S2560x256_S2560x256_0_0, k1_pay29⟩])
      (Rect.unit (s := S2560x256) ![512, 0] ![2048, 256] inb_S2560x256_S2048x256_512_0).toLoadRect)⟩]

/-- The store of the values' gradient: the accumulator past its 512 rows of padding. -/
def piecesO7 : List (View.Piece (Elt F) S2048x256 .bf16) :=
  [⟨Rect.unit ![0, 0] ![2048, 256] inb_S2048x256_S2048x256_0_0,
    k1_pay9 (arg13.view.readCov
      ((loopPieces c i arg1 harg1 arg2 harg2 arg3 harg3 arg4 harg4 arg5 harg5 arg6 harg6 arg7 harg7 arg8 harg8 arg9 harg9 arg10 harg10 arg11 harg11 arg12 harg12 arg13 harg13 x0 x1 x2 x3 x4 (Scf.trips k1_t1_loop.lb k1_t1_loop.ub k1_t1_loop.st)).2.2.2
        ++ [⟨Rect.unit ![0, 0] ![2560, 256] inb_S2560x256_S2560x256_0_0, k1_pay30⟩])
      (Rect.unit (s := S2560x256) ![512, 0] ![2048, 256] inb_S2560x256_S2048x256_512_0).toLoadRect)⟩]

/-- The stores of the bias gradient's band: zero, then every trip's two heads. -/
def piecesO8 : List (View.Piece (Elt F) S2x128x640 .f32) :=
  (loopPieces c i arg1 harg1 arg2 harg2 arg3 harg3 arg4 harg4 arg5 harg5 arg6 harg6 arg7 harg7 arg8 harg8 arg9 harg9 arg10 harg10 arg11 harg11 arg12 harg12 arg13 harg13 x0 x1 x2 x3 x4 (Scf.trips k1_t1_loop.lb k1_t1_loop.ub k1_t1_loop.st)).2.1
    ++ [⟨Rect.unit ![0, 0, 0] ![2, 128, 640] inb_S2x128x640_S2x128x640_0_0_0, k1_pay31⟩]

set_option maxHeartbeats 4000000 in
/-- The body runs, and leaves exactly these stores in its outputs. -/
theorem body_run :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (piecesO5 c i arg1 harg1 arg2 harg2 arg3 harg3 arg4 harg4 arg5 harg5 arg6 harg6 arg7 harg7 arg8 harg8 arg9 harg9 arg10 harg10 arg11 harg11 arg12 harg12 arg13 harg13 x0 x1 x2 x3 x4)) ∗ (∃ f, arg7.view.loc (c : Thread nD τ) ↦[arg7.view.set]{fullShare} arg7.view.writes (Elt F) f (piecesO6 c i arg1 harg1 arg2 harg2 arg3 harg3 arg4 harg4 arg5 harg5 arg6 harg6 arg7 harg7 arg8 harg8 arg9 harg9 arg10 harg10 arg11 harg11 arg12 harg12 arg13 harg13 x0 x1 x2 x3 x4)) ∗ (∃ f, arg8.view.loc (c : Thread nD τ) ↦[arg8.view.set]{fullShare} arg8.view.writes (Elt F) f (piecesO7 c i arg1 harg1 arg2 harg2 arg3 harg3 arg4 harg4 arg5 harg5 arg6 harg6 arg7 harg7 arg8 harg8 arg9 harg9 arg10 harg10 arg11 harg11 arg12 harg12 arg13 harg13 x0 x1 x2 x3 x4)) ∗ (∃ f, arg9.view.loc (c : Thread nD τ) ↦[arg9.view.set]{fullShare} arg9.view.writes (Elt F) f (piecesO8 c i arg1 harg1 arg2 harg2 arg3 harg3 arg4 harg4 arg5 harg5 arg6 harg6 arg7 harg7 arg8 harg8 arg9 harg9 arg10 harg10 arg11 harg11 arg12 harg12 arg13 harg13 x0 x1 x2 x3 x4)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc1_ca_bwd i arg1 harg1 arg2 harg2 arg3 harg3 arg4 harg4 arg5 harg5 arg6 harg6 arg7 harg7 arg8 harg8 arg9 harg9 arg10 harg10 arg11 harg11 arg12 harg12 arg13 harg13) K := by
  intro E K
  simp only [cc1_ca_bwd_eq_skeleton]; unfold cc1_ca_bwd_skel
  simp only [k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4
  sl_exec
  sl_unfold_words
  rw [pb_indep (f := f5) (f2 := arg6.view.junk)]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]; · iexists _; iexact H5
  isplitl [H6]; · iexists _; iexact H6
  isplitl [H7]; · iexists _; iexact H7
  isplitl [H8]; · iexists _; iexact H8
  isplitl [HS0]
  · iexists _, _; isplitr; swap; · iexact HS0
    ipureintro; exact Eq.refl _
  isplitl [HS1]
  · iexists _, _; isplitr; swap; · iexact HS1
    ipureintro; exact Eq.refl _
  isplitl [HS2]
  · iexists _, _; isplitr; swap; · iexact HS2
    ipureintro; exact Eq.refl _
  iexists _, _; isplitr; swap; · iexact HS3
  ipureintro; exact Eq.refl _

end Pieces

end Cert.KernelIdeal.Gen

end
-- ==== Proof.KernelIdealFrame.lean ====
/-
  The frame of the three calls: the launch set-up of the generated module, over the stores that KernelIdealBody states.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KernelIdealBody
public import proofs.«01_k».proof.Proof.Entry
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S8x256 := Rect.unit (s := S8x256) ![0, 0] S8x256.size inb_S8x256_S8x256_0_0
abbrev r0_1 : Rect S8x768 := Rect.unit (s := S8x768) ![0, 0] S8x768.size inb_S8x768_S8x768_0_0

def out0_1 (x0 : Vec F S8x256 .f32) : Vec F S8x768 .f32 :=
  View.canon [⟨r0_1, k0_pay1 (View.ld x0 r0_0)⟩]

theorem cover0_1 (p0 : Vec F S8x768 .f32) (y : S8x768.Idx) :
    ∃ pc ∈ ([⟨r0_1, p0⟩] : List (View.Piece (Elt F) S8x768 .f32)), y ∈ pc.1.set :=
  View.cover_of_tiled [⟨r0_1, p0⟩] S8x768.size (by rfl) y

set_option maxHeartbeats 1000000 in
theorem sound_kernel0 (c : Dev nD) (E : Set ℕ) (arg0 : Memref sig .tc .vmem S8x256 .f32) (harg0 : arg0.IsWhole) (arg1 : Memref sig .tc .vmem S8x768 .f32) (harg1 : arg1.IsWhole)
    (x0 : Vec F S8x256 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0_bias_expand arg0 harg0 arg1 harg1) K := by
  simp only [cc0_bias_expand_eq_skeleton]; unfold cc0_bias_expand_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_5 : View sig .tc .vmem S2048x256 .bf16 := (Memref.whole cc1_stg5_0 : Memref sig .tc .vmem S2048x256 .bf16).view
abbrev VO1_6 : View sig .tc .vmem S2048x256 .bf16 := (Memref.whole cc1_stg6_0 : Memref sig .tc .vmem S2048x256 .bf16).view
abbrev VO1_7 : View sig .tc .vmem S2048x256 .bf16 := (Memref.whole cc1_stg7_0 : Memref sig .tc .vmem S2048x256 .bf16).view
abbrev VO1_8 : View sig .tc .vmem S2x128x640 .f32 := (Memref.whole cc1_stg8_0 : Memref sig .tc .vmem S2x128x640 .f32).view
abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x128x640 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x256 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x128x640 .f32 := win1_8.stage (cfg1.slots t 8)
abbrev hs1_8 (t : Fin cfg1.N) : (ms1_8 t).IsWhole := hstage1_8 ((cfg1.slots t 8).cast nbuf1_8)
abbrev scM1_0 : Memref sig .tc .vmem S2560x256 .bf16 := Memref.whole cc1_scratch0
abbrev scM1_1 : Memref sig .tc .vmem S2560x256 .bf16 := Memref.whole cc1_scratch1
abbrev scM1_2 : Memref sig .tc .vmem S2560x256 .f32 := Memref.whole cc1_scratch2
abbrev scM1_3 : Memref sig .tc .vmem S2560x256 .f32 := Memref.whole cc1_scratch3

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f)) ∗ (∃ r, prngReg c r)) := by
  unfold Pipeline.ΦA; rw [scopedRest1_eq]; simp only [scM1_0, scM1_1, scM1_2, scM1_3, owns_whole]; try rfl

section Run
variable (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2x128x640 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2x128x640 .f32) (harg9 : arg9.IsWhole) (arg10 : Memref sig .tc .vmem S2560x256 .bf16) (harg10 : arg10.IsWhole) (arg11 : Memref sig .tc .vmem S2560x256 .bf16) (harg11 : arg11.IsWhole) (arg12 : Memref sig .tc .vmem S2560x256 .f32) (harg12 : arg12.IsWhole) (arg13 : Memref sig .tc .vmem S2560x256 .f32) (harg13 : arg13.IsWhole)
  (x0 : Vec F S2048x256 .f32) (x1 : Vec F S2048x256 .f32) (x2 : Vec F S2048x256 .f32) (x3 : Vec F S2x128x640 .f32) (x4 : Vec F S2048x256 .bf16)

/-- The outputs' stores with the proof that the body runs to them. -/
noncomputable def kernelRun1_A :
    Σ' (L5 : List (View.Piece (Elt F) S2048x256 .bf16)), Σ' (L6 : List (View.Piece (Elt F) S2048x256 .bf16)), Σ' (L7 : List (View.Piece (Elt F) S2048x256 .bf16)), { L8 : List (View.Piece (Elt F) S2x128x640 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc1_ca_bwd i arg1 harg1 arg2 harg2 arg3 harg3 arg4 harg4 arg5 harg5 arg6 harg6 arg7 harg7 arg8 harg8 arg9 harg9 arg10 harg10 arg11 harg11 arg12 harg12 arg13 harg13) K } :=
  ⟨piecesO5 c i arg1 harg1 arg2 harg2 arg3 harg3 arg4 harg4 arg5 harg5 arg6 harg6 arg7 harg7 arg8 harg8 arg9 harg9 arg10 harg10 arg11 harg11 arg12 harg12 arg13 harg13 x0 x1 x2 x3 x4, piecesO6 c i arg1 harg1 arg2 harg2 arg3 harg3 arg4 harg4 arg5 harg5 arg6 harg6 arg7 harg7 arg8 harg8 arg9 harg9 arg10 harg10 arg11 harg11 arg12 harg12 arg13 harg13 x0 x1 x2 x3 x4, piecesO7 c i arg1 harg1 arg2 harg2 arg3 harg3 arg4 harg4 arg5 harg5 arg6 harg6 arg7 harg7 arg8 harg8 arg9 harg9 arg10 harg10 arg11 harg11 arg12 harg12 arg13 harg13 x0 x1 x2 x3 x4, piecesO8 c i arg1 harg1 arg2 harg2 arg3 harg3 arg4 harg4 arg5 harg5 arg6 harg6 arg7 harg7 arg8 harg8 arg9 harg9 arg10 harg10 arg11 harg11 arg12 harg12 arg13 harg13 x0 x1 x2 x3 x4,
    body_run c i arg1 harg1 arg2 harg2 arg3 harg3 arg4 harg4 arg5 harg5 arg6 harg6 arg7 harg7 arg8 harg8 arg9 harg9 arg10 harg10 arg11 harg11 arg12 harg12 arg13 harg13 x0 x1 x2 x3 x4⟩

theorem cover1_A_5 (y : S2048x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4).1, y ∈ pc.1.set :=
  View.cover_of_tiledL (s := S2048x256) _ S256x128.size (by sl_kernel_rfl) y

def out1_A_5 : Vec F S2048x256 .bf16 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4).1)

theorem cover1_A_6 (y : S2048x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4).2.1, y ∈ pc.1.set :=
  View.cover_of_tiledL _ S2048x256.size (by sl_kernel_rfl) y

def out1_A_6 : Vec F S2048x256 .bf16 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4).2.1)

theorem cover1_A_7 (y : S2048x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.1, y ∈ pc.1.set :=
  View.cover_of_tiledL _ S2048x256.size (by sl_kernel_rfl) y

def out1_A_7 : Vec F S2048x256 .bf16 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.1)

theorem cover1_A_8 (y : S2x128x640.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.1, y ∈ pc.1.set :=
  View.cover_of_tiledBy _ ![1, 128, 640] (by sl_kernel_rfl) y

def out1_A_8 : Vec F S2x128x640 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.1)
end Run

def outsAt1 (c : Dev nD) (t : Fin cfg1.N) : Vec F S2048x256 .bf16 × Vec F S2048x256 .bf16 × Vec F S2048x256 .bf16 × Vec F S2x128x640 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t).1
    | ⟨6, _⟩ => (outsAt1 V c t).2.1
    | ⟨7, _⟩ => (outsAt1 V c t).2.2.1
    | ⟨8, _⟩ => (outsAt1 V c t).2.2.2
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t).1 := by dsimp only [dat1]
theorem after1_6 (c : Dev nD) (t : Fin cfg1.N) : (dat1 V c).after 6 t = (outsAt1 V c t).2.1 := by dsimp only [dat1]
theorem after1_7 (c : Dev nD) (t : Fin cfg1.N) : (dat1 V c).after 7 t = (outsAt1 V c t).2.2.1 := by dsimp only [dat1]
theorem after1_8 (c : Dev nD) (t : Fin cfg1.N) : (dat1 V c).after 8 t = (outsAt1 V c t).2.2.2 := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [show (dat1 V c).Φ t.castSucc = Pipeline.ΦA spec1 c from rfl, PhiA1_eq]
  unfold outsAt1
  unfold out1_A_5 out1_A_6 out1_A_7 out1_A_8; (try dsimp only)
  iintro ⟨⟨⟨HR0, HR1, HS0, HS1, HS2, HS3, HR6, HR7, HR8, HR9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1_A c (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, ⟨%e5, H5⟩, ⟨%e6, H6⟩, ⟨%e7, H7⟩, ⟨%e8, H8⟩, HS0, HS1, HS2, HS3⟩
  isplitl [HR0 HR1 HS0 HS1 HS2 HS3 HR6 HR7 HR8 HR9 Hg]
  · isplitl [HR0 HR1 HS0 HS1 HS2 HS3 HR6 HR7 HR8 HR9]
    · isplitl [HR0]
      · iexact HR0
      isplitl [HR1]
      · iexact HR1
      isplitl [HS0]
      · iexact HS0
      isplitl [HS1]
      · iexact HS1
      isplitl [HS2]
      · iexact HS2
      isplitl [HS3]
      · iexact HS3
      isplitl [HR6]
      · iexact HR6
      isplitl [HR7]
      · iexact HR7
      isplitl [HR8]
      · iexact HR8
      iexact HR9
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_A_5 c _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover1_A_7 c _ _ _ _ _ _ _ _ _ _ _ _ _ _ _ _ _ _ _ _ _ _ _ _ _ _ _ _ _ _ _ _)
  unfold owns; iexists _; isplitr
  swap; · iexact H8
  ipureintro; exact View.read_writes_of_cover _ _ _ _ _ (cover1_A_8 c _ _ _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x128x768 := Rect.unit (s := S1x128x768) ![0, 0, 0] S1x128x768.size inb_S1x128x768_S1x128x768_0_0_0
abbrev r2_1 : Rect S1x1x256 := Rect.unit (s := S1x1x256) ![0, 0, 0] S1x1x256.size inb_S1x1x256_S1x1x256_0_0_0

def out2_1 (x0 : Vec F S1x128x768 .f32) : Vec F S1x1x256 .f32 :=
  View.canon [⟨r2_1, k2_pay1 (View.ld x0 r2_0)⟩]

theorem cover2_1 (p0 : Vec F S1x1x256 .f32) (y : S1x1x256.Idx) :
    ∃ pc ∈ ([⟨r2_1, p0⟩] : List (View.Piece (Elt F) S1x1x256 .f32)), y ∈ pc.1.set :=
  View.cover_of_tiled [⟨r2_1, p0⟩] S1x1x256.size (by rfl) y

set_option maxHeartbeats 1000000 in
theorem sound_kernel2 (c : Dev nD) (E : Set ℕ) (i : grid2.Coords) (arg1 : Memref sig .tc .vmem S1x128x768 .f32) (harg1 : arg1.IsWhole) (arg2 : Memref sig .tc .vmem S1x1x256 .f32) (harg2 : arg2.IsWhole)
    (x0 : Vec F S1x128x768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2_bias_reduce i arg1 harg1 arg2 harg2) K := by
  simp only [cc2_bias_reduce_eq_skeleton]; unfold cc2_bias_reduce_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

abbrev argRefs : List (Ref sig .tc) := [main_arg0, main_arg1, main_arg2]

abbrev hostOps0_W : List (Ref sig .tc) := [main_c]
theorem hostOps0_args : ∀ a ∈ argRefs, a ∉ hostOps0_W := ListAll.forall_mem_of_all_decide (by decide +kernel)

abbrev hostOps0_1_W : List (Ref sig .tc) := [main_call0_v0, main_v0]
theorem hostOps0_1_args : ∀ a ∈ argRefs, a ∉ hostOps0_1_W := ListAll.forall_mem_of_all_decide (by decide +kernel)

abbrev hostOps1_W : List (Ref sig .tc) := [main_c_0]
theorem hostOps1_args : ∀ a ∈ argRefs, a ∉ hostOps1_W := ListAll.forall_mem_of_all_decide (by decide +kernel)

abbrev hostOps1_1_W : List (Ref sig .tc) := [main_call1_v0, main_v2]
theorem hostOps1_1_args : ∀ a ∈ argRefs, a ∉ hostOps1_1_W := ListAll.forall_mem_of_all_decide (by decide +kernel)

abbrev hostOps1_2_W : List (Ref sig .tc) := [main_v3, main_v4, main_v5, main_v6, main_v7, main_v8]
theorem hostOps1_2_args : ∀ a ∈ argRefs, a ∉ hostOps1_2_W := ListAll.forall_mem_of_all_decide (by decide +kernel)

abbrev hostOps2_W : List (Ref sig .tc) := [main_c_1]
theorem hostOps2_args : ∀ a ∈ argRefs, a ∉ hostOps2_W := ListAll.forall_mem_of_all_decide (by decide +kernel)

abbrev hostOps2_1_W : List (Ref sig .tc) := [main_call2_v0, main_v10]
theorem hostOps2_1_args : ∀ a ∈ argRefs, a ∉ hostOps2_1_W := ListAll.forall_mem_of_all_decide (by decide +kernel)

abbrev hostOps2_2_W : List (Ref sig .tc) := [main_v11, main_v12, main_v13, main_v14]
theorem hostOps2_2_args : ∀ a ∈ argRefs, a ∉ hostOps2_2_W := ListAll.forall_mem_of_all_decide (by decide +kernel)

abbrev hostOps3_W : List (Ref sig .tc) := [main_v16, main_v17]
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ (StableHlo.forall_writes_sub_of_map rfl) h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ (StableHlo.forall_writes_sub_of_map rfl) h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev V2 : (c : Dev nD) → (b : Ref sig .tc) → Buf (Elt F) ((c : Thread nD τ).loc b) := fun c b => W2 m ρ c b
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
theorem W3_of (c : Dev nD) (r : Ref sig .tc) (h : ∀ w : Fin cfg0.W, Pipeline.arrRef spec0 w = r → (cfg0.win w).isOut = false) :
    W3 m ρ c (Proc.devRef .tc r) = W2 m ρ c (Proc.devRef .tc r) := by
  by_cases hw : ∃ w : Fin cfg0.W, Pipeline.arrRef spec0 w = r
  · obtain ⟨w, rfl⟩ := hw
    exact (W3_arr m ρ c w).trans (((dat0 (V2 m ρ) c).arrAt_in w (h w rfl) _).trans (A_eq0 (V2 m ρ) c w))
  · exact W3_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn0 a ha)).trans (W2_args m ρ c a ha)
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps1 (W3 m ρ c)
theorem W4_of (c : Dev nD) (r : Ref sig .tc) (h : r ∉ hostOps1_W) : W4 m ρ c (Proc.devRef .tc r) = W3 m ρ c (Proc.devRef .tc r) :=
  StableHlo.after_of_writes_sub hostOps1 _ (StableHlo.forall_writes_sub_of_map rfl) h
theorem W4_args (c : Dev nD) : ∀ a ∈ argRefs, W4 m ρ c (Proc.devRef .tc a) = m ((c : Thread nD τ).loc a) :=
  fun a ha => (W4_of m ρ c a (hostOps1_args a ha)).trans (W3_args m ρ c a ha)
abbrev W5 : Dev nD → Valuation τ sig (Elt F) := fun c => StableHlo.after hostOps1_1 (W4 m ρ c)
theorem W5_of (c : Dev nD) (r : Ref sig .tc) (h : r ∉ hostOps1_1_W) : W5 m ρ c (Proc.devRef .tc r) = W4 m ρ c (Proc.devRef .tc r) :=
  StableHlo.after_of_writes_sub hostOps1_1 _ (StableHlo.forall_writes_sub_of_map rfl) h
theorem W5_args (c : Dev nD) : ∀ a ∈ argRefs, W5 m ρ c (Proc.devRef .tc a) = m ((c : Thread nD τ).loc a) :=
  fun a ha => (W5_of m ρ c a (hostOps1_1_args a ha)).trans (W4_args m ρ c a ha)
abbrev W6 : Dev nD → Valuation τ sig (Elt F) := fun c => StableHlo.after hostOps1_2 (W5 m ρ c)
theorem W6_of (c : Dev nD) (r : Ref sig .tc) (h : r ∉ hostOps1_2_W) : W6 m ρ c (Proc.devRef .tc r) = W5 m ρ c (Proc.devRef .tc r) :=
  StableHlo.after_of_writes_sub hostOps1_2 _ (StableHlo.forall_writes_sub_of_map rfl) h
theorem W6_args (c : Dev nD) : ∀ a ∈ argRefs, W6 m ρ c (Proc.devRef .tc a) = m ((c : Thread nD τ).loc a) :=
  fun a ha => (W6_of m ρ c a (hostOps1_2_args a ha)).trans (W5_args m ρ c a ha)
abbrev V6 : (c : Dev nD) → (b : Ref sig .tc) → Buf (Elt F) ((c : Thread nD τ).loc b) := fun c b => W6 m ρ c b
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact (dat1 (V6 m ρ) c).withArrays_arrAt launch₀1.sharedIn _ (A_eq1 (V6 m ρ) c) w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
theorem W7_of (c : Dev nD) (r : Ref sig .tc) (h : ∀ w : Fin cfg1.W, Pipeline.arrRef spec1 w = r → (cfg1.win w).isOut = false) :
    W7 m ρ c (Proc.devRef .tc r) = W6 m ρ c (Proc.devRef .tc r) := by
  by_cases hw : ∃ w : Fin cfg1.W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn1 a ha)).trans (W6_args m ρ c a ha)
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps2 (W7 m ρ c)
theorem W8_of (c : Dev nD) (r : Ref sig .tc) (h : r ∉ hostOps2_W) : W8 m ρ c (Proc.devRef .tc r) = W7 m ρ c (Proc.devRef .tc r) :=
  StableHlo.after_of_writes_sub hostOps2 _ (StableHlo.forall_writes_sub_of_map rfl) h
theorem W8_args (c : Dev nD) : ∀ a ∈ argRefs, W8 m ρ c (Proc.devRef .tc a) = m ((c : Thread nD τ).loc a) :=
  fun a ha => (W8_of m ρ c a (hostOps2_args a ha)).trans (W7_args m ρ c a ha)
abbrev W9 : Dev nD → Valuation τ sig (Elt F) := fun c => StableHlo.after hostOps2_1 (W8 m ρ c)
theorem W9_of (c : Dev nD) (r : Ref sig .tc) (h : r ∉ hostOps2_1_W) : W9 m ρ c (Proc.devRef .tc r) = W8 m ρ c (Proc.devRef .tc r) :=
  StableHlo.after_of_writes_sub hostOps2_1 _ (StableHlo.forall_writes_sub_of_map rfl) h
theorem W9_args (c : Dev nD) : ∀ a ∈ argRefs, W9 m ρ c (Proc.devRef .tc a) = m ((c : Thread nD τ).loc a) :=
  fun a ha => (W9_of m ρ c a (hostOps2_1_args a ha)).trans (W8_args m ρ c a ha)
abbrev W10 : Dev nD → Valuation τ sig (Elt F) := fun c => StableHlo.after hostOps2_2 (W9 m ρ c)
theorem W10_of (c : Dev nD) (r : Ref sig .tc) (h : r ∉ hostOps2_2_W) : W10 m ρ c (Proc.devRef .tc r) = W9 m ρ c (Proc.devRef .tc r) :=
  StableHlo.after_of_writes_sub hostOps2_2 _ (StableHlo.forall_writes_sub_of_map rfl) h
theorem W10_args (c : Dev nD) : ∀ a ∈ argRefs, W10 m ρ c (Proc.devRef .tc a) = m ((c : Thread nD τ).loc a) :=
  fun a ha => (W10_of m ρ c a (hostOps2_2_args a ha)).trans (W9_args m ρ c a ha)
abbrev V10 : (c : Dev nD) → (b : Ref sig .tc) → Buf (Elt F) ((c : Thread nD τ).loc b) := fun c b => W10 m ρ c b
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
theorem W11_of (c : Dev nD) (r : Ref sig .tc) (h : ∀ w : Fin cfg2.W, Pipeline.arrRef spec2 w = r → (cfg2.win w).isOut = false) :
    W11 m ρ c (Proc.devRef .tc r) = W10 m ρ c (Proc.devRef .tc r) := by
  by_cases hw : ∃ w : Fin cfg2.W, Pipeline.arrRef spec2 w = r
  · obtain ⟨w, rfl⟩ := hw
    exact (W11_arr m ρ c w).trans (((dat2 (V10 m ρ) c).arrAt_in w (h w rfl) _).trans (A_eq2 (V10 m ρ) c w))
  · exact W11_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn2 a ha)).trans (W10_args m ρ c a ha)
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)

abbrev W12 : Dev nD → Valuation τ sig (Elt F) := fun c => StableHlo.after hostOps3 (W11 m ρ c)
theorem W12_of (c : Dev nD) (r : Ref sig .tc) (h : r ∉ hostOps3_W) : W12 m ρ c (Proc.devRef .tc r) = W11 m ρ c (Proc.devRef .tc r) :=
  StableHlo.after_of_writes_sub hostOps3 _ (StableHlo.forall_writes_sub_of_map rfl) h
theorem W12_args (c : Dev nD) : ∀ a ∈ argRefs, W12 m ρ c (Proc.devRef .tc a) = m ((c : Thread nD τ).loc a) :=
  fun a ha => (W12_of m ρ c a (hostOps3_args a ha)).trans (W11_args m ρ c a ha)

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V6 m ρ) c
  | ⟨2, _⟩ => fun c => dat2 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := Entry.Rest c
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) (A_eq0 (V2 m ρ) c)
    rw [Pipeline.unscopedBufs_held] at hsplit
    exact Entry.enter c hsplit (by unfold Pipeline.prefHeld; rw [show (Finset.univ : Finset (Fin 0)) = ∅ from rfl, BI.bigSep_empty]) (Entry.owes_in _ _ rfl fun _ => trivial)
  hin c := Entry.swap_in
  hout c := by
    rw [Pipeline.ownSems0_none]; exact Entry.swap_out
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    exact Entry.leave c hjoin (Entry.owes_out _ _ rfl)

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V6 m ρ c) (A_eq1 (V6 m ρ) c)
    rw [Pipeline.unscopedBufs_held] at hsplit
    exact Entry.enter c hsplit (by unfold Pipeline.prefHeld; rw [show (Finset.univ : Finset (Fin 0)) = ∅ from rfl, BI.bigSep_empty]) (Entry.owes_in _ _ rfl fun _ => trivial)
  hin c := Entry.swap_in
  hout c := by
    rw [Pipeline.ownSems0_none]; exact Entry.swap_out
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V6 m ρ c) (V7 m ρ c) ((pdats m ρ 1 c).arrAt · cfg1.N) (hF1 m ρ c) (hrest1 m ρ c)
    rw [Pipeline.unscopedBufs_held] at hjoin
    exact Entry.leave c hjoin (Entry.owes_out _ _ rfl)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) (A_eq2 (V10 m ρ) c)
    rw [Pipeline.unscopedBufs_held] at hsplit
    exact Entry.enter c hsplit (by unfold Pipeline.prefHeld; rw [show (Finset.univ : Finset (Fin 0)) = ∅ from rfl, BI.bigSep_empty]) (Entry.owes_in _ _ rfl fun _ => trivial)
  hin c := Entry.swap_in
  hout c := by
    rw [Pipeline.ownSems0_none]; exact Entry.swap_out
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    exact Entry.leave c hjoin (Entry.owes_out _ _ rfl)

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .region (reg0 m ρ),
    .host (hseg hostOps1 hostOps1_sub (W3 m ρ)),
    .host (hseg hostOps1_1 hostOps1_1_sub (W4 m ρ)),
    .host (hseg hostOps1_2 hostOps1_2_sub (W5 m ρ)),
    .region (reg1 m ρ),
    .host (hseg hostOps2 hostOps2_sub (W7 m ρ)),
    .host (hseg hostOps2_1 hostOps2_1_sub (W8 m ρ)),
    .host (hseg hostOps2_2 hostOps2_2_sub (W9 m ρ)),
    .region (reg2 m ρ),
    .host (hseg hostOps3 hostOps3_sub (W11 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem launch : θ_run defs (onTc (τ := τ) (main (F := F))) ⟨m, fun _ => 0, ρ⟩ (fun r =>
      (∀ c : Dev nD, ∀ b ∈ Pipeline.ucRefs τ sig, r.2.mem (((c : Thread nD τ)).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c)⟩, h.2⟩) (launch m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.KernelIdeal.Gen

end
-- ==== Proof.Frames.lean ====
/-
  The frame claims and the claim on the named constant.
  Each program ends without a fault, with its arguments unchanged and every counter at zero; the constant that the
  idealised kernel names "mask" is minus infinity.
-/
module

public import proofs.«01_k».proof.Defs
public import proofs.«01_k».proof.Proof.Gen.Kernel
public import proofs.«01_k».proof.Proof.KernelFrame
public import proofs.«01_k».proof.Proof.Gen.KernelIdeal
public import proofs.«01_k».proof.Proof.KernelIdealFrame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Frames

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

end Cert.Frames

end
-- ==== Proof.Spec.lean ====
/-
  A row's softmax and its backward step at extended reals, arrays read at natural indices, and products and
  reductions read at an index.
-/
module
public import Idealize.ShloMosaic.PureOps.Ideal.Laws
public import Idealize.ShloMosaic.Lib.ValueIdx
@[expose] public section
noncomputable section
namespace Cert.Attn
open Idealize.ShloMosaic Idealize.ShloMosaic.ValueIdx

/-- The largest of the first `n` entries of a row (bottom for the empty row). -/
def rowMax (n : ℕ) (w : ℕ → EReal) : EReal := (Finset.range n).sup w
/-- The exponential of an entry after the row's maximum is taken off. -/
def rowExp (n : ℕ) (w : ℕ → EReal) (j : ℕ) : EReal := Ideal.exp (w j - rowMax n w)
/-- The sum of the row's exponentials. -/
def rowSum (n : ℕ) (w : ℕ → EReal) : EReal := ∑ i ∈ Finset.range n, rowExp n w i
/-- The row's softmax. -/
def sm (n : ℕ) (w : ℕ → EReal) (j : ℕ) : EReal := Ideal.div (rowExp n w j) (rowSum n w)
/-- The softmax's backward step: from the gradient `g` of the row's probabilities to that of its scores. -/
def dsm (n : ℕ) (w g : ℕ → EReal) (j : ℕ) : EReal := sm n w j * (g j - ∑ i ∈ Finset.range n, g i * sm n w i)

theorem sm_congr {n : ℕ} {w w' : ℕ → EReal} (h : ∀ i, i < n → w i = w' i) (j : ℕ) (hj : j < n) : sm n w j = sm n w' j := by
  have hm : rowMax n w = rowMax n w' := Finset.sup_congr rfl fun i hi => h i (Finset.mem_range.1 hi)
  have he : ∀ i, i < n → rowExp n w i = rowExp n w' i := fun i hi => by unfold rowExp; rw [hm, h i hi]
  have hs : rowSum n w = rowSum n w' := Finset.sum_congr rfl fun i hi => he i (Finset.mem_range.1 hi)
  unfold sm; rw [he j hj, hs]

theorem dsm_congr {n : ℕ} {w w' g g' : ℕ → EReal} (h : ∀ i, i < n → w i = w' i) (hg : ∀ i, i < n → g i = g' i) (j : ℕ) (hj : j < n) :
    dsm n w g j = dsm n w' g' j := by
  unfold dsm
  rw [sm_congr h j hj, hg j hj]
  congr 2
  exact Finset.sum_congr rfl fun i hi => by
    have := Finset.mem_range.1 hi
    rw [hg i this, sm_congr h i this]

theorem sup_fin (n : ℕ) (f : ℕ → EReal) : (Finset.univ : Finset (Fin n)).sup (fun k => f k) = (Finset.range n).sup f := by
  refine le_antisymm (Finset.sup_le fun k _ => Finset.le_sup (f := f) (Finset.mem_range.2 k.isLt)) (Finset.sup_le fun k hk => ?_)
  exact Finset.le_sup (f := fun k : Fin n => f k) (Finset.mem_univ ⟨k, Finset.mem_range.1 hk⟩)

/-- An array of rank two read at natural indices, zero off its extents. -/
def at2 {a b : ℕ} (x : (⟨2, ![a, b]⟩ : Shape).Idx → EReal) (i j : ℕ) : EReal :=
  if h : i < a ∧ j < b then x (ix2 ⟨i, h.1⟩ ⟨j, h.2⟩) else 0
/-- An array of rank three read at natural indices, zero off its extents. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem at2_eq {a b : ℕ} (x : (⟨2, ![a, b]⟩ : Shape).Idx → EReal) (y : (⟨2, ![a, b]⟩ : Shape).Idx) :
    x y = at2 x (y 0).val (y 1).val := by
  unfold at2
  rw [dif_pos ⟨(y 0).isLt, (y 1).isLt⟩]
  exact congrArg x (eq_ix2 y)
theorem at3_eq {a b c : ℕ} (x : (⟨3, ![a, b, c]⟩ : Shape).Idx → EReal) (y : (⟨3, ![a, b, c]⟩ : Shape).Idx) :
    x y = at3 x (y 0).val (y 1).val (y 2).val := by
  unfold at3
  rw [dif_pos ⟨(y 0).isLt, (y 1).isLt, (y 2).isLt⟩]
  exact congrArg x (eq_ix3 y)

/-- At explicit coordinates. -/
theorem at2_ix {a b : ℕ} (x : (⟨2, ![a, b]⟩ : Shape).Idx → EReal) (i : Fin a) (j : Fin b) : x (ix2 i j) = at2 x i j := at2_eq x _
theorem at3_ix {a b c : ℕ} (x : (⟨3, ![a, b, c]⟩ : Shape).Idx → EReal) (i : Fin a) (j : Fin b) (k : Fin c) :
    x (ix3 i j k) = at3 x i j k := at3_eq x _
theorem at2_mk {a b : ℕ} (x : (⟨2, ![a, b]⟩ : Shape).Idx → EReal) (i j : ℕ) (hi : i < a) (hj : j < b) : at2 x i j = x (ix2 ⟨i, hi⟩ ⟨j, hj⟩) := by
  unfold at2; rw [dif_pos ⟨hi, hj⟩]
theorem at3_mk {a b c : ℕ} (x : (⟨3, ![a, b, c]⟩ : Shape).Idx → EReal) (i j k : ℕ) (hi : i < a) (hj : j < b) (hk : k < c) :
    at3 x i j k = x (ix3 ⟨i, hi⟩ ⟨j, hj⟩ ⟨k, hk⟩) := by
  unfold at3; rw [dif_pos ⟨hi, hj, hk⟩]

/-- An array at an index whose coordinates are known. -/
theorem at2_of {a b : ℕ} (x : (⟨2, ![a, b]⟩ : Shape).Idx → EReal) (y : (⟨2, ![a, b]⟩ : Shape).Idx) (i j : ℕ) (h0 : (y (0 : Fin 2)).val = i) (h1 : (y (1 : Fin 2)).val = j) :
    x y = at2 x i j := by
  exact (at2_eq x y).trans (by rw [h0, h1])

/-! ## Products read at natural indices -/

/-- A product over one contracted coordinate into the zero splat, its operands read at natural indices. -/
theorem matmul_at {sl sr so : Shape} {φ₁ φ₂ : FTy} (D : DotDims sl sr so) (prec : Option ContractPrecision) (n : ℕ)
    (hr : D.contr.rank = 1) (hs : D.contr.size ⟨0, by omega⟩ = n) (lhs : FVec Ideal sl φ₁) (rhs : FVec Ideal sr φ₂) (j : so.Idx)
    (f g : ℕ → EReal)
    (hl : ∀ k : Fin n, lhs (D.lhsIdx j ((contrEquiv1 D n hr hs).symm k)) = f k)
    (hg : ∀ k : Fin n, rhs (D.rhsIdx j ((contrEquiv1 D n hr hs).symm k)) = g k) :
    FloatOps.matmul D prec lhs rhs (constant so .f32 0x00000000#32) j = ∑ k ∈ Finset.range n, f k * g k := by
  rw [Ideal.matmul_constant_zero_apply, ← Equiv.sum_comp (contrEquiv1 D n hr hs).symm, ← Fin.sum_univ_eq_sum_range (fun k => f k * g k)]
  exact Finset.sum_congr rfl fun k _ => by rw [hl, hg]

theorem exp_bot_sub (M : EReal) : Ideal.exp (⊥ - M) = 0 := by
  rw [EReal.bot_sub]; rfl
end Cert.Attn
end
-- ==== Proof.Blk.lean ====
/-
  Arrays read and written by blocks, at natural indices.
-/
module
public import proofs.«01_k».proof.Proof.Spec
public import Idealize.ShloMosaic.Lib.ValueLayout
@[expose] public section
noncomputable section
namespace Cert.Mm
open Idealize.ShloMosaic Idealize.ShloMosaic.ValueIdx Cert.Attn

/-- The index `e y` is `y` moved by whole blocks, `o₀` and `o₁` of them. -/
def Moves2 {a b a' b' : ℕ} (e : (⟨2, ![a, b]⟩ : Shape).Idx → (⟨2, ![a', b']⟩ : Shape).Idx) (o₀ o₁ : ℕ) : Prop :=
  ∀ y, (e y (0 : Fin 2)).val = o₀ * a + (y (0 : Fin 2)).val ∧ (e y (1 : Fin 2)).val = o₁ * b + (y (1 : Fin 2)).val
/-- The same at rank three. -/
def Moves3 {a b d a' b' d' : ℕ} (e : (⟨3, ![a, b, d]⟩ : Shape).Idx → (⟨3, ![a', b', d']⟩ : Shape).Idx) (o₀ o₁ o₂ : ℕ) : Prop :=
  ∀ y, (e y (0 : Fin 3)).val = o₀ * a + (y (0 : Fin 3)).val ∧ (e y (1 : Fin 3)).val = o₁ * b + (y (1 : Fin 3)).val
    ∧ (e y (2 : Fin 3)).val = o₂ * d + (y (2 : Fin 3)).val

/-- A block read at natural indices is the array read there. -/
theorem Moves2.read {a b a' b' : ℕ} {e : (⟨2, ![a, b]⟩ : Shape).Idx → (⟨2, ![a', b']⟩ : Shape).Idx} {o₀ o₁ : ℕ} (h : Moves2 e o₀ o₁)
    (x : (⟨2, ![a', b']⟩ : Shape).Idx → EReal) (v : (⟨2, ![a, b]⟩ : Shape).Idx → EReal) (hv : ∀ y, v y = x (e y)) (p q : ℕ) (hp : p < a) (hq : q < b) :
    at2 v p q = at2 x (o₀ * a + p) (o₁ * b + q) := by
  rw [at2_mk _ _ _ hp hq, hv]
  refine (at2_eq x _).trans ?_
  rw [(h _).1, (h _).2]
theorem Moves3.read {a b d a' b' d' : ℕ} {e : (⟨3, ![a, b, d]⟩ : Shape).Idx → (⟨3, ![a', b', d']⟩ : Shape).Idx} {o₀ o₁ o₂ : ℕ} (h : Moves3 e o₀ o₁ o₂)
    (x : (⟨3, ![a', b', d']⟩ : Shape).Idx → EReal) (v : (⟨3, ![a, b, d]⟩ : Shape).Idx → EReal) (hv : ∀ y, v y = x (e y)) (g p q : ℕ)
    (hg : g < a) (hp : p < b) (hq : q < d) :
    at3 v g p q = at3 x (o₀ * a + g) (o₁ * b + p) (o₂ * d + q) := by
  rw [at3_mk _ _ _ _ hg hp hq, hv]
  refine (at3_eq x _).trans ?_
  rw [(h _).1, (h _).2.1, (h _).2.2]

/-- Every index of the array is in the block that holds it. -/
theorem Moves2.hit {a b a' b' : ℕ} {e : (⟨2, ![a, b]⟩ : Shape).Idx → (⟨2, ![a', b']⟩ : Shape).Idx} {o₀ o₁ : ℕ} (h : Moves2 e o₀ o₁)
    (i : (⟨2, ![a', b']⟩ : Shape).Idx) (h0 : o₀ = (i (0 : Fin 2)).val / a) (h1 : o₁ = (i (1 : Fin 2)).val / b) (ha : 0 < a) (hb : 0 < b) :
    ∃ y, e y = i := by
  refine ⟨ix2 ⟨(i (0 : Fin 2)).val % a, Nat.mod_lt _ ha⟩ ⟨(i (1 : Fin 2)).val % b, Nat.mod_lt _ hb⟩, funext fun k => Fin.ext ?_⟩
  match k with
  | ⟨0, _⟩ =>
    refine (h _).1.trans ?_
    show o₀ * a + (i (0 : Fin 2)).val % a = (i (0 : Fin 2)).val
    rw [h0]; exact Nat.div_add_mod' _ _
  | ⟨1, _⟩ =>
    refine (h _).2.trans ?_
    show o₁ * b + (i (1 : Fin 2)).val % b = (i (1 : Fin 2)).val
    rw [h1]; exact Nat.div_add_mod' _ _
theorem Moves3.hit {a b d a' b' d' : ℕ} {e : (⟨3, ![a, b, d]⟩ : Shape).Idx → (⟨3, ![a', b', d']⟩ : Shape).Idx} {o₀ o₁ o₂ : ℕ} (h : Moves3 e o₀ o₁ o₂)
    (i : (⟨3, ![a', b', d']⟩ : Shape).Idx) (h0 : o₀ = (i (0 : Fin 3)).val / a) (h1 : o₁ = (i (1 : Fin 3)).val / b) (h2 : o₂ = (i (2 : Fin 3)).val / d)
    (ha : 0 < a) (hb : 0 < b) (hd : 0 < d) : ∃ y, e y = i := by
  refine ⟨ix3 ⟨(i (0 : Fin 3)).val % a, Nat.mod_lt _ ha⟩ ⟨(i (1 : Fin 3)).val % b, Nat.mod_lt _ hb⟩ ⟨(i (2 : Fin 3)).val % d, Nat.mod_lt _ hd⟩,
    funext fun k => Fin.ext ?_⟩
  match k with
  | ⟨0, _⟩ =>
    refine (h _).1.trans ?_
    show o₀ * a + (i (0 : Fin 3)).val % a = (i (0 : Fin 3)).val
    rw [h0]; exact Nat.div_add_mod' _ _
  | ⟨1, _⟩ =>
    refine (h _).2.1.trans ?_
    show o₁ * b + (i (1 : Fin 3)).val % b = (i (1 : Fin 3)).val
    rw [h1]; exact Nat.div_add_mod' _ _
  | ⟨2, _⟩ =>
    refine (h _).2.2.trans ?_
    show o₂ * d + (i (2 : Fin 3)).val % d = (i (2 : Fin 3)).val
    rw [h2]; exact Nat.div_add_mod' _ _

/-- What a block holds, said at its coordinates, is what the array is to hold. -/
theorem Moves2.write {a b a' b' : ℕ} {e : (⟨2, ![a, b]⟩ : Shape).Idx → (⟨2, ![a', b']⟩ : Shape).Idx} {o₀ o₁ : ℕ} (h : Moves2 e o₀ o₁)
    (v : (⟨2, ![a, b]⟩ : Shape).Idx → EReal) (G : ℕ → ℕ → EReal) (hG : ∀ (p : Fin a) (q : Fin b), v (ix2 p q) = G (o₀ * a + p) (o₁ * b + q)) (y) :
    v y = G (e y (0 : Fin 2)).val (e y (1 : Fin 2)).val := by
  rw [(h y).1, (h y).2]
  exact (congrArg v (eq_ix2 y)).trans (hG (y (0 : Fin 2)) (y (1 : Fin 2)))
theorem Moves3.write {a b d a' b' d' : ℕ} {e : (⟨3, ![a, b, d]⟩ : Shape).Idx → (⟨3, ![a', b', d']⟩ : Shape).Idx} {o₀ o₁ o₂ : ℕ} (h : Moves3 e o₀ o₁ o₂)
    (v : (⟨3, ![a, b, d]⟩ : Shape).Idx → EReal) (G : ℕ → ℕ → ℕ → EReal)
    (hG : ∀ (g : Fin a) (p : Fin b) (q : Fin d), v (ix3 g p q) = G (o₀ * a + g) (o₁ * b + p) (o₂ * d + q)) (y) :
    v y = G (e y (0 : Fin 3)).val (e y (1 : Fin 3)).val (e y (2 : Fin 3)).val := by
  rw [(h y).1, (h y).2.1, (h y).2.2]
  refine (congrArg v (funext fun k => Fin.ext ?_)).trans (hG (y (0 : Fin 3)) (y (1 : Fin 3)) (y (2 : Fin 3)))
  match k with
  | ⟨0, _⟩ => rfl
  | ⟨1, _⟩ => rfl
  | ⟨2, _⟩ => rfl

/-- A map of indices by blocks, from its value on each axis. -/
theorem Moves2.of {a b a' b' : ℕ} {e : (⟨2, ![a, b]⟩ : Shape).Idx → (⟨2, ![a', b']⟩ : Shape).Idx} {o₀ o₁ : ℕ} {f s : Fin 2 → ℕ}
    (h : ∀ y i, (e y i).val = f i * s i + (y i).val) (s0 : s 0 = a) (s1 : s 1 = b) (hf : f 0 = o₀ ∧ f 1 = o₁) : Moves2 e o₀ o₁ := fun y =>
  ⟨(h y 0).trans (by rw [hf.1, s0]), (h y 1).trans (by rw [hf.2, s1])⟩
theorem Moves3.of {a b d a' b' d' : ℕ} {e : (⟨3, ![a, b, d]⟩ : Shape).Idx → (⟨3, ![a', b', d']⟩ : Shape).Idx} {o₀ o₁ o₂ : ℕ} {f s : Fin 3 → ℕ}
    (h : ∀ y i, (e y i).val = f i * s i + (y i).val) (s0 : s 0 = a) (s1 : s 1 = b) (s2 : s 2 = d) (hf : f 0 = o₀ ∧ f 1 = o₁ ∧ f 2 = o₂) : Moves3 e o₀ o₁ o₂ := fun y =>
  ⟨(h y 0).trans (by rw [hf.1, s0]), (h y 1).trans (by rw [hf.2.1, s1]), (h y 2).trans (by rw [hf.2.2, s2])⟩

theorem Moves2.all {N a b a' b' : ℕ} {e : Fin N → (⟨2, ![a, b]⟩ : Shape).Idx → (⟨2, ![a', b']⟩ : Shape).Idx} {o₀ o₁ : Fin N → ℕ} {f : Fin N → Fin 2 → ℕ} {s : Fin 2 → ℕ}
    (h : ∀ t y i, (e t y i).val = f t i * s i + (y i).val) (s0 : s 0 = a) (s1 : s 1 = b) (hf : ∀ t, f t 0 = o₀ t ∧ f t 1 = o₁ t) (t) : Moves2 (e t) (o₀ t) (o₁ t) :=
  .of (h t) s0 s1 (hf t)
theorem Moves3.all {N a b d a' b' d' : ℕ} {e : Fin N → (⟨3, ![a, b, d]⟩ : Shape).Idx → (⟨3, ![a', b', d']⟩ : Shape).Idx} {o₀ o₁ o₂ : Fin N → ℕ} {f : Fin N → Fin 3 → ℕ} {s : Fin 3 → ℕ}
    (h : ∀ t y i, (e t y i).val = f t i * s i + (y i).val) (s0 : s 0 = a) (s1 : s 1 = b) (s2 : s 2 = d) (hf : ∀ t, f t 0 = o₀ t ∧ f t 1 = o₁ t ∧ f t 2 = o₂ t) (t) :
    Moves3 (e t) (o₀ t) (o₁ t) (o₂ t) := .of (h t) s0 s1 s2 (hf t)

/-- Where the blocks run through all the multiples, every index of the array is in one of them. -/
theorem Moves2.cover {N n m a b a' b' : ℕ} {P : Fin N → Prop} {e : Fin N → (⟨2, ![a, b]⟩ : Shape).Idx → (⟨2, ![a', b']⟩ : Shape).Idx} {o₀ o₁ : Fin N → ℕ}
    (h : ∀ t, Moves2 (e t) (o₀ t) (o₁ t)) (hc : ∀ (x : Fin n) (y : Fin m), ∃ t, P t ∧ o₀ t = x.val ∧ o₁ t = y.val) (ha : a' = n * a) (hb : b' = m * b)
    (i : (⟨2, ![a', b']⟩ : Shape).Idx) : ∃ t, P t ∧ ∃ y, e t y = i := by
  have h0 : (i (0 : Fin 2)).val < n * a := ha ▸ (i (0 : Fin 2)).isLt
  have h1 : (i (1 : Fin 2)).val < m * b := hb ▸ (i (1 : Fin 2)).isLt
  have pa : 0 < a := Nat.pos_of_ne_zero fun z => by rw [z, Nat.mul_zero] at h0; exact absurd h0 (Nat.not_lt_zero _)
  have pb : 0 < b := Nat.pos_of_ne_zero fun z => by rw [z, Nat.mul_zero] at h1; exact absurd h1 (Nat.not_lt_zero _)
  obtain ⟨t, ht, e0, e1⟩ := hc ⟨_, Nat.div_lt_of_lt_mul ((Nat.mul_comm n a) ▸ h0)⟩ ⟨_, Nat.div_lt_of_lt_mul ((Nat.mul_comm m b) ▸ h1)⟩
  exact ⟨t, ht, (h t).hit i e0 e1 pa pb⟩
theorem Moves3.cover {N n m l a b d a' b' d' : ℕ} {P : Fin N → Prop} {e : Fin N → (⟨3, ![a, b, d]⟩ : Shape).Idx → (⟨3, ![a', b', d']⟩ : Shape).Idx} {o₀ o₁ o₂ : Fin N → ℕ}
    (h : ∀ t, Moves3 (e t) (o₀ t) (o₁ t) (o₂ t)) (hc : ∀ (x : Fin n) (y : Fin m) (z : Fin l), ∃ t, P t ∧ o₀ t = x.val ∧ o₁ t = y.val ∧ o₂ t = z.val)
    (ha : a' = n * a) (hb : b' = m * b) (hd : d' = l * d) (i : (⟨3, ![a', b', d']⟩ : Shape).Idx) : ∃ t, P t ∧ ∃ y, e t y = i := by
  have h0 : (i (0 : Fin 3)).val < n * a := ha ▸ (i (0 : Fin 3)).isLt
  have h1 : (i (1 : Fin 3)).val < m * b := hb ▸ (i (1 : Fin 3)).isLt
  have h2 : (i (2 : Fin 3)).val < l * d := hd ▸ (i (2 : Fin 3)).isLt
  have pa : 0 < a := Nat.pos_of_ne_zero fun z => by rw [z, Nat.mul_zero] at h0; exact absurd h0 (Nat.not_lt_zero _)
  have pb : 0 < b := Nat.pos_of_ne_zero fun z => by rw [z, Nat.mul_zero] at h1; exact absurd h1 (Nat.not_lt_zero _)
  have pd : 0 < d := Nat.pos_of_ne_zero fun z => by rw [z, Nat.mul_zero] at h2; exact absurd h2 (Nat.not_lt_zero _)
  obtain ⟨t, ht, e0, e1, e2⟩ := hc ⟨_, Nat.div_lt_of_lt_mul ((Nat.mul_comm n a) ▸ h0)⟩ ⟨_, Nat.div_lt_of_lt_mul ((Nat.mul_comm m b) ▸ h1)⟩ ⟨_, Nat.div_lt_of_lt_mul ((Nat.mul_comm l d) ▸ h2)⟩
  exact ⟨t, ht, (h t).hit i e0 e1 e2 pa pb pd⟩
end Cert.Mm
end
-- ==== Proof.Tile.lean ====
/-
  One tile of the attention's backward pass: the scores of 256 queries against a band of 768 keys, their softmax, and
  the products of the tile, each read at an index.
-/
module
public import proofs.«01_k».proof.Proof.Gen.KernelIdeal.Skeleton
public import proofs.«01_k».proof.Proof.Spec
public import Idealize.ShloMosaic.PureOps.IdealRules
public import Idealize.ShloMosaic.Lib.Pipeline.Value
public import Idealize.ShloMosaic.Lib.ValueLayout
public import Idealize.ShloMosaic.Lib.ValueLayoutCasts
public import Idealize.ShloMosaic.Lib.WordCmp
@[expose] public section
set_option maxRecDepth 8192
noncomputable section
namespace Cert.KernelIdeal.Value
open Cert.KernelIdeal Cert.KernelIdeal.Gen Cert.Attn
open Idealize.ShloMosaic Idealize.ShloMosaic.ValueIdx

/-! ## The kernel's four products -/

theorem mm_qk (φ₁ φ₂ : FTy) (prec) (x : FVec Ideal S256x128 φ₁) (y : FVec Ideal S768x128 φ₂) (i : Fin 256) (j : Fin 768) :
    matmul dot_S256x128_S768x128_S256x768_1_1_0_0_n_n prec x y (constant S256x768 .f32 0x00000000#32) (ix2 i j)
      = ∑ d ∈ Finset.range 128, at2 x i d * at2 y j d :=
  matmul_at _ prec 128 rfl rfl x y (ix2 i j) _ _
    (fun k => by
      rw [← at2_ix]; refine congrArg x (funext fun a => Fin.ext ?_)
      match a with
      | ⟨0, _⟩ => rfl
      | ⟨1, _⟩ => exact contrEquiv1_symm_val dot_S256x128_S768x128_S256x768_1_1_0_0_n_n 128 rfl rfl k)
    (fun k => by
      rw [← at2_ix]; refine congrArg y (funext fun a => Fin.ext ?_)
      match a with
      | ⟨0, _⟩ => rfl
      | ⟨1, _⟩ => exact contrEquiv1_symm_val dot_S256x128_S768x128_S256x768_1_1_0_0_n_n 128 rfl rfl k)

theorem mm_dq (φ₁ φ₂ : FTy) (prec) (x : FVec Ideal S256x768 φ₁) (y : FVec Ideal S768x128 φ₂) (i : Fin 256) (j : Fin 128) :
    matmul dot_S256x768_S768x128_S256x128_1_0_0_1_n_n prec x y (constant S256x128 .f32 0x00000000#32) (ix2 i j)
      = ∑ d ∈ Finset.range 768, at2 x i d * at2 y d j :=
  matmul_at _ prec 768 rfl rfl x y (ix2 i j) _ _
    (fun k => by
      rw [← at2_ix]; refine congrArg x (funext fun a => Fin.ext ?_)
      match a with
      | ⟨0, _⟩ => rfl
      | ⟨1, _⟩ => exact contrEquiv1_symm_val dot_S256x768_S768x128_S256x128_1_0_0_1_n_n 768 rfl rfl k)
    (fun k => at2_of y _ _ _ (contrEquiv1_symm_val dot_S256x768_S768x128_S256x128_1_0_0_1_n_n 768 rfl rfl k) rfl)

theorem mm_dk (φ₁ φ₂ : FTy) (prec) (x : FVec Ideal S256x768 φ₁) (y : FVec Ideal S256x128 φ₂) (i : Fin 768) (j : Fin 128) :
    matmul dot_S256x768_S256x128_S768x128_0_0_1_1_n_n prec x y (constant S768x128 .f32 0x00000000#32) (ix2 i j)
      = ∑ d ∈ Finset.range 256, at2 x d i * at2 y d j :=
  matmul_at _ prec 256 rfl rfl x y (ix2 i j) _ _
    (fun k => at2_of x _ _ _ (contrEquiv1_symm_val dot_S256x768_S256x128_S768x128_0_0_1_1_n_n 256 rfl rfl k) rfl)
    (fun k => at2_of y _ _ _ (contrEquiv1_symm_val dot_S256x768_S256x128_S768x128_0_0_1_1_n_n 256 rfl rfl k) rfl)

/-! ## The tile's softmax -/

/-- A row's value spread back over the row. -/
theorem spread (x : FVec Ideal S256 .f32) (i : Fin 256) (j : Fin 768) :
    broadcastTo S256x768 (shapeCast S256x1 x shapeCasts_S256_S256x1) broadcasts_S256x1_S256x768 (ix2 i j) = x (ix1 i) :=
  (broadcastTo_apply _ _ _ (ix2 i (0 : Fin 1)) (fun a => by
    match a with
    | ⟨0, _⟩ => rfl
    | ⟨1, _⟩ => rfl)).trans (shapeCast_a_a1_apply x _ i 0)

theorem lift_eq (i : Fin 256) (k : Fin 768) : reduces_S256x768_S256.lift (ix1 i) k = ix2 i k :=
  funext fun a => Fin.ext (by
    match a with
    | ⟨0, _⟩ => rfl
    | ⟨1, _⟩ => rfl)

theorem ofBits_bot : Ideal.ofBits .f32 0xFF800000#32 = ⊥ := by simp [Ideal.ofBits, Ideal.ieee]

theorem row_max (x : FVec Ideal S256x768 .f32) (i : Fin 256) :
    multiReduction .maximumf [1] S256 x 0xFF800000#32 reduces_S256x768_S256 (.inl rfl) rfl (ix1 i) = rowMax 768 (fun j => at2 x i j) := by
  refine (Ideal.multiReduction_maximumf_single x _ _ _ _ _).trans ?_
  show (Finset.univ : Finset (Fin 768)).fold max (Ideal.ofBits .f32 0xFF800000#32) (fun k => x (reduces_S256x768_S256.lift (ix1 i) k)) = _
  rw [ofBits_bot]
  show (Finset.univ : Finset (Fin 768)).sup (fun k => x (reduces_S256x768_S256.lift (ix1 i) k)) = _
  simp only [lift_eq, at2_ix]
  exact sup_fin 768 (fun j => at2 x i j)

theorem row_sum (x : FVec Ideal S256x768 .f32) (i : Fin 256) :
    multiReduction .add [1] S256 x 0x00000000#32 reduces_S256x768_S256 (.inl rfl) rfl (ix1 i) = ∑ j ∈ Finset.range 768, at2 x i j := by
  refine (Ideal.multiReduction_add_single x _ _ _ _ _).trans ?_
  show ∑ k : Fin 768, x (reduces_S256x768_S256.lift (ix1 i) k) = _
  simp only [lift_eq, at2_ix]
  exact Fin.sum_univ_eq_sum_range (fun j => at2 x i j) 768

/-- The row softmax as the kernel spells it. -/
theorem softmax_at (x : FVec Ideal S256x768 .f32) (i : Fin 256) (j : Fin 768) :
    divf (exp (subf x (broadcastTo S256x768 (shapeCast S256x1 (multiReduction .maximumf [1] S256 x 0xFF800000#32 reduces_S256x768_S256 (.inl rfl) rfl) shapeCasts_S256_S256x1) broadcasts_S256x1_S256x768)))
      (broadcastTo S256x768 (shapeCast S256x1 (multiReduction .add [1] S256
        (exp (subf x (broadcastTo S256x768 (shapeCast S256x1 (multiReduction .maximumf [1] S256 x 0xFF800000#32 reduces_S256x768_S256 (.inl rfl) rfl) shapeCasts_S256_S256x1) broadcasts_S256x1_S256x768)))
        0x00000000#32 reduces_S256x768_S256 (.inl rfl) rfl) shapeCasts_S256_S256x1) broadcasts_S256x1_S256x768) (ix2 i j)
      = sm 768 (fun j => at2 x i j) j := by
  have he : ∀ j : Fin 768, exp (subf x (broadcastTo S256x768 (shapeCast S256x1 (multiReduction .maximumf [1] S256 x 0xFF800000#32 reduces_S256x768_S256 (.inl rfl) rfl) shapeCasts_S256_S256x1) broadcasts_S256x1_S256x768)) (ix2 i j)
      = rowExp 768 (fun j => at2 x i j) j := fun j => by
    show Ideal.exp (x (ix2 i j) - _) = _
    rw [spread, row_max, at2_ix x]; rfl
  rw [divf_apply]
  show Ideal.div _ _ = _
  rw [he, spread, row_sum]
  unfold sm rowSum
  congr 1
  refine Finset.sum_congr rfl fun k hk => ?_
  have hk := Finset.mem_range.1 hk
  rw [at2_mk _ _ _ i.isLt hk]
  exact he ⟨k, hk⟩

/-! ## The mask -/

/-- The tile's mask: key chunks at most eight before the query's, and no key from before the sequence. -/
abbrev allowT (k i j : ℕ) : Prop := i / 64 ≤ j / 64 ∧ j / 64 ≤ i / 64 + 8 ∧ 512 ≤ 256 * k + j

private theorem div_word : ∀ i : Fin 256, Scalar.select (IntOp.andi (IntOp.cmpi .ne (IntOp.subi ((IntOp.cmpi .sgt (BitVec.ofNat 32 i.val) 0#32).setWidth 32) ((IntOp.cmpi .slt (BitVec.ofNat 32 i.val) 0#32).setWidth 32))
      (Scalar.subi (Scalar.extui (Scalar.cmpi .sgt 64#32 0#32)) (Scalar.extui (Scalar.cmpi .slt 64#32 0#32))))
      (IntOp.cmpi .ne (IntOp.remsi .vector (BitVec.ofNat 32 i.val) 64#32) 0#32))
      (IntOp.subi (IntOp.divsi .vector (BitVec.ofNat 32 i.val) 64#32) 1#32) (IntOp.divsi .vector (BitVec.ofNat 32 i.val) 64#32) = BitVec.ofNat 32 (i.val / 64) := by
  decide +kernel

private theorem div_word' : ∀ j : Fin 768, Scalar.select (IntOp.andi (IntOp.cmpi .ne (IntOp.subi ((IntOp.cmpi .sgt (BitVec.ofNat 32 j.val) 0#32).setWidth 32) ((IntOp.cmpi .slt (BitVec.ofNat 32 j.val) 0#32).setWidth 32))
      (Scalar.subi (Scalar.extui (Scalar.cmpi .sgt 64#32 0#32)) (Scalar.extui (Scalar.cmpi .slt 64#32 0#32))))
      (IntOp.cmpi .ne (IntOp.remsi .vector (BitVec.ofNat 32 j.val) 64#32) 0#32))
      (IntOp.subi (IntOp.divsi .vector (BitVec.ofNat 32 j.val) 64#32) 1#32) (IntOp.divsi .vector (BitVec.ofNat 32 j.val) 64#32) = BitVec.ofNat 32 (j.val / 64) := by
  decide +kernel

theorem pay32_at (i : Fin 256) (j : Fin 768) : k1_pay32 (ix2 i j) = BitVec.ofNat 32 (i.val / 64) := by
  unfold k1_pay32
  dsimp only [select, andi, cmpi, subi, divsi, remsi, extui, broadcast]
  rw [iota_single_apply]
  exact div_word i

private theorem cmp_word : ∀ a : Fin 4, ∀ b : Fin 12, ∀ k : Fin 8, IntOp.andi (IntOp.cmpi .sge (BitVec.ofNat 32 b.val) (BitVec.ofNat 32 a.val))
    (IntOp.cmpi .sle (BitVec.ofNat 32 b.val) (IntOp.addi (BitVec.ofNat 32 a.val) 8#32)) = BitVec.ofBool (decide (a.val ≤ b.val ∧ b.val ≤ a.val + 8)) := by
  decide +kernel

private theorem pad_word : ∀ k : Fin 8, ∀ j : Fin 768, IntOp.cmpi .sge (IntOp.addi (Scalar.muli (Scf.iv 0#32 1#32 k) 256#32) (BitVec.ofNat 32 j.val)) 512#32
    = BitVec.ofBool (decide (512 ≤ 256 * k.val + j.val)) := by
  decide +kernel

theorem iota_at (i : Fin 256) (j : Fin 768) : iota .tc S256x768 32 [1] iota_S256x768_d1_w32 (ix2 i j) = BitVec.ofNat 32 j.val := iota_single_apply ..

/-- The mask that every tile shares. -/
abbrev msk : S256x768.Idx → BitVec 1 := k1_pay1 k1_pay32 k1_pay33 k1_pay34

theorem msk_at (i : Fin 256) (j : Fin 768) : msk (ix2 i j) = BitVec.ofBool (decide (i.val / 64 ≤ j.val / 64 ∧ j.val / 64 ≤ i.val / 64 + 8)) := by
  unfold msk k1_pay1
  dsimp only [select, andi, cmpi, subi, addi, broadcast]
  rw [pay32_at]
  have h : Scalar.select (k1_pay34 (ix2 i j)) (IntOp.subi (k1_pay33 (ix2 i j)) 1#32) (k1_pay33 (ix2 i j)) = BitVec.ofNat 32 (j.val / 64) := by
    unfold k1_pay33 k1_pay34
    dsimp only [select, andi, cmpi, subi, divsi, remsi, extui, broadcast]
    rw [iota_at]
    exact div_word' j
  rw [h]
  exact cmp_word ⟨i.val / 64, by omega⟩ ⟨j.val / 64, by omega⟩ 0

theorem mask_at (k : Fin k1_t1_loop.trips) (i : Fin 256) (j : Fin 768) :
    andi msk (cmpi .sge (addi (broadcast S256x768 (Scalar.muli (Scf.iv 0#32 1#32 k) 256#32)) (iota .tc S256x768 32 [1] iota_S256x768_d1_w32))
      (broadcast S256x768 512#32)) (ix2 i j) = BitVec.ofBool (decide (allowT k i j)) := by
  show IntOp.andi (msk (ix2 i j)) (IntOp.cmpi .sge (IntOp.addi (Scalar.muli (Scf.iv 0#32 1#32 k) 256#32) (iota .tc S256x768 32 [1] iota_S256x768_d1_w32 (ix2 i j))) 512#32) = _
  rw [msk_at, iota_at]
  refine (congrArg (IntOp.andi _) (pad_word k j)).trans ?_
  by_cases h1 : (i.val / 64 ≤ j.val / 64 ∧ j.val / 64 ≤ i.val / 64 + 8) <;> by_cases h2 : 512 ≤ 256 * k.val + j.val <;>
    simp [allowT, h1, h2, IntOp.andi, ← and_assoc]

/-! ## The bias tile -/

/-- The bias the tile adds, block diagonal in its two half rows. -/
def biasT (B : ℕ → ℕ → EReal) (i j : ℕ) : EReal :=
  if i < 128 then (if j < 640 then B i j else 0) else (if 128 ≤ j then B (i - 128) (j - 128) else 0)

theorem bias_at (v : FVec Ideal S1x128x640 .f32) (i : Fin 256) (j : Fin 768) :
    k1_pay2 (F := Ideal) v (ix2 i j) = biasT (at3 v 0) i j := by
  unfold k1_pay2 biasT
  have hz : Ideal.ofBits .f32 0x00000000#32 = 0 := Ideal.ofBits_zero_f32
  by_cases hi : i.val < 128
  · rw [if_pos hi]
    refine (concatenate_pair_apply_left (t := S256x768) (s₁ := S128x768) (s₂ := S128x768) 0 _ _ _ (ix2 i j) rfl (ix2 ⟨i, hi⟩ j) (fun a => by
      match a with
      | ⟨0, _⟩ => rfl
      | ⟨1, _⟩ => rfl)).trans ?_
    by_cases hj : j.val < 640
    · rw [if_pos hj]
      refine (concatenate_pair_apply_left (t := S128x768) (s₁ := S128x640) (s₂ := S128x128) 1 _ _ _ (ix2 ⟨i, hi⟩ j) rfl (ix2 ⟨i, hi⟩ ⟨j, hj⟩) (fun a => by
        match a with
        | ⟨0, _⟩ => rfl
        | ⟨1, _⟩ => rfl)).trans ?_
      exact (shapeCast_1ab_ab_apply _ _ _ _).trans (at3_ix v _ _ _)
    · rw [if_neg hj]
      refine (concatenate_pair_apply_right (t := S128x768) (s₁ := S128x640) (s₂ := S128x128) 1 _ _ _ (ix2 ⟨i, hi⟩ j) rfl rfl (ix2 ⟨i, hi⟩ ⟨j - 640, by omega⟩) (fun a ha => by
        match a, ha with
        | ⟨0, _⟩, _ => rfl
        | ⟨1, _⟩, ha => exact absurd rfl ha) (by show j.val - 640 + 640 = j.val; omega)).trans hz
  · rw [if_neg hi]
    refine (concatenate_pair_apply_right (t := S256x768) (s₁ := S128x768) (s₂ := S128x768) 0 _ _ _ (ix2 i j) rfl rfl (ix2 ⟨i - 128, by omega⟩ j) (fun a ha => by
      match a, ha with
      | ⟨1, _⟩, _ => rfl) (by show i.val - 128 + 128 = i.val; omega)).trans ?_
    by_cases hj : 128 ≤ j.val
    · rw [if_pos hj]
      refine (concatenate_pair_apply_right (t := S128x768) (s₁ := S128x128) (s₂ := S128x640) 1 _ _ _ (ix2 ⟨i - 128, by omega⟩ j) rfl rfl (ix2 ⟨i - 128, by omega⟩ ⟨j - 128, by omega⟩) (fun a ha => by
        match a, ha with
        | ⟨0, _⟩, _ => rfl
        | ⟨1, _⟩, ha => exact absurd rfl ha) (by show j.val - 128 + 128 = j.val; omega)).trans ?_
      exact (shapeCast_1ab_ab_apply _ _ _ _).trans (at3_ix v _ _ _)
    · rw [if_neg hj]
      refine (concatenate_pair_apply_left (t := S128x768) (s₁ := S128x128) (s₂ := S128x640) 1 _ _ _ (ix2 ⟨i - 128, by omega⟩ j) rfl (ix2 ⟨i - 128, by omega⟩ ⟨j, by omega⟩) (fun a => by
        match a with
        | ⟨0, _⟩ => rfl
        | ⟨1, _⟩ => rfl)).trans hz

/-! ## The tile's rows -/

/-- The scale both sides multiply the scores by. -/
def scl : EReal := Ideal.ofBits .f32 0x3DB504F3#32

/-- One row of scores of a tile. -/
def zT (k : ℕ) (q kk : ℕ → ℕ → EReal) (B : ℕ → ℕ → EReal) (i j : ℕ) : EReal :=
  if allowT k i j then (∑ d ∈ Finset.range 128, q i d * kk j d) * scl + biasT B i j else ⊥

/-- The probabilities' gradient over one tile. -/
def gT (dy v : ℕ → ℕ → EReal) (i j : ℕ) : EReal := ∑ d ∈ Finset.range 128, dy i d * v j d

theorem mask_bot : Named.named (F := Ideal) κ (φ := .f32) "mask" 0xF149F2CA#32 = (⊥ : EReal) :=
  IdealRules.named_const.ideal_named_scalar _ _ _ _ rfl

theorem p_at (k : Fin k1_t1_loop.trips) (b : FVec Ideal S1x128x640 .f32) (q : FVec Ideal S256x128 .f32) (kk : FVec Ideal S768x128 .bf16) (i : Fin 256) (j : Fin 768) :
    k1_pay11 (F := Ideal) (iota .tc S256x768 32 [1] iota_S256x768_d1_w32) msk (k1_pay2 b) 0#32 1#32 k q kk (ix2 i j)
      = sm 768 (zT k (at2 q) (at2 kk) (at3 b 0) i) j := by
  unfold k1_pay11
  dsimp only
  refine (softmax_at _ i j).trans (sm_congr (fun j hj => ?_) _ j.isLt)
  rw [at2_mk _ _ _ i.isLt hj, select_apply]
  have hm := mask_at k i ⟨j, hj⟩
  rw [show (⟨i.val, i.isLt⟩ : Fin 256) = i from rfl]
  refine (congrArg (fun c => Scalar.select c _ _) hm).trans ?_
  unfold zT
  by_cases h : allowT k i j
  · rw [if_pos h, decide_eq_true h]
    refine (select_one _ _).trans ?_
    rw [addf_apply, mulf_apply, mm_qk, bias_at]
    rfl
  · rw [if_neg h, decide_eq_false h]
    exact (select_zero _ _).trans mask_bot

theorem dz_at (k : Fin k1_t1_loop.trips) (b : FVec Ideal S1x128x640 .f32) (q : FVec Ideal S256x128 .f32) (kk v : FVec Ideal S768x128 .bf16) (dy : FVec Ideal S256x128 .bf16) (i : Fin 256) (j : Fin 768) :
    k1_pay12 (F := Ideal) (iota .tc S256x768 32 [1] iota_S256x768_d1_w32) msk (k1_pay2 b) 0#32 1#32 k q kk v dy (ix2 i j)
      = dsm 768 (zT k (at2 q) (at2 kk) (at3 b 0) i) (gT (at2 dy) (at2 v) i) j := by
  unfold k1_pay12
  dsimp only
  rw [mulf_apply, subf_apply, p_at, mm_qk, spread, row_sum]
  unfold dsm
  show _ * (_ - _) = _
  congr 2
  refine Finset.sum_congr rfl fun l hl => ?_
  have hl := Finset.mem_range.1 hl
  rw [at2_mk _ _ _ i.isLt hl, mulf_apply, mm_qk, p_at]
  rfl

end Cert.KernelIdeal.Value
end
-- ==== Proof.Trip.lean ====
/-
  One trip of the attention region's loop over the tiles: what it adds to the accumulators.
-/
module
public import proofs.«01_k».proof.Proof.Tile
public import Idealize.ShloMosaic.Lib.VecWindow
public import Idealize.ShloMosaic.Lib.WritesUnit
public import proofs.«01_k».proof.Proof.KernelIdealBody
@[expose] public section
set_option maxRecDepth 8192
noncomputable section
namespace Cert.KernelIdeal.Value
open Cert.KernelIdeal Cert.KernelIdeal.Gen Cert.Attn
open Idealize.ShloMosaic Idealize.ShloMosaic.ValueIdx

/-! ## The payloads over operands known at natural indices -/

section Payloads
variable (k : Fin k1_t1_loop.trips) (b : FVec Ideal S1x128x640 .f32) (q : FVec Ideal S256x128 .f32) (kk v : FVec Ideal S768x128 .bf16)
  (dy : FVec Ideal S256x128 .bf16) (Q K V DY B : ℕ → ℕ → EReal)
  (hb : ∀ x y, x < 128 → y < 640 → at3 b 0 x y = B x y)
  (hq : ∀ i d, i < 256 → d < 128 → at2 q i d = Q i d)
  (hk : ∀ j d, j < 768 → d < 128 → at2 kk j d = K j d)
  (hv : ∀ j d, j < 768 → d < 128 → at2 v j d = V j d)
  (hd : ∀ i d, i < 256 → d < 128 → at2 dy i d = DY i d)

include hb hq hk in
theorem zT_of (i j : ℕ) (hi : i < 256) (hj : j < 768) : zT k (at2 q) (at2 kk) (at3 b 0) i j = zT k Q K B i j := by
  unfold zT biasT
  have h : ∑ d ∈ Finset.range 128, at2 q i d * at2 kk j d = ∑ d ∈ Finset.range 128, Q i d * K j d :=
    Finset.sum_congr rfl fun d hd => by rw [hq i d hi (Finset.mem_range.1 hd), hk j d hj (Finset.mem_range.1 hd)]
  rw [h]
  split_ifs with h1 h2 h3 h3
  · rw [hb _ _ h2 h3]
  · rfl
  · rw [hb _ _ (by omega) (by omega)]
  · rfl
  · rfl

include hv hd in
theorem gT_of (i j : ℕ) (hi : i < 256) (hj : j < 768) : gT (at2 dy) (at2 v) i j = gT DY V i j := by
  unfold gT
  exact Finset.sum_congr rfl fun d hd' => by rw [hd i d hi (Finset.mem_range.1 hd'), hv j d hj (Finset.mem_range.1 hd')]

include hb hq hk in
theorem p_of (i : Fin 256) (j : Fin 768) :
    k1_pay11 (F := Ideal) (iota .tc S256x768 32 [1] iota_S256x768_d1_w32) msk (k1_pay2 b) 0#32 1#32 k q kk (ix2 i j) = sm 768 (zT k Q K B i) j :=
  (p_at k b q kk i j).trans (sm_congr (fun j hj => zT_of k b q kk Q K B hb hq hk i j i.isLt hj) _ j.isLt)

include hb hq hk hv hd in
theorem dz_of (i : Fin 256) (j : Fin 768) :
    k1_pay12 (F := Ideal) (iota .tc S256x768 32 [1] iota_S256x768_d1_w32) msk (k1_pay2 b) 0#32 1#32 k q kk v dy (ix2 i j)
      = dsm 768 (zT k Q K B i) (gT DY V i) j :=
  (dz_at k b q kk v dy i j).trans (dsm_congr (fun j hj => zT_of k b q kk Q K B hb hq hk i j i.isLt hj)
    (fun j hj => gT_of v dy V DY hv hd i j i.isLt hj) _ j.isLt)

include hb hq hk hv hd in
theorem dq_of (i : Fin 256) (d : Fin 128) :
    truncf (F := Ideal) .bf16 (matmul dot_S256x768_S768x128_S256x128_1_0_0_1_n_n none
      (truncf .bf16 (mulf (k1_pay12 (F := Ideal) (iota .tc S256x768 32 [1] iota_S256x768_d1_w32) msk (k1_pay2 b) 0#32 1#32 k q kk v dy)
        (broadcast S256x768 (FloatOps.ofBits .f32 0x3DB504F3#32))) bitsLt_bf16_f32) kk (constant S256x128 .f32 0x00000000#32)) bitsLt_bf16_f32 (ix2 i d)
      = ∑ j ∈ Finset.range 768, (dsm 768 (zT k Q K B i) (gT DY V i) j * scl) * K j d := by
  refine (mm_dq _ _ none _ _ i d).trans (Finset.sum_congr rfl fun j hj => ?_)
  have hj := Finset.mem_range.1 hj
  rw [hk j d hj d.isLt, at2_mk _ _ _ i.isLt hj]
  exact congrArg (fun x => x * scl * K j d) (dz_of k b q kk v dy Q K V DY B hb hq hk hv hd i ⟨j, hj⟩)

include hb hq hk hv hd in
theorem dk_of (prev : FVec Ideal S768x128 .f32) (j : Fin 768) (d : Fin 128) :
    shapeCast S768x128 (addf prev (matmul dot_S256x768_S256x128_S768x128_0_0_1_1_n_n none
      (truncf .bf16 (mulf (k1_pay12 (F := Ideal) (iota .tc S256x768 32 [1] iota_S256x768_d1_w32) msk (k1_pay2 b) 0#32 1#32 k q kk v dy)
        (broadcast S256x768 (FloatOps.ofBits .f32 0x3DB504F3#32))) bitsLt_bf16_f32) (k1_pay10 q) (constant S768x128 .f32 0x00000000#32)))
        shapeCasts_S768x128_S768x128 (ix2 j d)
      = prev (ix2 j d) + ∑ i ∈ Finset.range 256, (dsm 768 (zT k Q K B i) (gT DY V i) j * scl) * Q i d := by
  rw [shapeCast_self]
  refine congrArg (prev (ix2 j d) + ·) ((mm_dk _ _ none _ _ j d).trans (Finset.sum_congr rfl fun i hi => ?_))
  have hi := Finset.mem_range.1 hi
  rw [at2_mk _ _ _ hi j.isLt]
  refine congrArg₂ (· * ·) (congrArg (fun x => x * scl) (dz_of k b q kk v dy Q K V DY B hb hq hk hv hd ⟨i, hi⟩ j)) (hq i d hi d.isLt)

include hb hq hk hd in
theorem dv_of (prev : FVec Ideal S768x128 .f32) (j : Fin 768) (d : Fin 128) :
    shapeCast S768x128 (addf prev (matmul dot_S256x768_S256x128_S768x128_0_0_1_1_n_n none
      (truncf .bf16 (k1_pay11 (F := Ideal) (iota .tc S256x768 32 [1] iota_S256x768_d1_w32) msk (k1_pay2 b) 0#32 1#32 k q kk) bitsLt_bf16_f32)
        dy (constant S768x128 .f32 0x00000000#32)))
        shapeCasts_S768x128_S768x128 (ix2 j d)
      = prev (ix2 j d) + ∑ i ∈ Finset.range 256, sm 768 (zT k Q K B i) j * DY i d := by
  rw [shapeCast_self]
  refine congrArg (prev (ix2 j d) + ·) ((mm_dk _ _ none _ _ j d).trans (Finset.sum_congr rfl fun i hi => ?_))
  have hi := Finset.mem_range.1 hi
  rw [at2_mk _ _ _ hi j.isLt]
  exact congrArg₂ (· * ·) (p_of k b q kk Q K B hb hq hk ⟨i, hi⟩ j) (hd i d hi d.isLt)

include hb hq hk hv hd in
theorem db_of (prev : FVec Ideal S1x128x640 .f32) (u : Fin 1) (x : Fin 128) (y : Fin 640) :
    k1_pay15 (F := Ideal) (k1_pay12 (F := Ideal) (iota .tc S256x768 32 [1] iota_S256x768_d1_w32) msk (k1_pay2 b) 0#32 1#32 k q kk v dy)
      (k1_pay13 prev) (k1_pay14 (F := Ideal) (iota .tc S256x768 32 [1] iota_S256x768_d1_w32) msk (k1_pay2 b) 0#32 1#32 k q kk v dy) (ix3 u x y)
      = prev (ix3 0 x y) + (0 + dsm 768 (zT k Q K B x) (gT DY V x) y + dsm 768 (zT k Q K B (128 + x)) (gT DY V (128 + x)) (128 + y)) := by
  unfold k1_pay15
  refine (shapeCast_ab_1ab_apply _ _ _ _ _).trans ?_
  have e1 : k1_pay13 prev (ix2 x y) = prev (ix3 0 x y) := shapeCast_1ab_ab_apply _ _ _ _
  have e2 : k1_pay14 (F := Ideal) (iota .tc S256x768 32 [1] iota_S256x768_d1_w32) msk (k1_pay2 b) 0#32 1#32 k q kk v dy (ix2 x y)
      = dsm 768 (zT k Q K B x) (gT DY V x) y :=
    (extractStridedSlice_apply (s := S256x768) (t := S128x640) ![0, 0] _ slices_S256x768_o0_0_S128x640 (ix2 x y) (ix2 (⟨x, by omega⟩ : Fin 256) (⟨y, by omega⟩ : Fin 768)) (fun a => by
      match a with
      | ⟨0, _⟩ => show x.val = 0 + x.val; omega
      | ⟨1, _⟩ => show y.val = 0 + y.val; omega)).trans (dz_of k b q kk v dy Q K V DY B hb hq hk hv hd ⟨x, by omega⟩ ⟨y, by omega⟩)
  have e3 : extractStridedSlice S128x640 ![128, 128] (k1_pay12 (F := Ideal) (iota .tc S256x768 32 [1] iota_S256x768_d1_w32) msk (k1_pay2 b) 0#32 1#32 k q kk v dy)
      slices_S256x768_o128_128_S128x640 (ix2 x y) = dsm 768 (zT k Q K B (128 + x)) (gT DY V (128 + x)) (128 + y) :=
    (extractStridedSlice_apply (s := S256x768) (t := S128x640) ![128, 128] _ slices_S256x768_o128_128_S128x640 (ix2 x y) (ix2 (⟨128 + x, by omega⟩ : Fin 256) (⟨128 + y, by omega⟩ : Fin 768)) (fun a => by
      match a with
      | ⟨0, _⟩ => rfl
      | ⟨1, _⟩ => rfl)).trans (dz_of k b q kk v dy Q K V DY B hb hq hk hv hd ⟨128 + x, by omega⟩ ⟨128 + y, by omega⟩)
  rw [addf_apply, addf_apply, addf_apply, e1, e2, e3]
  exact congrArg (fun z => prev (ix3 0 x y) + (z + _ + _)) Ideal.ofBits_zero_f32
end Payloads

/-! ## Loads at natural indices -/

theorem load_f32 {R C n m o co : ℕ} (v : View sig .tc .vmem ⟨2, ![R, C]⟩ .f32) (X : v.ty.Contents (Elt Ideal))
    (inb : ∀ a, (![o, co] : Fin 2 → ℕ) a + (![n, m] : Fin 2 → ℕ) a ≤ (⟨2, ![R, C]⟩ : Shape).size a) (i j : ℕ) (hi : i < n) (hj : j < m) :
    at2 (a := n) (b := m) (View.readAt (Elt Ideal) v (Rect.unit (s := ⟨2, ![R, C]⟩) ![o, co] ![n, m] inb).toLoadRect X) i j
      = at2 (a := R) (b := C) (v.read (Elt Ideal) X) (o + i) (co + j) := by
  have h0 : o + n ≤ R := inb 0
  have h1 : co + m ≤ C := inb 1
  rw [at2_mk _ _ _ hi hj, at2_mk _ _ _ (by omega) (by omega), View.readAt_unit v X inb rfl inb]
  refine congrArg (v.read (Elt Ideal) X) (funext fun a => Fin.ext ?_)
  match a with
  | ⟨0, _⟩ => show o + 1 * i = o + i; omega
  | ⟨1, _⟩ => show co + 1 * j = co + j; omega

theorem load_bf16 {R C n m o co : ℕ} (v : View sig .tc .vmem ⟨2, ![R, C]⟩ .bf16) (X : v.ty.Contents (Elt Ideal))
    (inb : ∀ a, (![o, co] : Fin 2 → ℕ) a + (![n, m] : Fin 2 → ℕ) a ≤ (⟨2, ![R, C]⟩ : Shape).size a) (i j : ℕ) (hi : i < n) (hj : j < m) :
    at2 (a := n) (b := m) (View.readAt (Elt Ideal) v (Rect.unit (s := ⟨2, ![R, C]⟩) ![o, co] ![n, m] inb).toLoadRect X) i j
      = at2 (a := R) (b := C) (v.read (Elt Ideal) X) (o + i) (co + j) := by
  have h0 : o + n ≤ R := inb 0
  have h1 : co + m ≤ C := inb 1
  rw [at2_mk _ _ _ hi hj, at2_mk _ _ _ (by omega) (by omega), View.readAt_unit v X inb rfl inb]
  refine congrArg (v.read (Elt Ideal) X) (funext fun a => Fin.ext ?_)
  match a with
  | ⟨0, _⟩ => show o + 1 * i = o + i; omega
  | ⟨1, _⟩ => show co + 1 * j = co + j; omega

theorem off_word : ∀ k : Fin k1_t1_loop.trips, BitVec.toNat (Scalar.indexCast (Scalar.muli (Scf.iv 0#32 1#32 k.val) 256#32)) = 256 * k.val := by
  decide +kernel
theorem trips_eq : k1_t1_loop.trips = 8 := by decide +kernel

end Cert.KernelIdeal.Value
end
-- ==== Proof.Loop.lean ====
/-
  The attention region's loop: the accumulators after any number of its trips.
-/
module
public import proofs.«01_k».proof.Proof.Trip
@[expose] public section
set_option maxRecDepth 8192
noncomputable section
namespace Cert.KernelIdeal.Value
open Cert.KernelIdeal Cert.KernelIdeal.Gen Cert.Attn
open Idealize.ShloMosaic Idealize.ShloMosaic.ValueIdx Idealize.ShloMosaic.TcCoe Idealize.ShloMosaic.Tactic

/-! ## One trip in terms of the whole arrays -/

/-- A row of scores of query tile `k` of head `h` of the pair: the queries' and the padded keys' arrays, and the bias bands. -/
def zB (Q K : ℕ → ℕ → EReal) (B : ℕ → ℕ → ℕ → EReal) (k h : ℕ) : ℕ → ℕ → EReal :=
  zT k (fun i d => Q (256 * k + i) (128 * h + d)) (fun j d => K (256 * k + j) (128 * h + d)) (B h)
/-- The gradient of that row's probabilities. -/
def gB (DY V : ℕ → ℕ → EReal) (k h : ℕ) : ℕ → ℕ → EReal :=
  gT (fun i d => DY (256 * k + i) (128 * h + d)) (fun j d => V (256 * k + j) (128 * h + d))
/-- The two heads' bias bands. -/
def bb (v83 v90 : FVec Ideal S1x128x640 .f32) (h : ℕ) : ℕ → ℕ → EReal := if h = 0 then at3 v83 0 else at3 v90 0

theorem inb256 (k : Fin k1_t1_loop.trips) (co : ℕ) (h : co ≤ 128) (a : Fin 2) :
    (![BitVec.toNat (Scalar.indexCast (Scalar.muli (Scf.iv 0#32 1#32 k.val) 256#32)), co] : Fin 2 → ℕ) a + (![256, 128] : Fin 2 → ℕ) a ≤ S2048x256.size a := by
  have ho := off_word k
  have hk : k.val < 8 := lt_of_lt_of_eq k.isLt trips_eq
  match a with
  | ⟨0, _⟩ => show BitVec.toNat (Scalar.indexCast (Scalar.muli (Scf.iv 0#32 1#32 k.val) 256#32)) + 256 ≤ 2048; omega
  | ⟨1, _⟩ => show co + 128 ≤ 256; omega
theorem inb768 (k : Fin k1_t1_loop.trips) (co : ℕ) (h : co ≤ 128) (a : Fin 2) :
    (![BitVec.toNat (Scalar.indexCast (Scalar.muli (Scf.iv 0#32 1#32 k.val) 256#32)), co] : Fin 2 → ℕ) a + (![768, 128] : Fin 2 → ℕ) a ≤ S2560x256.size a := by
  have ho := off_word k
  have hk : k.val < 8 := lt_of_lt_of_eq k.isLt trips_eq
  match a with
  | ⟨0, _⟩ => show BitVec.toNat (Scalar.indexCast (Scalar.muli (Scf.iv 0#32 1#32 k.val) 256#32)) + 768 ≤ 2560; omega
  | ⟨1, _⟩ => show co + 128 ≤ 256; omega
/-- A load of the accumulator's band at an index. -/
theorem prev_at (arg12 : Memref sig .tc .vmem S2560x256 .f32) (f12 : BufTy.Contents (Elt Ideal) arg12.view.ty) (k : Fin k1_t1_loop.trips) (co : ℕ)
    (inb : ∀ a, (![BitVec.toNat (Scalar.indexCast (Scalar.muli (Scf.iv 0#32 1#32 k.val) 256#32)), co] : Fin 2 → ℕ) a + (![768, 128] : Fin 2 → ℕ) a ≤ S2560x256.size a)
    (d : Fin 128) (p : Fin 2560) (cc : Fin 256) (h1 : 256 * k.val ≤ p.val) (h2 : p.val < 256 * k.val + 768) (hd : cc.val = co + d.val) :
    View.readAt (Elt Ideal) arg12.view (Rect.unit (s := S2560x256) ![BitVec.toNat (Scalar.indexCast (Scalar.muli (Scf.iv 0#32 1#32 k.val) 256#32)), co] ![768, 128] inb).toLoadRect f12
      (ix2 (⟨p.val - 256 * k.val, by omega⟩ : Fin 768) d) = arg12.view.read (Elt Ideal) f12 (ix2 p cc) := by
  refine congrArg (arg12.view.read (Elt Ideal) f12) (funext fun a => Fin.ext ?_)
  have ho := off_word k
  match a with
  | ⟨0, _⟩ => show BitVec.toNat (Scalar.indexCast (Scalar.muli (Scf.iv 0#32 1#32 k.val) 256#32)) + 1 * (p.val - 256 * k.val) = p.val; omega
  | ⟨1, _⟩ => show co + 1 * d.val = cc.val; omega

section Trips
variable (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2x128x640 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2x128x640 .f32) (harg9 : arg9.IsWhole) (arg10 : Memref sig .tc .vmem S2560x256 .bf16) (harg10 : arg10.IsWhole) (arg11 : Memref sig .tc .vmem S2560x256 .bf16) (harg11 : arg11.IsWhole) (arg12 : Memref sig .tc .vmem S2560x256 .f32) (harg12 : arg12.IsWhole) (arg13 : Memref sig .tc .vmem S2560x256 .f32) (harg13 : arg13.IsWhole)
  (v83 v90 : FVec Ideal S1x128x640 .f32) (X1 : BufTy.Contents (Elt Ideal) arg1.view.ty) (X5 : BufTy.Contents (Elt Ideal) arg5.view.ty)
  (X10 : BufTy.Contents (Elt Ideal) arg10.view.ty) (X11 : BufTy.Contents (Elt Ideal) arg11.view.ty)

/-- The queries, the keys, the values and the outputs' gradient as the trip reads them. -/
abbrev rQ : ℕ → ℕ → EReal := at2 (a := 2048) (b := 256) (arg1.view.read (Elt Ideal) X1)
abbrev rDY : ℕ → ℕ → EReal := at2 (a := 2048) (b := 256) (arg5.view.read (Elt Ideal) X5)
abbrev rK : ℕ → ℕ → EReal := at2 (a := 2560) (b := 256) (arg10.view.read (Elt Ideal) X10)
abbrev rV : ℕ → ℕ → EReal := at2 (a := 2560) (b := 256) (arg11.view.read (Elt Ideal) X11)

/-- One trip's store of the queries' gradient. -/
theorem trip_dq (k : Fin k1_t1_loop.trips) (f6 : BufTy.Contents (Elt Ideal) arg6.view.ty) (f9 : BufTy.Contents (Elt Ideal) arg9.view.ty)
    (f12 : BufTy.Contents (Elt Ideal) arg12.view.ty) (f13 : BufTy.Contents (Elt Ideal) arg13.view.ty) (p : Fin 2048) (cc : Fin 256) :
    arg6.view.read (Elt Ideal) (arg6.view.writes (Elt Ideal) f6 ((trip_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 k).1 f6 f9 f12 f13)) (ix2 p cc)
      = if 256 * k.val ≤ p.val ∧ p.val < 256 * k.val + 256 then ∑ j ∈ Finset.range 768, (dsm 768 (zB (rQ arg1 X1) (rK arg10 X10) (bb v83 v90) k (cc.val / 128) (p.val - 256 * k.val)) (gB (rDY arg5 X5) (rV arg11 X11) k (cc.val / 128) (p.val - 256 * k.val)) j * scl) * rK arg10 X10 (256 * k.val + j) cc else arg6.view.read (Elt Ideal) f6 (ix2 p cc) := by
  unfold trip_k1_t1
  dsimp only
  sl_unfold_words
  dsimp only
  have ho : ∀ x : ℕ, (![BitVec.toNat (Scalar.indexCast (Scalar.muli (Scf.iv 0#32 1#32 k.val) 256#32)), x] : Fin 2 → ℕ) = ![256 * k.val, x] := fun x => by
    rw [off_word]
  by_cases hp : 256 * k.val ≤ p.val ∧ p.val < 256 * k.val + 256
  · rw [if_pos hp]
    have hp1 := hp.1
    have hp2 := hp.2
    by_cases hc : cc.val < 128
    · refine (View.read_writes_cons_unit_of_not_mem _ _ _ _ _ _ (ho 128) 1 (Or.inl hc)).trans ?_
      refine (View.read_writes_cons_unit_of_mem _ _ _ _ _ _ (ix2 (⟨p - 256 * k, by omega⟩ : Fin 256) (⟨cc, hc⟩ : Fin 128)) (ho 0) (fun a => by
        match a with
        | ⟨0, _⟩ => show p.val = 256 * k.val + (p.val - 256 * k.val); omega
        | ⟨1, _⟩ => show cc.val = 0 + cc.val; omega)).trans ?_
      refine (dq_of k v83 (View.readAt (Elt Ideal) arg1.view (Rect.unit (s := S2048x256) ![BitVec.toNat (Scalar.indexCast (Scalar.muli (Scf.iv 0#32 1#32 k.val) 256#32)), 0] ![256, 128] (inb256 k 0 (by omega))).toLoadRect X1) (View.readAt (Elt Ideal) arg10.view (Rect.unit (s := S2560x256) ![BitVec.toNat (Scalar.indexCast (Scalar.muli (Scf.iv 0#32 1#32 k.val) 256#32)), 0] ![768, 128] (inb768 k 0 (by omega))).toLoadRect X10) (View.readAt (Elt Ideal) arg11.view (Rect.unit (s := S2560x256) ![BitVec.toNat (Scalar.indexCast (Scalar.muli (Scf.iv 0#32 1#32 k.val) 256#32)), 0] ![768, 128] (inb768 k 0 (by omega))).toLoadRect X11) (View.readAt (Elt Ideal) arg5.view (Rect.unit (s := S2048x256) ![BitVec.toNat (Scalar.indexCast (Scalar.muli (Scf.iv 0#32 1#32 k.val) 256#32)), 0] ![256, 128] (inb256 k 0 (by omega))).toLoadRect X5) (fun x d => rQ arg1 X1 (256 * k.val + x) (128 * 0 + d)) (fun x d => rK arg10 X10 (256 * k.val + x) (128 * 0 + d)) (fun x d => rV arg11 X11 (256 * k.val + x) (128 * 0 + d)) (fun x d => rDY arg5 X5 (256 * k.val + x) (128 * 0 + d)) (bb v83 v90 0) (fun x y _ _ => rfl) (fun x d hx hd => (load_f32 _ _ _ x d hx hd).trans (by rw [off_word])) (fun x d hx hd => (load_bf16 _ _ _ x d hx hd).trans (by rw [off_word])) (fun x d hx hd => (load_bf16 _ _ _ x d hx hd).trans (by rw [off_word])) (fun x d hx hd => (load_bf16 _ _ _ x d hx hd).trans (by rw [off_word])) (⟨p - 256 * k, by omega⟩ : Fin 256) (⟨cc, hc⟩ : Fin 128)).trans ?_
      have e1 : cc.val / 128 = 0 := by omega
      have e2 : 128 * 0 + cc.val = cc.val := by omega
      rw [e1]
      simp only [e2]
      rfl
    · refine (View.read_writes_cons_unit_of_mem _ _ _ _ _ _ (ix2 (⟨p - 256 * k, by omega⟩ : Fin 256) (⟨cc - 128, by omega⟩ : Fin 128)) (ho 128) (fun a => by
        match a with
        | ⟨0, _⟩ => show p.val = 256 * k.val + (p.val - 256 * k.val); omega
        | ⟨1, _⟩ => show cc.val = 128 + (cc.val - 128); omega)).trans ?_
      refine (dq_of k v90 (View.readAt (Elt Ideal) arg1.view (Rect.unit (s := S2048x256) ![BitVec.toNat (Scalar.indexCast (Scalar.muli (Scf.iv 0#32 1#32 k.val) 256#32)), 128] ![256, 128] (inb256 k 128 (by omega))).toLoadRect X1) (View.readAt (Elt Ideal) arg10.view (Rect.unit (s := S2560x256) ![BitVec.toNat (Scalar.indexCast (Scalar.muli (Scf.iv 0#32 1#32 k.val) 256#32)), 128] ![768, 128] (inb768 k 128 (by omega))).toLoadRect X10) (View.readAt (Elt Ideal) arg11.view (Rect.unit (s := S2560x256) ![BitVec.toNat (Scalar.indexCast (Scalar.muli (Scf.iv 0#32 1#32 k.val) 256#32)), 128] ![768, 128] (inb768 k 128 (by omega))).toLoadRect X11) (View.readAt (Elt Ideal) arg5.view (Rect.unit (s := S2048x256) ![BitVec.toNat (Scalar.indexCast (Scalar.muli (Scf.iv 0#32 1#32 k.val) 256#32)), 128] ![256, 128] (inb256 k 128 (by omega))).toLoadRect X5) (fun x d => rQ arg1 X1 (256 * k.val + x) (128 * 1 + d)) (fun x d => rK arg10 X10 (256 * k.val + x) (128 * 1 + d)) (fun x d => rV arg11 X11 (256 * k.val + x) (128 * 1 + d)) (fun x d => rDY arg5 X5 (256 * k.val + x) (128 * 1 + d)) (bb v83 v90 1) (fun x y _ _ => rfl) (fun x d hx hd => (load_f32 _ _ _ x d hx hd).trans (by rw [off_word])) (fun x d hx hd => (load_bf16 _ _ _ x d hx hd).trans (by rw [off_word])) (fun x d hx hd => (load_bf16 _ _ _ x d hx hd).trans (by rw [off_word])) (fun x d hx hd => (load_bf16 _ _ _ x d hx hd).trans (by rw [off_word])) (⟨p - 256 * k, by omega⟩ : Fin 256) (⟨cc - 128, by omega⟩ : Fin 128)).trans ?_
      have e1 : cc.val / 128 = 1 := by omega
      have e2 : 128 * 1 + (cc.val - 128) = cc.val := by omega
      rw [e1]
      simp only [e2]
      rfl
  · rw [if_neg hp]
    refine (View.read_writes_cons_unit_of_not_mem _ _ _ _ _ _ (ho 128) 0 (by
      show p.val < 256 * k.val ∨ 256 * k.val + 256 ≤ p.val; omega)).trans ?_
    exact View.read_writes_cons_unit_of_not_mem _ _ _ _ _ _ (ho 0) 0 (by
      show p.val < 256 * k.val ∨ 256 * k.val + 256 ≤ p.val; omega)

/-- One trip's accumulation of the keys' gradient. -/
theorem trip_dk (k : Fin k1_t1_loop.trips) (f6 : BufTy.Contents (Elt Ideal) arg6.view.ty) (f9 : BufTy.Contents (Elt Ideal) arg9.view.ty)
    (f12 : BufTy.Contents (Elt Ideal) arg12.view.ty) (f13 : BufTy.Contents (Elt Ideal) arg13.view.ty) (p : Fin 2560) (cc : Fin 256) :
    arg12.view.read (Elt Ideal) (arg12.view.writes (Elt Ideal) f12 ((trip_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 k).2.2.1 f6 f9 f12 f13)) (ix2 p cc)
      = if 256 * k.val ≤ p.val ∧ p.val < 256 * k.val + 768 then arg12.view.read (Elt Ideal) f12 (ix2 p cc) + ∑ i ∈ Finset.range 256, (dsm 768 (zB (rQ arg1 X1) (rK arg10 X10) (bb v83 v90) k (cc.val / 128) i) (gB (rDY arg5 X5) (rV arg11 X11) k (cc.val / 128) i) (p.val - 256 * k.val) * scl) * rQ arg1 X1 (256 * k.val + i) cc else arg12.view.read (Elt Ideal) f12 (ix2 p cc) := by
  unfold trip_k1_t1
  dsimp only
  sl_unfold_words
  dsimp only
  have ho : ∀ x : ℕ, (![BitVec.toNat (Scalar.indexCast (Scalar.muli (Scf.iv 0#32 1#32 k.val) 256#32)), x] : Fin 2 → ℕ) = ![256 * k.val, x] := fun x => by
    rw [off_word]
  by_cases hp : 256 * k.val ≤ p.val ∧ p.val < 256 * k.val + 768
  · rw [if_pos hp]
    have hp1 := hp.1
    have hp2 := hp.2
    by_cases hc : cc.val < 128
    · refine (View.read_writes_cons_unit_of_not_mem _ _ _ _ _ _ (ho 128) 1 (Or.inl hc)).trans ?_
      refine (View.read_writes_cons_unit_of_mem _ _ _ _ _ _ (ix2 (⟨p - 256 * k, by omega⟩ : Fin 768) (⟨cc, hc⟩ : Fin 128)) (ho 0) (fun a => by
        match a with
        | ⟨0, _⟩ => show p.val = 256 * k.val + (p.val - 256 * k.val); omega
        | ⟨1, _⟩ => show cc.val = 0 + cc.val; omega)).trans ?_
      refine (dk_of k v83 (View.readAt (Elt Ideal) arg1.view (Rect.unit (s := S2048x256) ![BitVec.toNat (Scalar.indexCast (Scalar.muli (Scf.iv 0#32 1#32 k.val) 256#32)), 0] ![256, 128] (inb256 k 0 (by omega))).toLoadRect X1) (View.readAt (Elt Ideal) arg10.view (Rect.unit (s := S2560x256) ![BitVec.toNat (Scalar.indexCast (Scalar.muli (Scf.iv 0#32 1#32 k.val) 256#32)), 0] ![768, 128] (inb768 k 0 (by omega))).toLoadRect X10) (View.readAt (Elt Ideal) arg11.view (Rect.unit (s := S2560x256) ![BitVec.toNat (Scalar.indexCast (Scalar.muli (Scf.iv 0#32 1#32 k.val) 256#32)), 0] ![768, 128] (inb768 k 0 (by omega))).toLoadRect X11) (View.readAt (Elt Ideal) arg5.view (Rect.unit (s := S2048x256) ![BitVec.toNat (Scalar.indexCast (Scalar.muli (Scf.iv 0#32 1#32 k.val) 256#32)), 0] ![256, 128] (inb256 k 0 (by omega))).toLoadRect X5) (fun x d => rQ arg1 X1 (256 * k.val + x) (128 * 0 + d)) (fun x d => rK arg10 X10 (256 * k.val + x) (128 * 0 + d)) (fun x d => rV arg11 X11 (256 * k.val + x) (128 * 0 + d)) (fun x d => rDY arg5 X5 (256 * k.val + x) (128 * 0 + d)) (bb v83 v90 0) (fun x y _ _ => rfl) (fun x d hx hd => (load_f32 _ _ _ x d hx hd).trans (by rw [off_word])) (fun x d hx hd => (load_bf16 _ _ _ x d hx hd).trans (by rw [off_word])) (fun x d hx hd => (load_bf16 _ _ _ x d hx hd).trans (by rw [off_word])) (fun x d hx hd => (load_bf16 _ _ _ x d hx hd).trans (by rw [off_word])) (View.readAt (Elt Ideal) arg12.view (Rect.unit (s := S2560x256) ![BitVec.toNat (Scalar.indexCast (Scalar.muli (Scf.iv 0#32 1#32 k.val) 256#32)), 0] ![768, 128] (inb768 k 0 (by omega))).toLoadRect f12) (⟨p - 256 * k, by omega⟩ : Fin 768) (⟨cc, hc⟩ : Fin 128)).trans ?_
      have e1 : cc.val / 128 = 0 := by omega
      have e2 : 128 * 0 + cc.val = cc.val := by omega
      rw [e1]
      simp only [e2]
      exact congrArg (· + _) (prev_at arg12 f12 k _ _ _ p cc hp1 hp2 (by show _ = 0 + _; exact (Nat.zero_add _).symm))
    · refine (View.read_writes_cons_unit_of_mem _ _ _ _ _ _ (ix2 (⟨p - 256 * k, by omega⟩ : Fin 768) (⟨cc - 128, by omega⟩ : Fin 128)) (ho 128) (fun a => by
        match a with
        | ⟨0, _⟩ => show p.val = 256 * k.val + (p.val - 256 * k.val); omega
        | ⟨1, _⟩ => show cc.val = 128 + (cc.val - 128); omega)).trans ?_
      refine (dk_of k v90 (View.readAt (Elt Ideal) arg1.view (Rect.unit (s := S2048x256) ![BitVec.toNat (Scalar.indexCast (Scalar.muli (Scf.iv 0#32 1#32 k.val) 256#32)), 128] ![256, 128] (inb256 k 128 (by omega))).toLoadRect X1) (View.readAt (Elt Ideal) arg10.view (Rect.unit (s := S2560x256) ![BitVec.toNat (Scalar.indexCast (Scalar.muli (Scf.iv 0#32 1#32 k.val) 256#32)), 128] ![768, 128] (inb768 k 128 (by omega))).toLoadRect X10) (View.readAt (Elt Ideal) arg11.view (Rect.unit (s := S2560x256) ![BitVec.toNat (Scalar.indexCast (Scalar.muli (Scf.iv 0#32 1#32 k.val) 256#32)), 128] ![768, 128] (inb768 k 128 (by omega))).toLoadRect X11) (View.readAt (Elt Ideal) arg5.view (Rect.unit (s := S2048x256) ![BitVec.toNat (Scalar.indexCast (Scalar.muli (Scf.iv 0#32 1#32 k.val) 256#32)), 128] ![256, 128] (inb256 k 128 (by omega))).toLoadRect X5) (fun x d => rQ arg1 X1 (256 * k.val + x) (128 * 1 + d)) (fun x d => rK arg10 X10 (256 * k.val + x) (128 * 1 + d)) (fun x d => rV arg11 X11 (256 * k.val + x) (128 * 1 + d)) (fun x d => rDY arg5 X5 (256 * k.val + x) (128 * 1 + d)) (bb v83 v90 1) (fun x y _ _ => rfl) (fun x d hx hd => (load_f32 _ _ _ x d hx hd).trans (by rw [off_word])) (fun x d hx hd => (load_bf16 _ _ _ x d hx hd).trans (by rw [off_word])) (fun x d hx hd => (load_bf16 _ _ _ x d hx hd).trans (by rw [off_word])) (fun x d hx hd => (load_bf16 _ _ _ x d hx hd).trans (by rw [off_word])) (View.readAt (Elt Ideal) arg12.view (Rect.unit (s := S2560x256) ![BitVec.toNat (Scalar.indexCast (Scalar.muli (Scf.iv 0#32 1#32 k.val) 256#32)), 128] ![768, 128] (inb768 k 128 (by omega))).toLoadRect f12) (⟨p - 256 * k, by omega⟩ : Fin 768) (⟨cc - 128, by omega⟩ : Fin 128)).trans ?_
      have e1 : cc.val / 128 = 1 := by omega
      have e2 : 128 * 1 + (cc.val - 128) = cc.val := by omega
      rw [e1]
      simp only [e2]
      exact congrArg (· + _) (prev_at arg12 f12 k _ _ _ p cc hp1 hp2 (by show _ = 128 + _; show cc.val = 128 + (cc.val - 128); omega))
  · rw [if_neg hp]
    refine (View.read_writes_cons_unit_of_not_mem _ _ _ _ _ _ (ho 128) 0 (by
      show p.val < 256 * k.val ∨ 256 * k.val + 768 ≤ p.val; omega)).trans ?_
    exact View.read_writes_cons_unit_of_not_mem _ _ _ _ _ _ (ho 0) 0 (by
      show p.val < 256 * k.val ∨ 256 * k.val + 768 ≤ p.val; omega)

/-- One trip's accumulation of the values' gradient. -/
theorem trip_dv (k : Fin k1_t1_loop.trips) (f6 : BufTy.Contents (Elt Ideal) arg6.view.ty) (f9 : BufTy.Contents (Elt Ideal) arg9.view.ty)
    (f12 : BufTy.Contents (Elt Ideal) arg12.view.ty) (f13 : BufTy.Contents (Elt Ideal) arg13.view.ty) (p : Fin 2560) (cc : Fin 256) :
    arg13.view.read (Elt Ideal) (arg13.view.writes (Elt Ideal) f13 ((trip_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 k).2.2.2.1 f6 f9 f12 f13)) (ix2 p cc)
      = if 256 * k.val ≤ p.val ∧ p.val < 256 * k.val + 768 then arg13.view.read (Elt Ideal) f13 (ix2 p cc) + ∑ i ∈ Finset.range 256, sm 768 (zB (rQ arg1 X1) (rK arg10 X10) (bb v83 v90) k (cc.val / 128) i) (p.val - 256 * k.val) * rDY arg5 X5 (256 * k.val + i) cc else arg13.view.read (Elt Ideal) f13 (ix2 p cc) := by
  unfold trip_k1_t1
  dsimp only
  sl_unfold_words
  dsimp only
  have ho : ∀ x : ℕ, (![BitVec.toNat (Scalar.indexCast (Scalar.muli (Scf.iv 0#32 1#32 k.val) 256#32)), x] : Fin 2 → ℕ) = ![256 * k.val, x] := fun x => by
    rw [off_word]
  by_cases hp : 256 * k.val ≤ p.val ∧ p.val < 256 * k.val + 768
  · rw [if_pos hp]
    have hp1 := hp.1
    have hp2 := hp.2
    by_cases hc : cc.val < 128
    · refine (View.read_writes_cons_unit_of_not_mem _ _ _ _ _ _ (ho 128) 1 (Or.inl hc)).trans ?_
      refine (View.read_writes_cons_unit_of_mem _ _ _ _ _ _ (ix2 (⟨p - 256 * k, by omega⟩ : Fin 768) (⟨cc, hc⟩ : Fin 128)) (ho 0) (fun a => by
        match a with
        | ⟨0, _⟩ => show p.val = 256 * k.val + (p.val - 256 * k.val); omega
        | ⟨1, _⟩ => show cc.val = 0 + cc.val; omega)).trans ?_
      refine (dv_of k v83 (View.readAt (Elt Ideal) arg1.view (Rect.unit (s := S2048x256) ![BitVec.toNat (Scalar.indexCast (Scalar.muli (Scf.iv 0#32 1#32 k.val) 256#32)), 0] ![256, 128] (inb256 k 0 (by omega))).toLoadRect X1) (View.readAt (Elt Ideal) arg10.view (Rect.unit (s := S2560x256) ![BitVec.toNat (Scalar.indexCast (Scalar.muli (Scf.iv 0#32 1#32 k.val) 256#32)), 0] ![768, 128] (inb768 k 0 (by omega))).toLoadRect X10) (View.readAt (Elt Ideal) arg5.view (Rect.unit (s := S2048x256) ![BitVec.toNat (Scalar.indexCast (Scalar.muli (Scf.iv 0#32 1#32 k.val) 256#32)), 0] ![256, 128] (inb256 k 0 (by omega))).toLoadRect X5) (fun x d => rQ arg1 X1 (256 * k.val + x) (128 * 0 + d)) (fun x d => rK arg10 X10 (256 * k.val + x) (128 * 0 + d)) (fun x d => rDY arg5 X5 (256 * k.val + x) (128 * 0 + d)) (bb v83 v90 0) (fun x y _ _ => rfl) (fun x d hx hd => (load_f32 _ _ _ x d hx hd).trans (by rw [off_word])) (fun x d hx hd => (load_bf16 _ _ _ x d hx hd).trans (by rw [off_word])) (fun x d hx hd => (load_bf16 _ _ _ x d hx hd).trans (by rw [off_word])) (View.readAt (Elt Ideal) arg13.view (Rect.unit (s := S2560x256) ![BitVec.toNat (Scalar.indexCast (Scalar.muli (Scf.iv 0#32 1#32 k.val) 256#32)), 0] ![768, 128] (inb768 k 0 (by omega))).toLoadRect f13) (⟨p - 256 * k, by omega⟩ : Fin 768) (⟨cc, hc⟩ : Fin 128)).trans ?_
      have e1 : cc.val / 128 = 0 := by omega
      have e2 : 128 * 0 + cc.val = cc.val := by omega
      rw [e1]
      simp only [e2]
      exact congrArg (· + _) (prev_at arg13 f13 k _ _ _ p cc hp1 hp2 (by show _ = 0 + _; exact (Nat.zero_add _).symm))
    · refine (View.read_writes_cons_unit_of_mem _ _ _ _ _ _ (ix2 (⟨p - 256 * k, by omega⟩ : Fin 768) (⟨cc - 128, by omega⟩ : Fin 128)) (ho 128) (fun a => by
        match a with
        | ⟨0, _⟩ => show p.val = 256 * k.val + (p.val - 256 * k.val); omega
        | ⟨1, _⟩ => show cc.val = 128 + (cc.val - 128); omega)).trans ?_
      refine (dv_of k v90 (View.readAt (Elt Ideal) arg1.view (Rect.unit (s := S2048x256) ![BitVec.toNat (Scalar.indexCast (Scalar.muli (Scf.iv 0#32 1#32 k.val) 256#32)), 128] ![256, 128] (inb256 k 128 (by omega))).toLoadRect X1) (View.readAt (Elt Ideal) arg10.view (Rect.unit (s := S2560x256) ![BitVec.toNat (Scalar.indexCast (Scalar.muli (Scf.iv 0#32 1#32 k.val) 256#32)), 128] ![768, 128] (inb768 k 128 (by omega))).toLoadRect X10) (View.readAt (Elt Ideal) arg5.view (Rect.unit (s := S2048x256) ![BitVec.toNat (Scalar.indexCast (Scalar.muli (Scf.iv 0#32 1#32 k.val) 256#32)), 128] ![256, 128] (inb256 k 128 (by omega))).toLoadRect X5) (fun x d => rQ arg1 X1 (256 * k.val + x) (128 * 1 + d)) (fun x d => rK arg10 X10 (256 * k.val + x) (128 * 1 + d)) (fun x d => rDY arg5 X5 (256 * k.val + x) (128 * 1 + d)) (bb v83 v90 1) (fun x y _ _ => rfl) (fun x d hx hd => (load_f32 _ _ _ x d hx hd).trans (by rw [off_word])) (fun x d hx hd => (load_bf16 _ _ _ x d hx hd).trans (by rw [off_word])) (fun x d hx hd => (load_bf16 _ _ _ x d hx hd).trans (by rw [off_word])) (View.readAt (Elt Ideal) arg13.view (Rect.unit (s := S2560x256) ![BitVec.toNat (Scalar.indexCast (Scalar.muli (Scf.iv 0#32 1#32 k.val) 256#32)), 128] ![768, 128] (inb768 k 128 (by omega))).toLoadRect f13) (⟨p - 256 * k, by omega⟩ : Fin 768) (⟨cc - 128, by omega⟩ : Fin 128)).trans ?_
      have e1 : cc.val / 128 = 1 := by omega
      have e2 : 128 * 1 + (cc.val - 128) = cc.val := by omega
      rw [e1]
      simp only [e2]
      exact congrArg (· + _) (prev_at arg13 f13 k _ _ _ p cc hp1 hp2 (by show _ = 128 + _; show cc.val = 128 + (cc.val - 128); omega))
  · rw [if_neg hp]
    refine (View.read_writes_cons_unit_of_not_mem _ _ _ _ _ _ (ho 128) 0 (by
      show p.val < 256 * k.val ∨ 256 * k.val + 768 ≤ p.val; omega)).trans ?_
    exact View.read_writes_cons_unit_of_not_mem _ _ _ _ _ _ (ho 0) 0 (by
      show p.val < 256 * k.val ∨ 256 * k.val + 768 ≤ p.val; omega)

/-- One trip's accumulation of the bias gradient's bands. -/
theorem trip_db (k : Fin k1_t1_loop.trips) (f6 : BufTy.Contents (Elt Ideal) arg6.view.ty) (f9 : BufTy.Contents (Elt Ideal) arg9.view.ty)
    (f12 : BufTy.Contents (Elt Ideal) arg12.view.ty) (f13 : BufTy.Contents (Elt Ideal) arg13.view.ty) (h : Fin 2) (y : Fin 128) (x : Fin 640) :
    arg9.view.read (Elt Ideal) (arg9.view.writes (Elt Ideal) f9 ((trip_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 k).2.1 f6 f9 f12 f13)) (ix3 h y x)
      = arg9.view.read (Elt Ideal) f9 (ix3 h y x) + (0 + dsm 768 (zB (rQ arg1 X1) (rK arg10 X10) (bb v83 v90) k h y) (gB (rDY arg5 X5) (rV arg11 X11) k h y) x + dsm 768 (zB (rQ arg1 X1) (rK arg10 X10) (bb v83 v90) k h (128 + y.val)) (gB (rDY arg5 X5) (rV arg11 X11) k h (128 + y.val)) (128 + x.val)) := by
  unfold trip_k1_t1
  dsimp only
  sl_unfold_words
  dsimp only
  match h with
  | ⟨0, _⟩ =>
    refine (View.read_writes_cons_unit_of_not_mem _ _ _ _ _ _ rfl 0 (Or.inl (by show 0 < 1; omega))).trans ?_
    refine (View.read_writes_cons_unit_of_mem _ _ _ _ _ _ (ix3 (0 : Fin 1) y x) rfl (fun a => by
      match a with
      | ⟨0, _⟩ => rfl
      | ⟨1, _⟩ => show y.val = 0 + y.val; omega
      | ⟨2, _⟩ => show x.val = 0 + x.val; omega)).trans ?_
    refine (db_of k v83 (View.readAt (Elt Ideal) arg1.view (Rect.unit (s := S2048x256) ![BitVec.toNat (Scalar.indexCast (Scalar.muli (Scf.iv 0#32 1#32 k.val) 256#32)), 0] ![256, 128] (inb256 k 0 (by omega))).toLoadRect X1) (View.readAt (Elt Ideal) arg10.view (Rect.unit (s := S2560x256) ![BitVec.toNat (Scalar.indexCast (Scalar.muli (Scf.iv 0#32 1#32 k.val) 256#32)), 0] ![768, 128] (inb768 k 0 (by omega))).toLoadRect X10) (View.readAt (Elt Ideal) arg11.view (Rect.unit (s := S2560x256) ![BitVec.toNat (Scalar.indexCast (Scalar.muli (Scf.iv 0#32 1#32 k.val) 256#32)), 0] ![768, 128] (inb768 k 0 (by omega))).toLoadRect X11) (View.readAt (Elt Ideal) arg5.view (Rect.unit (s := S2048x256) ![BitVec.toNat (Scalar.indexCast (Scalar.muli (Scf.iv 0#32 1#32 k.val) 256#32)), 0] ![256, 128] (inb256 k 0 (by omega))).toLoadRect X5) (fun x d => rQ arg1 X1 (256 * k.val + x) (128 * 0 + d)) (fun x d => rK arg10 X10 (256 * k.val + x) (128 * 0 + d)) (fun x d => rV arg11 X11 (256 * k.val + x) (128 * 0 + d)) (fun x d => rDY arg5 X5 (256 * k.val + x) (128 * 0 + d)) (bb v83 v90 0) (fun x y _ _ => rfl) (fun x d hx hd => (load_f32 _ _ _ x d hx hd).trans (by rw [off_word])) (fun x d hx hd => (load_bf16 _ _ _ x d hx hd).trans (by rw [off_word])) (fun x d hx hd => (load_bf16 _ _ _ x d hx hd).trans (by rw [off_word])) (fun x d hx hd => (load_bf16 _ _ _ x d hx hd).trans (by rw [off_word])) (View.readAt (Elt Ideal) arg9.view (Rect.unit (s := S2x128x640) ![0, 0, 0] ![1, 128, 640] inb_S2x128x640_S1x128x640_0_0_0).toLoadRect f9) (0 : Fin 1) y x).trans ?_
    refine congrArg₂ (· + ·) (congrArg (arg9.view.read (Elt Ideal) f9) (funext fun a => Fin.ext ?_)) rfl
    match a with
    | ⟨0, _⟩ => rfl
    | ⟨1, _⟩ => show 0 + 1 * y.val = y.val; omega
    | ⟨2, _⟩ => show 0 + 1 * x.val = x.val; omega
  | ⟨1, _⟩ =>
    refine (View.read_writes_cons_unit_of_mem _ _ _ _ _ _ (ix3 (0 : Fin 1) y x) rfl (fun a => by
      match a with
      | ⟨0, _⟩ => rfl
      | ⟨1, _⟩ => show y.val = 0 + y.val; omega
      | ⟨2, _⟩ => show x.val = 0 + x.val; omega)).trans ?_
    refine (db_of k v90 (View.readAt (Elt Ideal) arg1.view (Rect.unit (s := S2048x256) ![BitVec.toNat (Scalar.indexCast (Scalar.muli (Scf.iv 0#32 1#32 k.val) 256#32)), 128] ![256, 128] (inb256 k 128 (by omega))).toLoadRect X1) (View.readAt (Elt Ideal) arg10.view (Rect.unit (s := S2560x256) ![BitVec.toNat (Scalar.indexCast (Scalar.muli (Scf.iv 0#32 1#32 k.val) 256#32)), 128] ![768, 128] (inb768 k 128 (by omega))).toLoadRect X10) (View.readAt (Elt Ideal) arg11.view (Rect.unit (s := S2560x256) ![BitVec.toNat (Scalar.indexCast (Scalar.muli (Scf.iv 0#32 1#32 k.val) 256#32)), 128] ![768, 128] (inb768 k 128 (by omega))).toLoadRect X11) (View.readAt (Elt Ideal) arg5.view (Rect.unit (s := S2048x256) ![BitVec.toNat (Scalar.indexCast (Scalar.muli (Scf.iv 0#32 1#32 k.val) 256#32)), 128] ![256, 128] (inb256 k 128 (by omega))).toLoadRect X5) (fun x d => rQ arg1 X1 (256 * k.val + x) (128 * 1 + d)) (fun x d => rK arg10 X10 (256 * k.val + x) (128 * 1 + d)) (fun x d => rV arg11 X11 (256 * k.val + x) (128 * 1 + d)) (fun x d => rDY arg5 X5 (256 * k.val + x) (128 * 1 + d)) (bb v83 v90 1) (fun x y _ _ => rfl) (fun x d hx hd => (load_f32 _ _ _ x d hx hd).trans (by rw [off_word])) (fun x d hx hd => (load_bf16 _ _ _ x d hx hd).trans (by rw [off_word])) (fun x d hx hd => (load_bf16 _ _ _ x d hx hd).trans (by rw [off_word])) (fun x d hx hd => (load_bf16 _ _ _ x d hx hd).trans (by rw [off_word])) (View.readAt (Elt Ideal) arg9.view (Rect.unit (s := S2x128x640) ![1, 0, 0] ![1, 128, 640] inb_S2x128x640_S1x128x640_1_0_0).toLoadRect f9) (0 : Fin 1) y x).trans ?_
    refine congrArg₂ (· + ·) (congrArg (arg9.view.read (Elt Ideal) f9) (funext fun a => Fin.ext ?_)) rfl
    match a with
    | ⟨0, _⟩ => rfl
    | ⟨1, _⟩ => show 0 + 1 * y.val = y.val; omega
    | ⟨2, _⟩ => show 0 + 1 * x.val = x.val; omega

end Trips
end Cert.KernelIdeal.Value
end
-- ==== Proof.Block.lean ====
/-
  The attention region's block: its four outputs, as sums over the tiles, in terms of the block's inputs.
-/
module
public import proofs.«01_k».proof.Proof.Loop
public import proofs.«01_k».proof.Proof.KernelIdealFrame
@[expose] public section
set_option maxRecDepth 8192
noncomputable section
namespace Cert.KernelIdeal.Value
open Cert.KernelIdeal Cert.KernelIdeal.Gen Cert.Attn
open Idealize.ShloMosaic Idealize.ShloMosaic.ValueIdx Idealize.ShloMosaic.TcCoe Idealize.ShloMosaic.Tactic

/-! ## All the trips -/

section Loops
variable (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2x128x640 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2x128x640 .f32) (harg9 : arg9.IsWhole) (arg10 : Memref sig .tc .vmem S2560x256 .bf16) (harg10 : arg10.IsWhole) (arg11 : Memref sig .tc .vmem S2560x256 .bf16) (harg11 : arg11.IsWhole) (arg12 : Memref sig .tc .vmem S2560x256 .f32) (harg12 : arg12.IsWhole) (arg13 : Memref sig .tc .vmem S2560x256 .f32) (harg13 : arg13.IsWhole)
  (v83 v90 : FVec Ideal S1x128x640 .f32) (X1 : BufTy.Contents (Elt Ideal) arg1.view.ty) (X5 : BufTy.Contents (Elt Ideal) arg5.view.ty)
  (X10 : BufTy.Contents (Elt Ideal) arg10.view.ty) (X11 : BufTy.Contents (Elt Ideal) arg11.view.ty)
  (G6 : BufTy.Contents (Elt Ideal) arg6.view.ty) (G9 : BufTy.Contents (Elt Ideal) arg9.view.ty)
  (G12 : BufTy.Contents (Elt Ideal) arg12.view.ty) (G13 : BufTy.Contents (Elt Ideal) arg13.view.ty)

/-- The queries' gradient after `n` trips. -/
theorem loop_dq (n : ℕ) (hn : n ≤ 8) (p : Fin 2048) (cc : Fin 256) (hp : p.val < 256 * n) :
    arg6.view.read (Elt Ideal) (arg6.view.writes (Elt Ideal) G6 (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 G6 G9 G12 G13 n).1) (ix2 p cc)
      = ∑ j ∈ Finset.range 768, (dsm 768 (zB (rQ arg1 X1) (rK arg10 X10) (bb v83 v90) (p.val / 256) (cc.val / 128) (p.val % 256)) (gB (rDY arg5 X5) (rV arg11 X11) (p.val / 256) (cc.val / 128) (p.val % 256)) j * scl) * rK arg10 X10 (256 * (p.val / 256) + j) cc := by
  induction n with
  | zero => omega
  | succ n ih =>
    have hk : n < k1_t1_loop.trips := by rw [trips_eq]; omega
    rw [pb_k1_t1_succ Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 G6 G9 G12 G13 ⟨n, hk⟩]
    dsimp only [tripL_k1_t1]
    rw [View.writes_append]
    refine (trip_dq c i arg1 harg1 arg2 harg2 arg3 harg3 arg4 harg4 arg5 harg5 arg6 harg6 arg7 harg7 arg8 harg8 arg9 harg9 arg10 harg10 arg11 harg11 arg12 harg12 arg13 harg13 v83 v90 X1 X5 X10 X11 ⟨n, hk⟩ _ _ _ _ p cc).trans ?_
    by_cases h : 256 * n ≤ p.val ∧ p.val < 256 * n + 256
    · have e1 : p.val / 256 = n := by omega
      have e2 : p.val - 256 * n = p.val % 256 := by omega
      refine (if_pos h).trans ?_
      simp only [e1, e2]
    · exact (if_neg h).trans (ih (by omega) (by omega))

/-- The keys' gradient after `n` trips. -/
theorem loop_dk (n : ℕ) (hn : n ≤ 8) (p : Fin 2560) (cc : Fin 256) :
    arg12.view.read (Elt Ideal) (arg12.view.writes (Elt Ideal) G12 (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 G6 G9 G12 G13 n).2.2.1) (ix2 p cc)
      = arg12.view.read (Elt Ideal) G12 (ix2 p cc) + ∑ k ∈ Finset.range n, (if 256 * k ≤ p.val ∧ p.val < 256 * k + 768 then ∑ i ∈ Finset.range 256, (dsm 768 (zB (rQ arg1 X1) (rK arg10 X10) (bb v83 v90) k (cc.val / 128) i) (gB (rDY arg5 X5) (rV arg11 X11) k (cc.val / 128) i) (p.val - 256 * k) * scl) * rQ arg1 X1 (256 * k + i) cc else 0) := by
  induction n with
  | zero => exact (add_zero _).symm
  | succ n ih =>
    have hk : n < k1_t1_loop.trips := by rw [trips_eq]; omega
    rw [pb_k1_t1_succ Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 G6 G9 G12 G13 ⟨n, hk⟩]
    dsimp only [tripL_k1_t1]
    rw [View.writes_append, Finset.sum_range_succ]
    refine (trip_dk c i arg1 harg1 arg2 harg2 arg3 harg3 arg4 harg4 arg5 harg5 arg6 harg6 arg7 harg7 arg8 harg8 arg9 harg9 arg10 harg10 arg11 harg11 arg12 harg12 arg13 harg13 v83 v90 X1 X5 X10 X11 ⟨n, hk⟩ _ _ _ _ p cc).trans ?_
    by_cases h : 256 * n ≤ p.val ∧ p.val < 256 * n + 768
    · refine (if_pos h).trans ?_
      rw [if_pos h, ih (by omega), add_assoc]
    · refine (if_neg h).trans ?_
      rw [if_neg h, ih (by omega), add_zero]

/-- The values' gradient after `n` trips. -/
theorem loop_dv (n : ℕ) (hn : n ≤ 8) (p : Fin 2560) (cc : Fin 256) :
    arg13.view.read (Elt Ideal) (arg13.view.writes (Elt Ideal) G13 (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 G6 G9 G12 G13 n).2.2.2) (ix2 p cc)
      = arg13.view.read (Elt Ideal) G13 (ix2 p cc) + ∑ k ∈ Finset.range n, (if 256 * k ≤ p.val ∧ p.val < 256 * k + 768 then ∑ i ∈ Finset.range 256, sm 768 (zB (rQ arg1 X1) (rK arg10 X10) (bb v83 v90) k (cc.val / 128) i) (p.val - 256 * k) * rDY arg5 X5 (256 * k + i) cc else 0) := by
  induction n with
  | zero => exact (add_zero _).symm
  | succ n ih =>
    have hk : n < k1_t1_loop.trips := by rw [trips_eq]; omega
    rw [pb_k1_t1_succ Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 G6 G9 G12 G13 ⟨n, hk⟩]
    dsimp only [tripL_k1_t1]
    rw [View.writes_append, Finset.sum_range_succ]
    refine (trip_dv c i arg1 harg1 arg2 harg2 arg3 harg3 arg4 harg4 arg5 harg5 arg6 harg6 arg7 harg7 arg8 harg8 arg9 harg9 arg10 harg10 arg11 harg11 arg12 harg12 arg13 harg13 v83 v90 X1 X5 X10 X11 ⟨n, hk⟩ _ _ _ _ p cc).trans ?_
    by_cases h : 256 * n ≤ p.val ∧ p.val < 256 * n + 768
    · refine (if_pos h).trans ?_
      rw [if_pos h, ih (by omega), add_assoc]
    · refine (if_neg h).trans ?_
      rw [if_neg h, ih (by omega), add_zero]

/-- The bias gradient's bands after `n` trips. -/
theorem loop_db (n : ℕ) (hn : n ≤ 8) (h : Fin 2) (y : Fin 128) (x : Fin 640) :
    arg9.view.read (Elt Ideal) (arg9.view.writes (Elt Ideal) G9 (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 G6 G9 G12 G13 n).2.1) (ix3 h y x)
      = arg9.view.read (Elt Ideal) G9 (ix3 h y x) + ∑ k ∈ Finset.range n, (0 + dsm 768 (zB (rQ arg1 X1) (rK arg10 X10) (bb v83 v90) k h y) (gB (rDY arg5 X5) (rV arg11 X11) k h y) x + dsm 768 (zB (rQ arg1 X1) (rK arg10 X10) (bb v83 v90) k h (128 + y.val)) (gB (rDY arg5 X5) (rV arg11 X11) k h (128 + y.val)) (128 + x.val)) := by
  induction n with
  | zero => exact (add_zero _).symm
  | succ n ih =>
    have hk : n < k1_t1_loop.trips := by rw [trips_eq]; omega
    rw [pb_k1_t1_succ Variants.none c none i arg1 harg1 arg2 harg2 arg3 harg3 arg4 harg4 arg5 harg5 arg6 harg6 arg7 harg7 arg8 harg8 arg9 harg9 arg10 harg10 arg11 harg11 arg12 harg12 arg13 harg13 (iota Kind.tc S256x768 32 [1] iota_S256x768_d1_w32) k1_pay32 k1_pay33 k1_pay34 v83 v90 X1 X5 X10 X11 G6 G9 G12 G13 ⟨n, hk⟩]
    dsimp only [tripL_k1_t1]
    rw [View.writes_append, Finset.sum_range_succ]
    refine (trip_db c i arg1 harg1 arg2 harg2 arg3 harg3 arg4 harg4 arg5 harg5 arg6 harg6 arg7 harg7 arg8 harg8 arg9 harg9 arg10 harg10 arg11 harg11 arg12 harg12 arg13 harg13 v83 v90 X1 X5 X10 X11 ⟨n, hk⟩ _ _ _ _ h y x).trans ?_
    rw [ih (by omega), add_assoc]

end Loops

/-! ## The output blocks -/

/-- The padded keys (or values): 512 rows of zeros, then the array. -/
def kpad (x : ℕ → ℕ → EReal) (p c : ℕ) : EReal := if 512 ≤ p then x (p - 512) c else 0

section Blocks
variable (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2x128x640 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2x128x640 .f32) (harg9 : arg9.IsWhole) (arg10 : Memref sig .tc .vmem S2560x256 .bf16) (harg10 : arg10.IsWhole) (arg11 : Memref sig .tc .vmem S2560x256 .bf16) (harg11 : arg11.IsWhole) (arg12 : Memref sig .tc .vmem S2560x256 .f32) (harg12 : arg12.IsWhole) (arg13 : Memref sig .tc .vmem S2560x256 .f32) (harg13 : arg13.IsWhole)
  (x0 : Vec Ideal S2048x256 .f32) (x1 : Vec Ideal S2048x256 .f32) (x2 : Vec Ideal S2048x256 .f32) (x3 : Vec Ideal S2x128x640 .f32) (x4 : Vec Ideal S2048x256 .bf16)

/-- A row of scores of head `h` of the pair, query tile `k`, from the block's arrays. -/
abbrev zK (x0 x1 : Vec Ideal S2048x256 .f32) (x3 : Vec Ideal S2x128x640 .f32) (k h : ℕ) : ℕ → ℕ → EReal :=
  zB (at2 (a := 2048) (b := 256) x0) (kpad (at2 (a := 2048) (b := 256) x1)) (at3 (a := 2) (b := 128) (c := 640) x3) k h
/-- The gradient of that row's probabilities. -/
abbrev gK (x4 : Vec Ideal S2048x256 .bf16) (x2 : Vec Ideal S2048x256 .f32) (k h : ℕ) : ℕ → ℕ → EReal :=
  gB (at2 (a := 2048) (b := 256) x4) (kpad (at2 (a := 2048) (b := 256) x2)) k h

theorem read_x0 (arg1 : Memref sig .tc .vmem S2048x256 .f32) (harg1 : arg1.IsWhole) : rQ arg1 (harg1.unread x0) = at2 (a := 2048) (b := 256) x0 := by
  unfold rQ; rw [harg1.read_unread]
theorem read_x4 (arg5 : Memref sig .tc .vmem S2048x256 .bf16) (harg5 : arg5.IsWhole) : rDY arg5 (harg5.unread x4) = at2 (a := 2048) (b := 256) x4 := by
  unfold rDY; rw [harg5.read_unread]

theorem ofBits_zero_bf16 : Ideal.ofBits .bf16 0x0000#16 = 0 := by simp [Ideal.ofBits, Ideal.ieee]

/-- What the padded buffer reads after its two stores. -/
theorem read_pad (arg10 : Memref sig .tc .vmem S2560x256 .bf16) (w : FVec Ideal S2048x256 .bf16) (z : FVec Ideal S512x256 .bf16) (hz : ∀ y, z y = 0)
    (p q : ℕ) (f : arg10.view.ty.Contents (Elt Ideal)) :
    at2 (a := 2560) (b := 256) (arg10.view.read (Elt Ideal) (arg10.view.writes (Elt Ideal) f
      [⟨Rect.unit ![512, 0] ![2048, 256] inb_S2560x256_S2048x256_512_0, w⟩, ⟨Rect.unit ![0, 0] ![512, 256] inb_S2560x256_S512x256_0_0, z⟩])) p q
      = kpad (at2 (a := 2048) (b := 256) w) p q := by
  unfold kpad
  by_cases h : p < 2560 ∧ q < 256
  · obtain ⟨h1, h2⟩ := h
    rw [at2_mk _ _ _ h1 h2]
    by_cases hp : 512 ≤ p
    · have h3 : p - 512 < 2048 := by omega
      rw [if_pos hp, at2_mk _ _ _ h3 h2]
      have hx : ∀ a : Fin 2, ((ix2 (⟨p, h1⟩ : Fin 2560) (⟨q, h2⟩ : Fin 256)) a).val = (![512, 0] : Fin 2 → ℕ) a + ((ix2 (⟨p - 512, h3⟩ : Fin 2048) (⟨q, h2⟩ : Fin 256)) a).val := fun a => by
        match a with
        | ⟨0, _⟩ => show p = 512 + (p - 512); omega
        | ⟨1, _⟩ => show q = 0 + q; omega
      exact View.read_writes_cons_unit_of_mem arg10.view f inb_S2560x256_S2048x256_512_0 w [⟨Rect.unit ![0, 0] ![512, 256] inb_S2560x256_S512x256_0_0, z⟩] (ix2 (⟨p, h1⟩ : Fin 2560) (⟨q, h2⟩ : Fin 256)) (ix2 (⟨p - 512, h3⟩ : Fin 2048) (⟨q, h2⟩ : Fin 256)) rfl hx
    · have h3 : p < 512 := by omega
      rw [if_neg hp]
      have hx : ∀ a : Fin 2, ((ix2 (⟨p, h1⟩ : Fin 2560) (⟨q, h2⟩ : Fin 256)) a).val = (![0, 0] : Fin 2 → ℕ) a + ((ix2 (⟨p, h3⟩ : Fin 512) (⟨q, h2⟩ : Fin 256)) a).val := fun a => by
        match a with
        | ⟨0, _⟩ => show p = 0 + p; omega
        | ⟨1, _⟩ => show q = 0 + q; omega
      refine (View.read_writes_cons_unit_of_not_mem arg10.view f inb_S2560x256_S2048x256_512_0 w [⟨Rect.unit ![0, 0] ![512, 256] inb_S2560x256_S512x256_0_0, z⟩] (ix2 (⟨p, h1⟩ : Fin 2560) (⟨q, h2⟩ : Fin 256)) (off' := ![512, 0]) rfl (0 : Fin 2) (Or.inl h3)).trans ?_
      exact (View.read_writes_cons_unit_of_mem arg10.view f inb_S2560x256_S512x256_0_0 z [] (ix2 (⟨p, h1⟩ : Fin 2560) (⟨q, h2⟩ : Fin 256)) (ix2 (⟨p, h3⟩ : Fin 512) (⟨q, h2⟩ : Fin 256)) rfl hx).trans (hz _)
  · have h1 : ∀ x : S2560x256.Idx → EReal, at2 (a := 2560) (b := 256) x p q = 0 := fun x => by
      unfold at2; rw [dif_neg h]
    have h2 : at2 (a := 2048) (b := 256) w (p - 512) q = 0 := by
      unfold at2; rw [dif_neg (by omega)]
    rw [h1, h2, ite_self]

theorem pay25_zero (y : S512x256.Idx) : k1_pay25 (F := Ideal) y = 0 := by
  unfold k1_pay25; rw [shapeCast_self]; exact ofBits_zero_bf16
theorem pay26_zero (y : S512x256.Idx) : k1_pay26 (F := Ideal) y = 0 := by
  unfold k1_pay26; rw [shapeCast_self]; exact ofBits_zero_bf16

theorem read_x1 (arg2 : Memref sig .tc .vmem S2048x256 .f32) (harg2 : arg2.IsWhole) (arg10 : Memref sig .tc .vmem S2560x256 .bf16) : rK arg10 (arg10.view.writes (Elt Ideal) arg10.view.junk
      [⟨Rect.unit ![512, 0] ![2048, 256] inb_S2560x256_S2048x256_512_0,
          k1_pay27 (View.readAt (Elt Ideal) arg2.view (Rect.unit (s := S2048x256) ![0, 0] ![2048, 256] inb_S2048x256_S2048x256_0_0).toLoadRect (harg2.unread x1))⟩,
        ⟨Rect.unit ![0, 0] ![512, 256] inb_S2560x256_S512x256_0_0, k1_pay25 (F := Ideal)⟩]) = kpad (at2 (a := 2048) (b := 256) x1) := by
  funext p q
  refine (read_pad arg10 _ _ pay25_zero p q _).trans ?_
  have e : k1_pay27 (View.readAt (Elt Ideal) arg2.view (Rect.unit (s := S2048x256) ![0, 0] ![2048, 256] inb_S2048x256_S2048x256_0_0).toLoadRect (harg2.unread x1)) = x1 := by
    unfold k1_pay27
    dsimp only
    rw [shapeCast_self]
    refine (View.readAt_full arg2.view _ inb_S2048x256_S2048x256_0_0).trans (harg2.read_unread x1)
  rw [e]
theorem read_x2 (arg3 : Memref sig .tc .vmem S2048x256 .f32) (harg3 : arg3.IsWhole) (arg11 : Memref sig .tc .vmem S2560x256 .bf16) : rV arg11 (arg11.view.writes (Elt Ideal) arg11.view.junk
      [⟨Rect.unit ![512, 0] ![2048, 256] inb_S2560x256_S2048x256_512_0,
          k1_pay28 (View.readAt (Elt Ideal) arg3.view (Rect.unit (s := S2048x256) ![0, 0] ![2048, 256] inb_S2048x256_S2048x256_0_0).toLoadRect (harg3.unread x2))⟩,
        ⟨Rect.unit ![0, 0] ![512, 256] inb_S2560x256_S512x256_0_0, k1_pay26 (F := Ideal)⟩]) = kpad (at2 (a := 2048) (b := 256) x2) := by
  funext p q
  refine (read_pad arg11 _ _ pay26_zero p q _).trans ?_
  have e : k1_pay28 (View.readAt (Elt Ideal) arg3.view (Rect.unit (s := S2048x256) ![0, 0] ![2048, 256] inb_S2048x256_S2048x256_0_0).toLoadRect (harg3.unread x2)) = x2 := by
    unfold k1_pay28
    dsimp only
    rw [shapeCast_self]
    refine (View.readAt_full arg3.view _ inb_S2048x256_S2048x256_0_0).trans (harg3.read_unread x2)
  rw [e]

theorem read_x3 (arg4 : Memref sig .tc .vmem S2x128x640 .f32) (harg4 : arg4.IsWhole) (h : ℕ) (hh : h < 2) : bb
    (View.readAt (Elt Ideal) arg4.view (Rect.unit (s := S2x128x640) ![0, 0, 0] ![1, 128, 640] inb_S2x128x640_S1x128x640_0_0_0).toLoadRect (harg4.unread x3))
    (View.readAt (Elt Ideal) arg4.view (Rect.unit (s := S2x128x640) ![1, 0, 0] ![1, 128, 640] inb_S2x128x640_S1x128x640_1_0_0).toLoadRect (harg4.unread x3)) h
      = at3 (a := 2) (b := 128) (c := 640) x3 h := by
  funext y x
  have hx3 := harg4.read_unread x3
  by_cases hy : y < 128 ∧ x < 640
  · rw [at3_mk _ _ _ _ hh hy.1 hy.2]
    unfold bb
    by_cases h0 : h = 0
    · subst h0
      rw [if_pos rfl, at3_mk _ _ _ _ (by omega : 0 < 1) hy.1 hy.2]
      refine (congrArg (arg4.view.read (Elt Ideal) (harg4.unread x3)) (funext fun a => Fin.ext ?_)).trans (congrFun hx3 (ix3 (⟨0, hh⟩ : Fin 2) (⟨y, hy.1⟩ : Fin 128) (⟨x, hy.2⟩ : Fin 640)))
      match a with
      | ⟨0, _⟩ => rfl
      | ⟨1, _⟩ => show 0 + 1 * y = y; omega
      | ⟨2, _⟩ => show 0 + 1 * x = x; omega
    · obtain rfl : h = 1 := by omega
      rw [if_neg h0, at3_mk _ _ _ _ (by omega : 0 < 1) hy.1 hy.2]
      refine (congrArg (arg4.view.read (Elt Ideal) (harg4.unread x3)) (funext fun a => Fin.ext ?_)).trans (congrFun hx3 (ix3 (⟨1, hh⟩ : Fin 2) (⟨y, hy.1⟩ : Fin 128) (⟨x, hy.2⟩ : Fin 640)))
      match a with
      | ⟨0, _⟩ => rfl
      | ⟨1, _⟩ => show 0 + 1 * y = y; omega
      | ⟨2, _⟩ => show 0 + 1 * x = x; omega
  · have e0 : at3 (a := 2) (b := 128) (c := 640) x3 h y x = 0 := by unfold at3; rw [dif_neg (by omega)]
    rw [e0]
    unfold bb
    split_ifs
    · unfold at3; rw [dif_neg (by omega)]
    · unfold at3; rw [dif_neg (by omega)]

theorem z_eq (k h : ℕ) (hh : h < 2) : zB (rQ arg1 (harg1.unread x0)) (rK arg10 (arg10.view.writes (Elt Ideal) arg10.view.junk
      [⟨Rect.unit ![512, 0] ![2048, 256] inb_S2560x256_S2048x256_512_0,
          k1_pay27 (View.readAt (Elt Ideal) arg2.view (Rect.unit (s := S2048x256) ![0, 0] ![2048, 256] inb_S2048x256_S2048x256_0_0).toLoadRect (harg2.unread x1))⟩,
        ⟨Rect.unit ![0, 0] ![512, 256] inb_S2560x256_S512x256_0_0, k1_pay25 (F := Ideal)⟩])) (bb
    (View.readAt (Elt Ideal) arg4.view (Rect.unit (s := S2x128x640) ![0, 0, 0] ![1, 128, 640] inb_S2x128x640_S1x128x640_0_0_0).toLoadRect (harg4.unread x3))
    (View.readAt (Elt Ideal) arg4.view (Rect.unit (s := S2x128x640) ![1, 0, 0] ![1, 128, 640] inb_S2x128x640_S1x128x640_1_0_0).toLoadRect (harg4.unread x3))) k h
      = zK x0 x1 x3 k h := by
  unfold zK zB
  rw [read_x0, read_x1, read_x3 x3 arg4 harg4 h hh]

theorem out5_at (p : Fin 2048) (cc : Fin 256) :
    out1_A_5 c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 p cc)
      = ∑ j ∈ Finset.range 768, (dsm 768 (zK x0 x1 x3 (p.val / 256) (cc.val / 128) (p.val % 256)) (gK x4 x2 (p.val / 256) (cc.val / 128) (p.val % 256)) j * scl) * kpad (at2 (a := 2048) (b := 256) x1) (256 * (p.val / 256) + j) cc := by
  unfold out1_A_5
  refine (congrFun (View.read_writes_of_cover _ _ arg6.view arg6.view.junk _ (cover1_A_5 c i arg1 harg1 arg2 harg2 arg3 harg3 arg4 harg4 arg5 harg5 arg6 harg6 arg7 harg7 arg8 harg8 arg9 harg9 arg10 harg10 arg11 harg11 arg12 harg12 arg13 harg13 x0 x1 x2 x3 x4)) (ix2 p cc)).trans ?_
  refine (loop_dq c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ (Scf.trips k1_t1_loop.lb k1_t1_loop.ub k1_t1_loop.st) (by decide +kernel) p cc (by
    have : (Scf.trips k1_t1_loop.lb k1_t1_loop.ub k1_t1_loop.st) = 8 := by decide +kernel
    omega)).trans ?_
  rw [z_eq arg1 harg1 arg2 harg2 arg4 harg4 arg10 x0 x1 x3 _ _ (by omega), read_x4, read_x2, read_x1]

theorem out6_at (p : Fin 2048) (cc : Fin 256) :
    out1_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 p cc)
      = ∑ k ∈ Finset.range 8, (if 256 * k ≤ 512 + p.val ∧ 512 + p.val < 256 * k + 768 then
          ∑ i ∈ Finset.range 256, (dsm 768 (zK x0 x1 x3 k (cc.val / 128) i) (gK x4 x2 k (cc.val / 128) i) (512 + p.val - 256 * k) * scl) * at2 (a := 2048) (b := 256) x0 (256 * k + i) cc else 0) := by
  unfold out1_A_6
  refine (congrFun (View.read_writes_full _ _ inb_S2048x256_S2048x256_0_0 _ _) (ix2 p cc)).trans ?_
  show arg12.view.read (Elt Ideal) (arg12.view.writes (Elt Ideal) arg12.view.junk (_ ++ _)) _ = _
  have ey : (Rect.unit (s := S2560x256) ![512, 0] ![2048, 256] inb_S2560x256_S2048x256_512_0).toLoadRect.idx (ix2 p cc) = ix2 (⟨512 + p.val, by omega⟩ : Fin 2560) cc :=
    funext fun a => Fin.ext (by
      match a with
      | ⟨0, _⟩ => show 512 + 1 * p.val = 512 + p.val; omega
      | ⟨1, _⟩ => show 0 + 1 * cc.val = cc.val; omega)
  rw [ey, View.writes_append]
  refine (loop_dk c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ (Scf.trips k1_t1_loop.lb k1_t1_loop.ub k1_t1_loop.st) (by decide +kernel) (⟨512 + p.val, by omega⟩ : Fin 2560) cc).trans ?_
  have e0 : arg12.view.read (Elt Ideal) (arg12.view.writes (Elt Ideal) arg12.view.junk [⟨Rect.unit ![0, 0] ![2560, 256] inb_S2560x256_S2560x256_0_0, k1_pay29 (F := Ideal)⟩]) (ix2 (⟨512 + p.val, by omega⟩ : Fin 2560) cc) = 0 := by
    refine (congrFun (View.read_writes_full _ _ inb_S2560x256_S2560x256_0_0 _ _) _).trans ?_
    unfold k1_pay29; rw [shapeCast_self]; exact Ideal.ofBits_zero_f32
  have et : (Scf.trips k1_t1_loop.lb k1_t1_loop.ub k1_t1_loop.st) = 8 := by decide +kernel
  rw [e0, zero_add, et]
  simp only [z_eq arg1 harg1 arg2 harg2 arg4 harg4 arg10 x0 x1 x3 _ _ (by omega : cc.val / 128 < 2), read_x4, read_x2]
  simp only [read_x0]

theorem out7_at (p : Fin 2048) (cc : Fin 256) :
    out1_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 p cc)
      = ∑ k ∈ Finset.range 8, (if 256 * k ≤ 512 + p.val ∧ 512 + p.val < 256 * k + 768 then
          ∑ i ∈ Finset.range 256, sm 768 (zK x0 x1 x3 k (cc.val / 128) i) (512 + p.val - 256 * k) * at2 (a := 2048) (b := 256) x4 (256 * k + i) cc else 0) := by
  unfold out1_A_7
  refine (congrFun (View.read_writes_full _ _ inb_S2048x256_S2048x256_0_0 _ _) (ix2 p cc)).trans ?_
  show arg13.view.read (Elt Ideal) (arg13.view.writes (Elt Ideal) arg13.view.junk (_ ++ _)) _ = _
  have ey : (Rect.unit (s := S2560x256) ![512, 0] ![2048, 256] inb_S2560x256_S2048x256_512_0).toLoadRect.idx (ix2 p cc) = ix2 (⟨512 + p.val, by omega⟩ : Fin 2560) cc :=
    funext fun a => Fin.ext (by
      match a with
      | ⟨0, _⟩ => show 512 + 1 * p.val = 512 + p.val; omega
      | ⟨1, _⟩ => show 0 + 1 * cc.val = cc.val; omega)
  rw [ey, View.writes_append]
  refine (loop_dv c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ (Scf.trips k1_t1_loop.lb k1_t1_loop.ub k1_t1_loop.st) (by decide +kernel) (⟨512 + p.val, by omega⟩ : Fin 2560) cc).trans ?_
  have e0 : arg13.view.read (Elt Ideal) (arg13.view.writes (Elt Ideal) arg13.view.junk [⟨Rect.unit ![0, 0] ![2560, 256] inb_S2560x256_S2560x256_0_0, k1_pay30 (F := Ideal)⟩]) (ix2 (⟨512 + p.val, by omega⟩ : Fin 2560) cc) = 0 := by
    refine (congrFun (View.read_writes_full _ _ inb_S2560x256_S2560x256_0_0 _ _) _).trans ?_
    unfold k1_pay30; rw [shapeCast_self]; exact Ideal.ofBits_zero_f32
  have et : (Scf.trips k1_t1_loop.lb k1_t1_loop.ub k1_t1_loop.st) = 8 := by decide +kernel
  rw [e0, zero_add, et]
  simp only [z_eq arg1 harg1 arg2 harg2 arg4 harg4 arg10 x0 x1 x3 _ _ (by omega : cc.val / 128 < 2), read_x4]

theorem out8_at (h : Fin 2) (y : Fin 128) (x : Fin 640) :
    out1_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 (ix3 h y x)
      = ∑ k ∈ Finset.range 8, (0 + dsm 768 (zK x0 x1 x3 k h y) (gK x4 x2 k h y) x + dsm 768 (zK x0 x1 x3 k h (128 + y.val)) (gK x4 x2 k h (128 + y.val)) (128 + x.val)) := by
  unfold out1_A_8
  refine (congrFun (View.read_writes_of_cover _ _ arg9.view arg9.view.junk _ (cover1_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4)) (ix3 h y x)).trans ?_
  refine (congrFun (congrArg (arg9.view.read (Elt Ideal)) (View.writes_append _ _ _ _)) (ix3 h y x)).trans ?_
  refine (loop_db c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ (Scf.trips k1_t1_loop.lb k1_t1_loop.ub k1_t1_loop.st) (by decide +kernel) h y x).trans ?_
  have e0 : arg9.view.read (Elt Ideal) (arg9.view.writes (Elt Ideal) arg9.view.junk [⟨Rect.unit ![0, 0, 0] ![2, 128, 640] inb_S2x128x640_S2x128x640_0_0_0, k1_pay31 (F := Ideal)⟩]) (ix3 h y x) = 0 := by
    refine (congrFun (View.read_writes_full _ _ inb_S2x128x640_S2x128x640_0_0_0 _ _) _).trans ?_
    exact Ideal.ofBits_zero_f32
  have et : (Scf.trips k1_t1_loop.lb k1_t1_loop.ub k1_t1_loop.st) = 8 := by decide +kernel
  rw [e0, zero_add, et]
  simp only [z_eq arg1 harg1 arg2 harg2 arg4 harg4 arg10 x0 x1 x3 _ _ (h.isLt : h.val < 2), read_x4, read_x2]
end Blocks
end Cert.KernelIdeal.Value
end
-- ==== Proof.Bias.lean ====
/-
  The two small regions: the table of relative positions laid along diagonals, and the sum along diagonals that gives
  its gradient.
-/
module
public import proofs.«01_k».proof.Proof.Tile
public import proofs.«01_k».proof.Proof.Gen.KernelIdeal.Skeleton
public import Idealize.ShloMosaic.Lib.KernelVsHost
public import Idealize.ShloMosaic.Lib.IdealHost
@[expose] public section
set_option maxRecDepth 8192
noncomputable section
namespace Cert.KernelIdeal.Value
open Cert.KernelIdeal Cert.KernelIdeal.Gen Cert.Attn
open Idealize.ShloMosaic Idealize.ShloMosaic.ValueIdx

/-! ## The table of relative positions and its diagonals -/

/-- The table's column that diagonal `d` of a band reads: the distance `d - 640` clipped to `[-128, 63]`, counted from zero. -/
def relc (d : ℕ) : ℕ := min 191 (d - 512)

theorem relc_lt (d : ℕ) : relc d < 192 := by unfold relc; omega

private theorem rel_word : ∀ d : Fin 768, IntOp.addi (IntOp.minsi 63#32 (IntOp.maxsi 4294967168#32 (IntOp.subi (IntOp.subi (BitVec.ofNat 32 d.val) 128#32) 512#32))) 128#32
    = BitVec.ofNat 32 (relc d.val) := by
  decide +kernel

/-- The comparison that picks a diagonal's column. -/
theorem pick_at (d : Fin 768) (r : Fin 256) :
    cmpi .eq (addi (minsi (broadcast S768x256 63#32) (maxsi (broadcast S768x256 4294967168#32) (subi (subi (iota .tc S768x256 32 [0] iota_S768x256_d0_w32)
      (broadcast S768x256 128#32)) (broadcast S768x256 512#32)))) (broadcast S768x256 128#32)) (iota .tc S768x256 32 [1] iota_S768x256_d1_w32) (ix2 d r)
      = BitVec.ofBool (decide (relc d = r)) := by
  show IntOp.cmpi .eq (IntOp.addi (IntOp.minsi 63#32 (IntOp.maxsi 4294967168#32 (IntOp.subi (IntOp.subi (iota .tc S768x256 32 [0] iota_S768x256_d0_w32 (ix2 d r)) 128#32) 512#32))) 128#32)
    (iota .tc S768x256 32 [1] iota_S768x256_d1_w32 (ix2 d r)) = _
  rw [iota_single_apply, iota_single_apply]
  refine (congrArg (fun w => IntOp.cmpi .eq w (BitVec.ofNat 32 r.val)) (rel_word d)).trans ?_
  rw [WordCmp.cmpi_eq_eq]
  have h1 : relc d < 2 ^ 32 := by have := relc_lt d; omega
  have h2 : r.val < 2 ^ 32 := by omega
  simp only [WordCmp.ofNat_eq_ofNat_iff h1 h2]

/-- The one-hot matrix of the columns. -/
theorem onehot_at (d : Fin 768) (r : Fin 256) :
    select (cmpi .eq (addi (minsi (broadcast S768x256 63#32) (maxsi (broadcast S768x256 4294967168#32) (subi (subi (iota .tc S768x256 32 [0] iota_S768x256_d0_w32)
      (broadcast S768x256 128#32)) (broadcast S768x256 512#32)))) (broadcast S768x256 128#32)) (iota .tc S768x256 32 [1] iota_S768x256_d1_w32))
      (broadcast S768x256 (Scalar.ofBits (F := Ideal) .f32 0x3F800000#32)) (broadcast S768x256 (Scalar.ofBits (F := Ideal) .f32 0x00000000#32)) (ix2 d r)
      = if relc d = r then 1 else 0 := by
  rw [select_apply, pick_at]
  have h1 : Ideal.ofBits .f32 0x3F800000#32 = 1 := Ideal.ofBits_one_f32
  have h0 : Ideal.ofBits .f32 0x00000000#32 = 0 := Ideal.ofBits_zero_f32
  by_cases h : relc d = r
  · rw [if_pos h, decide_eq_true h]; exact h1
  · rw [if_neg h, decide_eq_false h]; exact h0

/-- The table laid out along the diagonals. -/
theorem k0_at (v : FVec Ideal S8x256 .f32) (h : Fin 8) (d : Fin 768) : k0_pay1 (F := Ideal) v (ix2 h d) = at2 v h (relc d) := by
  unfold k0_pay1
  refine (matmul_at dot_S8x256_S768x256_S8x768_1_1_0_0_n_n (some .fp32) 256 rfl rfl _ _ (ix2 h d) (fun r => at2 v h r) (fun r => if relc d = r then 1 else 0)
    (fun k => by
      rw [shapeCast_self]
      refine Eq.trans ?_ (at2_ix v h k); refine congrArg v (funext fun a => Fin.ext ?_)
      match a with
      | ⟨0, _⟩ => rfl
      | ⟨1, _⟩ => exact contrEquiv1_symm_val dot_S8x256_S768x256_S8x768_1_1_0_0_n_n 256 rfl rfl k)
    (fun k => by
      refine Eq.trans (congrArg _ (show _ = ix2 d k from funext fun a => Fin.ext ?_)) (onehot_at d k)
      match a with
      | ⟨0, _⟩ => rfl
      | ⟨1, _⟩ => exact contrEquiv1_symm_val dot_S8x256_S768x256_S8x768_1_1_0_0_n_n 256 rfl rfl k)).trans ?_
  simp only [mul_ite, mul_one, mul_zero]
  rw [Finset.sum_ite_eq, if_pos (Finset.mem_range.2 (by have := relc_lt d; omega))]

/-- The sums down a band's diagonals, gathered by table column. -/
theorem k2_at (v : FVec Ideal S1x128x768 .f32) (r : Fin 256) : k2_pay1 (F := Ideal) v (ix3 0 0 r)
    = ∑ d ∈ Finset.range 768, if relc d = r then ∑ a ∈ Finset.range 128, at3 v 0 a d else 0 := by
  unfold k2_pay1
  have hsum : ∀ d : Fin 768, multiReduction .add [0] S768 (shapeCast S128x768 v shapeCasts_S1x128x768_S128x768) 0x00000000#32 reduces_S128x768_S768 (.inl rfl) rfl (ix1 d)
      = ∑ a ∈ Finset.range 128, at3 v 0 a d := fun d => by
    refine (Ideal.multiReduction_add_single _ _ _ _ _ _).trans ?_
    show ∑ k : Fin 128, shapeCast S128x768 v shapeCasts_S1x128x768_S128x768 (reduces_S128x768_S768.lift (ix1 d) k) = _
    rw [← Fin.sum_univ_eq_sum_range (fun a => at3 v 0 a d) 128]
    refine Finset.sum_congr rfl fun k _ => ?_
    have hl : reduces_S128x768_S768.lift (ix1 d) k = ix2 k d := funext fun a => Fin.ext (by
      match a with
      | ⟨0, _⟩ => rfl
      | ⟨1, _⟩ => rfl)
    rw [hl]
    exact (shapeCast_1ab_ab_apply _ _ _ _).trans (at3_ix v _ _ _)
  refine (shapeCast_ab_1ab_apply _ _ 0 0 r).trans ?_
  refine (extractStridedSlice_apply _ _ _ _ (ix2 (0 : Fin 8) r) (fun a => by
    match a with
    | ⟨0, _⟩ => rfl
    | ⟨1, _⟩ => exact (Nat.zero_add _).symm)).trans ?_
  refine (matmul_at dot_S8x768_S768x256_S8x256_1_0_0_1_n_n (some .fp32) 768 rfl rfl _ _ (ix2 0 r) (fun d => ∑ a ∈ Finset.range 128, at3 v 0 a d) (fun d => if relc d = r then 1 else 0)
    (fun k => by
      rw [shapeCast_self]
      refine (broadcastTo_apply _ _ _ (ix2 (0 : Fin 1) k) (fun a => by
        match a with
        | ⟨0, _⟩ => rfl
        | ⟨1, _⟩ => exact (contrEquiv1_symm_val dot_S8x768_S768x256_S8x256_1_0_0_1_n_n 768 rfl rfl k).symm)).trans ?_
      refine (shapeCast_apply _ _ _ (ix1 k) (by rw [Shape.rowMajor_val_one, Shape.rowMajor_val_two]; show k.val = 0 * 768 + k.val; omega)).trans ?_
      exact hsum k)
    (fun k => by
      refine Eq.trans (congrArg _ (show _ = ix2 k r from funext fun a => Fin.ext ?_)) (onehot_at k r)
      match a with
      | ⟨0, _⟩ => exact contrEquiv1_symm_val dot_S8x768_S768x256_S8x256_1_0_0_1_n_n 768 rfl rfl k
      | ⟨1, _⟩ => rfl)).trans ?_
  refine Finset.sum_congr rfl fun d _ => ?_
  by_cases hr : relc d = r
  · rw [if_pos hr, if_pos hr, mul_one]
  · rw [if_neg hr, if_neg hr, mul_zero]

/-! ## The host's skews -/

/-- The diagonals laid out as the band's rows, the way the host does it. -/
theorem skew_at (x : FVec Ideal S8x768 .f32) (z : FVec Ideal S_ .f32) (h : Fin 8) (i : Fin 128) (c : Fin 640) :
    extractStridedSlice S8x128x640 ![0, 0, 128] (shapeCast S8x128x768 (extractStridedSlice S8x98304 ![0, 0] (shapeCast S8x98432
      (broadcastInDim S1x8x128x769 ![0, 1, 2, 3] bcast_S1x8x1x769_S1x8x128x769_0_1_2_3 (shapeCast S1x8x1x769
        (pad S8x769 ![0, 0] ![0, 1] ![0, 0] x z pads_S8x768_S8x769_000_010 h_S_) shapeCasts_S8x769_S1x8x1x769)) shapeCasts_S1x8x128x769_S8x98432)
      slices_S8x98432_S8x98304_0_0) shapeCasts_S8x98304_S8x128x768) slices_S8x128x768_S8x128x640_0_0_128 (ix3 h i c) = at2 x h (128 + c - i) := by
  have hi := i.isLt; have hc := c.isLt; have hh := h.isLt
  refine (extractStridedSlice_apply _ _ _ _ (ix3 h i (⟨128 + c, by omega⟩ : Fin 768)) (fun a => by
    match a with
    | ⟨0, _⟩ => exact (Nat.zero_add _).symm
    | ⟨1, _⟩ => exact (Nat.zero_add _).symm
    | ⟨2, _⟩ => rfl)).trans ?_
  refine (shapeCast_apply _ _ _ (ix2 h (⟨i * 768 + (128 + c), by omega⟩ : Fin 98304)) (by
    rw [Shape.rowMajor_val_two, Shape.rowMajor_val_three]
    show h.val * 98304 + (i.val * 768 + (128 + c.val)) = (h.val * 128 + i.val) * 768 + (128 + c.val)
    omega)).trans ?_
  refine (extractStridedSlice_apply _ _ _ _ (ix2 h (⟨i * 768 + (128 + c), by omega⟩ : Fin 98432)) (fun a => by
    match a with
    | ⟨0, _⟩ => exact (Nat.zero_add _).symm
    | ⟨1, _⟩ => exact (Nat.zero_add _).symm)).trans ?_
  refine (shapeCast_apply _ _ _ (ix4 (0 : Fin 1) h i (⟨128 + c - i, by omega⟩ : Fin 769)) (by
    rw [Shape.rowMajor_val_two, Shape.rowMajor_val_four]
    show ((0 * 8 + h.val) * 128 + i.val) * 769 + (128 + c.val - i.val) = h.val * 98432 + (i.val * 768 + (128 + c.val))
    omega)).trans ?_
  refine (broadcastInDim_apply _ _ _ _ (ix4 (0 : Fin 1) h (0 : Fin 1) (⟨128 + c - i, by omega⟩ : Fin 769)) (fun a => by
    match a with
    | ⟨0, _⟩ => rfl
    | ⟨1, _⟩ => rfl
    | ⟨2, _⟩ => rfl
    | ⟨3, _⟩ => rfl)).trans ?_
  refine (shapeCast_apply _ _ _ (ix2 h (⟨128 + c - i, by omega⟩ : Fin 769)) (by
    rw [Shape.rowMajor_val_two, Shape.rowMajor_val_four]
    show h.val * 769 + (128 + c.val - i.val) = ((0 * 8 + h.val) * 1 + 0) * 769 + (128 + c.val - i.val)
    omega)).trans ?_
  refine (pad_apply_of_inside _ _ _ _ _ _ _ _ (ix2 h (⟨128 + c - i, by omega⟩ : Fin 768)) (fun a => by
    match a with
    | ⟨0, _⟩ => show h.val = 0 + h.val * 1; omega
    | ⟨1, _⟩ => show 128 + c.val - i.val = 0 + (128 + c.val - i.val) * 1; omega)).trans ?_
  exact at2_ix x _ _

/-- The band's rows laid out along its diagonals, the way the host does it. -/
theorem unskew_at (x : FVec Ideal S8x128x640 .f32) (z : FVec Ideal S_ .f32) (hz : ∀ y, z y = 0) (h : Fin 8) (a : Fin 128) (d : Fin 768) :
    extractStridedSlice S8x128x768 ![0, 0, 0] (shapeCast S8x128x769 (extractStridedSlice S8x98432 ![0, 0] (shapeCast S8x99072
      (pad S8x129x768 ![0, 0, 128] ![0, 1, 0] ![0, 0, 0] x z pads_S8x128x640_S8x129x768_000_010_12800 h_S_) shapeCasts_S8x129x768_S8x99072)
      slices_S8x99072_S8x98432_0_0) shapeCasts_S8x98432_S8x128x769) slices_S8x128x769_S8x128x768_0_0_0 (ix3 h a d)
      = if 128 ≤ a.val + d.val then at3 x h a (a + d - 128) else 0 := by
  have ha := a.isLt; have hd := d.isLt; have hh := h.isLt
  refine (extractStridedSlice_apply _ _ _ _ (ix3 h a (⟨d, by omega⟩ : Fin 769)) (fun a => by
    match a with
    | ⟨0, _⟩ => exact (Nat.zero_add _).symm
    | ⟨1, _⟩ => exact (Nat.zero_add _).symm
    | ⟨2, _⟩ => exact (Nat.zero_add _).symm)).trans ?_
  refine (shapeCast_apply _ _ _ (ix2 h (⟨a * 769 + d, by omega⟩ : Fin 98432)) (by
    rw [Shape.rowMajor_val_two, Shape.rowMajor_val_three]
    show h.val * 98432 + (a.val * 769 + d.val) = (h.val * 128 + a.val) * 769 + d.val
    omega)).trans ?_
  refine (extractStridedSlice_apply _ _ _ _ (ix2 h (⟨a * 769 + d, by omega⟩ : Fin 99072)) (fun a => by
    match a with
    | ⟨0, _⟩ => exact (Nat.zero_add _).symm
    | ⟨1, _⟩ => exact (Nat.zero_add _).symm)).trans ?_
  by_cases hin : a.val + d.val < 768
  · refine (shapeCast_apply _ _ _ (ix3 h (⟨a, by omega⟩ : Fin 129) (⟨a + d, hin⟩ : Fin 768)) (by
      rw [Shape.rowMajor_val_two, Shape.rowMajor_val_three]
      show (h.val * 129 + a.val) * 768 + (a.val + d.val) = h.val * 99072 + (a.val * 769 + d.val)
      omega)).trans ?_
    by_cases hlo : 128 ≤ a.val + d.val
    · rw [if_pos hlo]
      refine (pad_apply_of_inside _ _ _ _ _ _ _ _ (ix3 h a (⟨a + d - 128, by omega⟩ : Fin 640)) (fun b => by
        match b with
        | ⟨0, _⟩ => show h.val = 0 + h.val * 1; omega
        | ⟨1, _⟩ => show a.val = 0 + a.val * 1; omega
        | ⟨2, _⟩ => show a.val + d.val = 128 + (a.val + d.val - 128) * 1; omega)).trans ?_
      exact at3_ix x _ _ _
    · rw [if_neg hlo]
      refine (pad_apply_of_not_inside _ _ _ _ _ _ _ _ (2 : Fin 3) (fun hn => hlo ?_)).trans (hz _)
      exact hn.1
  · refine (shapeCast_apply _ _ _ (ix3 h (⟨a + 1, by omega⟩ : Fin 129) (⟨a + d - 768, by omega⟩ : Fin 768)) (by
      rw [Shape.rowMajor_val_two, Shape.rowMajor_val_three]
      show (h.val * 129 + (a.val + 1)) * 768 + (a.val + d.val - 768) = h.val * 99072 + (a.val * 769 + d.val)
      omega)).trans ?_
    refine (pad_apply_of_not_inside _ _ _ _ _ _ _ _ (2 : Fin 3) (fun hn => ?_)).trans ((hz _).trans ?_)
    · have : 128 ≤ a.val + d.val - 768 := hn.1
      omega
    · rw [if_pos (by omega)]
      unfold at3
      rw [dif_neg (by omega)]

/-- The table padded on the right. -/
theorem padT_at (x : FVec Ideal S8x192 .f32) (z : FVec Ideal S_ .f32) (h : Fin 8) (r : ℕ) (hr : r < 192) :
    at2 (a := 8) (b := 256) (pad S8x256 ![0, 0] ![0, 64] ![0, 0] x z pads_S8x192_S8x256_000_0640 h_S_) h r = at2 x h r := by
  rw [at2_mk _ _ _ h.isLt (by omega : r < 256)]
  refine (pad_apply_of_inside _ _ _ _ _ _ _ _ (ix2 h (⟨r, hr⟩ : Fin 192)) (fun b => by
    match b with
    | ⟨0, _⟩ => show h.val = 0 + h.val * 1; omega
    | ⟨1, _⟩ => show r = 0 + r * 1; omega)).trans ?_
  exact at2_ix x _ _

end Cert.KernelIdeal.Value
end
-- ==== Proof.Arr.lean ====
/-
  From blocks to arrays: an array that a region writes is, at an index, what the block holding that index was given.
-/
module
public import proofs.«01_k».proof.Proof.Blk
public import proofs.«01_k».proof.Proof.Block
public import proofs.«01_k».proof.Proof.Bias
public import Idealize.ShloMosaic.Lib.Pipeline.ValueKit.Basic
@[expose] public section
set_option maxRecDepth 8192
noncomputable section
namespace Cert.KernelIdeal.Value
open Cert.KernelIdeal Cert.KernelIdeal.Gen Cert.Attn Cert.Mm
open Idealize.ShloMosaic Idealize.ShloMosaic.ValueIdx Idealize.ShloMosaic.TcCoe Idealize.ShloMosaic.Tactic

/-! ## The blocks of the attention region, read at coordinates -/

section Blocks
variable (V : (c : Dev nD) → (b : Ref sig .tc) → Buf (Elt Ideal) ((c : Thread nD τ).loc b)) (c : Dev nD) (t : Fin cfg1.N)

private theorem idx0 : ∀ t : Fin cfg1.N, (cfg1.win 0).index t (0 : Fin 2) = 0 ∧ (cfg1.win 0).index t (1 : Fin 2) = 12 + t.val := by decide +kernel
private theorem idx1 : ∀ t : Fin cfg1.N, (cfg1.win 1).index t (0 : Fin 2) = 0 ∧ (cfg1.win 1).index t (1 : Fin 2) = 16 + t.val := by decide +kernel
private theorem idx2 : ∀ t : Fin cfg1.N, (cfg1.win 2).index t (0 : Fin 2) = 0 ∧ (cfg1.win 2).index t (1 : Fin 2) = 20 + t.val := by decide +kernel
private theorem idx3 : ∀ t : Fin cfg1.N, (cfg1.win 3).index t (0 : Fin 3) = t.val ∧ (cfg1.win 3).index t (1 : Fin 3) = 0 ∧ (cfg1.win 3).index t (2 : Fin 3) = 0 := by decide +kernel
private theorem idx4 : ∀ t : Fin cfg1.N, (cfg1.win 4).index t (0 : Fin 2) = 0 ∧ (cfg1.win 4).index t (1 : Fin 2) = t.val := by decide +kernel
private theorem idx5 : ∀ t : Fin cfg1.N, (cfg1.win 5).index t (0 : Fin 2) = 0 ∧ (cfg1.win 5).index t (1 : Fin 2) = t.val := by decide +kernel
private theorem idx6 : ∀ t : Fin cfg1.N, (cfg1.win 6).index t (0 : Fin 2) = 0 ∧ (cfg1.win 6).index t (1 : Fin 2) = t.val := by decide +kernel
private theorem idx7 : ∀ t : Fin cfg1.N, (cfg1.win 7).index t (0 : Fin 2) = 0 ∧ (cfg1.win 7).index t (1 : Fin 2) = t.val := by decide +kernel
private theorem idx8 : ∀ t : Fin cfg1.N, (cfg1.win 8).index t (0 : Fin 3) = t.val ∧ (cfg1.win 8).index t (1 : Fin 3) = 0 ∧ (cfg1.win 8).index t (2 : Fin 3) = 0 := by decide +kernel

theorem blk0_at (p : ℕ) (cc : ℕ) (hp : p < 2048) (hc : cc < 256) :
    at2 (a := 2048) (b := 256) (iblk1 V c 0 t) p cc = at2 (a := 2048) (b := 10240) (V c main_arg0) p (3072 + 256 * t.val + cc) :=
  (Moves2.read (a := 2048) (b := 256) (a' := 2048) (b' := 10240) (e := ((cfg1.win 0).rect t).emb) (.of (Pipeline.Window.rect_emb_val (cfg1.win 0) t) rfl rfl (idx0 t)) (V c main_arg0) _ (fun _ => rfl) p cc hp hc).trans (by congr 1 <;> omega)

theorem blk1_at (p : ℕ) (cc : ℕ) (hp : p < 2048) (hc : cc < 256) :
    at2 (a := 2048) (b := 256) (iblk1 V c 1 t) p cc = at2 (a := 2048) (b := 10240) (V c main_arg0) p (4096 + 256 * t.val + cc) :=
  (Moves2.read (a := 2048) (b := 256) (a' := 2048) (b' := 10240) (e := ((cfg1.win 1).rect t).emb) (.of (Pipeline.Window.rect_emb_val (cfg1.win 1) t) rfl rfl (idx1 t)) (V c main_arg0) _ (fun _ => rfl) p cc hp hc).trans (by congr 1 <;> omega)

theorem blk2_at (p : ℕ) (cc : ℕ) (hp : p < 2048) (hc : cc < 256) :
    at2 (a := 2048) (b := 256) (iblk1 V c 2 t) p cc = at2 (a := 2048) (b := 10240) (V c main_arg0) p (5120 + 256 * t.val + cc) :=
  (Moves2.read (a := 2048) (b := 256) (a' := 2048) (b' := 10240) (e := ((cfg1.win 2).rect t).emb) (.of (Pipeline.Window.rect_emb_val (cfg1.win 2) t) rfl rfl (idx2 t)) (V c main_arg0) _ (fun _ => rfl) p cc hp hc).trans (by congr 1 <;> omega)

theorem blk4_at (p : ℕ) (cc : ℕ) (hp : p < 2048) (hc : cc < 256) :
    at2 (a := 2048) (b := 256) (iblk1 V c 4 t) p cc = at2 (a := 2048) (b := 1024) (V c main_arg2) p (256 * t.val + cc) :=
  (Moves2.read (a := 2048) (b := 256) (a' := 2048) (b' := 1024) (e := ((cfg1.win 4).rect t).emb) (.of (Pipeline.Window.rect_emb_val (cfg1.win 4) t) rfl rfl (idx4 t)) (V c main_arg2) _ (fun _ => rfl) p cc hp hc).trans (by congr 1 <;> omega)

theorem blk3_at (h y x : ℕ) (hh : h < 2) (hy : y < 128) (hx : x < 640) :
    at3 (a := 2) (b := 128) (c := 640) (iblk1 V c 3 t) h y x = at3 (a := 8) (b := 128) (c := 640) (V c main_v8) (2 * t.val + h) y x :=
  (Moves3.read (a := 2) (b := 128) (d := 640) (a' := 8) (b' := 128) (d' := 640) (e := ((cfg1.win 3).rect t).emb) (.of (Pipeline.Window.rect_emb_val (cfg1.win 3) t) rfl rfl rfl (idx3 t)) (V c main_v8) _ (fun _ => rfl) h y x hh hy hx).trans (by congr 1 <;> omega)

/-! ## The arrays the region leaves -/

theorem arr5_at (G : ℕ → ℕ → EReal)
    (hG : ∀ (t : Fin cfg1.N) (p : Fin 2048) (cc : Fin 256), (outsAt1 V c t).1 (ix2 p cc) = G p (256 * t.val + cc)) (p : Fin 2048) (q : Fin 1024) :
    (dat1 V c).arrAt 5 cfg1.N (ix2 p q : S2048x1024.Idx) = G p q := by
  have mv (t : Fin cfg1.N) : Moves2 (a := 2048) (b := 256) (a' := 2048) (b' := 1024) ((cfg1.win 5).rect t).emb (0) (t.val) := .of (Pipeline.Window.rect_emb_val (cfg1.win 5) t) rfl rfl (idx5 t)
  refine Pipeline.Dat.arrAt_forall_of_cover (dat1 V c) 5 (fun i v => v = G ((i : S2048x1024.Idx) 0).val ((i : S2048x1024.Idx) 1).val) (fun t hf y => (congrFun (after1_5 V c t) y).trans ((mv t).write _ G (fun p cc => (hG t p cc).trans (congrArg₂ G (by omega) (by omega))) y)) (fun i => ?_) (ix2 p q : S2048x1024.Idx)
  obtain ⟨t, ht, y, e⟩ := Moves2.cover (P := fun t => (cfg1.win 5).flush t = true) (n := 1) (m := 4) mv (by decide +kernel) rfl rfl i
  exact ⟨t, ht, e ▸ View.emb_mem_set _ y⟩

theorem arr6_at (G : ℕ → ℕ → EReal)
    (hG : ∀ (t : Fin cfg1.N) (p : Fin 2048) (cc : Fin 256), (outsAt1 V c t).2.1 (ix2 p cc) = G p (256 * t.val + cc)) (p : Fin 2048) (q : Fin 1024) :
    (dat1 V c).arrAt 6 cfg1.N (ix2 p q : S2048x1024.Idx) = G p q := by
  have mv (t : Fin cfg1.N) : Moves2 (a := 2048) (b := 256) (a' := 2048) (b' := 1024) ((cfg1.win 6).rect t).emb (0) (t.val) := .of (Pipeline.Window.rect_emb_val (cfg1.win 6) t) rfl rfl (idx6 t)
  refine Pipeline.Dat.arrAt_forall_of_cover (dat1 V c) 6 (fun i v => v = G ((i : S2048x1024.Idx) 0).val ((i : S2048x1024.Idx) 1).val) (fun t hf y => (congrFun (after1_6 V c t) y).trans ((mv t).write _ G (fun p cc => (hG t p cc).trans (congrArg₂ G (by omega) (by omega))) y)) (fun i => ?_) (ix2 p q : S2048x1024.Idx)
  obtain ⟨t, ht, y, e⟩ := Moves2.cover (P := fun t => (cfg1.win 6).flush t = true) (n := 1) (m := 4) mv (by decide +kernel) rfl rfl i
  exact ⟨t, ht, e ▸ View.emb_mem_set _ y⟩

theorem arr7_at (G : ℕ → ℕ → EReal)
    (hG : ∀ (t : Fin cfg1.N) (p : Fin 2048) (cc : Fin 256), (outsAt1 V c t).2.2.1 (ix2 p cc) = G p (256 * t.val + cc)) (p : Fin 2048) (q : Fin 1024) :
    (dat1 V c).arrAt 7 cfg1.N (ix2 p q : S2048x1024.Idx) = G p q := by
  have mv (t : Fin cfg1.N) : Moves2 (a := 2048) (b := 256) (a' := 2048) (b' := 1024) ((cfg1.win 7).rect t).emb (0) (t.val) := .of (Pipeline.Window.rect_emb_val (cfg1.win 7) t) rfl rfl (idx7 t)
  refine Pipeline.Dat.arrAt_forall_of_cover (dat1 V c) 7 (fun i v => v = G ((i : S2048x1024.Idx) 0).val ((i : S2048x1024.Idx) 1).val) (fun t hf y => (congrFun (after1_7 V c t) y).trans ((mv t).write _ G (fun p cc => (hG t p cc).trans (congrArg₂ G (by omega) (by omega))) y)) (fun i => ?_) (ix2 p q : S2048x1024.Idx)
  obtain ⟨t, ht, y, e⟩ := Moves2.cover (P := fun t => (cfg1.win 7).flush t = true) (n := 1) (m := 4) mv (by decide +kernel) rfl rfl i
  exact ⟨t, ht, e ▸ View.emb_mem_set _ y⟩

theorem arr8_at (G : ℕ → ℕ → ℕ → EReal)
    (hG : ∀ (t : Fin cfg1.N) (h : Fin 2) (y : Fin 128) (x : Fin 640), (outsAt1 V c t).2.2.2 (ix3 h y x) = G (2 * t.val + h) y x)
    (h : Fin 8) (y : Fin 128) (x : Fin 640) :
    (dat1 V c).arrAt 8 cfg1.N (ix3 h y x : S8x128x640.Idx) = G h y x := by
  have mv (t : Fin cfg1.N) : Moves3 (a := 2) (b := 128) (d := 640) (a' := 8) (b' := 128) (d' := 640) ((cfg1.win 8).rect t).emb (t.val) (0) (0) := .of (Pipeline.Window.rect_emb_val (cfg1.win 8) t) rfl rfl rfl (idx8 t)
  refine Pipeline.Dat.arrAt_forall_of_cover (dat1 V c) 8 (fun i v => v = G ((i : S8x128x640.Idx) 0).val ((i : S8x128x640.Idx) 1).val ((i : S8x128x640.Idx) 2).val) (fun t hf y => (congrFun (after1_8 V c t) y).trans ((mv t).write _ G (fun h y x => (hG t h y x).trans (by congr 1 <;> omega)) y)) (fun i => ?_) (ix3 h y x : S8x128x640.Idx)
  obtain ⟨t, ht, y, e⟩ := Moves3.cover (P := fun t => (cfg1.win 8).flush t = true) (n := 4) (m := 1) (l := 1) mv (by decide +kernel) rfl rfl rfl i
  exact ⟨t, ht, e ▸ View.emb_mem_set _ y⟩

/-! ## The two table regions -/

private theorem idx2_0 : ∀ t : Fin cfg2.N, (cfg2.win 0).index t (0 : Fin 3) = t.val ∧ (cfg2.win 0).index t (1 : Fin 3) = 0 ∧ (cfg2.win 0).index t (2 : Fin 3) = 0 := by decide +kernel
private theorem idx2_1 : ∀ t : Fin cfg2.N, (cfg2.win 1).index t (0 : Fin 3) = t.val ∧ (cfg2.win 1).index t (1 : Fin 3) = 0 ∧ (cfg2.win 1).index t (2 : Fin 3) = 0 := by decide +kernel
private theorem fl2_1 : ∀ t : Fin cfg2.N, (cfg2.win 1).flush t = true := by decide +kernel
private theorem fl0_1 : ∀ t : Fin cfg0.N, (cfg0.win 1).flush t = true := by decide +kernel
private theorem idx0_0 : ∀ t : Fin cfg0.N, (cfg0.win 0).index t (0 : Fin 2) = 0 ∧ (cfg0.win 0).index t (1 : Fin 2) = 0 := by decide +kernel
private theorem idx0_1 : ∀ t : Fin cfg0.N, (cfg0.win 1).index t (0 : Fin 2) = 0 ∧ (cfg0.win 1).index t (1 : Fin 2) = 0 := by decide +kernel

theorem blk00_eq (t : Fin cfg0.N) : (iblk0 V c 0 t : S8x256.Idx → EReal) = V c main_v0 := by
  funext y
  show (V c main_v0) (((cfg0.win 0).rect t).emb y) = _
  refine congrArg (V c main_v0) (funext fun a => Fin.ext ?_)
  match a with
  | ⟨0, _⟩ =>
    have e0 := Pipeline.Window.rect_emb_val (cfg0.win 0) t y (0 : Fin 2)
    rw [(idx0_0 t).1] at e0
    exact e0.trans (show 0 * 8 + (y (0 : Fin 2)).val = (y (0 : Fin 2)).val by omega)
  | ⟨1, _⟩ =>
    have e0 := Pipeline.Window.rect_emb_val (cfg0.win 0) t y (1 : Fin 2)
    rw [(idx0_0 t).2] at e0
    exact e0.trans (show 0 * 256 + (y (1 : Fin 2)).val = (y (1 : Fin 2)).val by omega)

theorem arr01_at (h : Fin 8) (d : Fin 768) :
    (dat0 V c).arrAt 1 cfg0.N (ix2 h d : S8x768.Idx) = at2 (a := 8) (b := 256) (V c main_v0) h (relc d) := by
  refine Pipeline.Dat.arrAt_forall_of_cover (dat0 V c) 1 (fun i v => v = k0_pay1 (F := Ideal) (V c main_v0) (i : S8x768.Idx)) ?_ ?_ (ix2 h d : S8x768.Idx) |>.trans (k0_at _ h d)
  · intro t _ y
    show (dat0 V c).after 1 t y = k0_pay1 (F := Ideal) (V c main_v0) (((cfg0.win 1).rect t).emb y)
    have he : ((cfg0.win 1).rect t).emb y = (y : S8x768.Idx) := funext fun a => Fin.ext (by
      match a with
      | ⟨0, _⟩ =>
        have e0 := Pipeline.Window.rect_emb_val (cfg0.win 1) t y (0 : Fin 2)
        rw [(idx0_1 t).1] at e0
        exact e0.trans (show 0 * 8 + (y (0 : Fin 2)).val = (y (0 : Fin 2)).val by omega)
      | ⟨1, _⟩ =>
        have e0 := Pipeline.Window.rect_emb_val (cfg0.win 1) t y (1 : Fin 2)
        rw [(idx0_1 t).2] at e0
        exact e0.trans (show 0 * 768 + (y (1 : Fin 2)).val = (y (1 : Fin 2)).val by omega))
    rw [he, after0_1]
    unfold out0_1
    rw [View.canon_cons_unit_lit _ _ _ (by decide), View.ld_unit_lit _ _ (by decide)]
    rw [blk00_eq]
  · intro i
    let t : Fin cfg0.N := (⟨0, by decide⟩ : Fin 1)
    let y : S8x768.Idx := i
    refine ⟨t, fl0_1 t, ?_⟩
    have e : ((cfg0.win 1).blk t).view.emb y = i := by
      show ((cfg0.win 1).rect t).emb y = (i : S8x768.Idx)
      refine funext fun a => Fin.ext ?_
      match a with
      | ⟨0, _⟩ =>
        have e0 := Pipeline.Window.rect_emb_val (cfg0.win 1) t y (0 : Fin 2)
        rw [(idx0_1 t).1] at e0
        exact e0.trans (show 0 * 8 + (y 0).val = (y 0).val by omega)
      | ⟨1, _⟩ =>
        have e0 := Pipeline.Window.rect_emb_val (cfg0.win 1) t y (1 : Fin 2)
        rw [(idx0_1 t).2] at e0
        exact e0.trans (show 0 * 768 + (y 1).val = (y 1).val by omega)
    exact e ▸ View.emb_mem_set _ y

theorem arr21_at (h : Fin 8) (r : Fin 256) :
    (dat2 V c).arrAt 1 cfg2.N (ix3 h 0 r : S8x1x256.Idx)
      = ∑ d ∈ Finset.range 768, if relc d = r then ∑ a ∈ Finset.range 128, at3 (a := 8) (b := 128) (c := 768) (V c main_v14) h a d else 0 := by
  refine Pipeline.Dat.arrAt_forall_of_cover (dat2 V c) 1 (fun i v => v = ∑ d ∈ Finset.range 768, if relc d = ((i : S8x1x256.Idx) 2).val then ∑ a ∈ Finset.range 128, at3 (a := 8) (b := 128) (c := 768) (V c main_v14) ((i : S8x1x256.Idx) 0).val a d else 0) ?_ ?_ (ix3 h 0 r : S8x1x256.Idx)
  · intro t _ y
    show (dat2 V c).after 1 t y = ∑ d ∈ Finset.range 768, if relc d = ((((cfg2.win 1).rect t).emb y) (2 : Fin 3)).val then ∑ a ∈ Finset.range 128, at3 (a := 8) (b := 128) (c := 768) (V c main_v14) ((((cfg2.win 1).rect t).emb y) (0 : Fin 3)).val a d else 0
    have e0 := Pipeline.Window.rect_emb_val (cfg2.win 1) t y (0 : Fin 3)
    have e2 := Pipeline.Window.rect_emb_val (cfg2.win 1) t y (2 : Fin 3)
    rw [(idx2_1 t).1] at e0; rw [(idx2_1 t).2.2] at e2
    have h0 : (y (0 : Fin 3)).val < 1 := (y (0 : Fin 3)).isLt
    have h1 : (y (1 : Fin 3)).val < 1 := (y (1 : Fin 3)).isLt
    have h2 : (y (2 : Fin 3)).val < 256 := (y (2 : Fin 3)).isLt
    have f0 := e0.trans (show t.val * 1 + (y (0 : Fin 3)).val = t.val by omega)
    have f2 := e2.trans (show 0 * 256 + (y (2 : Fin 3)).val = (y (2 : Fin 3)).val by omega)
    rw [f0, f2, after2_1]
    unfold out2_1
    rw [View.canon_cons_unit_lit _ _ _ (by decide), View.ld_unit_lit _ _ (by decide)]
    have hy : y = (ix3 (0 : Fin 1) (0 : Fin 1) ⟨(y (2 : Fin 3)).val, h2⟩ : S1x1x256.Idx) := funext fun a => Fin.ext (by
      match a with
      | ⟨0, _⟩ => show (y (0 : Fin 3)).val = 0; omega
      | ⟨1, _⟩ => show (y (1 : Fin 3)).val = 0; omega
      | ⟨2, _⟩ => rfl)
    refine (congrArg (k2_pay1 (F := Ideal) (iblk2 V c 0 t)) hy).trans ((k2_at _ _).trans ?_)
    refine Finset.sum_congr rfl fun d hd => ?_
    have hd := Finset.mem_range.1 hd
    show (if relc d = (y (2 : Fin 3)).val then _ else _) = _
    refine if_congr Iff.rfl (Finset.sum_congr rfl fun a ha => ?_) rfl
    have ha := Finset.mem_range.1 ha
    rw [at3_mk _ _ _ _ (by omega : 0 < 1) ha hd]
    show (V c main_v14) (((cfg2.win 0).rect t).emb (ix3 ⟨0, by omega⟩ ⟨a, ha⟩ ⟨d, hd⟩)) = _
    refine (at3_eq (a := 8) (b := 128) (c := 768) (V c main_v14) _).trans ?_
    have g0 := Pipeline.Window.rect_emb_val (cfg2.win 0) t (ix3 ⟨0, by omega⟩ ⟨a, ha⟩ ⟨d, hd⟩) (0 : Fin 3)
    have g1 := Pipeline.Window.rect_emb_val (cfg2.win 0) t (ix3 ⟨0, by omega⟩ ⟨a, ha⟩ ⟨d, hd⟩) (1 : Fin 3)
    have g2 := Pipeline.Window.rect_emb_val (cfg2.win 0) t (ix3 ⟨0, by omega⟩ ⟨a, ha⟩ ⟨d, hd⟩) (2 : Fin 3)
    rw [(idx2_0 t).1] at g0; rw [(idx2_0 t).2.1] at g1; rw [(idx2_0 t).2.2] at g2
    have k0 := g0.trans (show t.val * 1 + 0 = t.val by omega)
    have k1 := g1.trans (show 0 * 128 + a = a by omega)
    have k2 := g2.trans (show 0 * 768 + d = d by omega)
    rw [k0, k1, k2]
  · intro i
    have h0 : ((i : S8x1x256.Idx) 0).val < 8 := ((i : S8x1x256.Idx) 0).isLt
    have h1 : ((i : S8x1x256.Idx) 1).val < 1 := ((i : S8x1x256.Idx) 1).isLt
    let t : Fin cfg2.N := (⟨((i : S8x1x256.Idx) 0).val, h0⟩ : Fin 8)
    let y : S1x1x256.Idx := ix3 (0 : Fin 1) (0 : Fin 1) ((i : S8x1x256.Idx) 2)
    refine ⟨t, fl2_1 t, ?_⟩
    have e : ((cfg2.win 1).blk t).view.emb y = i := by
      show ((cfg2.win 1).rect t).emb y = (i : S8x1x256.Idx)
      refine funext fun a => Fin.ext ?_
      match a with
      | ⟨0, _⟩ =>
        have e0 := Pipeline.Window.rect_emb_val (cfg2.win 1) t y (0 : Fin 3)
        rw [(idx2_1 t).1] at e0
        exact e0.trans (show ((i : S8x1x256.Idx) 0).val * 1 + 0 = ((i : S8x1x256.Idx) 0).val by omega)
      | ⟨1, _⟩ =>
        have e1 := Pipeline.Window.rect_emb_val (cfg2.win 1) t y (1 : Fin 3)
        rw [(idx2_1 t).2.1] at e1
        exact e1.trans (show 0 * 1 + 0 = ((i : S8x1x256.Idx) 1).val by omega)
      | ⟨2, _⟩ =>
        have e2 := Pipeline.Window.rect_emb_val (cfg2.win 1) t y (2 : Fin 3)
        rw [(idx2_1 t).2.2] at e2
        exact e2.trans (show 0 * 256 + ((i : S8x1x256.Idx) 2).val = ((i : S8x1x256.Idx) 2).val by omega)
    exact e ▸ View.emb_mem_set _ y

end Blocks
end Cert.KernelIdeal.Value
end
-- ==== Proof.Chain.lean ====
/-
  The program's results in terms of its regions' arrays, and its regions' inputs in terms of its arguments.
-/
module
public import proofs.«01_k».proof.Proof.Arr
@[expose] public section
set_option maxRecDepth 8192
noncomputable section
namespace Cert.KernelIdeal.Value
open Cert.KernelIdeal Cert.KernelIdeal.Gen Cert.Attn
open Idealize.ShloMosaic Idealize.ShloMosaic.ValueIdx Idealize.ShloMosaic.TcCoe Idealize.ShloMosaic.Tactic

/-! ## What each host stretch leaves -/

section Stages
variable (m : (l : Loc nD τ sig) → Buf (Elt Ideal) l) (ρ : Dev nD → PrngReg) (c : Dev nD)

/-- The zero the host pads with. -/
abbrev zpad : FVec Ideal S_ .f32 := sitofp .f32 (constantI S_ 32 0#32)
theorem zpad_at (y) : zpad y = 0 := by
  show ((((0#32 : BitVec 32).toInt : ℤ) : ℝ) : EReal) = 0
  simp

theorem W2_v0 : W2 m ρ c (Proc.devRef .tc main_v0) = pad S8x256 ![0, 0] ![0, 64] ![0, 0] (m ((c : Thread nD τ).loc main_arg1)) zpad pads_S8x192_S8x256_000_0640 h_S_ := by
  after_results_simp; rfl

theorem W6_v8 : W6 m ρ c (Proc.devRef .tc main_v8) =
    extractStridedSlice S8x128x640 ![0, 0, 128] (shapeCast S8x128x768 (extractStridedSlice S8x98304 ![0, 0] (shapeCast S8x98432
      (broadcastInDim S1x8x128x769 ![0, 1, 2, 3] bcast_S1x8x1x769_S1x8x128x769_0_1_2_3 (shapeCast S1x8x1x769
        (pad S8x769 ![0, 0] ![0, 1] ![0, 0] (W3 m ρ c (Proc.devRef .tc main_v1)) zpad pads_S8x768_S8x769_000_010 h_S_) shapeCasts_S8x769_S1x8x1x769)) shapeCasts_S1x8x128x769_S8x98432)
      slices_S8x98432_S8x98304_0_0) shapeCasts_S8x98304_S8x128x768) slices_S8x128x768_S8x128x640_0_0_128 := by
  after_results_simp; rfl

theorem W10_v14 : W10 m ρ c (Proc.devRef .tc main_v14) =
    extractStridedSlice S8x128x768 ![0, 0, 0] (shapeCast S8x128x769 (extractStridedSlice S8x98432 ![0, 0] (shapeCast S8x99072
      (pad S8x129x768 ![0, 0, 128] ![0, 1, 0] ![0, 0, 0] (W7 m ρ c (Proc.devRef .tc main_v9_3)) zpad pads_S8x128x640_S8x129x768_000_010_12800 h_S_) shapeCasts_S8x129x768_S8x99072)
      slices_S8x99072_S8x98432_0_0) shapeCasts_S8x98432_S8x128x769) slices_S8x128x769_S8x128x768_0_0_0 := by
  after_results_simp; rfl

theorem W12_v17 : W12 m ρ c (Proc.devRef .tc main_v17) =
    extractStridedSlice S8x192 ![0, 0] (shapeCast S8x256 (W11 m ρ c (Proc.devRef .tc main_v15)) shapeCasts_S8x1x256_S8x256) slices_S8x256_S8x192_0_0 := by
  after_results_simp; rfl

/-- The results of the attention region are not written again. -/
theorem W12_v9 (r : Ref sig .tc) (h : r = main_v9_0 ∨ r = main_v9_1 ∨ r = main_v9_2) : W12 m ρ c (Proc.devRef .tc r) = W7 m ρ c (Proc.devRef .tc r) := by
  rcases h with rfl | rfl | rfl
  · exact (W12_of m ρ c _ (by decide)).trans ((W11_of m ρ c _ (by decide +kernel)).trans ((W10_of m ρ c _ (by decide)).trans ((W9_of m ρ c _ (by decide)).trans (W8_of m ρ c _ (by decide)))))
  · exact (W12_of m ρ c _ (by decide)).trans ((W11_of m ρ c _ (by decide +kernel)).trans ((W10_of m ρ c _ (by decide)).trans ((W9_of m ρ c _ (by decide)).trans (W8_of m ρ c _ (by decide)))))
  · exact (W12_of m ρ c _ (by decide)).trans ((W11_of m ρ c _ (by decide +kernel)).trans ((W10_of m ρ c _ (by decide)).trans ((W9_of m ρ c _ (by decide)).trans (W8_of m ρ c _ (by decide)))))

/-! ## The arguments, read at natural indices -/

abbrev aQ (t d : ℕ) : EReal := at2 (a := 2048) (b := 10240) (m ((c : Thread nD τ).loc main_arg0)) t (3072 + d)
abbrev aK (t d : ℕ) : EReal := at2 (a := 2048) (b := 10240) (m ((c : Thread nD τ).loc main_arg0)) t (4096 + d)
abbrev aV (t d : ℕ) : EReal := at2 (a := 2048) (b := 10240) (m ((c : Thread nD τ).loc main_arg0)) t (5120 + d)
abbrev aT (h r : ℕ) : EReal := at2 (a := 8) (b := 192) (m ((c : Thread nD τ).loc main_arg1)) h r
abbrev aDY (t d : ℕ) : EReal := at2 (a := 2048) (b := 1024) (m ((c : Thread nD τ).loc main_arg2)) t d

theorem V6_arg0 : V6 m ρ c main_arg0 = m ((c : Thread nD τ).loc main_arg0) := W6_args m ρ c main_arg0 (by decide)
theorem V6_arg2 : V6 m ρ c main_arg2 = m ((c : Thread nD τ).loc main_arg2) := W6_args m ρ c main_arg2 (by decide)

/-- The bias tile: the table along the diagonals. -/
theorem V6_v8 (h y x : ℕ) (hh : h < 8) (hy : y < 128) (hx : x < 640) :
    at3 (a := 8) (b := 128) (c := 640) (V6 m ρ c main_v8) h y x = aT m c h (relc (128 + x - y)) := by
  rw [at3_mk _ _ _ _ hh hy hx]
  show (W6 m ρ c (Proc.devRef .tc main_v8)) (ix3 ⟨h, hh⟩ ⟨y, hy⟩ ⟨x, hx⟩ : S8x128x640.Idx) = _
  rw [W6_v8]
  refine (skew_at _ _ ⟨h, hh⟩ ⟨y, hy⟩ ⟨x, hx⟩).trans ?_
  show at2 (a := 8) (b := 768) (W3 m ρ c (Proc.devRef .tc main_v1)) h (128 + x - y) = _
  rw [at2_mk _ _ _ hh (by omega : 128 + x - y < 768)]
  refine (congrFun (W3_arr m ρ c 1) (ix2 ⟨h, hh⟩ ⟨128 + x - y, by omega⟩ : S8x768.Idx)).trans ?_
  refine (arr01_at (V2 m ρ) c ⟨h, hh⟩ ⟨128 + x - y, by omega⟩).trans ?_
  show at2 (a := 8) (b := 256) (W2 m ρ c (Proc.devRef .tc main_v0)) h (relc (128 + x - y)) = _
  rw [W2_v0]
  exact padT_at _ _ ⟨h, hh⟩ _ (relc_lt _)

/-- The gradient of the table, from the band the attention region leaves. -/
theorem W12_v17_at (h : Fin 8) (r : Fin 192) : W12 m ρ c (Proc.devRef .tc main_v17) (ix2 h r : S8x192.Idx)
    = ∑ d ∈ Finset.range 768, if relc d = r then ∑ a ∈ Finset.range 128,
        (if 128 ≤ a + d then at3 (a := 8) (b := 128) (c := 640) (W7 m ρ c (Proc.devRef .tc main_v9_3)) h a (a + d - 128) else 0) else 0 := by
  rw [W12_v17]
  have hr := r.isLt
  refine (extractStridedSlice_apply _ _ _ _ (ix2 h (⟨r, by omega⟩ : Fin 256)) (fun a => by
    match a with
    | ⟨0, _⟩ => exact (Nat.zero_add _).symm
    | ⟨1, _⟩ => exact (Nat.zero_add _).symm)).trans ?_
  refine (shapeCast_apply _ _ _ (ix3 h (0 : Fin 1) (⟨r, by omega⟩ : Fin 256)) (by
    rw [Shape.rowMajor_val_two, Shape.rowMajor_val_three]
    show (h.val * 1 + 0) * 256 + r.val = h.val * 256 + r.val
    omega)).trans ?_
  refine (congrFun (W11_arr m ρ c 1) (ix3 h (0 : Fin 1) (⟨r, by omega⟩ : Fin 256) : S8x1x256.Idx)).trans ?_
  refine (arr21_at (V10 m ρ) c h ⟨r, by omega⟩).trans ?_
  show (∑ d ∈ Finset.range 768, if relc d = r then ∑ a ∈ Finset.range 128, at3 (a := 8) (b := 128) (c := 768) (V10 m ρ c main_v14) h a d else 0 : EReal) = _
  refine Finset.sum_congr (M := EReal) rfl fun d hd => if_congr Iff.rfl (Finset.sum_congr (M := EReal) rfl fun a ha => ?_) rfl
  have hd := Finset.mem_range.1 hd
  have ha := Finset.mem_range.1 ha
  rw [at3_mk _ _ _ _ h.isLt ha hd]
  show (W10 m ρ c (Proc.devRef .tc main_v14)) (ix3 h ⟨a, ha⟩ ⟨d, hd⟩ : S8x128x768.Idx) = _
  rw [W10_v14]
  exact unskew_at _ _ zpad_at h ⟨a, ha⟩ ⟨d, hd⟩

end Stages
end Cert.KernelIdeal.Value
end
-- ==== Proof.Window.lean ====
/-
  Attention over chunks of the past at natural indices: which keys a query sees, a row restricted to the band of keys
  that can be seen, and the four gradients over the whole sequence.
-/
module
public import proofs.«01_k».proof.Proof.Spec
@[expose] public section
noncomputable section
namespace Cert.Attn
open Idealize.ShloMosaic Idealize.ShloMosaic.ValueIdx

/-! ## Attention over chunks of the past, at natural indices -/

/-- Query `t` looks at key `s`: its own chunk of 64 or one of the eight before it. -/
abbrev allow (t s : ℕ) : Prop := s / 64 ≤ t / 64 ∧ t / 64 ≤ s / 64 + 8
/-- The column of the table that a pair reads: the distance `s - t` clipped to `[-128, 63]`, counted from zero. -/
def rel (t s : ℕ) : ℕ := min 191 (s + 128 - t)
/-- The scores of head `h`, bottom where the query does not look. -/
def zR (sc : EReal) (Q K T : ℕ → ℕ → EReal) (h t s : ℕ) : EReal :=
  if allow t s then (∑ d ∈ Finset.range 128, Q t (128 * h + d) * K s (128 * h + d)) * sc + T h (rel t s) else ⊥
/-- The gradient of the probabilities of head `h`. -/
def gR (DY V : ℕ → ℕ → EReal) (h t s : ℕ) : EReal := ∑ d ∈ Finset.range 128, DY t (128 * h + d) * V s (128 * h + d)

/-! ## A row restricted to a band of keys -/

section Band
variable {off wd : ℕ} (hw : off + wd ≤ 2560)
include hw

/-- A sum over the keys of a band is the sum over all the keys, of what vanishes off the band. -/
theorem sum_band (f : ℕ → EReal) (hf : ∀ s, s < 2048 → ¬(off ≤ s + 512 ∧ s + 512 < off + wd) → f s = 0) :
    ∑ j ∈ Finset.range wd, (if 512 ≤ off + j then f (off + j - 512) else 0) = ∑ s ∈ Finset.range 2048, f s := by
  rw [← Finset.sum_filter]
  rw [← Finset.sum_filter_of_ne (s := Finset.range 2048) (f := f) (p := fun s => off ≤ s + 512 ∧ s + 512 < off + wd)
    (fun s hs hne => by_contra fun hn => hne (hf s (Finset.mem_range.1 hs) hn))]
  refine Finset.sum_nbij' (fun j => off + j - 512) (fun s => s + 512 - off) ?_ ?_ ?_ ?_ ?_ <;>
    simp only [Finset.mem_filter, Finset.mem_range] <;> intro a ha
  · omega
  · omega
  · omega
  · omega
  · trivial

variable {w g : ℕ → EReal} {W G : ℕ → EReal}
  (hW : ∀ j, j < wd → W j = if 512 ≤ off + j then w (off + j - 512) else ⊥)
  (hb : ∀ s, s < 2048 → ¬(off ≤ s + 512 ∧ s + 512 < off + wd) → w s = ⊥)
include hW hb

theorem max_band : rowMax wd W = rowMax 2048 w := by
  unfold rowMax
  refine le_antisymm (Finset.sup_le fun j hj => ?_) (Finset.sup_le fun s hs => ?_)
  · have hj := Finset.mem_range.1 hj
    rw [hW j hj]
    by_cases h : 512 ≤ off + j
    · rw [if_pos h]; exact Finset.le_sup (f := w) (Finset.mem_range.2 (by omega))
    · rw [if_neg h]; exact bot_le
  · have hs := Finset.mem_range.1 hs
    by_cases h : off ≤ s + 512 ∧ s + 512 < off + wd
    · have hj : s + 512 - off < wd := by omega
      have := Finset.le_sup (f := W) (Finset.mem_range.2 hj)
      rw [hW _ hj, if_pos (by omega), show off + (s + 512 - off) - 512 = s by omega] at this
      exact this
    · rw [hb s hs h]; exact bot_le

theorem exp_band (j : ℕ) (hj : j < wd) : rowExp wd W j = if 512 ≤ off + j then rowExp 2048 w (off + j - 512) else 0 := by
  unfold rowExp
  rw [max_band hw hW hb, hW j hj]
  by_cases h : 512 ≤ off + j
  · rw [if_pos h, if_pos h]
  · rw [if_neg h, if_neg h]; exact exp_bot_sub _

theorem rsum_band : rowSum wd W = rowSum 2048 w := by
  unfold rowSum
  rw [← sum_band hw (rowExp 2048 w) (fun s hs hn => by unfold rowExp; rw [hb s hs hn]; exact exp_bot_sub _)]
  exact Finset.sum_congr rfl fun j hj => exp_band hw hW hb j (Finset.mem_range.1 hj)

omit hw hW hb in
theorem sm_off {n : ℕ} {w : ℕ → EReal} (hL : rowSum n w ≠ 0) (s : ℕ) (h : w s = ⊥) : sm n w s = 0 := by
  unfold sm rowExp
  rw [h, exp_bot_sub]
  unfold Ideal.div
  rw [if_neg hL, zero_mul]

omit hw hW hb in
theorem dsm_off {n : ℕ} {w : ℕ → EReal} (g : ℕ → EReal) (hL : rowSum n w ≠ 0) (s : ℕ) (h : w s = ⊥) : dsm n w g s = 0 := by
  unfold dsm; rw [sm_off hL s h, zero_mul]

variable (hL : rowSum 2048 w ≠ 0)
include hL

theorem sm_band (j : ℕ) (hj : j < wd) : sm wd W j = if 512 ≤ off + j then sm 2048 w (off + j - 512) else 0 := by
  unfold sm
  rw [exp_band hw hW hb j hj, rsum_band hw hW hb]
  by_cases h : 512 ≤ off + j
  · rw [if_pos h, if_pos h]
  · rw [if_neg h, if_neg h]; unfold Ideal.div; rw [if_neg hL, zero_mul]

theorem dsm_band (hG : ∀ j, j < wd → 512 ≤ off + j → G j = g (off + j - 512)) (j : ℕ) (hj : j < wd) :
    dsm wd W G j = if 512 ≤ off + j then dsm 2048 w g (off + j - 512) else 0 := by
  unfold dsm
  rw [sm_band hw hW hb hL j hj]
  by_cases h : 512 ≤ off + j
  · rw [if_pos h, if_pos h, hG j hj h]
    congr 2
    rw [← sum_band hw (fun s => g s * sm 2048 w s) (fun s hs hn => by rw [sm_off hL s (hb s hs hn), mul_zero])]
    refine Finset.sum_congr rfl fun i hi => ?_
    have hi := Finset.mem_range.1 hi
    rw [sm_band hw hW hb hL i hi]
    by_cases h' : 512 ≤ off + i
    · rw [if_pos h', if_pos h', hG i hi h']
    · rw [if_neg h', if_neg h', mul_zero]
  · rw [if_neg h, if_neg h, zero_mul]

end Band

/-! ## Sums over all the queries, tile by tile -/

/-- Splitting a range into equal tiles. -/
theorem sum_tiles (a b : ℕ) (f : ℕ → EReal) : ∑ t ∈ Finset.range (a * b), f t = ∑ k ∈ Finset.range a, ∑ i ∈ Finset.range b, f (b * k + i) := by
  induction a with
  | zero => simp
  | succ a ih => rw [Finset.sum_range_succ, ← ih, Nat.succ_mul, Finset.sum_range_add]; simp only [Nat.mul_comm]

/-- A sum along the diagonals of a band is the sum over the band, of what vanishes past its width. -/
theorem sum_diag (B : ℕ → ℕ → EReal) (P : ℕ → Prop) [DecidablePred P] (hB : ∀ a x, 640 ≤ x → B a x = 0) :
    ∑ d ∈ Finset.range 768, (if P d then ∑ a ∈ Finset.range 128, (if 128 ≤ a + d then B a (a + d - 128) else 0) else 0)
      = ∑ a ∈ Finset.range 128, ∑ x ∈ Finset.range 640, if P (128 + x - a) then B a x else 0 := by
  have h1 : ∀ d, (if P d then ∑ a ∈ Finset.range 128, (if 128 ≤ a + d then B a (a + d - 128) else 0) else 0)
      = ∑ a ∈ Finset.range 128, if P d ∧ 128 ≤ a + d then B a (a + d - 128) else 0 := fun d => by
    by_cases h : P d
    · rw [if_pos h]; exact Finset.sum_congr rfl fun a _ => if_congr (by simp [h]) rfl rfl
    · rw [if_neg h]; exact (Finset.sum_eq_zero fun a _ => if_neg fun h' => h h'.1).symm
  rw [Finset.sum_congr rfl fun d _ => h1 d, Finset.sum_comm]
  refine Finset.sum_congr rfl fun a ha => ?_
  have ha := Finset.mem_range.1 ha
  have h2 : ∑ d ∈ Finset.range 768, (if P d ∧ 128 ≤ a + d then B a (a + d - 128) else 0)
      = ∑ d ∈ (Finset.range 768).filter (fun d => 128 ≤ a + d ∧ a + d < 768), if P d then B a (a + d - 128) else 0 := by
    rw [Finset.sum_filter]
    refine Finset.sum_congr rfl fun d hd => ?_
    by_cases hP : P d
    · by_cases h : 128 ≤ a + d
      · by_cases h' : a + d < 768
        · rw [if_pos ⟨hP, h⟩, if_pos ⟨h, h'⟩, if_pos hP]
        · rw [if_pos ⟨hP, h⟩, if_neg (fun x => h' x.2), hB _ _ (by omega)]
      · rw [if_neg (fun x => h x.2), if_neg (fun x => h x.1)]
    · rw [if_neg (fun x => hP x.1), if_neg hP, ite_self]
  rw [h2]
  refine Finset.sum_nbij' (fun d => a + d - 128) (fun x => 128 + x - a) ?_ ?_ ?_ ?_ ?_
  · intro d hd; simp only [Finset.mem_filter, Finset.mem_range] at hd ⊢; omega
  · intro x hx; simp only [Finset.mem_filter, Finset.mem_range] at hx ⊢; omega
  · intro d hd; simp only [Finset.mem_filter, Finset.mem_range] at hd ⊢; omega
  · intro x hx; simp only [Finset.mem_range] at hx ⊢; omega
  · intro d hd; simp only [Finset.mem_filter, Finset.mem_range] at hd ⊢
    rw [show 128 + (a + d - 128) - a = d by omega]

/-! ## The results, at natural indices -/

section Results
variable (sc : EReal) (Q K V T DY : ℕ → ℕ → EReal)

/-- The gradient of the scores. -/
abbrev dzR (h t s : ℕ) : EReal := dsm 2048 (zR sc Q K T h t) (gR DY V h t) s
/-- The gradient of the queries. -/
def dqR (p q : ℕ) : EReal := ∑ s ∈ Finset.range 2048, (dzR sc Q K V T DY (q / 128) p s * sc) * K s q
/-- The gradient of the keys. -/
def dkR (p q : ℕ) : EReal := ∑ t ∈ Finset.range 2048, (dzR sc Q K V T DY (q / 128) t p * sc) * Q t q
/-- The gradient of the values. -/
def dvR (p q : ℕ) : EReal := ∑ t ∈ Finset.range 2048, sm 2048 (zR sc Q K T (q / 128) t) p * DY t q
/-- The gradient of the table. -/
def dtR (h r : ℕ) : EReal := ∑ t ∈ Finset.range 2048, ∑ s ∈ Finset.range 2048, if rel t s = r then dzR sc Q K V T DY h t s else 0

end Results

end Cert.Attn
end
-- ==== Proof.Kern.lean ====
/-
  The four results of the kernel are the gradients of the attention over the whole sequence.
-/
module
public import proofs.«01_k».proof.Proof.Chain
public import proofs.«01_k».proof.Proof.Window
@[expose] public section
set_option maxRecDepth 8192
set_option maxHeartbeats 2000000
noncomputable section
namespace Cert.KernelIdeal.Value
open Cert.KernelIdeal Cert.KernelIdeal.Gen Cert.Attn
open Idealize.ShloMosaic Idealize.ShloMosaic.ValueIdx Idealize.ShloMosaic.TcCoe Idealize.ShloMosaic.Tactic

section Results
variable (m : (l : Loc nD τ sig) → Buf (Elt Ideal) l) (ρ : Dev nD → PrngReg) (c : Dev nD)

/-- The scores of the whole sequence, from the arguments. -/
abbrev zA (h t : ℕ) : ℕ → EReal := zR scl (aQ m c) (aK m c) (aT m c) h t
/-- The gradient of the probabilities of the whole sequence, from the arguments. -/
abbrev gA (h t : ℕ) : ℕ → EReal := gR (aDY m c) (aV m c) h t

/-! ## A tile's scores are the sequence's -/

section Tiles
variable (t : Fin cfg1.N)

theorem tile_z (k h i j : ℕ) (hk : k < 8) (hh : h < 2) (hi : i < 256) (hj : j < 768) :
    zK (iblk1 (V6 m ρ) c 0 t) (iblk1 (V6 m ρ) c 1 t) (iblk1 (V6 m ρ) c 3 t) k h i j
      = if 512 ≤ 256 * k + j then zA m c (2 * t.val + h) (256 * k + i) (256 * k + j - 512) else ⊥ := by
  have ht : t.val < 4 := t.isLt
  unfold zK zB zT
  by_cases h5 : 512 ≤ 256 * k + j
  swap
  · rw [if_neg h5, if_neg (by omega)]
  rw [if_pos h5]
  unfold zA zR
  by_cases ha : allowT k i j
  swap
  · rw [if_neg ha, if_neg (by unfold allow; unfold allowT at ha; omega)]
  have ha' : allow (256 * k + i) (256 * k + j - 512) := by unfold allow; unfold allowT at ha; omega
  rw [if_pos ha, if_pos ha']
  refine congrArg₂ (· + ·) (congrArg (· * scl) (Finset.sum_congr rfl fun d hd => ?_)) ?_
  · have hd := Finset.mem_range.1 hd
    refine congrArg₂ (· * ·) ?_ ?_
    · refine (blk0_at (V6 m ρ) c t (256 * k + i) (128 * h + d) (by omega) (by omega)).trans ?_
      rw [V6_arg0, show 3072 + 256 * t.val + (128 * h + d) = 3072 + (128 * (2 * t.val + h) + d) by omega]
    · unfold kpad
      refine (if_pos h5).trans ?_
      refine (blk1_at (V6 m ρ) c t (256 * k + j - 512) (128 * h + d) (by omega) (by omega)).trans ?_
      rw [V6_arg0, show 4096 + 256 * t.val + (128 * h + d) = 4096 + (128 * (2 * t.val + h) + d) by omega]
  · unfold biasT
    unfold allowT at ha
    by_cases h1 : i < 128
    · rw [if_pos h1, if_pos (by omega : j < 640)]
      refine (blk3_at (V6 m ρ) c t h i j hh h1 (by omega)).trans ((V6_v8 m ρ c _ _ _ (by omega) h1 (by omega)).trans ?_)
      congr 1
      unfold relc rel; omega
    · rw [if_neg h1, if_pos (by omega : 128 ≤ j)]
      refine (blk3_at (V6 m ρ) c t h (i - 128) (j - 128) hh (by omega) (by omega)).trans ((V6_v8 m ρ c _ _ _ (by omega) (by omega) (by omega)).trans ?_)
      congr 1
      unfold relc rel; omega

theorem tile_g (k h i j : ℕ) (hk : k < 8) (hh : h < 2) (hi : i < 256) (hj : j < 768) (h5 : 512 ≤ 256 * k + j) :
    gK (iblk1 (V6 m ρ) c 4 t) (iblk1 (V6 m ρ) c 2 t) k h i j = gA m c (2 * t.val + h) (256 * k + i) (256 * k + j - 512) := by
  have ht : t.val < 4 := t.isLt
  unfold gK gB gT gA gR
  refine Finset.sum_congr rfl fun d hd => ?_
  have hd := Finset.mem_range.1 hd
  refine congrArg₂ (· * ·) ?_ ?_
  · refine (blk4_at (V6 m ρ) c t (256 * k + i) (128 * h + d) (by omega) (by omega)).trans ?_
    rw [V6_arg2, show 256 * t.val + (128 * h + d) = 128 * (2 * t.val + h) + d by omega]
  · unfold kpad
    refine (if_pos h5).trans ?_
    refine (blk2_at (V6 m ρ) c t (256 * k + j - 512) (128 * h + d) (by omega) (by omega)).trans ?_
    rw [V6_arg0, show 5120 + 256 * t.val + (128 * h + d) = 5120 + (128 * (2 * t.val + h) + d) by omega]

theorem row_off (h k i : ℕ) (hi : i < 256) (s : ℕ) (hs : s < 2048) (hn : ¬(256 * k ≤ s + 512 ∧ s + 512 < 256 * k + 768)) : zA m c h (256 * k + i) s = ⊥ := by
  unfold zA zR
  rw [if_neg (by unfold allow; omega)]

variable (hL : ∀ h t, h < 8 → t < 2048 → rowSum 2048 (zA m c h t) ≠ 0)
include hL

theorem tile_dsm (k h i j : ℕ) (hk : k < 8) (hh : h < 2) (hi : i < 256) (hj : j < 768) :
    dsm 768 (zK (iblk1 (V6 m ρ) c 0 t) (iblk1 (V6 m ρ) c 1 t) (iblk1 (V6 m ρ) c 3 t) k h i)
      (gK (iblk1 (V6 m ρ) c 4 t) (iblk1 (V6 m ρ) c 2 t) k h i) j
      = if 512 ≤ 256 * k + j then dsm 2048 (zA m c (2 * t.val + h) (256 * k + i)) (gA m c (2 * t.val + h) (256 * k + i)) (256 * k + j - 512) else 0 := by
  have ht : t.val < 4 := t.isLt
  exact dsm_band (off := 256 * k) (wd := 768) (by omega) (fun j hj => tile_z m ρ c t k h i j hk hh hi hj)
    (fun s hs hn => row_off m c _ k i hi s hs hn) (hL _ _ (by omega) (by omega)) (fun j hj h5 => tile_g m ρ c t k h i j hk hh hi hj h5) j hj

theorem tile_sm (k h i j : ℕ) (hk : k < 8) (hh : h < 2) (hi : i < 256) (hj : j < 768) :
    sm 768 (zK (iblk1 (V6 m ρ) c 0 t) (iblk1 (V6 m ρ) c 1 t) (iblk1 (V6 m ρ) c 3 t) k h i) j
      = if 512 ≤ 256 * k + j then sm 2048 (zA m c (2 * t.val + h) (256 * k + i)) (256 * k + j - 512) else 0 := by
  have ht : t.val < 4 := t.isLt
  exact sm_band (off := 256 * k) (wd := 768) (by omega) (fun j hj => tile_z m ρ c t k h i j hk hh hi hj)
    (fun s hs hn => row_off m c _ k i hi s hs hn) (hL _ _ (by omega) (by omega)) j hj

/-! ## The region's blocks -/

theorem blk_dq (p : Fin 2048) (cc : Fin 256) :
    (outsAt1 (V6 m ρ) c t).1 (ix2 p cc) = dqR scl (aQ m c) (aK m c) (aV m c) (aT m c) (aDY m c) p (256 * t.val + cc) := by
  have ht : t.val < 4 := t.isLt
  have hp := p.isLt; have hc := cc.isLt
  unfold outsAt1
  refine (out5_at ..).trans ?_
  unfold dqR
  have hh : (256 * t.val + cc.val) / 128 = 2 * t.val + cc.val / 128 := by omega
  have hpp : 256 * (p.val / 256) + p.val % 256 = p.val := by omega
  rw [← sum_band (off := 256 * (p.val / 256)) (wd := 768) (by omega) _ (fun s hs hn => by
    show dsm 2048 (zA m c _ _) (gA m c _ _) s * scl * _ = 0
    rw [dsm_off _ (hL _ _ (by omega) (by omega)) s (by rw [← hpp]; exact row_off m c _ (p.val / 256) (p.val % 256) (by omega) s hs hn), zero_mul, zero_mul])]
  refine Finset.sum_congr rfl fun j hj => ?_
  have hj := Finset.mem_range.1 hj
  rw [tile_dsm m ρ c t hL (p.val / 256) (cc.val / 128) (p.val % 256) j (by omega) (by omega) (by omega) hj]
  by_cases h5 : 512 ≤ 256 * (p.val / 256) + j
  swap
  · rw [if_neg h5, if_neg h5, zero_mul, zero_mul]
  rw [if_pos h5, if_pos h5, hpp, hh]
  refine congrArg₂ (· * ·) rfl ?_
  unfold kpad
  rw [if_pos h5]
  refine (blk1_at (V6 m ρ) c t _ cc.val (by omega) hc).trans ?_
  rw [V6_arg0, show 4096 + 256 * t.val + cc.val = 4096 + (256 * t.val + cc.val) by omega]

theorem blk_dk (p : Fin 2048) (cc : Fin 256) :
    (outsAt1 (V6 m ρ) c t).2.1 (ix2 p cc) = dkR scl (aQ m c) (aK m c) (aV m c) (aT m c) (aDY m c) p (256 * t.val + cc) := by
  have ht : t.val < 4 := t.isLt
  have hp := p.isLt; have hc := cc.isLt
  unfold outsAt1
  refine (out6_at ..).trans ?_
  unfold dkR
  have hh : (256 * t.val + cc.val) / 128 = 2 * t.val + cc.val / 128 := by omega
  rw [hh]
  refine Eq.trans ?_ (sum_tiles 8 256 _).symm
  refine Finset.sum_congr rfl fun k hk => ?_
  have hk := Finset.mem_range.1 hk
  by_cases hin : 256 * k ≤ 512 + p.val ∧ 512 + p.val < 256 * k + 768
  · rw [if_pos hin]
    refine Finset.sum_congr rfl fun i hi => ?_
    have hi := Finset.mem_range.1 hi
    rw [tile_dsm m ρ c t hL k (cc.val / 128) i (512 + p.val - 256 * k) hk (by omega) hi (by omega), if_pos (by omega),
      show 256 * k + (512 + p.val - 256 * k) - 512 = p.val by omega]
    refine congrArg₂ (· * ·) rfl ?_
    refine (blk0_at (V6 m ρ) c t _ cc.val (by omega) hc).trans ?_
    rw [V6_arg0, show 3072 + 256 * t.val + cc.val = 3072 + (256 * t.val + cc.val) by omega]
  · rw [if_neg hin]
    refine (Finset.sum_eq_zero fun i hi => ?_).symm
    have hi := Finset.mem_range.1 hi
    show dsm 2048 (zA m c _ _) (gA m c _ _) p.val * scl * _ = 0
    rw [dsm_off _ (hL _ _ (by omega) (by omega)) p.val (row_off m c _ k i hi p.val hp (by omega)), zero_mul, zero_mul]

theorem blk_dv (p : Fin 2048) (cc : Fin 256) :
    (outsAt1 (V6 m ρ) c t).2.2.1 (ix2 p cc) = dvR scl (aQ m c) (aK m c) (aT m c) (aDY m c) p (256 * t.val + cc) := by
  have ht : t.val < 4 := t.isLt
  have hp := p.isLt; have hc := cc.isLt
  unfold outsAt1
  refine (out7_at ..).trans ?_
  unfold dvR
  have hh : (256 * t.val + cc.val) / 128 = 2 * t.val + cc.val / 128 := by omega
  rw [hh]
  refine Eq.trans ?_ (sum_tiles 8 256 _).symm
  refine Finset.sum_congr rfl fun k hk => ?_
  have hk := Finset.mem_range.1 hk
  by_cases hin : 256 * k ≤ 512 + p.val ∧ 512 + p.val < 256 * k + 768
  · rw [if_pos hin]
    refine Finset.sum_congr rfl fun i hi => ?_
    have hi := Finset.mem_range.1 hi
    rw [tile_sm m ρ c t hL k (cc.val / 128) i (512 + p.val - 256 * k) hk (by omega) hi (by omega), if_pos (by omega),
      show 256 * k + (512 + p.val - 256 * k) - 512 = p.val by omega]
    refine congrArg₂ (· * ·) rfl ?_
    refine (blk4_at (V6 m ρ) c t _ cc.val (by omega) hc).trans ?_
    rw [V6_arg2]
  · rw [if_neg hin]
    refine (Finset.sum_eq_zero fun i hi => ?_).symm
    have hi := Finset.mem_range.1 hi
    show sm 2048 (zA m c _ _) p.val * _ = 0
    rw [sm_off (hL _ _ (by omega) (by omega)) p.val (row_off m c _ k i hi p.val hp (by omega)), zero_mul]

/-- The band of a head, summed over its query tiles of 128 rows. -/
def bandR (h y x : ℕ) : EReal := ∑ q ∈ Finset.range 16,
  if 512 ≤ 128 * q + x then dsm 2048 (zA m c h (128 * q + y)) (gA m c h (128 * q + y)) (128 * q + x - 512) else 0

theorem blk_db (h : Fin 2) (y : Fin 128) (x : Fin 640) :
    (outsAt1 (V6 m ρ) c t).2.2.2 (ix3 h y x) = bandR m c (2 * t.val + h) y x := by
  have ht : t.val < 4 := t.isLt
  have hh := h.isLt; have hy := y.isLt; have hx := x.isLt
  unfold outsAt1
  refine (out8_at ..).trans ?_
  unfold bandR
  refine Eq.trans ?_ (sum_tiles 8 2 _).symm
  refine Finset.sum_congr rfl fun k hk => ?_
  have hk := Finset.mem_range.1 hk
  rw [tile_dsm m ρ c t hL k h y x hk hh (by omega) (by omega), tile_dsm m ρ c t hL k h (128 + y.val) (128 + x.val) hk hh (by omega) (by omega)]
  rw [zero_add, Finset.sum_range_succ, Finset.sum_range_one]
  rw [show 128 * (2 * k + 0) = 256 * k by omega, show 128 * (2 * k + 1) + x.val = 256 * k + (128 + x.val) by omega,
    show 128 * (2 * k + 1) + y.val = 256 * k + (128 + y.val) by omega]

end Tiles

/-! ## The results -/

variable (hL : ∀ h t, h < 8 → t < 2048 → rowSum 2048 (zA m c h t) ≠ 0)
include hL

theorem res_dq (p : Fin 2048) (q : Fin 1024) : W12 m ρ c (Proc.devRef .tc main_v9_0) (ix2 p q : S2048x1024.Idx)
    = dqR scl (aQ m c) (aK m c) (aV m c) (aT m c) (aDY m c) p q := by
  rw [W12_v9 m ρ c main_v9_0 (.inl rfl)]
  exact (congrFun (W7_arr m ρ c 5) (ix2 p q : S2048x1024.Idx)).trans (arr5_at (V6 m ρ) c _ (fun t p cc => blk_dq m ρ c t hL p cc) p q)

theorem res_dk (p : Fin 2048) (q : Fin 1024) : W12 m ρ c (Proc.devRef .tc main_v9_1) (ix2 p q : S2048x1024.Idx)
    = dkR scl (aQ m c) (aK m c) (aV m c) (aT m c) (aDY m c) p q := by
  rw [W12_v9 m ρ c main_v9_1 (.inr (.inl rfl))]
  exact (congrFun (W7_arr m ρ c 6) (ix2 p q : S2048x1024.Idx)).trans (arr6_at (V6 m ρ) c _ (fun t p cc => blk_dk m ρ c t hL p cc) p q)

theorem res_dv (p : Fin 2048) (q : Fin 1024) : W12 m ρ c (Proc.devRef .tc main_v9_2) (ix2 p q : S2048x1024.Idx)
    = dvR scl (aQ m c) (aK m c) (aT m c) (aDY m c) p q := by
  rw [W12_v9 m ρ c main_v9_2 (.inr (.inr rfl))]
  exact (congrFun (W7_arr m ρ c 7) (ix2 p q : S2048x1024.Idx)).trans (arr7_at (V6 m ρ) c _ (fun t p cc => blk_dv m ρ c t hL p cc) p q)

theorem res_dt (h : Fin 8) (r : Fin 192) : W12 m ρ c (Proc.devRef .tc main_v17) (ix2 h r : S8x192.Idx)
    = dtR scl (aQ m c) (aK m c) (aV m c) (aT m c) (aDY m c) h r := by
  have hh := h.isLt
  refine (W12_v17_at m ρ c h r).trans ?_
  refine (sum_diag (fun a x => at3 (a := 8) (b := 128) (c := 640) (W7 m ρ c (Proc.devRef .tc main_v9_3)) h a x) (fun d => relc d = r) (fun a x hx => by
    unfold at3; rw [dif_neg (by omega)])).trans ?_
  have hB : ∀ a x, a < 128 → x < 640 → at3 (a := 8) (b := 128) (c := 640) (W7 m ρ c (Proc.devRef .tc main_v9_3)) h a x = bandR m c h a x := fun a x ha hx => by
    rw [at3_mk _ _ _ _ h.isLt ha hx]
    exact (congrFun (W7_arr m ρ c 8) (ix3 h ⟨a, ha⟩ ⟨x, hx⟩ : S8x128x640.Idx)).trans (arr8_at (V6 m ρ) c _ (fun t h y x => blk_db m ρ c t hL h y x) h ⟨a, ha⟩ ⟨x, hx⟩)
  unfold dtR
  refine Eq.trans ?_ (sum_tiles 16 128 _).symm
  rw [Finset.sum_comm (s := Finset.range 16)]
  refine Finset.sum_congr rfl fun a ha => ?_
  have ha := Finset.mem_range.1 ha
  have h1 : ∀ x ∈ Finset.range 640, (if relc (128 + x - a) = r then at3 (a := 8) (b := 128) (c := 640) (W7 m ρ c (Proc.devRef .tc main_v9_3)) h a x else 0)
      = ∑ q ∈ Finset.range 16, if 512 ≤ 128 * q + x then (fun s => if rel (128 * q + a) s = r then dsm 2048 (zA m c h (128 * q + a)) (gA m c h (128 * q + a)) s else 0) (128 * q + x - 512) else 0 := fun x hx => by
    have hx := Finset.mem_range.1 hx
    rw [hB a x ha hx]
    unfold bandR
    by_cases hr : relc (128 + x - a) = r
    · rw [if_pos hr]
      refine Finset.sum_congr rfl fun q _ => ?_
      by_cases h5 : 512 ≤ 128 * q + x
      · rw [if_pos h5, if_pos h5]
        show _ = if _ then _ else _
        rw [if_pos]
        rw [← hr]; unfold relc rel; omega
      · rw [if_neg h5, if_neg h5]
    · rw [if_neg hr]
      refine (Finset.sum_eq_zero fun q _ => ?_).symm
      by_cases h5 : 512 ≤ 128 * q + x
      · rw [if_pos h5]
        show (if _ then _ else _) = _
        rw [if_neg]
        intro h'; apply hr; rw [← h']; unfold relc rel; omega
      · rw [if_neg h5]
  rw [Finset.sum_congr rfl h1, Finset.sum_comm]
  refine Finset.sum_congr rfl fun q hq => ?_
  have hq := Finset.mem_range.1 hq
  refine sum_band (off := 128 * q) (wd := 640) (by omega) (fun s => if rel (128 * q + a) s = r then dzR scl (aQ m c) (aK m c) (aV m c) (aT m c) (aDY m c) h (128 * q + a) s else 0) (fun s hs hn => ?_)
  show (if _ then dsm 2048 (zA m c _ _) (gA m c _ _) s else 0) = 0
  rw [dsm_off _ (hL _ _ hh (by omega)) s (by unfold zA zR; rw [if_neg (by unfold allow; omega)]), ite_self]

end Results
end Cert.KernelIdeal.Value
end
-- ==== Proof.RefIdx.lean ====
/-
  The reference's integer side: the mask, the clipped distance, the table read and its transpose, at an index.
-/
module
public import proofs.«01_k».proof.Proof.Gen.ReferenceIdeal.Run
public import Idealize.ShloMosaic.Lib.Pointwise
public import Idealize.ShloMosaic.Lib.KernelVsHost
public import Idealize.ShloMosaic.Lib.Routing.OpsPair
public import Idealize.ShloMosaic.Lib.StableHlo.Predicate
public import proofs.«01_k».proof.Proof.Window
@[expose] public section
set_option maxRecDepth 8192
noncomputable section
namespace Cert.ReferenceIdeal.Value
open Cert.ReferenceIdeal Cert.ReferenceIdeal.Gen Cert.Attn
open Idealize.ShloMosaic Idealize.ShloMosaic.TcCoe
variable (V0 : Valuation τ sig (Elt Ideal))

theorem p2 {a b : ℕ} (x : (⟨2, ![a, b]⟩ : Shape).Idx → EReal) (i : Fin a) (j : Fin b) : x (ix2 i j) = at2 x i j := by
  rw [ix2_eq_valueIdx]; exact at2_ix x i j

/-! ## The integer side: which keys a query sees, and at what distance -/

/-- A word's quotient by 64, rounded down, as the program forms it. -/
def fdiv (b : BitVec 32) : BitVec 32 :=
  Scalar.select (IntOp.andi
      (IntOp.cmpi .ne ((if b = 0 then 0 else if b.msb = true then -1 else 1 : BitVec 32)) ((if (64#32) = 0 then 0 else if BitVec.msb (64#32) = true then -1 else 1 : BitVec 32)))
      (IntOp.cmpi .ne (IntOp.remsi .host b 64#32) 0#32))
    (IntOp.subi (IntOp.divsi .host b 64#32) 1#32) (IntOp.divsi .host b 64#32)

theorem fdiv_eq : ∀ n : Fin 2048, fdiv (BitVec.ofNat 32 n.val) = BitVec.ofNat 32 (n.val / 64) := by decide +kernel

theorem sle_eq : ∀ a b : Fin 64, IntOp.cmpi .sle (BitVec.ofNat 32 a.val) (BitVec.ofNat 32 b.val) = if a.val ≤ b.val then 1#1 else 0#1 := by decide +kernel

theorem v42_1_at (h : Fin 8) (t s : Fin 2048) : res_main_v42_1 V0 (ix3 h t s) = if allow t s then 1#1 else 0#1 := by
  have ht := t.isLt; have hs := s.isLt
  have e : res_main_v42_1 V0 (ix3 h t s) = IntOp.andi (IntOp.cmpi .sle (fdiv (BitVec.ofNat 32 s.val)) (fdiv (BitVec.ofNat 32 t.val)))
      (IntOp.cmpi .sle (fdiv (BitVec.ofNat 32 t.val)) (IntOp.addi (fdiv (BitVec.ofNat 32 s.val)) 8#32)) := by
    unfold res_main_v42_1 res_main_call1_v2 res_main_call2_v2 res_main_call3_v2 res_main_call4_v2 res_main_v9 res_main_v11 res_main_call1_v0 res_main_call2_v0 res_main_call3_v0 res_main_call4_v0
    pointwise
    rfl
  rw [e, fdiv_eq, fdiv_eq]
  have e8 : IntOp.addi (BitVec.ofNat 32 (s.val / 64)) 8#32 = BitVec.ofNat 32 (s.val / 64 + 8) := by
    show _ + BitVec.ofNat 32 8 = _
    rw [BitVec.ofNat_add]
  rw [e8, sle_eq ⟨s.val / 64, by omega⟩ ⟨t.val / 64, by omega⟩, sle_eq ⟨t.val / 64, by omega⟩ ⟨s.val / 64 + 8, by omega⟩]
  unfold allow
  by_cases h1 : s.val / 64 ≤ t.val / 64 <;> by_cases h2 : t.val / 64 ≤ s.val / 64 + 8 <;> simp only [h1, h2, if_true, if_false, and_true, and_false, true_and, false_and] <;> rfl

/-- A distance clipped into the table, as the program forms it. -/
def clip (b : BitVec 32) : BitVec 32 := IntOp.addi (IntOp.minsi 63#32 (IntOp.maxsi 4294967168#32 b)) 128#32

theorem clip_eq : ∀ n : Fin 4096, clip (BitVec.ofNat 32 n.val - 2047#32) = BitVec.ofNat 32 (min 191 (n.val - 1919)) := by decide +kernel

theorem v17_at (t s : Fin 2048) : res_main_v17 V0 (ix2 t s) = BitVec.ofNat 32 (rel t s) := by
  have ht := t.isLt; have hs := s.isLt
  have e : res_main_v17 V0 (ix2 t s) = clip (BitVec.ofNat 32 s.val - BitVec.ofNat 32 t.val) := by
    unfold res_main_v17 res_main_v9 res_main_v11
    pointwise
    rfl
  have e2 : BitVec.ofNat 32 s.val - BitVec.ofNat 32 t.val = BitVec.ofNat 32 (s.val + 2047 - t.val) - 2047#32 := by
    apply BitVec.eq_of_toNat_eq
    simp only [BitVec.toNat_sub, BitVec.toNat_ofNat]
    omega
  rw [e, e2, clip_eq ⟨s.val + 2047 - t.val, by omega⟩]
  congr 1
  unfold rel
  show min 191 (s.val + 2047 - t.val - 1919) = _
  omega

theorem wrap_eq : ∀ n : Fin 192, Scalar.select (IntOp.cmpi .slt (BitVec.ofNat 32 n.val) 0#32) (IntOp.addi (BitVec.ofNat 32 n.val) 192#32) (BitVec.ofNat 32 n.val) = BitVec.ofNat 32 n.val := by decide +kernel

theorem rel_lt (t s : ℕ) : rel t s < 192 := by unfold rel; omega

theorem v23_at (t s : Fin 2048) (u : Fin 1) : res_main_v23 V0 (ix3 t s u) = BitVec.ofNat 32 (rel t s) := by
  unfold res_main_v23
  pointwise
  rw [v17_at V0 t s]
  exact wrap_eq ⟨rel t s, rel_lt t s⟩

theorem v23_int (t s : Fin 2048) (u : Fin 1) : (res_main_v23 V0 (ix3 t s u)).toInt = (rel t s : Int) := by
  rw [v23_at]
  exact StableHlo.Predicate.toInt_ofNat_small _ (by have := rel_lt t s; omega)

/-! ## The table read, and its transpose -/

theorem gather_at {α : Type} (x : S8x192.Idx → α) (idx : IVec S2048x2048x1 32) (h : Fin 8) (t s : Fin 2048) :
    Host.gather gather_S8x192_S2048x2048x1_S8x2048x2048_0_1_n_n_1_2_81 x idx (ix3 h t s) = x (ix2 h ⟨min (idx (ix3 t s 0)).toInt.toNat 191, by omega⟩) := by
  have hsi : gather_S8x192_S2048x2048x1_S8x2048x2048_0_1_n_n_1_2_81.siIdx (ix3 h t s) ⟨List.idxOf (1 : Fin 2) gather_S8x192_S2048x2048x1_S8x2048x2048_0_1_n_n_1_2_81.startIndexMap,
      List.idxOf_lt_length_iff.2 (by decide)⟩ = ix3 t s 0 := by
    funext b; refine Fin.ext ?_
    match b with
    | ⟨0, _⟩ => rfl
    | ⟨1, _⟩ => rfl
    | ⟨2, _⟩ => rfl
  have s0 : gather_S8x192_S2048x2048x1_S8x2048x2048_0_1_n_n_1_2_81.start (ix3 h t s) idx 0 = 0 := by
    unfold GatherDims.start; rw [dif_neg (by decide)]
  have s1 : gather_S8x192_S2048x2048x1_S8x2048x2048_0_1_n_n_1_2_81.start (ix3 h t s) idx 1 = min (idx (ix3 t s 0)).toInt.toNat 191 := by
    unfold GatherDims.start; rw [dif_pos (by decide)]
    exact congrArg (fun i => min (idx i).toInt.toNat 191) hsi
  have b0 : gather_S8x192_S2048x2048x1_S8x2048x2048_0_1_n_n_1_2_81.batchCoord (ix3 h t s) 0 = 0 := GatherDims.batchCoord_eq_zero _ _ _ List.not_mem_nil
  have b1 : gather_S8x192_S2048x2048x1_S8x2048x2048_0_1_n_n_1_2_81.batchCoord (ix3 h t s) 1 = 0 := GatherDims.batchCoord_eq_zero _ _ _ List.not_mem_nil
  have o0 : gather_S8x192_S2048x2048x1_S8x2048x2048_0_1_n_n_1_2_81.offCoord (ix3 h t s) 0 = h.val := by
    unfold GatherDims.offCoord; rw [dif_pos (by decide)]; rfl
  have o1 : gather_S8x192_S2048x2048x1_S8x2048x2048_0_1_n_n_1_2_81.offCoord (ix3 h t s) 1 = 0 := GatherDims.offCoord_eq_zero _ _ _ (by decide)
  unfold Host.gather
  refine congrArg x ?_
  funext a
  refine Fin.ext ?_
  match a with
  | ⟨0, _⟩ =>
    show gather_S8x192_S2048x2048x1_S8x2048x2048_0_1_n_n_1_2_81.start (ix3 h t s) idx 0 + gather_S8x192_S2048x2048x1_S8x2048x2048_0_1_n_n_1_2_81.batchCoord (ix3 h t s) 0 + gather_S8x192_S2048x2048x1_S8x2048x2048_0_1_n_n_1_2_81.offCoord (ix3 h t s) 0 = h.val
    rw [s0, b0, o0]; omega
  | ⟨1, _⟩ =>
    show gather_S8x192_S2048x2048x1_S8x2048x2048_0_1_n_n_1_2_81.start (ix3 h t s) idx 1 + gather_S8x192_S2048x2048x1_S8x2048x2048_0_1_n_n_1_2_81.batchCoord (ix3 h t s) 1 + gather_S8x192_S2048x2048x1_S8x2048x2048_0_1_n_n_1_2_81.offCoord (ix3 h t s) 1 = min (idx (ix3 t s 0)).toInt.toNat 191
    rw [s1, b1, o1]; omega

theorem lands_at (idx : IVec S2048x2048x1 32) (h : Fin 8) (t s : Fin 2048) (g : Fin 8) (r : Fin 192) :
    scatter_S8x192_S2048x2048x1_S8x2048x2048_0_1_1_2.resultIdx? (ix3 h t s) idx = some (ValueIdx.ix2 g r) ↔ h.val = g.val ∧ (idx (ix3 t s 0)).toInt = (r.val : Int) := by
  have hsi : scatter_S8x192_S2048x2048x1_S8x2048x2048_0_1_1_2.siIdx (ix3 h t s) ⟨List.idxOf (1 : Fin 2) scatter_S8x192_S2048x2048x1_S8x2048x2048_0_1_1_2.scatterDimsToOperandDims,
      List.idxOf_lt_length_iff.2 (by decide)⟩ = ix3 t s 0 := by
    funext b; refine Fin.ext ?_
    match b with
    | ⟨0, _⟩ => rfl
    | ⟨1, _⟩ => rfl
    | ⟨2, _⟩ => rfl
  have s0 : scatter_S8x192_S2048x2048x1_S8x2048x2048_0_1_1_2.start (ix3 h t s) idx 0 = 0 := by
    unfold ScatterDims.start; rw [dif_neg (by decide)]
  have s1 : scatter_S8x192_S2048x2048x1_S8x2048x2048_0_1_1_2.start (ix3 h t s) idx 1 = (idx (ix3 t s 0)).toInt := by
    unfold ScatterDims.start; rw [dif_pos (by decide)]
    exact congrArg (fun i => (idx i).toInt) hsi
  have w0 : scatter_S8x192_S2048x2048x1_S8x2048x2048_0_1_1_2.window (ix3 h t s) 0 = h.val := by
    unfold ScatterDims.window; rw [dif_pos (by decide)]; rfl
  have w1 : scatter_S8x192_S2048x2048x1_S8x2048x2048_0_1_1_2.window (ix3 h t s) 1 = 0 := by
    unfold ScatterDims.window; rw [dif_neg (by decide)]
  rw [Routing.resultIdx?_ix2, s0, s1, w0, w1]
  omega

end Cert.ReferenceIdeal.Value
end
-- ==== Proof.Row.lean ====
/-
  A row of real and bottom entries, one of them real: its exponentials are real and nonnegative and their sum positive,
  so the derivative of a quotient by that sum is the softmax's backward step.
-/
module
public import proofs.«01_k».proof.Proof.Window
@[expose] public section
noncomputable section
namespace Cert.Attn
open Idealize.ShloMosaic Idealize.ShloMosaic.ValueIdx

/-! ## Rows of finite scores -/

/-- A finite extended real. -/
def Fin' (x : EReal) : Prop := ∃ r : ℝ, x = r

theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sum {n : ℕ} {f : ℕ → EReal} (h : ∀ i, i < n → Fin' (f i)) : Fin' (∑ i ∈ Finset.range n, f i) := by
  induction n with
  | zero => exact ⟨0, by simp⟩
  | succ n ih => rw [Finset.sum_range_succ]; exact (ih fun i hi => h i (by omega)).add (h n (by omega))

theorem sum_coe (n : ℕ) (a : ℕ → ℝ) : ∑ i ∈ Finset.range n, ((a i : ℝ) : EReal) = ((∑ i ∈ Finset.range n, a i : ℝ) : EReal) := by
  induction n with
  | zero => simp
  | succ n ih => rw [Finset.sum_range_succ, Finset.sum_range_succ, ih, EReal.coe_add]

/-- A row of finite and bottom entries, one of them finite: its exponentials are finite and nonnegative, their sum positive. -/
theorem row_pos {n : ℕ} {w : ℕ → EReal} (hw : ∀ j, j < n → w j = ⊥ ∨ Fin' (w j)) (hex : ∃ j, j < n ∧ Fin' (w j)) :
    ∃ (l : ℝ) (e : ℕ → ℝ), 0 < l ∧ rowSum n w = l ∧ ∀ j, j < n → 0 ≤ e j ∧ rowExp n w j = e j := by
  obtain ⟨j₀, hj₀, x₀, hx₀⟩ := hex
  obtain ⟨jm, hjm, hM⟩ := Finset.exists_mem_eq_sup (Finset.range n) ⟨j₀, Finset.mem_range.2 hj₀⟩ w
  have hjm := Finset.mem_range.1 hjm
  have hge : w j₀ ≤ rowMax n w := Finset.le_sup (Finset.mem_range.2 hj₀)
  obtain ⟨M, hMr⟩ : Fin' (rowMax n w) := by
    rcases hw jm hjm with h | h
    · exfalso
      have : rowMax n w = ⊥ := hM.trans h
      rw [this, hx₀] at hge
      exact EReal.coe_ne_bot x₀ (le_bot_iff.1 hge)
    · rw [show rowMax n w = w jm from hM]; exact h
  have he : ∀ j, j < n → ∃ a : ℝ, 0 ≤ a ∧ rowExp n w j = a := fun j hj => by
    unfold rowExp
    rcases hw j hj with h | ⟨x, h⟩
    · exact ⟨0, le_rfl, by rw [h, exp_bot_sub]; rfl⟩
    · exact ⟨Real.exp (x - M), (Real.exp_pos _).le, by rw [h, hMr, ← EReal.coe_sub]; rfl⟩
  choose! e he0 he1 using he
  refine ⟨∑ i ∈ Finset.range n, e i, e, ?_, ?_, fun j hj => ⟨he0 j hj, he1 j hj⟩⟩
  · refine Finset.sum_pos' (fun i hi => he0 i (Finset.mem_range.1 hi)) ⟨jm, Finset.mem_range.2 hjm, ?_⟩
    have h1 : rowExp n w jm = 1 := by
      unfold rowExp
      rw [show w jm = rowMax n w from hM.symm, hMr, ← EReal.coe_sub, sub_self]
      show ((Real.exp 0 : ℝ) : EReal) = 1
      rw [Real.exp_zero]; rfl
    have h2 : ((e jm : ℝ) : EReal) = ((1 : ℝ) : EReal) := (he1 jm hjm).symm.trans h1
    rw [EReal.coe_eq_coe_iff.1 h2]; exact one_pos
  · rw [← sum_coe]
    exact Finset.sum_congr rfl fun i hi => he1 i (Finset.mem_range.1 hi)

theorem div_real (x : EReal) {l : ℝ} (hl : 0 < l) : Ideal.div x l = x * ((l⁻¹ : ℝ) : EReal) := by
  unfold Ideal.div
  rw [if_neg (by intro h; exact hl.ne' (EReal.coe_eq_coe_iff.1 h)), EReal.coe_inv]

theorem real_mul_add {r : ℝ} (hr : 0 ≤ r) (x y : EReal) : (r : EReal) * (x + y) = r * x + r * y :=
  EReal.left_distrib_of_nonneg_of_ne_top (EReal.coe_nonneg.2 hr) (EReal.coe_ne_top r) x y

theorem real_mul_sum {r : ℝ} (hr : 0 ≤ r) (n : ℕ) (f : ℕ → EReal) : (r : EReal) * ∑ i ∈ Finset.range n, f i = ∑ i ∈ Finset.range n, (r : EReal) * f i := by
  induction n with
  | zero => simp
  | succ n ih => rw [Finset.sum_range_succ, Finset.sum_range_succ, real_mul_add hr, ih]

/-- The derivative of a quotient by its row's sum is the softmax's backward step. -/
theorem dz_eq {n : ℕ} {w g : ℕ → EReal} {l : ℝ} {e : ℕ → ℝ} (hl : 0 < l) (hL : rowSum n w = l)
    (he : ∀ j, j < n → 0 ≤ e j ∧ rowExp n w j = e j) (j : ℕ) (hj : j < n) :
    (Ideal.div (g j) (rowSum n w) + -∑ i ∈ Finset.range n, g i * Ideal.div 1 (rowSum n w * rowSum n w) * rowExp n w i) * rowExp n w j = dsm n w g j := by
  have hr : (0 : ℝ) ≤ l⁻¹ := (inv_pos.2 hl).le
  have hs : ∀ i, i < n → sm n w i = (e i : EReal) * ((l⁻¹ : ℝ) : EReal) := fun i hi => by
    unfold sm; rw [hL, div_real _ hl, (he i hi).2]
  have hsum : ∑ i ∈ Finset.range n, g i * Ideal.div 1 (rowSum n w * rowSum n w) * rowExp n w i
      = ((l⁻¹ : ℝ) : EReal) * ∑ i ∈ Finset.range n, g i * sm n w i := by
    rw [real_mul_sum hr]
    refine Finset.sum_congr rfl fun i hi => ?_
    have hi := Finset.mem_range.1 hi
    rw [hs i hi, (he i hi).2, hL, ← EReal.coe_mul, div_real _ (mul_pos hl hl), one_mul, mul_inv, EReal.coe_mul]
    ac_rfl
  rw [hsum, hL, div_real _ hl, (he j hj).2]
  unfold dsm
  rw [hs j hj, ← mul_neg, mul_comm (g j), ← real_mul_add hr, ← sub_eq_add_neg]
  ac_rfl

end Cert.Attn
end
-- ==== Proof.RefValue.lean ====
/-
  The four results of the reference are the gradients of the attention over the whole sequence, when every row's scores
  are real where a query looks.
-/
module
public import proofs.«01_k».proof.Proof.RefIdx
public import proofs.«01_k».proof.Proof.Row
public import proofs.«01_k».proof.Proof.Tile
@[expose] public section
set_option maxRecDepth 8192
set_option maxHeartbeats 1000000
noncomputable section
namespace Cert.ReferenceIdeal.Value
open Cert.ReferenceIdeal Cert.ReferenceIdeal.Gen Cert.Attn
open Idealize.ShloMosaic Idealize.ShloMosaic.TcCoe
open Cert.KernelIdeal.Value (scl)
variable (V0 : Valuation τ sig (Elt Ideal))

/-! ## The arguments at natural indices -/

def rQ (t d : ℕ) : EReal := at2 (a := 2048) (b := 10240) (V0 (Proc.devRef .tc main_arg0)) t (3072 + d)
def rK (t d : ℕ) : EReal := at2 (a := 2048) (b := 10240) (V0 (Proc.devRef .tc main_arg0)) t (4096 + d)
def rV (t d : ℕ) : EReal := at2 (a := 2048) (b := 10240) (V0 (Proc.devRef .tc main_arg0)) t (5120 + d)
def rT (h r : ℕ) : EReal := at2 (a := 8) (b := 192) (V0 (Proc.devRef .tc main_arg1)) h r
def rDY (t d : ℕ) : EReal := at2 (a := 2048) (b := 1024) (V0 (Proc.devRef .tc main_arg2)) t d

abbrev zz (h t : ℕ) : ℕ → EReal := zR scl (rQ V0) (rK V0) (rT V0) h t
abbrev gg (h t : ℕ) : ℕ → EReal := gR (rDY V0) (rV V0) h t

/-! ## The program's own arrays, as arrays of extended reals -/

abbrev A0 : S2048x10240.Idx → EReal := V0 (Proc.devRef .tc main_arg0)
abbrev A1 : S8x192.Idx → EReal := V0 (Proc.devRef .tc main_arg1)
abbrev A2 : S2048x1024.Idx → EReal := V0 (Proc.devRef .tc main_arg2)
abbrev n42 : S8x2048x2048.Idx → EReal := res_main_v42_0 V0
abbrev n43 : S8x2048.Idx → EReal := res_main_v43 V0
abbrev n63 : S8x2048x2048.Idx → EReal := res_main_v63 V0
abbrev n65 : S8x2048x1.Idx → EReal := res_main_v65 V0
abbrev n67 : S8x2048x2048.Idx → EReal := res_main_v67 V0
abbrev n73 : S8x128x2048.Idx → EReal := res_main_v73 V0
abbrev n74 : S8x2048x2048.Idx → EReal := res_main_v74 V0
abbrev n89 : S8x2048x2048.Idx → EReal := res_main_v89 V0
abbrev n91 : S8x2048x2048.Idx → EReal := res_main_v91 V0
abbrev nGat : S8x2048x2048.Idx → EReal := Host.gather gather_S8x192_S2048x2048x1_S8x2048x2048_0_1_n_n_1_2_81 (A1 V0) (res_main_v23 V0)

/-! ## The scores and their softmax -/

theorem ngat_at (h : Fin 8) (t s : Fin 2048) : nGat V0 (ix3 h t s) = rT V0 h (rel t s) := by
  have e := rel_lt t s
  have hi : min (res_main_v23 V0 (ix3 t s 0)).toInt.toNat 191 = rel t s := by
    have := congrArg (fun z : Int => min z.toNat 191) (v23_int V0 t s 0)
    refine this.trans ?_
    show min (rel t s) 191 = _
    omega
  refine (gather_at (A1 V0) (res_main_v23 V0) h t s).trans ((p2 (A1 V0) _ _).trans ?_)
  exact congrArg (at2 (A1 V0) h.val) hi

theorem v42_0_at (h : Fin 8) (t s : Fin 2048) : n42 V0 (ix3 h t s) = zz V0 h t s := by
  have e : n42 V0 (ix3 h t s) = Scalar.select (res_main_v42_1 V0 (ix3 h t s))
      ((∑ x : Fin 128, A0 V0 (ix2 t ⟨3072 + (h.val * 128 + x.val), by omega⟩) * A0 V0 (ix2 s ⟨4096 + (h.val * 128 + x.val), by omega⟩)) * scl
        + nGat V0 (ix3 h t s)) (Ideal.ofBits .f32 0xFF800000#32) := by
    unfold n42 res_main_v42_0 res_main_v1 res_main_v3
    pointwise <;> rfl
  rw [e, v42_1_at, ngat_at]
  have hb : (Ideal.ofBits .f32 0xFF800000#32  : EReal) = ⊥ := Cert.KernelIdeal.Value.ofBits_bot
  rw [hb]
  unfold zz zR
  by_cases ha : allow t s
  · rw [if_pos ha, if_pos ha]
    show _ * _ + _ = _
    congr 2
    rw [← Fin.sum_univ_eq_sum_range (fun d => rQ V0 t (128 * h.val + d) * rK V0 s (128 * h.val + d)) 128]
    refine Finset.sum_congr rfl fun x _ => ?_
    rw [p2 (A0 V0), p2 (A0 V0)]
    unfold rQ rK
    rw [mul_comm 128 h.val]
  · rw [if_neg ha, if_neg ha]
    rfl

theorem lift3 {a b n : ℕ} (hr : (⟨3, ![a, b, n]⟩ : Shape).Reduces [2] ⟨2, ![a, b]⟩) (h : Fin a) (t : Fin b) (k : Fin n) : hr.lift (ix2 h t) k = ix3 h t k := by
  funext c; refine Fin.ext ?_
  match c with
  | ⟨0, _⟩ => rfl
  | ⟨1, _⟩ => rfl
  | ⟨2, _⟩ => rfl

theorem row_max3 {a b n : ℕ} (x : FVec Ideal (⟨3, ![a, b, n]⟩ : Shape) .f32) (w : ℕ → EReal) (hr : (⟨3, ![a, b, n]⟩ : Shape).Reduces [2] ⟨2, ![a, b]⟩) (h : Fin a) (t : Fin b)
    (hx : ∀ k : Fin n, x (ix3 h t k) = w k) :
    multiReduction .maximumf [2] ⟨2, ![a, b]⟩ x 0xFF800000#32 hr (.inl rfl) rfl (ix2 h t) = rowMax n w := by
  refine (Ideal.multiReduction_maximumf_single x _ _ _ _ _).trans ?_
  have hf : (x ∘ hr.lift (ix2 h t)) = fun k : Fin n => w k := by
    funext k
    exact (congrArg x (lift3 hr h t k)).trans (hx k)
  refine (congrArg (fun f : Fin n → EReal => (Finset.univ : Finset (Fin n)).fold max (Ideal.ofBits .f32 0xFF800000#32) f) hf).trans ?_
  rw [Cert.KernelIdeal.Value.ofBits_bot]
  exact sup_fin n w

theorem red3 : S8x2048x2048.Reduces [2] S8x2048 := by decide

theorem v43_eq : res_main_v43 V0 = multiReduction .maximumf [2] S8x2048 (res_main_v42_0 V0) 0xFF800000#32 red3 (.inl rfl) rfl :=
  hostReduce_maximumf_eq_multiReduction (res_main_v42_0 V0) 0xFF800000#32 reducesTo_S8x2048x2048_S8x2048_d2 h_S_ red3 (.inl rfl) rfl

theorem v43_at (h : Fin 8) (t : Fin 2048) : n43 V0 (ix2 h t) = rowMax 2048 (zz V0 h t) := by
  unfold n43
  rw [v43_eq]
  exact row_max3 (res_main_v42_0 V0) (zz V0 h t) red3 h t (v42_0_at V0 h t)

theorem exp_at (x : FVec Ideal S8x2048x2048 .f32) (y : FVec Ideal S8x2048 .f32) (h : Fin 8) (t s : Fin 2048) :
    (Host.exp (subf x (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) y))))) (ix3 h t s)
      = Ideal.exp (x (ix3 h t s) - max (Ideal.ofBits .f32 0xFF800000#32) (y (ix2 h t))) := by
  pointwise <;> rfl

theorem exp_row (n : ℕ) (w : ℕ → EReal) (j : ℕ) (x y : EReal) (hx : x = w j) (hy : y = rowMax n w) :
    Ideal.exp (x - max (Ideal.ofBits .f32 0xFF800000#32) y) = rowExp n w j := by
  subst hx hy
  rw [Cert.KernelIdeal.Value.ofBits_bot]
  unfold rowExp
  exact congrArg (fun m => Ideal.exp (w j - m)) (max_eq_right (bot_le : (⊥ : EReal) ≤ rowMax n w))

theorem v63_at (h : Fin 8) (t s : Fin 2048) : n63 V0 (ix3 h t s) = rowExp 2048 (zz V0 h t) s := by
  unfold n63 res_main_v63
  rw [exp_at]
  exact exp_row 2048 (zz V0 h t) s _ _ (v42_0_at V0 h t s) (v43_at V0 h t)

theorem v65_at (h : Fin 8) (t : Fin 2048) : n65 V0 (ix3 h t 0) = rowSum 2048 (zz V0 h t) := by
  have e : n65 V0 (ix3 h t 0) = ∑ x : Fin 2048, (n63 V0 (ix3 h t x) : EReal) := by
    unfold n65 res_main_v65
    pointwise <;> rfl
  rw [e]
  simp only [v63_at]
  exact Fin.sum_univ_eq_sum_range (rowExp 2048 (zz V0 h t)) 2048

theorem v67_at (h : Fin 8) (t s : Fin 2048) : n67 V0 (ix3 h t s) = sm 2048 (zz V0 h t) s := by
  have e : n67 V0 (ix3 h t s) = Ideal.div (n63 V0 (ix3 h t s)) (n65 V0 (ix3 h t 0)) := by
    unfold n67 res_main_v67
    pointwise <;> rfl
  rw [e, v63_at, v65_at]
  rfl

/-! ## The gradients of the probabilities and of the scores -/

theorem v73_at (h : Fin 8) (d : Fin 128) (t : Fin 2048) : n73 V0 (ix3 h d t) = rDY V0 t (128 * h.val + d.val) := by
  have e : n73 V0 (ix3 h d t) = A2 V0 (ix2 t ⟨h.val * 128 + d.val, by omega⟩) := by
    unfold n73 res_main_v73
    pointwise <;> rfl
  rw [e, p2 (A2 V0)]
  unfold rDY
  rw [mul_comm 128 h.val]

theorem v74_at (h : Fin 8) (t s : Fin 2048) : n74 V0 (ix3 h t s) = gg V0 h t s := by
  have e : n74 V0 (ix3 h t s) = ∑ x : Fin 128, (n73 V0 (ix3 h x t) : EReal) * A0 V0 (ix2 s ⟨5120 + (h.val * 128 + x.val), by omega⟩) := by
    unfold n74 res_main_v74 res_main_v5
    pointwise <;> rfl
  rw [e]
  unfold gg gR
  rw [← Fin.sum_univ_eq_sum_range (fun d => rDY V0 t (128 * h.val + d) * rV V0 s (128 * h.val + d)) 128]
  refine Finset.sum_congr rfl fun x _ => ?_
  rw [v73_at, p2 (A0 V0)]
  unfold rV
  rw [mul_comm 128 h.val]

/-- Every row's scores are real or bottom, and one of them is real. -/
def Good : Prop := ∀ h t, h < 8 → t < 2048 → (∀ j, j < 2048 → zz V0 h t j = ⊥ ∨ Fin' (zz V0 h t j)) ∧ ∃ j, j < 2048 ∧ Fin' (zz V0 h t j)

theorem Good.pos {V0 : Valuation τ sig (Elt Ideal)} (hg : Good V0) (h t : ℕ) (hh : h < 8) (ht : t < 2048) :
    ∃ (l : ℝ) (e : ℕ → ℝ), 0 < l ∧ rowSum 2048 (zz V0 h t) = l ∧ ∀ j, j < 2048 → 0 ≤ e j ∧ rowExp 2048 (zz V0 h t) j = e j :=
  row_pos (hg h t hh ht).1 (hg h t hh ht).2

theorem Good.ne {V0 : Valuation τ sig (Elt Ideal)} (hg : Good V0) (h t : ℕ) (hh : h < 8) (ht : t < 2048) : rowSum 2048 (zz V0 h t) ≠ 0 := by
  obtain ⟨l, e, hl, hL, -⟩ := hg.pos h t hh ht
  rw [hL]
  exact fun h0 => hl.ne' (EReal.coe_eq_coe_iff.1 h0)

variable {V0} (hg : Good V0)
include hg

theorem v89_at (h : Fin 8) (t s : Fin 2048) : n89 V0 (ix3 h t s) = dsm 2048 (zz V0 h t) (gg V0 h t) s := by
  have e : n89 V0 (ix3 h t s) = Scalar.select (res_main_v42_1 V0 (ix3 h t s))
      ((Ideal.div (n74 V0 (ix3 h t s)) (n65 V0 (ix3 h t 0)) + ∑ y : Fin 1, -∑ x : Fin 2048, (n74 V0 (ix3 h t x) : EReal) * Ideal.div 1 (n65 V0 (ix3 h t 0) * n65 V0 (ix3 h t 0)) * n63 V0 (ix3 h t x)) * n63 V0 (ix3 h t s)) (0 : EReal) := by
    unfold n89 res_main_v89
    pointwise <;> rfl
  rw [e, v42_1_at, v65_at, v63_at, v74_at, Fin.sum_univ_one]
  simp only [v74_at, v63_at]
  rw [Fin.sum_univ_eq_sum_range (fun x => gg V0 h t x * Ideal.div 1 (rowSum 2048 (zz V0 h t) * rowSum 2048 (zz V0 h t)) * rowExp 2048 (zz V0 h t) x) 2048]
  obtain ⟨l, e, hl, hL, he⟩ := hg.pos h t h.isLt t.isLt
  by_cases ha : allow t s
  · rw [if_pos ha]
    exact dz_eq hl hL he s s.isLt
  · rw [if_neg ha]
    refine Eq.trans (b := (0 : EReal)) rfl (dsm_off _ (hg.ne h t h.isLt t.isLt) s ?_).symm
    unfold zz zR
    rw [if_neg ha]

theorem v91_at (h : Fin 8) (t s : Fin 2048) : n91 V0 (ix3 h t s) = dsm 2048 (zz V0 h t) (gg V0 h t) s * scl := by
  have e : n91 V0 (ix3 h t s) = n89 V0 (ix3 h t s) * scl := by
    unfold n91 res_main_v91
    pointwise <;> rfl
  rw [e, v89_at hg]

/-! ## The four results -/

theorem v99_at (p : Fin 2048) (q : Fin 1024) :
    (shapeCast _ (transpose S2048x8x128 [1, 0, 2] (Host.dotGeneral (F := Ideal) (φ₁ := .f32) (φ₂ := .f32) dot_S8x2048x2048_S2048x8x128_S8x2048x128_2_0_1_2_0_1 none (res_main_v91 V0) (res_main_v3 V0)) transposes_S8x2048x128_S2048x8x128_1_0_2) shapeCasts_S2048x8x128_S2048x1024 : S2048x1024.Idx → EReal) (ix2 p q)
      = dqR scl (rQ V0) (rK V0) (rV V0) (rT V0) (rDY V0) p q := by
  have hq := q.isLt
  have e : (shapeCast _ (transpose S2048x8x128 [1, 0, 2] (Host.dotGeneral (F := Ideal) (φ₁ := .f32) (φ₂ := .f32) dot_S8x2048x2048_S2048x8x128_S8x2048x128_2_0_1_2_0_1 none (res_main_v91 V0) (res_main_v3 V0)) transposes_S8x2048x128_S2048x8x128_1_0_2) shapeCasts_S2048x8x128_S2048x1024 : S2048x1024.Idx → EReal) (ix2 p q)
      = ∑ x : Fin 2048, n91 V0 (ix3 ⟨q.val / 128, by omega⟩ p x) * A0 V0 (ix2 x ⟨4096 + q.val, by omega⟩) := by
    unfold n91 res_main_v3
    pointwise <;> rfl
  rw [e]
  simp only [v91_at hg]
  unfold dqR
  rw [← Fin.sum_univ_eq_sum_range (fun s => dzR scl (rQ V0) (rK V0) (rV V0) (rT V0) (rDY V0) (q.val / 128) p s * scl * rK V0 s q) 2048]
  refine Finset.sum_congr rfl fun x _ => ?_
  rw [p2 (A0 V0)]
  rfl

theorem v101_at (p : Fin 2048) (q : Fin 1024) :
    (shapeCast _ (transpose S2048x8x128 [1, 0, 2] (Host.dotGeneral (F := Ideal) (φ₁ := .f32) (φ₂ := .f32) dot_S8x2048x2048_S2048x8x128_S8x2048x128_1_0_2_2_0_1 none (res_main_v91 V0) (res_main_v1 V0)) transposes_S8x2048x128_S2048x8x128_1_0_2) shapeCasts_S2048x8x128_S2048x1024 : S2048x1024.Idx → EReal) (ix2 p q)
      = dkR scl (rQ V0) (rK V0) (rV V0) (rT V0) (rDY V0) p q := by
  have hq := q.isLt
  have e : (shapeCast _ (transpose S2048x8x128 [1, 0, 2] (Host.dotGeneral (F := Ideal) (φ₁ := .f32) (φ₂ := .f32) dot_S8x2048x2048_S2048x8x128_S8x2048x128_1_0_2_2_0_1 none (res_main_v91 V0) (res_main_v1 V0)) transposes_S8x2048x128_S2048x8x128_1_0_2) shapeCasts_S2048x8x128_S2048x1024 : S2048x1024.Idx → EReal) (ix2 p q)
      = ∑ x : Fin 2048, n91 V0 (ix3 ⟨q.val / 128, by omega⟩ x p) * A0 V0 (ix2 x ⟨3072 + q.val, by omega⟩) := by
    unfold n91 res_main_v1
    pointwise <;> rfl
  rw [e]
  simp only [v91_at hg]
  unfold dkR
  rw [← Fin.sum_univ_eq_sum_range (fun t => dzR scl (rQ V0) (rK V0) (rV V0) (rT V0) (rDY V0) (q.val / 128) t p * scl * rQ V0 t q) 2048]
  refine Finset.sum_congr rfl fun x _ => ?_
  rw [p2 (A0 V0)]
  rfl

omit hg in
theorem v103_at (p : Fin 2048) (q : Fin 1024) :
    (shapeCast _ (transpose S2048x8x128 [2, 0, 1] (Host.dotGeneral (F := Ideal) (φ₁ := .f32) (φ₂ := .f32) dot_S8x128x2048_S8x2048x2048_S8x128x2048_2_1_1_2_0_0 none (res_main_v73 V0) (res_main_v67 V0)) transposes_S8x128x2048_S2048x8x128_2_0_1) shapeCasts_S2048x8x128_S2048x1024 : S2048x1024.Idx → EReal) (ix2 p q)
      = dvR scl (rQ V0) (rK V0) (rT V0) (rDY V0) p q := by
  have hq := q.isLt
  have e : (shapeCast _ (transpose S2048x8x128 [2, 0, 1] (Host.dotGeneral (F := Ideal) (φ₁ := .f32) (φ₂ := .f32) dot_S8x128x2048_S8x2048x2048_S8x128x2048_2_1_1_2_0_0 none (res_main_v73 V0) (res_main_v67 V0)) transposes_S8x128x2048_S2048x8x128_2_0_1) shapeCasts_S2048x8x128_S2048x1024 : S2048x1024.Idx → EReal) (ix2 p q)
      = ∑ x : Fin 2048, n73 V0 (ix3 ⟨q.val / 128, by omega⟩ ⟨q.val % 128, by omega⟩ x) * n67 V0 (ix3 ⟨q.val / 128, by omega⟩ x p) := by
    unfold n73 n67
    pointwise <;> rfl
  rw [e]
  simp only [v73_at, v67_at]
  unfold dvR
  rw [← Fin.sum_univ_eq_sum_range (fun t => sm 2048 (zR scl (rQ V0) (rK V0) (rT V0) (q.val / 128) t) p * rDY V0 t q) 2048]
  refine Finset.sum_congr rfl fun x _ => ?_
  rw [Nat.div_add_mod, mul_comm]

theorem v97_at (h : Fin 8) (r : Fin 192) :
    (Host.scatterAdd scatter_S8x192_S2048x2048x1_S8x2048x2048_0_1_1_2 (broadcastInDim S8x192 ![] bcast_S_S8x192 (constant (F := Ideal) S_ .f32 0x00000000#32)) (res_main_v23 V0) (res_main_v89 V0) : S8x192.Idx → EReal) (ix2 h r)
      = dtR scl (rQ V0) (rK V0) (rV V0) (rT V0) (rDY V0) h r := by
  have e : (Host.scatterAdd scatter_S8x192_S2048x2048x1_S8x2048x2048_0_1_1_2 (broadcastInDim S8x192 ![] bcast_S_S8x192 (constant (F := Ideal) S_ .f32 0x00000000#32)) (res_main_v23 V0) (res_main_v89 V0) : S8x192.Idx → EReal) (ix2 h r)
      = Ideal.ofBits .f32 0x00000000#32 + ∑ j ∈ Finset.univ.filter (fun j => scatter_S8x192_S2048x2048x1_S8x2048x2048_0_1_1_2.resultIdx? j (res_main_v23 V0) = some (ix2 h r)), n89 V0 j := rfl
  rw [e, Finset.sum_filter, sum_idx3]
  have h0 : Ideal.ofBits .f32 0x00000000#32 = 0 := by simp [Ideal.ofBits, Ideal.ieee]
  rw [h0, zero_add]
  have hc : ∀ (g : Fin 8) (t s : Fin 2048), (if scatter_S8x192_S2048x2048x1_S8x2048x2048_0_1_1_2.resultIdx? (ix3 g t s) (res_main_v23 V0) = some (ix2 h r) then n89 V0 (ix3 g t s) else 0)
      = if g = h then (if rel t s = r.val then dzR scl (rQ V0) (rK V0) (rV V0) (rT V0) (rDY V0) g t s else 0) else 0 := fun g t s => by
    have hl := lands_at (res_main_v23 V0) g t s h r
    rw [v23_int, ← ix2_eq_valueIdx] at hl
    rw [v89_at hg]
    by_cases h1 : g = h
    · by_cases h2 : rel t s = r.val
      · rw [if_pos (hl.2 ⟨congrArg Fin.val h1, by exact_mod_cast h2⟩), if_pos h1, if_pos h2]
      · rw [if_neg (fun hh => h2 (by exact_mod_cast (hl.1 hh).2)), if_pos h1, if_neg h2]
    · rw [if_neg (fun hh => h1 (Fin.ext (hl.1 hh).1)), if_neg h1]
  simp only [hc]
  rw [Finset.sum_eq_single h (fun g _ hg' => by simp only [if_neg hg', Finset.sum_const_zero]) (fun hn => (hn (Finset.mem_univ h)).elim)]
  simp only [if_true]
  unfold dtR
  rw [← Fin.sum_univ_eq_sum_range (fun t => ∑ s ∈ Finset.range 2048, if rel t s = r.val then dzR scl (rQ V0) (rK V0) (rV V0) (rT V0) (rDY V0) h t s else 0) 2048]
  refine Finset.sum_congr rfl fun t _ => ?_
  exact Fin.sum_univ_eq_sum_range (fun s => if rel t.val s = r.val then dzR scl (rQ V0) (rK V0) (rV V0) (rT V0) (rDY V0) h t s else 0) 2048

end Cert.ReferenceIdeal.Value
end
-- ==== Proof.Finite.lean ====
/-
  What the precondition says: the queries, the keys and the table are real, hence every row's scores are.
-/
module
public import proofs.«01_k».proof.Pre_finite
public import Idealize.ShloMosaic.Lib.ValueIdx
public import proofs.«01_k».proof.Proof.Row
public import proofs.«01_k».proof.Proof.Tile
@[expose] public section
noncomputable section
namespace Cert.Attn
open Idealize.ShloMosaic Idealize.ShloMosaic.ValueIdx
open Cert.KernelIdeal.Value (scl)

/-- A number whose size is below plus infinity is real. -/
theorem fin_of (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  have h1 : x ≠ ⊤ := hlt.1.ne
  have h2 : x ≠ ⊥ := fun hb => by rw [hb] at hlt; exact hlt.2.ne rfl
  exact ⟨x.toReal, (EReal.coe_toReal h1 h2).symm⟩

theorem scl_fin : Fin' scl := by
  unfold scl
  simp [Ideal.ofBits, Ideal.ieee]
  exact Fin'.mul ⟨_, rfl⟩ ⟨_, rfl⟩

/-- The scores of every row are real where the query looks and bottom elsewhere; a query looks at its own key. -/
theorem z_good {Q K T : ℕ → ℕ → EReal} (hQ : ∀ t d, t < 2048 → d < 1024 → Fin' (Q t d)) (hK : ∀ t d, t < 2048 → d < 1024 → Fin' (K t d))
    (hT : ∀ h r, h < 8 → r < 192 → Fin' (T h r)) (h t : ℕ) (hh : h < 8) (ht : t < 2048) :
    (∀ j, j < 2048 → zR scl Q K T h t j = ⊥ ∨ Fin' (zR scl Q K T h t j)) ∧ ∃ j, j < 2048 ∧ Fin' (zR scl Q K T h t j) := by
  have key : ∀ j, j < 2048 → allow t j → Fin' (zR scl Q K T h t j) := fun j hj ha => by
    unfold zR
    rw [if_pos ha]
    refine ((Fin'.sum fun d hd => (hQ t _ ht (by omega)).mul (hK j _ hj (by omega))).mul scl_fin).add (hT h _ hh ?_)
    unfold rel; omega
  refine ⟨fun j hj => ?_, t, ht, key t ht ⟨le_rfl, by omega⟩⟩
  by_cases ha : allow t j
  · exact .inr (key j hj ha)
  · left; unfold zR; rw [if_neg ha]

theorem pre_facts : Cert.Pre_finite.Facts where
  slices_S2048x10240_S2048x2048_0_3072 := by decide
  bcast_S_S2048x2048 := by decide
  bcast_S_S8x192 := by decide

section Pre
variable [Cert.Pre_finite.Facts] (x0 : FVec Ideal Cert.Pre_finite.S2048x10240 .f32) (x1 : FVec Ideal Cert.Pre_finite.S8x192 .f32) (x2 : FVec Ideal Cert.Pre_finite.S2048x1024 .bf16)

/-- The precondition says that the queries and the keys are real. -/
theorem pre_qk (h : (Cert.Pre_finite.fn (F := Ideal) x0 x1 x2).1 = fun _ => 1#1) (t d : ℕ) (ht : t < 2048) (hd : d < 2048) :
    Fin' (at2 (a := 2048) (b := 10240) x0 t (3072 + d)) := by
  rw [at2_mk _ _ _ ht (by omega)]
  have h1 := congrFun h (ix2 ⟨t, ht⟩ ⟨d, hd⟩ : Cert.Pre_finite.S2048x2048.Idx)
  have h2 : extractStridedSlice Cert.Pre_finite.S2048x2048 ![0, 3072] x0 Cert.Pre_finite.Facts.slices_S2048x10240_S2048x2048_0_3072 (ix2 ⟨t, ht⟩ ⟨d, hd⟩)
      = x0 (ix2 ⟨t, ht⟩ ⟨3072 + d, by omega⟩) := extractStridedSlice_apply _ _ _ _ _ (by
    intro a
    match a with
    | ⟨0, _⟩ => show t = 0 + t; omega
    | ⟨1, _⟩ => rfl)
  refine fin_of _ ?_
  rw [← h2]
  exact h1

/-- The precondition says that the table is real. -/
theorem pre_t (h : (Cert.Pre_finite.fn (F := Ideal) x0 x1 x2).2 = fun _ => 1#1) (g r : ℕ) (hg : g < 8) (hr : r < 192) :
    Fin' (at2 (a := 8) (b := 192) x1 g r) := by
  rw [at2_mk _ _ _ hg hr]
  exact fin_of _ (congrFun h (ix2 ⟨g, hg⟩ ⟨r, hr⟩ : Cert.Pre_finite.S8x192.Idx))
end Pre

end Cert.Attn
end
-- ==== Proof.Algebraic.lean ====
/-
  The claim on the values: from the same arguments, the kernel and the reference end with the same four gradients.
-/
module
public import proofs.«01_k».proof.Defs
public import proofs.«01_k».proof.Proof.Frames
public import proofs.«01_k».proof.Proof.Kern
public import proofs.«01_k».proof.Proof.RefValue
public import proofs.«01_k».proof.Proof.Finite
@[expose] public section
set_option maxRecDepth 8192
set_option maxHeartbeats 1000000
noncomputable section
namespace Cert.Algebraic
open Idealize.ShloMosaic Idealize.ShloMosaic.TcCoe Idealize.SL.Sem
open Cert.Attn
open Cert.KernelIdeal.Value (scl aQ aK aV aT aDY)
open Cert.ReferenceIdeal.Value (rQ rK rV rT rDY)

/-- Two arrays of rank two that agree at every pair of coordinates are equal. -/
theorem ext2 {a b : ℕ} {x y : (⟨2, ![a, b]⟩ : Shape).Idx → EReal} (h : ∀ (i : Fin a) (j : Fin b), x (ValueIdx.ix2 i j) = y (ValueIdx.ix2 i j)) : x = y := by
  funext k
  rw [ValueIdx.eq_ix2 k]
  exact h _ _

section Results
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

/-- The reference's buffers on a device at its start. -/
abbrev V0 : Valuation Cert.ReferenceIdeal.τ Cert.ReferenceIdeal.sig (Elt Ideal) := StableHlo.launchContents m' c

variable [Cert.Pre_finite.Facts]
  (hp : (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1))
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include hp in
theorem good_k (h t : ℕ) (hh : h < 8) (ht : t < 2048) :
    (∀ j, j < 2048 → zR scl (aQ m c) (aK m c) (aT m c) h t j = ⊥ ∨ Fin' (zR scl (aQ m c) (aK m c) (aT m c) h t j)) ∧ ∃ j, j < 2048 ∧ Fin' (zR scl (aQ m c) (aK m c) (aT m c) h t j) := by
  refine z_good (fun t d ht hd => pre_qk _ _ _ hp.1 t d ht (by omega)) (fun t d ht hd => ?_) (fun h r hh hr => pre_t _ _ _ hp.2 h r hh hr) h t hh ht
  have := pre_qk _ _ _ hp.1 t (1024 + d) ht (by omega)
  rw [← Nat.add_assoc] at this
  exact this

include hp in
theorem hL (h t : ℕ) (hh : h < 8) (ht : t < 2048) : rowSum 2048 (Cert.KernelIdeal.Value.zA m c h t) ≠ 0 := by
  obtain ⟨l, e, hl, hL, -⟩ := row_pos (good_k m c hp h t hh ht).1 (good_k m c hp h t hh ht).2
  show rowSum 2048 (zR scl (aQ m c) (aK m c) (aT m c) h t) ≠ 0
  rw [hL]
  exact fun h0 => hl.ne' (EReal.coe_eq_coe_iff.1 h0)

include h0 in
theorem eqQ : rQ (V0 c m') = aQ m c := funext fun t => funext fun d => congrArg (fun x => at2 (a := 2048) (b := 10240) x t (3072 + d)) h0
include h0 in
theorem eqK : rK (V0 c m') = aK m c := funext fun t => funext fun d => congrArg (fun x => at2 (a := 2048) (b := 10240) x t (4096 + d)) h0
include h0 in
theorem eqV : rV (V0 c m') = aV m c := funext fun t => funext fun d => congrArg (fun x => at2 (a := 2048) (b := 10240) x t (5120 + d)) h0
include h1 in
theorem eqT : rT (V0 c m') = aT m c := funext fun h => funext fun r => congrArg (fun x => at2 (a := 8) (b := 192) x h r) h1
include h2 in
theorem eqDY : rDY (V0 c m') = aDY m c := funext fun t => funext fun d => congrArg (fun x => at2 (a := 2048) (b := 1024) x t d) h2

include hp h0 h1 in
theorem good_r : Cert.ReferenceIdeal.Value.Good (V0 c m') := fun h t hh ht => by
  unfold Cert.ReferenceIdeal.Value.zz
  rw [eqQ m c m' h0, eqK m c m' h0, eqT m c m' h1]
  exact good_k m c hp h t hh ht

end Results

theorem algebraic [hPre_finite : Cert.Pre_finite.Facts] : Cert.algebraic_KernelIdeal_ReferenceIdeal_pre_finite := by
  intro m g m' g' hp ha
  refine ⟨fun c => Cert.KernelIdeal.Gen.W12 m g c (Proc.devRef .tc Cert.KernelIdeal.main_v9_0), fun c => Cert.KernelIdeal.Gen.W12 m g c (Proc.devRef .tc Cert.KernelIdeal.main_v9_1),
    fun c => Cert.KernelIdeal.Gen.W12 m g c (Proc.devRef .tc Cert.KernelIdeal.main_v9_2), fun c => Cert.KernelIdeal.Gen.W12 m g c (Proc.devRef .tc Cert.KernelIdeal.main_v17), ?_, ?_⟩
  · refine (θ_run Cert.KernelIdeal.defs _ _).mono (fun r h c => ?_) (Cert.KernelIdeal.Gen.launch (F := Ideal) m g)
    exact ⟨h.1 c _ (Cert.KernelIdeal.Gen.mem_uc Cert.KernelIdeal.main_v9_0 (by decide)), h.1 c _ (Cert.KernelIdeal.Gen.mem_uc Cert.KernelIdeal.main_v9_1 (by decide)),
      h.1 c _ (Cert.KernelIdeal.Gen.mem_uc Cert.KernelIdeal.main_v9_2 (by decide)), h.1 c _ (Cert.KernelIdeal.Gen.mem_uc Cert.KernelIdeal.main_v17 (by decide)),
      (h.1 c _ (Cert.KernelIdeal.Gen.mem_uc Cert.KernelIdeal.main_arg0 (by decide))).trans (Cert.KernelIdeal.Gen.W12_main_arg0 m g c),
      (h.1 c _ (Cert.KernelIdeal.Gen.mem_uc Cert.KernelIdeal.main_arg1 (by decide))).trans (Cert.KernelIdeal.Gen.W12_main_arg1 m g c),
      (h.1 c _ (Cert.KernelIdeal.Gen.mem_uc Cert.KernelIdeal.main_arg2 (by decide))).trans (Cert.KernelIdeal.Gen.W12_main_arg2 m g c)⟩
  · refine (θ_run Cert.ReferenceIdeal.defs _ _).mono (fun r h c => ?_) (Cert.ReferenceIdeal.Value.run (F := Ideal) m' g')
    obtain ⟨e99, e101, e103, e97, k0, k1, k2⟩ := h c
    obtain ⟨a0, a1, a2⟩ := ha c
    have hg := good_r m c m' (hp c) a0 a1
    have hl := hL m c (hp c)
    refine ⟨e99.trans (ext2 (a := 2048) (b := 1024) fun p q => ?_), e101.trans (ext2 (a := 2048) (b := 1024) fun p q => ?_), e103.trans (ext2 (a := 2048) (b := 1024) fun p q => ?_),
      e97.trans (ext2 (a := 8) (b := 192) fun p q => ?_), k0, k1, k2⟩
    · refine Eq.trans ?_ (Cert.KernelIdeal.Value.res_dq m g c hl p q).symm
      rw [← eqQ m c m' a0, ← eqK m c m' a0, ← eqV m c m' a0, ← eqT m c m' a1, ← eqDY m c m' a2, ← ix2_eq_valueIdx]
      exact Cert.ReferenceIdeal.Value.v99_at hg p q
    · refine Eq.trans ?_ (Cert.KernelIdeal.Value.res_dk m g c hl p q).symm
      rw [← eqQ m c m' a0, ← eqK m c m' a0, ← eqV m c m' a0, ← eqT m c m' a1, ← eqDY m c m' a2, ← ix2_eq_valueIdx]
      exact Cert.ReferenceIdeal.Value.v101_at hg p q
    · refine Eq.trans ?_ (Cert.KernelIdeal.Value.res_dv m g c hl p q).symm
      rw [← eqQ m c m' a0, ← eqK m c m' a0, ← eqT m c m' a1, ← eqDY m c m' a2, ← ix2_eq_valueIdx]
      exact Cert.ReferenceIdeal.Value.v103_at p q
    · refine Eq.trans ?_ (Cert.KernelIdeal.Value.res_dt m g c hl p q).symm
      rw [← eqQ m c m' a0, ← eqK m c m' a0, ← eqV m c m' a0, ← eqT m c m' a1, ← eqDY m c m' a2, ← ix2_eq_valueIdx]
      exact Cert.ReferenceIdeal.Value.v97_at hg p q

end Cert.Algebraic
end
-- ==== Proof.Launch2.lean ====
/-
  The run of the feed-forward calls, read back whole: every buffer of every device ends at the contents that the
  generated fold through the calls gives it.
-/
module
public import proofs.«01_k».proof.Proof.Gen.Kernel2Ideal.Frame
@[expose] public section
set_option maxRecDepth 16384
noncomputable section
namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem launch : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.Kernel2Ideal.Gen
end
-- ==== Proof.Mm.lean ====
/-
  Products of two arrays of numbers as sums over the contracted index.
-/
module
public import proofs.«01_k».proof.Proof.Spec
@[expose] public section
noncomputable section
namespace Cert.Mm
open Idealize.ShloMosaic Cert.Attn

/-- Rows by columns, over `K` contracted indices. -/
def nn (K : ℕ) (A B : ℕ → ℕ → EReal) (i j : ℕ) : EReal := ∑ k ∈ Finset.range K, A i k * B k j
/-- The first array's columns by the second's columns. -/
def tn (K : ℕ) (A B : ℕ → ℕ → EReal) (i j : ℕ) : EReal := ∑ k ∈ Finset.range K, A k i * B k j
/-- The first array's rows by the second's rows. -/
def nt (K : ℕ) (A B : ℕ → ℕ → EReal) (i j : ℕ) : EReal := ∑ k ∈ Finset.range K, A i k * B j k

/-- A product contracted in two stretches. -/
theorem nn_split (K L : ℕ) (A B : ℕ → ℕ → EReal) (i j : ℕ) :
    nn (K + L) A B i j = nn K A B i j + nn L (fun i k => A i (K + k)) (fun k j => B (K + k) j) i j :=
  Finset.sum_range_add _ _ _
/-- The same, of the second array's transpose. -/
theorem nt_split (K L : ℕ) (A B : ℕ → ℕ → EReal) (i j : ℕ) :
    nt (K + L) A B i j = nt K A B i j + nt L (fun i k => A i (K + k)) (fun j k => B j (K + k)) i j :=
  Finset.sum_range_add _ _ _

/-- Two products agree where their factors do. -/
theorem nn_congr {K : ℕ} {A A' B B' : ℕ → ℕ → EReal} {i i' j j' : ℕ} (hA : ∀ k, k < K → A i k = A' i' k) (hB : ∀ k, k < K → B k j = B' k j') :
    nn K A B i j = nn K A' B' i' j' :=
  Finset.sum_congr (M := EReal) rfl fun k hk => congrArg₂ (· * ·) (hA k (Finset.mem_range.1 hk)) (hB k (Finset.mem_range.1 hk))
theorem tn_congr {K : ℕ} {A A' B B' : ℕ → ℕ → EReal} {i i' j j' : ℕ} (hA : ∀ k, k < K → A k i = A' k i') (hB : ∀ k, k < K → B k j = B' k j') :
    tn K A B i j = tn K A' B' i' j' :=
  Finset.sum_congr (M := EReal) rfl fun k hk => congrArg₂ (· * ·) (hA k (Finset.mem_range.1 hk)) (hB k (Finset.mem_range.1 hk))
theorem nt_congr {K : ℕ} {A A' B B' : ℕ → ℕ → EReal} {i i' j j' : ℕ} (hA : ∀ k, k < K → A i k = A' i' k) (hB : ∀ k, k < K → B j k = B' j' k) :
    nt K A B i j = nt K A' B' i' j' :=
  Finset.sum_congr (M := EReal) rfl fun k hk => congrArg₂ (· * ·) (hA k (Finset.mem_range.1 hk)) (hB k (Finset.mem_range.1 hk))

/-- The sums over the first `n` numbers and over the indices below `n`. -/
theorem nn_fin {n : ℕ} (A B : ℕ → ℕ → EReal) (i j : ℕ) (f : Fin n → EReal) (h : ∀ x : Fin n, f x = A i x * B x j) : ∑ x : Fin n, f x = nn n A B i j := by
  unfold nn
  rw [← Fin.sum_univ_eq_sum_range (fun k => A i k * B k j) n]
  exact Finset.sum_congr rfl fun x _ => h x
theorem tn_fin {n : ℕ} (A B : ℕ → ℕ → EReal) (i j : ℕ) (f : Fin n → EReal) (h : ∀ x : Fin n, f x = A x i * B x j) : ∑ x : Fin n, f x = tn n A B i j := by
  unfold tn
  rw [← Fin.sum_univ_eq_sum_range (fun k => A k i * B k j) n]
  exact Finset.sum_congr rfl fun x _ => h x
theorem nt_fin {n : ℕ} (A B : ℕ → ℕ → EReal) (i j : ℕ) (f : Fin n → EReal) (h : ∀ x : Fin n, f x = A i x * B j x) : ∑ x : Fin n, f x = nt n A B i j := by
  unfold nt
  rw [← Fin.sum_univ_eq_sum_range (fun k => A i k * B j k) n]
  exact Finset.sum_congr rfl fun x _ => h x
end Cert.Mm
end
-- ==== Proof.Acc.lean ====
/-
  Products summed tile by tile over a grid's last axis, and the host's reshapes and slices of a weight, at natural indices.
-/
module
public import proofs.«01_k».proof.Proof.Blk
public import proofs.«01_k».proof.Proof.Mm
public import Idealize.ShloMosaic.Lib.Pipeline.Value
@[expose] public section
noncomputable section
namespace Cert.Mm
open Idealize.ShloMosaic Idealize.ShloMosaic.ValueIdx Cert.Attn

/-- What is set to a tile's product where a row of `L` points begins, and has the next one added at every other point, holds
    after point `n` the product over the tiles met so far. -/
theorem acc_nt {N a b K L : ℕ} (hL : 0 < L) (A B : ℕ → ℕ → EReal) (S : (n : ℕ) → n < N → Fin a → Fin b → EReal) (T : Fin N → Fin a → Fin b → EReal)
    (hT : ∀ t p q, T t p q = nt K (fun i k => A i (K * (t.val % L) + k)) (fun j k => B j (K * (t.val % L) + k)) (a * (t.val / L) + p) q)
    (h0 : ∀ t : Fin N, t.val % L = 0 → ∀ p q, S t.val t.isLt p q = T t p q)
    (h1 : ∀ n (h : n + 1 < N), ¬(n + 1) % L = 0 → ∀ p q, S (n + 1) h p q = S n (Nat.lt_of_succ_lt h) p q + T ⟨n + 1, h⟩ p q) (n : ℕ) :
    ∀ (h : n < N) (p : Fin a) (q : Fin b), S n h p q = nt (K * (n % L + 1)) A B (a * (n / L) + p) q := by
  have first (t : Fin N) (e : t.val % L = 0) (p : Fin a) (q : Fin b) : S t.val t.isLt p q = nt (K * (t.val % L + 1)) A B (a * (t.val / L) + p) q := by
    rw [h0 t e, hT, e, Nat.zero_add, Nat.mul_one, Nat.mul_zero]
    exact nt_congr (fun k _ => congrArg _ (Nat.zero_add k)) fun k _ => congrArg _ (Nat.zero_add k)
  induction n with
  | zero => exact fun h => first ⟨0, h⟩ (Nat.zero_mod L)
  | succ n ih =>
    intro h p q
    by_cases e : (n + 1) % L = 0
    · exact first ⟨n + 1, h⟩ e p q
    · have hr := Nat.mod_lt n hL
      have hn := Nat.div_add_mod n L
      have hlt : n % L + 1 < L := by
        rcases Nat.lt_or_ge (n % L + 1) L with x | x
        · exact x
        · exact absurd (by rw [← hn, Nat.add_assoc, show n % L + 1 = L by omega]; simp) e
      have em : (n + 1) % L = n % L + 1 := by
        conv_lhs => rw [← hn, Nat.add_assoc, Nat.mul_add_mod, Nat.mod_eq_of_lt hlt]
      have ed : (n + 1) / L = n / L := by
        conv_lhs => rw [← hn, Nat.add_assoc, Nat.mul_add_div hL, Nat.div_eq_of_lt hlt, Nat.add_zero]
      rw [h1 n h e, hT, ih (Nat.lt_of_succ_lt h)]
      show _ + nt K (fun i k => A i (K * ((n + 1) % L) + k)) (fun j k => B j (K * ((n + 1) % L) + k)) (a * ((n + 1) / L) + p) q = _
      rw [em, ed, Nat.mul_succ K (n % L + 1), nt_split]

/-- A block without its unit axis. -/
theorem cast_unit {b c : ℕ} (v : (⟨3, ![1, b, c]⟩ : Shape).Idx → EReal) (h : (⟨3, ![1, b, c]⟩ : Shape).ShapeCasts ⟨2, ![b, c]⟩) (p q : ℕ) (hp : p < b) (hq : q < c) :
    at2 (shapeCast (⟨2, ![b, c]⟩ : Shape) v h) p q = at3 v 0 p q := by
  rw [at2_mk _ _ _ hp hq, at3_mk _ _ _ _ Nat.zero_lt_one hp hq]
  exact shapeCast_apply _ _ _ (ix3 ⟨0, Nat.zero_lt_one⟩ ⟨p, hp⟩ ⟨q, hq⟩) (by
    rw [Shape.rowMajor_val_two, Shape.rowMajor_val_three]
    show (0 * b + p) * c + q = p * c + q
    rw [Nat.zero_mul, Nat.zero_add])

/-- A weight's rows, read off its blocks of `n` columns from block `o` on. -/
def wrows (n o : ℕ) (B : ℕ → ℕ → ℕ → EReal) (j k : ℕ) : EReal := B (k / n + o) j (k % n)

/-- The blocks are cut out of the weight by a reshape and a transpose. -/
theorem wrows_at {N M G n : ℕ} (o : ℕ) (W : (⟨2, ![N, M]⟩ : Shape).Idx → EReal) (h : (⟨2, ![N, M]⟩ : Shape).ShapeCasts ⟨3, ![N, G, n]⟩)
    (h' : (⟨3, ![N, G, n]⟩ : Shape).Transposes [1, 0, 2] ⟨3, ![G, N, n]⟩) (hM : M = G * n) (hn : 0 < n) (j k : ℕ) (hj : j < N) (hk : k / n + o < G) :
    wrows n o (at3 (transpose (⟨3, ![G, N, n]⟩ : Shape) [1, 0, 2] (shapeCast (⟨3, ![N, G, n]⟩ : Shape) W h) h')) j k = at2 W j (o * n + k) := by
  have ek := Nat.div_add_mod k n
  have hr := Nat.mod_lt k hn
  have hM' : o * n + k < M := by
    rw [hM]; calc o * n + k = (k / n + o) * n + k % n := by conv_lhs => rw [← ek]
                                                            ring
      _ < (k / n + o) * n + n := Nat.add_lt_add_left hr _
      _ = (k / n + o + 1) * n := by ring
      _ ≤ G * n := Nat.mul_le_mul_right _ hk
  unfold wrows
  rw [at3_mk _ _ _ _ hk hj hr, at2_mk _ _ _ hj hM']
  refine (congrArg (shapeCast (⟨3, ![N, G, n]⟩ : Shape) W h) (funext fun a => Fin.ext ?_ : _ = (ix3 ⟨j, hj⟩ ⟨k / n + o, hk⟩ ⟨k % n, hr⟩ : (⟨3, ![N, G, n]⟩ : Shape).Idx))).trans ?_
  · match a with
    | ⟨0, _⟩ => rfl
    | ⟨1, _⟩ => rfl
    | ⟨2, _⟩ => rfl
  exact shapeCast_apply _ _ _ (ix2 ⟨j, hj⟩ ⟨o * n + k, hM'⟩) (by
    rw [Shape.rowMajor_val_two, Shape.rowMajor_val_three]
    show j * M + (o * n + k) = (j * G + (k / n + o)) * n + k % n
    rw [hM]
    conv_lhs => rw [← ek]
    ring)

/-- A slice read at natural indices. -/
theorem slice_at {N M N' M' a b : ℕ} (W : (⟨2, ![N, M]⟩ : Shape).Idx → EReal) (h : (⟨2, ![N, M]⟩ : Shape).Slices ![a, b] ⟨2, ![N', M']⟩) (p q : ℕ) (hp : p < N') (hq : q < M') :
    at2 (extractStridedSlice (⟨2, ![N', M']⟩ : Shape) ![a, b] W h) p q = at2 W (a + p) (b + q) := by
  rw [at2_mk _ _ _ hp hq]
  exact at2_eq W _
end Cert.Mm
end
-- ==== Proof.Tile2.lean ====
/-
  The feed-forward block's products, and what each call's body leaves at an index of its block.
-/
module
public import proofs.«01_k».proof.Proof.Acc
public import proofs.«01_k».proof.Proof.Gen.Kernel2Ideal.Skeleton
public import proofs.«01_k».proof.Proof.Spec
public import Idealize.ShloMosaic.PureOps.IdealRules
public import Idealize.ShloMosaic.Lib.Pipeline.Value
public import Idealize.ShloMosaic.Lib.ValueLayout
public import Idealize.ShloMosaic.Lib.IdealHost
public import Idealize.ShloMosaic.Lib.ValueLayoutCasts
@[expose] public section
set_option maxRecDepth 16384
noncomputable section
namespace Cert.Ffn
open Idealize.ShloMosaic Cert.Attn

/-- The product of two arrays of numbers over 2048 contracted indices: rows by columns. -/
def nn (A B : ℕ → ℕ → EReal) (i j : ℕ) : EReal := ∑ k ∈ Finset.range 2048, A i k * B k j
/-- The same, of the first array's transpose. -/
def tn (A B : ℕ → ℕ → EReal) (i j : ℕ) : EReal := ∑ k ∈ Finset.range 2048, A k i * B k j
/-- The same, of the second array's transpose. -/
def nt (A B : ℕ → ℕ → EReal) (i j : ℕ) : EReal := ∑ k ∈ Finset.range 2048, A i k * B j k

/-- The gated activation. -/
def actS (g u : EReal) : EReal := g * Ideal.logistic g * u
/-- Its derivative by the gate, applied to `t`. -/
def dgS (t g u : EReal) : EReal := t * u * Ideal.logistic g * (1 + g * (1 - Ideal.logistic g))
/-- Its derivative by the other factor, applied to `t`. -/
def duS (t g : EReal) : EReal := t * g * Ideal.logistic g
end Cert.Ffn

namespace Cert.Kernel2Ideal.Value
open Cert.Kernel2Ideal Cert.Kernel2Ideal.Gen Cert.Attn Cert.Ffn
open Idealize.ShloMosaic Idealize.ShloMosaic.ValueIdx

theorem mm0 (φ₁ φ₂ : FTy) (prec) (x : FVec Ideal S512x2048 φ₁) (y : FVec Ideal S2048x1408 φ₂) (i : Fin 512) (j : Fin 1408) :
    matmul dot_S512x2048_S2048x1408_S512x1408_1_0_0_1_n_n prec x y (constant S512x1408 .f32 0x00000000#32) (ix2 i j) = nn (at2 x) (at2 y) i j :=
  matmul_at _ prec 2048 rfl rfl x y (ix2 i j) _ _
    (fun k => at2_of x _ _ _ rfl (contrEquiv1_symm_val dot_S512x2048_S2048x1408_S512x1408_1_0_0_1_n_n 2048 rfl rfl k))
    (fun k => at2_of y _ _ _ (contrEquiv1_symm_val dot_S512x2048_S2048x1408_S512x1408_1_0_0_1_n_n 2048 rfl rfl k) rfl)

theorem mm1 (φ₁ φ₂ : FTy) (prec) (x : FVec Ideal S2048x1408 φ₁) (y : FVec Ideal S2048x1024 φ₂) (i : Fin 1408) (j : Fin 1024) :
    matmul dot_S2048x1408_S2048x1024_S1408x1024_0_0_1_1_n_n prec x y (constant S1408x1024 .f32 0x00000000#32) (ix2 i j) = tn (at2 x) (at2 y) i j :=
  matmul_at _ prec 2048 rfl rfl x y (ix2 i j) _ _
    (fun k => at2_of x _ _ _ (contrEquiv1_symm_val dot_S2048x1408_S2048x1024_S1408x1024_0_0_1_1_n_n 2048 rfl rfl k) rfl)
    (fun k => at2_of y _ _ _ (contrEquiv1_symm_val dot_S2048x1408_S2048x1024_S1408x1024_0_0_1_1_n_n 2048 rfl rfl k) rfl)

theorem mm2 (φ₁ φ₂ : FTy) (prec) (x : FVec Ideal S512x2048 φ₁) (y : FVec Ideal S1408x2048 φ₂) (i : Fin 512) (j : Fin 1408) :
    matmul dot_S512x2048_S1408x2048_S512x1408_1_1_0_0_n_n prec x y (constant S512x1408 .f32 0x00000000#32) (ix2 i j) = nt (at2 x) (at2 y) i j :=
  matmul_at _ prec 2048 rfl rfl x y (ix2 i j) _ _
    (fun k => at2_of x _ _ _ rfl (contrEquiv1_symm_val dot_S512x2048_S1408x2048_S512x1408_1_1_0_0_n_n 2048 rfl rfl k))
    (fun k => at2_of y _ _ _ rfl (contrEquiv1_symm_val dot_S512x2048_S1408x2048_S512x1408_1_1_0_0_n_n 2048 rfl rfl k))

theorem mm3 (φ₁ φ₂ : FTy) (prec) (x : FVec Ideal S2048x1024 φ₁) (y : FVec Ideal S2048x1408 φ₂) (i : Fin 1024) (j : Fin 1408) :
    matmul dot_S2048x1024_S2048x1408_S1024x1408_0_0_1_1_n_n prec x y (constant S1024x1408 .f32 0x00000000#32) (ix2 i j) = tn (at2 x) (at2 y) i j :=
  matmul_at _ prec 2048 rfl rfl x y (ix2 i j) _ _
    (fun k => at2_of x _ _ _ (contrEquiv1_symm_val dot_S2048x1024_S2048x1408_S1024x1408_0_0_1_1_n_n 2048 rfl rfl k) rfl)
    (fun k => at2_of y _ _ _ (contrEquiv1_symm_val dot_S2048x1024_S2048x1408_S1024x1408_0_0_1_1_n_n 2048 rfl rfl k) rfl)

theorem pay0_1 (v0 : Vec Ideal S512x2048 .bf16) (v1 : Vec Ideal S1x2048x1408 .bf16) (i : Fin 512) (j : Fin 1408) :
    k0_pay1 (F := Ideal) v0 v1 (ix2 i j) = nn (at2 (a := 512) (b := 2048) v0) (at3 (a := 1) (b := 2048) (c := 1408) v1 0) i j := by
  refine (mm0 .bf16 .bf16 none v0 _ i j).trans (Finset.sum_congr rfl fun k hk => ?_)
  rw [Mm.cast_unit v1 _ k j (Finset.mem_range.1 hk) j.isLt]

theorem pay0_2 (v0 : Vec Ideal S512x2048 .bf16) (v1 : Vec Ideal S1x2048x1408 .bf16) (i : Fin 512) (j : Fin 1408) :
    k0_pay2 (F := Ideal) v0 v1 (ix2 i j) = nn (at2 (a := 512) (b := 2048) v0) (at3 (a := 1) (b := 2048) (c := 1408) v1 0) i j := by
  refine (mm0 .bf16 .bf16 none v0 _ i j).trans (Finset.sum_congr rfl fun k hk => ?_)
  rw [Mm.cast_unit v1 _ k j (Finset.mem_range.1 hk) j.isLt]

theorem pay0_5 (v0 : Vec Ideal S512x2048 .bf16) (v1 v4 : Vec Ideal S1x2048x1408 .bf16) (i : Fin 512) (j : Fin 1408) :
    k0_pay5 (F := Ideal) v0 v1 v4 (ix2 i j) = actS (nn (at2 (a := 512) (b := 2048) v0) (at3 (a := 1) (b := 2048) (c := 1408) v1 0) i j)
      (nn (at2 (a := 512) (b := 2048) v0) (at3 (a := 1) (b := 2048) (c := 1408) v4 0) i j) := by
  rw [← pay0_1, ← pay0_2]; rfl

theorem pay1_1 (v0 : Vec Ideal S2048x1408 .bf16) (v2 : Vec Ideal S2048x1024 .bf16) (i : Fin 1408) (j : Fin 1024) :
    k1_pay1 (F := Ideal) v0 v2 (ix2 i j) = tn (at2 (a := 2048) (b := 1408) v0) (at2 (a := 2048) (b := 1024) v2) i j := by
  refine Eq.trans ?_ (mm1 .bf16 .bf16 none v0 v2 i j)
  unfold k1_pay1
  rw [shapeCast_self]; rfl

theorem pay2_1 (v0 : Vec Ideal S512x2048 .bf16) (v1 : Vec Ideal S1408x2048 .bf16) (i : Fin 512) (j : Fin 1408) :
    k2_pay1 (F := Ideal) v0 v1 (ix2 i j) = nt (at2 (a := 512) (b := 2048) v0) (at2 (a := 1408) (b := 2048) v1) i j :=
  mm2 .bf16 .bf16 none v0 v1 i j

theorem pay2_2 (v3 : Vec Ideal S512x1408 .bf16) : k2_pay2 (F := Ideal) v3 = v3 := by
  unfold k2_pay2
  rw [shapeCast_self]; rfl

theorem one_f32 : Ideal.ofBits .f32 0x3F800000#32 = 1 := Ideal.ofBits_one_f32

theorem pay2_4 (v0 : Vec Ideal S512x2048 .bf16) (v1 : Vec Ideal S1408x2048 .bf16) (v3 v5 : Vec Ideal S512x1408 .bf16) (i : Fin 512) (j : Fin 1408) :
    k2_pay4 (F := Ideal) v0 v1 v3 v5 (ix2 i j) = dgS (nt (at2 (a := 512) (b := 2048) v0) (at2 (a := 1408) (b := 2048) v1) i j) (v3 (ix2 i j)) (v5 (ix2 i j)) := by
  rw [← pay2_1]
  unfold k2_pay4 k2_pay3 dgS
  dsimp only
  rw [shapeCast_self, pay2_2]
  show _ * _ * _ * (Ideal.ofBits .f32 0x3F800000#32 + _ * (Ideal.ofBits .f32 0x3F800000#32 - _)) = _
  rw [one_f32]; rfl

theorem pay2_5 (v0 : Vec Ideal S512x2048 .bf16) (v1 : Vec Ideal S1408x2048 .bf16) (v3 : Vec Ideal S512x1408 .bf16) (i : Fin 512) (j : Fin 1408) :
    k2_pay5 (F := Ideal) v0 v1 v3 (ix2 i j) = duS (nt (at2 (a := 512) (b := 2048) v0) (at2 (a := 1408) (b := 2048) v1) i j) (v3 (ix2 i j)) := by
  rw [← pay2_1]
  unfold k2_pay5 k2_pay3 duS
  dsimp only
  rw [pay2_2]; rfl

/-- A gradient block with its unit axis. -/
theorem cast_out (v : FVec Ideal S1024x1408 .bf16) (i : Fin 1024) (j : Fin 1408) :
    shapeCast S1x1024x1408 v shapeCasts_S1024x1408_S1x1024x1408 (ix3 (0 : Fin 1) i j) = v (ix2 i j) :=
  shapeCast_apply _ _ _ (ix2 i j) (by
    rw [Shape.rowMajor_val_two, Shape.rowMajor_val_three]
    show i.val * 1408 + j.val = (0 * 1024 + i.val) * 1408 + j.val
    omega)

theorem pay3_1 (v0 : Vec Ideal S2048x1024 .bf16) (v1 : Vec Ideal S2048x1408 .bf16) (i : Fin 1024) (j : Fin 1408) :
    k3_pay1 (F := Ideal) v0 v1 (ix3 (0 : Fin 1) i j) = tn (at2 (a := 2048) (b := 1024) v0) (at2 (a := 2048) (b := 1408) v1) i j := by
  refine Eq.trans ?_ (mm3 .bf16 .bf16 none v0 v1 i j)
  unfold k3_pay1
  rw [cast_out, shapeCast_self]; rfl

theorem pay4_1 (v0 : Vec Ideal S2048x1024 .bf16) (v1 : Vec Ideal S2048x1408 .bf16) (i : Fin 1024) (j : Fin 1408) :
    k4_pay1 (F := Ideal) v0 v1 (ix3 (0 : Fin 1) i j) = tn (at2 (a := 2048) (b := 1024) v0) (at2 (a := 2048) (b := 1408) v1) i j := by
  refine Eq.trans ?_ (mm3 .bf16 .bf16 none v0 v1 i j)
  unfold k4_pay1
  rw [cast_out, shapeCast_self]; rfl
end Cert.Kernel2Ideal.Value
end
-- ==== Proof.Arr2.lean ====
/-
  The feed-forward calls' blocks and arrays: a block read at coordinates of its array, and an array read at the block
  that holds the index.
-/
module
public import proofs.«01_k».proof.Proof.Blk
public import proofs.«01_k».proof.Proof.Tile2
public import proofs.«01_k».proof.Proof.Gen.Kernel2Ideal.Frame
public import Idealize.ShloMosaic.Lib.Pipeline.ValueKit.Basic
public import Idealize.ShloMosaic.Lib.VecWindow
@[expose] public section
set_option maxRecDepth 16384
noncomputable section
namespace Cert.Kernel2Ideal.Value
open Cert.Kernel2Ideal Cert.Kernel2Ideal.Gen Cert.Attn Cert.Ffn
open Cert.Mm hiding nn nt tn
open Idealize.ShloMosaic Idealize.ShloMosaic.ValueIdx Idealize.ShloMosaic.TcCoe Idealize.ShloMosaic.Tactic

variable (V : (c : Dev nD) → (b : Ref sig .tc) → Buf (Elt Ideal) ((c : Thread nD τ).loc b)) (c : Dev nD)

theorem blk0_0_at (t : Fin cfg0.N) (p q : ℕ) (hp : p < 512) (hq : q < 2048) :
    at2 (a := 512) (b := 2048) (iblk0 V c 0 t) p q = at2 (a := 2048) (b := 2048) (V c main_arg0) (512 * (t.val % 4) + p) (q) :=
  (Moves2.read (a := 512) (b := 2048) (a' := 2048) (b' := 2048) (e := ((cfg0.win 0).rect t).emb) (Moves2.all (o₀ := fun t => t.val % 4) (o₁ := fun _ => 0) (Pipeline.Window.rect_emb_val (cfg0.win 0)) rfl rfl (by decide +kernel) t) (V c main_arg0) _ (fun _ => rfl) p q hp hq).trans (by congr 1 <;> omega)

theorem blk0_1_at (t : Fin cfg0.N) (p q : ℕ) (hp : p < 2048) (hq : q < 1408) :
    at3 (a := 1) (b := 2048) (c := 1408) (iblk0 V c 1 t) 0 p q = at3 (a := 8) (b := 2048) (c := 1408) (V c main_v1) (t.val / 4) p q :=
  (Moves3.read (a := 1) (b := 2048) (d := 1408) (a' := 8) (b' := 2048) (d' := 1408) (e := ((cfg0.win 1).rect t).emb) (Moves3.all (o₀ := fun t => t.val / 4) (o₁ := fun _ => 0) (o₂ := fun _ => 0) (Pipeline.Window.rect_emb_val (cfg0.win 1)) rfl rfl rfl (by decide +kernel) t) (V c main_v1) _ (fun _ => rfl) 0 p q (by omega) hp hq).trans (by congr 1 <;> omega)

theorem blk0_2_at (t : Fin cfg0.N) (p q : ℕ) (hp : p < 2048) (hq : q < 1408) :
    at3 (a := 1) (b := 2048) (c := 1408) (iblk0 V c 2 t) 0 p q = at3 (a := 8) (b := 2048) (c := 1408) (V c main_v1) (t.val / 4 + 4) p q :=
  (Moves3.read (a := 1) (b := 2048) (d := 1408) (a' := 8) (b' := 2048) (d' := 1408) (e := ((cfg0.win 2).rect t).emb) (Moves3.all (o₀ := fun t => t.val / 4 + 4) (o₁ := fun _ => 0) (o₂ := fun _ => 0) (Pipeline.Window.rect_emb_val (cfg0.win 2)) rfl rfl rfl (by decide +kernel) t) (V c main_v1) _ (fun _ => rfl) 0 p q (by omega) hp hq).trans (by congr 1 <;> omega)

theorem blk1_0_at (t : Fin cfg1.N) (p q : ℕ) (hp : p < 2048) (hq : q < 1408) :
    at2 (a := 2048) (b := 1408) (iblk1 V c 0 t) p q = at2 (a := 2048) (b := 5632) (V c main_v2_2) (p) (1408 * (t.val / 2) + q) :=
  (Moves2.read (a := 2048) (b := 1408) (a' := 2048) (b' := 5632) (e := ((cfg1.win 0).rect t).emb) (Moves2.all (o₀ := fun _ => 0) (o₁ := fun t => t.val / 2) (Pipeline.Window.rect_emb_val (cfg1.win 0)) rfl rfl (by decide +kernel) t) (V c main_v2_2) _ (fun _ => rfl) p q hp hq).trans (by congr 1 <;> omega)

theorem blk1_1_at (t : Fin cfg1.N) (p q : ℕ) (hp : p < 2048) (hq : q < 1024) :
    at2 (a := 2048) (b := 1024) (iblk1 V c 1 t) p q = at2 (a := 2048) (b := 2048) (V c main_arg3) (p) (1024 * (t.val % 2) + q) :=
  (Moves2.read (a := 2048) (b := 1024) (a' := 2048) (b' := 2048) (e := ((cfg1.win 1).rect t).emb) (Moves2.all (o₀ := fun _ => 0) (o₁ := fun t => t.val % 2) (Pipeline.Window.rect_emb_val (cfg1.win 1)) rfl rfl (by decide +kernel) t) (V c main_arg3) _ (fun _ => rfl) p q hp hq).trans (by congr 1 <;> omega)

theorem blk2_0_at (t : Fin cfg2.N) (p q : ℕ) (hp : p < 512) (hq : q < 2048) :
    at2 (a := 512) (b := 2048) (iblk2 V c 0 t) p q = at2 (a := 2048) (b := 2048) (V c main_arg3) (512 * (t.val % 4) + p) (q) :=
  (Moves2.read (a := 512) (b := 2048) (a' := 2048) (b' := 2048) (e := ((cfg2.win 0).rect t).emb) (Moves2.all (o₀ := fun t => t.val % 4) (o₁ := fun _ => 0) (Pipeline.Window.rect_emb_val (cfg2.win 0)) rfl rfl (by decide +kernel) t) (V c main_arg3) _ (fun _ => rfl) p q hp hq).trans (by congr 1 <;> omega)

theorem blk2_1_at (t : Fin cfg2.N) (p q : ℕ) (hp : p < 1408) (hq : q < 2048) :
    at2 (a := 1408) (b := 2048) (iblk2 V c 1 t) p q = at2 (a := 5632) (b := 2048) (V c main_arg2) (1408 * (t.val / 4) + p) (q) :=
  (Moves2.read (a := 1408) (b := 2048) (a' := 5632) (b' := 2048) (e := ((cfg2.win 1).rect t).emb) (Moves2.all (o₀ := fun t => t.val / 4) (o₁ := fun _ => 0) (Pipeline.Window.rect_emb_val (cfg2.win 1)) rfl rfl (by decide +kernel) t) (V c main_arg2) _ (fun _ => rfl) p q hp hq).trans (by congr 1 <;> omega)

theorem blk2_2_at (t : Fin cfg2.N) (p q : ℕ) (hp : p < 512) (hq : q < 1408) :
    at2 (a := 512) (b := 1408) (iblk2 V c 2 t) p q = at2 (a := 2048) (b := 5632) (V c main_v2_0) (512 * (t.val % 4) + p) (1408 * (t.val / 4) + q) :=
  (Moves2.read (a := 512) (b := 1408) (a' := 2048) (b' := 5632) (e := ((cfg2.win 2).rect t).emb) (Moves2.all (o₀ := fun t => t.val % 4) (o₁ := fun t => t.val / 4) (Pipeline.Window.rect_emb_val (cfg2.win 2)) rfl rfl (by decide +kernel) t) (V c main_v2_0) _ (fun _ => rfl) p q hp hq).trans (by congr 1 <;> omega)

theorem blk2_3_at (t : Fin cfg2.N) (p q : ℕ) (hp : p < 512) (hq : q < 1408) :
    at2 (a := 512) (b := 1408) (iblk2 V c 3 t) p q = at2 (a := 2048) (b := 5632) (V c main_v2_1) (512 * (t.val % 4) + p) (1408 * (t.val / 4) + q) :=
  (Moves2.read (a := 512) (b := 1408) (a' := 2048) (b' := 5632) (e := ((cfg2.win 3).rect t).emb) (Moves2.all (o₀ := fun t => t.val % 4) (o₁ := fun t => t.val / 4) (Pipeline.Window.rect_emb_val (cfg2.win 3)) rfl rfl (by decide +kernel) t) (V c main_v2_1) _ (fun _ => rfl) p q hp hq).trans (by congr 1 <;> omega)

theorem blk3_0_at (t : Fin cfg3.N) (p q : ℕ) (hp : p < 2048) (hq : q < 1024) :
    at2 (a := 2048) (b := 1024) (iblk3 V c 0 t) p q = at2 (a := 2048) (b := 2048) (V c main_arg0) (p) (1024 * (t.val / 4) + q) :=
  (Moves2.read (a := 2048) (b := 1024) (a' := 2048) (b' := 2048) (e := ((cfg3.win 0).rect t).emb) (Moves2.all (o₀ := fun _ => 0) (o₁ := fun t => t.val / 4) (Pipeline.Window.rect_emb_val (cfg3.win 0)) rfl rfl (by decide +kernel) t) (V c main_arg0) _ (fun _ => rfl) p q hp hq).trans (by congr 1 <;> omega)

theorem blk3_1_at (t : Fin cfg3.N) (p q : ℕ) (hp : p < 2048) (hq : q < 1408) :
    at2 (a := 2048) (b := 1408) (iblk3 V c 1 t) p q = at2 (a := 2048) (b := 5632) (V c main_v4_0) (p) (1408 * (t.val % 4) + q) :=
  (Moves2.read (a := 2048) (b := 1408) (a' := 2048) (b' := 5632) (e := ((cfg3.win 1).rect t).emb) (Moves2.all (o₀ := fun _ => 0) (o₁ := fun t => t.val % 4) (Pipeline.Window.rect_emb_val (cfg3.win 1)) rfl rfl (by decide +kernel) t) (V c main_v4_0) _ (fun _ => rfl) p q hp hq).trans (by congr 1 <;> omega)

theorem blk4_0_at (t : Fin cfg4.N) (p q : ℕ) (hp : p < 2048) (hq : q < 1024) :
    at2 (a := 2048) (b := 1024) (iblk4 V c 0 t) p q = at2 (a := 2048) (b := 2048) (V c main_arg0) (p) (1024 * (t.val / 4) + q) :=
  (Moves2.read (a := 2048) (b := 1024) (a' := 2048) (b' := 2048) (e := ((cfg4.win 0).rect t).emb) (Moves2.all (o₀ := fun _ => 0) (o₁ := fun t => t.val / 4) (Pipeline.Window.rect_emb_val (cfg4.win 0)) rfl rfl (by decide +kernel) t) (V c main_arg0) _ (fun _ => rfl) p q hp hq).trans (by congr 1 <;> omega)

theorem blk4_1_at (t : Fin cfg4.N) (p q : ℕ) (hp : p < 2048) (hq : q < 1408) :
    at2 (a := 2048) (b := 1408) (iblk4 V c 1 t) p q = at2 (a := 2048) (b := 5632) (V c main_v4_1) (p) (1408 * (t.val % 4) + q) :=
  (Moves2.read (a := 2048) (b := 1408) (a' := 2048) (b' := 5632) (e := ((cfg4.win 1).rect t).emb) (Moves2.all (o₀ := fun _ => 0) (o₁ := fun t => t.val % 4) (Pipeline.Window.rect_emb_val (cfg4.win 1)) rfl rfl (by decide +kernel) t) (V c main_v4_1) _ (fun _ => rfl) p q hp hq).trans (by congr 1 <;> omega)

theorem arr0_3_at (G : ℕ → ℕ → EReal)
    (hG : ∀ (t : Fin cfg0.N) (p : Fin 512) (q : Fin 1408), (dat0 V c).after 3 t (ix2 p q : S512x1408.Idx) = G (512 * (t.val % 4) + p) (1408 * (t.val / 4) + q)) (p : Fin 2048) (q : Fin 5632) :
    (dat0 V c).arrAt 3 cfg0.N (ix2 p q : S2048x5632.Idx) = G p q := by
  have mv : ∀ t : Fin cfg0.N, Moves2 (a := 512) (b := 1408) (a' := 2048) (b' := 5632) ((cfg0.win 3).rect t).emb (t.val % 4) (t.val / 4) := Moves2.all (Pipeline.Window.rect_emb_val (cfg0.win 3)) rfl rfl (by decide +kernel)
  refine Pipeline.Dat.arrAt_forall_of_cover (dat0 V c) 3 (fun i v => v = G ((i : S2048x5632.Idx) 0).val ((i : S2048x5632.Idx) 1).val) (fun t hf y => (mv t).write _ G (fun p q => (hG t p q).trans (congrArg₂ G (by omega) (by omega))) y) (fun i => ?_) (ix2 p q : S2048x5632.Idx)
  obtain ⟨t, ht, y, e⟩ := Moves2.cover (P := fun t => (cfg0.win 3).flush t = true) (n := 4) (m := 4) mv (by decide +kernel) rfl rfl i
  exact ⟨t, ht, e ▸ View.emb_mem_set _ y⟩

theorem arr0_4_at (G : ℕ → ℕ → EReal)
    (hG : ∀ (t : Fin cfg0.N) (p : Fin 512) (q : Fin 1408), (dat0 V c).after 4 t (ix2 p q : S512x1408.Idx) = G (512 * (t.val % 4) + p) (1408 * (t.val / 4) + q)) (p : Fin 2048) (q : Fin 5632) :
    (dat0 V c).arrAt 4 cfg0.N (ix2 p q : S2048x5632.Idx) = G p q := by
  have mv : ∀ t : Fin cfg0.N, Moves2 (a := 512) (b := 1408) (a' := 2048) (b' := 5632) ((cfg0.win 4).rect t).emb (t.val % 4) (t.val / 4) := Moves2.all (Pipeline.Window.rect_emb_val (cfg0.win 4)) rfl rfl (by decide +kernel)
  refine Pipeline.Dat.arrAt_forall_of_cover (dat0 V c) 4 (fun i v => v = G ((i : S2048x5632.Idx) 0).val ((i : S2048x5632.Idx) 1).val) (fun t hf y => (mv t).write _ G (fun p q => (hG t p q).trans (congrArg₂ G (by omega) (by omega))) y) (fun i => ?_) (ix2 p q : S2048x5632.Idx)
  obtain ⟨t, ht, y, e⟩ := Moves2.cover (P := fun t => (cfg0.win 4).flush t = true) (n := 4) (m := 4) mv (by decide +kernel) rfl rfl i
  exact ⟨t, ht, e ▸ View.emb_mem_set _ y⟩

theorem arr0_5_at (G : ℕ → ℕ → EReal)
    (hG : ∀ (t : Fin cfg0.N) (p : Fin 512) (q : Fin 1408), (dat0 V c).after 5 t (ix2 p q : S512x1408.Idx) = G (512 * (t.val % 4) + p) (1408 * (t.val / 4) + q)) (p : Fin 2048) (q : Fin 5632) :
    (dat0 V c).arrAt 5 cfg0.N (ix2 p q : S2048x5632.Idx) = G p q := by
  have mv : ∀ t : Fin cfg0.N, Moves2 (a := 512) (b := 1408) (a' := 2048) (b' := 5632) ((cfg0.win 5).rect t).emb (t.val % 4) (t.val / 4) := Moves2.all (Pipeline.Window.rect_emb_val (cfg0.win 5)) rfl rfl (by decide +kernel)
  refine Pipeline.Dat.arrAt_forall_of_cover (dat0 V c) 5 (fun i v => v = G ((i : S2048x5632.Idx) 0).val ((i : S2048x5632.Idx) 1).val) (fun t hf y => (mv t).write _ G (fun p q => (hG t p q).trans (congrArg₂ G (by omega) (by omega))) y) (fun i => ?_) (ix2 p q : S2048x5632.Idx)
  obtain ⟨t, ht, y, e⟩ := Moves2.cover (P := fun t => (cfg0.win 5).flush t = true) (n := 4) (m := 4) mv (by decide +kernel) rfl rfl i
  exact ⟨t, ht, e ▸ View.emb_mem_set _ y⟩

theorem arr1_2_at (G : ℕ → ℕ → EReal)
    (hG : ∀ (t : Fin cfg1.N) (p : Fin 1408) (q : Fin 1024), (dat1 V c).after 2 t (ix2 p q : S1408x1024.Idx) = G (1408 * (t.val / 2) + p) (1024 * (t.val % 2) + q)) (p : Fin 5632) (q : Fin 2048) :
    (dat1 V c).arrAt 2 cfg1.N (ix2 p q : S5632x2048.Idx) = G p q := by
  have mv : ∀ t : Fin cfg1.N, Moves2 (a := 1408) (b := 1024) (a' := 5632) (b' := 2048) ((cfg1.win 2).rect t).emb (t.val / 2) (t.val % 2) := Moves2.all (Pipeline.Window.rect_emb_val (cfg1.win 2)) rfl rfl (by decide +kernel)
  refine Pipeline.Dat.arrAt_forall_of_cover (dat1 V c) 2 (fun i v => v = G ((i : S5632x2048.Idx) 0).val ((i : S5632x2048.Idx) 1).val) (fun t hf y => (mv t).write _ G (fun p q => (hG t p q).trans (congrArg₂ G (by omega) (by omega))) y) (fun i => ?_) (ix2 p q : S5632x2048.Idx)
  obtain ⟨t, ht, y, e⟩ := Moves2.cover (P := fun t => (cfg1.win 2).flush t = true) (n := 4) (m := 2) mv (by decide +kernel) rfl rfl i
  exact ⟨t, ht, e ▸ View.emb_mem_set _ y⟩

theorem arr2_4_at (G : ℕ → ℕ → EReal)
    (hG : ∀ (t : Fin cfg2.N) (p : Fin 512) (q : Fin 1408), (dat2 V c).after 4 t (ix2 p q : S512x1408.Idx) = G (512 * (t.val % 4) + p) (1408 * (t.val / 4) + q)) (p : Fin 2048) (q : Fin 5632) :
    (dat2 V c).arrAt 4 cfg2.N (ix2 p q : S2048x5632.Idx) = G p q := by
  have mv : ∀ t : Fin cfg2.N, Moves2 (a := 512) (b := 1408) (a' := 2048) (b' := 5632) ((cfg2.win 4).rect t).emb (t.val % 4) (t.val / 4) := Moves2.all (Pipeline.Window.rect_emb_val (cfg2.win 4)) rfl rfl (by decide +kernel)
  refine Pipeline.Dat.arrAt_forall_of_cover (dat2 V c) 4 (fun i v => v = G ((i : S2048x5632.Idx) 0).val ((i : S2048x5632.Idx) 1).val) (fun t hf y => (mv t).write _ G (fun p q => (hG t p q).trans (congrArg₂ G (by omega) (by omega))) y) (fun i => ?_) (ix2 p q : S2048x5632.Idx)
  obtain ⟨t, ht, y, e⟩ := Moves2.cover (P := fun t => (cfg2.win 4).flush t = true) (n := 4) (m := 4) mv (by decide +kernel) rfl rfl i
  exact ⟨t, ht, e ▸ View.emb_mem_set _ y⟩

theorem arr2_5_at (G : ℕ → ℕ → EReal)
    (hG : ∀ (t : Fin cfg2.N) (p : Fin 512) (q : Fin 1408), (dat2 V c).after 5 t (ix2 p q : S512x1408.Idx) = G (512 * (t.val % 4) + p) (1408 * (t.val / 4) + q)) (p : Fin 2048) (q : Fin 5632) :
    (dat2 V c).arrAt 5 cfg2.N (ix2 p q : S2048x5632.Idx) = G p q := by
  have mv : ∀ t : Fin cfg2.N, Moves2 (a := 512) (b := 1408) (a' := 2048) (b' := 5632) ((cfg2.win 5).rect t).emb (t.val % 4) (t.val / 4) := Moves2.all (Pipeline.Window.rect_emb_val (cfg2.win 5)) rfl rfl (by decide +kernel)
  refine Pipeline.Dat.arrAt_forall_of_cover (dat2 V c) 5 (fun i v => v = G ((i : S2048x5632.Idx) 0).val ((i : S2048x5632.Idx) 1).val) (fun t hf y => (mv t).write _ G (fun p q => (hG t p q).trans (congrArg₂ G (by omega) (by omega))) y) (fun i => ?_) (ix2 p q : S2048x5632.Idx)
  obtain ⟨t, ht, y, e⟩ := Moves2.cover (P := fun t => (cfg2.win 5).flush t = true) (n := 4) (m := 4) mv (by decide +kernel) rfl rfl i
  exact ⟨t, ht, e ▸ View.emb_mem_set _ y⟩

/-- An array written by half its blocks: the blocks from `o` on, four of them, each in two parts. -/
theorem half {e : Fin 8 → S1x1024x1408.Idx → S8x2048x1408.Idx} {o₀ : Fin 8 → ℕ} {fl : Fin 8 → Prop}
    (mv : ∀ t : Fin 8, Moves3 (a := 1) (b := 1024) (d := 1408) (a' := 8) (b' := 2048) (d' := 1408) (e t) (o₀ t) (t.val / 4) 0) (o : ℕ) (ho : ∀ t : Fin 8, o₀ t = t.val % 4 + o)
    (hfl : ∀ t, fl t) {X : S8x2048x1408.Idx → EReal} {Y : Fin 8 → S1x1024x1408.Idx → EReal}
    (H : ∀ P : S8x2048x1408.Idx → EReal → Prop, (∀ t, fl t → ∀ y, P (e t y) (Y t y)) → ∀ i t, fl t → ∀ y, e t y = i → P i (X i))
    (G : ℕ → ℕ → ℕ → EReal) (hG : ∀ (t : Fin 8) (p : Fin 1024) (q : Fin 1408), Y t (ix3 (0 : Fin 1) p q : S1x1024x1408.Idx) = G (o₀ t) (1024 * (t.val / 4) + p) q)
    (h : Fin 8) (hlo : o ≤ h.val) (hhi : h.val < o + 4) (p : Fin 2048) (q : Fin 1408) : X (ix3 h p q : S8x2048x1408.Idx) = G h p q := by
  have hp := p.isLt
  have hq := q.isLt
  let t : Fin 8 := ⟨4 * (p.val / 1024) + (h.val - o), by omega⟩
  obtain ⟨y, hy⟩ := (mv t).hit (ix3 h p q : S8x2048x1408.Idx)
    ((ho t).trans (show (4 * (p.val / 1024) + (h.val - o)) % 4 + o = h.val / 1 by omega))
    (show (4 * (p.val / 1024) + (h.val - o)) / 4 = p.val / 1024 by omega) (show 0 = q.val / 1408 by omega) (by omega) (by omega) (by omega)
  refine H (fun i v => v = G (i (0 : Fin 3)).val (i (1 : Fin 3)).val (i (2 : Fin 3)).val) (fun t _ y => (mv t).write _ G (fun g p q => ?_) y) _ t (hfl t) y hy
  obtain rfl : g = 0 := Subsingleton.elim _ _
  exact (hG t p q).trans (by congr 1 <;> simp <;> omega)

theorem mv3_2 : ∀ t : Fin cfg3.N, Moves3 (a := 1) (b := 1024) (d := 1408) (a' := 8) (b' := 2048) (d' := 1408) ((cfg3.win 2).rect t).emb (t.val % 4) (t.val / 4) 0 :=
  Moves3.all (Pipeline.Window.rect_emb_val (cfg3.win 2)) rfl rfl rfl (by decide +kernel)
theorem arr3_2_at (G : ℕ → ℕ → ℕ → EReal)
    (hG : ∀ (t : Fin cfg3.N) (p : Fin 1024) (q : Fin 1408), (dat3 V c).after 2 t (ix3 (0 : Fin 1) p q : S1x1024x1408.Idx) = G (t.val % 4) (1024 * (t.val / 4) + p) q)
    (h : Fin 8) (hlo : 0 ≤ h.val) (hhi : h.val < 4) (p : Fin 2048) (q : Fin 1408) :
    (dat3 V c).arrAt 2 cfg3.N (ix3 h p q : S8x2048x1408.Idx) = G h p q :=
  half (fl := fun t => (cfg3.win 2).flush t = true) mv3_2 0 (fun _ => rfl) (show ∀ t : Fin cfg3.N, (cfg3.win 2).flush t = true by decide +kernel) (fun P hP i t ht y e => Pipeline.Dat.arrAt_forall_of_flushed (dat3 V c) 2 P hP cfg3.N t i t.isLt ht
    (e ▸ View.emb_mem_set _ y)) G hG h hlo (by omega) p q

theorem mv4_2 : ∀ t : Fin cfg4.N, Moves3 (a := 1) (b := 1024) (d := 1408) (a' := 8) (b' := 2048) (d' := 1408) ((cfg4.win 2).rect t).emb (t.val % 4 + 4) (t.val / 4) 0 :=
  Moves3.all (Pipeline.Window.rect_emb_val (cfg4.win 2)) rfl rfl rfl (by decide +kernel)
theorem arr4_2_at (G : ℕ → ℕ → ℕ → EReal)
    (hG : ∀ (t : Fin cfg4.N) (p : Fin 1024) (q : Fin 1408), (dat4 V c).after 2 t (ix3 (0 : Fin 1) p q : S1x1024x1408.Idx) = G (t.val % 4 + 4) (1024 * (t.val / 4) + p) q)
    (h : Fin 8) (hlo : 4 ≤ h.val) (hhi : h.val < 8) (p : Fin 2048) (q : Fin 1408) :
    (dat4 V c).arrAt 2 cfg4.N (ix3 h p q : S8x2048x1408.Idx) = G h p q :=
  half (fl := fun t => (cfg4.win 2).flush t = true) mv4_2 4 (fun _ => rfl) (show ∀ t : Fin cfg4.N, (cfg4.win 2).flush t = true by decide +kernel) (fun P hP i t ht y e => Pipeline.Dat.arrAt_forall_of_flushed (dat4 V c) 2 P hP cfg4.N t i t.isLt ht
    (e ▸ View.emb_mem_set _ y)) G hG h hlo (by omega) p q

theorem arr4_2_old (h : Fin 8) (hh : h.val < 4) (p : Fin 2048) (q : Fin 1408) :
    (dat4 V c).arrAt 2 cfg4.N (ix3 h p q : S8x2048x1408.Idx) = (V c main_v6) (ix3 h p q : S8x2048x1408.Idx) := by
  refine (Pipeline.Dat.arrAt_apply_of_forall_not_mem (dat4 V c) 2 cfg4.N (ix3 h p q : S8x2048x1408.Idx) fun t _ _ hm => ?_).trans (congrFun (A_eq4 V c 2) _)
  obtain ⟨y, -, hy⟩ := Finset.mem_map.mp hm
  have hy : ((cfg4.win 2).rect t).emb y = (ix3 h p q : S8x2048x1408.Idx) := hy
  have e0 := (mv4_2 t y).1
  have e1 : ((((cfg4.win 2).rect t).emb y) (0 : Fin 3)).val = h.val := congrArg (fun z : S8x2048x1408.Idx => (z 0).val) hy
  have e2 := e1.symm.trans e0
  have e3 : h.val = (t.val % 4 + 4) * 1 + (y (0 : Fin 3)).val := e2
  omega

/-- The weight's blocks side by side, from block `o` on. -/
def wcols (B : S8x2048x1408.Idx → EReal) (o k q : ℕ) : EReal := at3 (a := 8) (b := 2048) (c := 1408) B (q / 1408 + o) k (q % 1408)

section
variable (H : S2048x2048.Idx → EReal) (B : S8x2048x1408.Idx → EReal)
/-- The gate. -/
def gateA (i j : ℕ) : EReal := nn (at2 (a := 2048) (b := 2048) H) (wcols B 0) i j
/-- The other factor. -/
def upA (i j : ℕ) : EReal := nn (at2 (a := 2048) (b := 2048) H) (wcols B 4) i j
end

theorem gate_blk (t : Fin cfg0.N) (p q : ℕ) (hp : p < 512) (hq : q < 1408) :
    nn (at2 (a := 512) (b := 2048) (iblk0 V c 0 t)) (at3 (a := 1) (b := 2048) (c := 1408) (iblk0 V c 1 t) 0) p q
      = gateA (V c main_arg0) (V c main_v1) (512 * (t.val % 4) + p) (1408 * (t.val / 4) + q) := by
  unfold gateA nn
  refine Finset.sum_congr rfl fun k hk => ?_
  have hk := Finset.mem_range.1 hk
  rw [blk0_0_at V c t p k hp hk, blk0_1_at V c t k q hk hq]
  unfold wcols
  rw [show (1408 * (t.val / 4) + q) / 1408 + 0 = t.val / 4 by omega, show (1408 * (t.val / 4) + q) % 1408 = q by omega]

theorem up_blk (t : Fin cfg0.N) (p q : ℕ) (hp : p < 512) (hq : q < 1408) :
    nn (at2 (a := 512) (b := 2048) (iblk0 V c 0 t)) (at3 (a := 1) (b := 2048) (c := 1408) (iblk0 V c 2 t) 0) p q
      = upA (V c main_arg0) (V c main_v1) (512 * (t.val % 4) + p) (1408 * (t.val / 4) + q) := by
  unfold upA nn
  refine Finset.sum_congr rfl fun k hk => ?_
  have hk := Finset.mem_range.1 hk
  rw [blk0_0_at V c t p k hp hk, blk0_2_at V c t k q hk hq]
  unfold wcols
  rw [show (1408 * (t.val / 4) + q) / 1408 + 4 = t.val / 4 + 4 by omega, show (1408 * (t.val / 4) + q) % 1408 = q by omega]

theorem out0_gate (p : Fin 2048) (q : Fin 5632) :
    (dat0 V c).arrAt 3 cfg0.N (ix2 p q : S2048x5632.Idx) = gateA (V c main_arg0) (V c main_v1) p q :=
  arr0_3_at V c _ (fun t p q => by
    rw [after0_3]; unfold out0_3
    rw [View.canon_cons_unit_lit _ _ _ (by decide), View.ld_unit_lit _ _ (by decide), View.ld_unit_lit _ _ (by decide)]
    exact (pay0_1 _ _ p q).trans (gate_blk V c t p q p.isLt q.isLt)) p q

theorem out0_up (p : Fin 2048) (q : Fin 5632) :
    (dat0 V c).arrAt 4 cfg0.N (ix2 p q : S2048x5632.Idx) = upA (V c main_arg0) (V c main_v1) p q :=
  arr0_4_at V c _ (fun t p q => by
    rw [after0_4]; unfold out0_4
    rw [View.canon_cons_unit_lit _ _ _ (by decide), View.ld_unit_lit _ _ (by decide), View.ld_unit_lit _ _ (by decide)]
    exact (pay0_2 _ _ p q).trans (up_blk V c t p q p.isLt q.isLt)) p q

theorem out0_act (p : Fin 2048) (q : Fin 5632) :
    (dat0 V c).arrAt 5 cfg0.N (ix2 p q : S2048x5632.Idx)
      = actS (gateA (V c main_arg0) (V c main_v1) p q) (upA (V c main_arg0) (V c main_v1) p q) :=
  arr0_5_at V c (fun p q => actS (gateA (V c main_arg0) (V c main_v1) p q) (upA (V c main_arg0) (V c main_v1) p q)) (fun t p q => by
    rw [after0_5]; unfold out0_5
    rw [View.canon_cons_unit_lit _ _ _ (by decide), View.ld_unit_lit _ _ (by decide), View.ld_unit_lit _ _ (by decide), View.ld_unit_lit _ _ (by decide)]
    refine (pay0_5 _ _ _ p q).trans ?_
    rw [gate_blk V c t p q p.isLt q.isLt, up_blk V c t p q p.isLt q.isLt]) p q

theorem out1 (p : Fin 5632) (q : Fin 2048) :
    (dat1 V c).arrAt 2 cfg1.N (ix2 p q : S5632x2048.Idx)
      = tn (at2 (a := 2048) (b := 5632) (V c main_v2_2)) (at2 (a := 2048) (b := 2048) (V c main_arg3)) p q :=
  arr1_2_at V c _ (fun t p q => by
    rw [after1_2]; unfold out1_2
    rw [View.canon_cons_unit_lit _ _ _ (by decide), View.ld_unit_lit _ _ (by decide), View.ld_unit_lit _ _ (by decide)]
    refine (pay1_1 _ _ p q).trans (Finset.sum_congr rfl fun k hk => ?_)
    have hk := Finset.mem_range.1 hk
    rw [blk1_0_at V c t k p hk p.isLt, blk1_1_at V c t k q hk q.isLt]) p q

/-- The activation's gradient. -/
def dactA (D : S2048x2048.Idx → EReal) (O : S5632x2048.Idx → EReal) (i j : ℕ) : EReal :=
  nt (at2 (a := 2048) (b := 2048) D) (at2 (a := 5632) (b := 2048) O) i j

theorem dact_blk (t : Fin cfg2.N) (p q : ℕ) (hp : p < 512) (hq : q < 1408) :
    nt (at2 (a := 512) (b := 2048) (iblk2 V c 0 t)) (at2 (a := 1408) (b := 2048) (iblk2 V c 1 t)) p q
      = dactA (V c main_arg3) (V c main_arg2) (512 * (t.val % 4) + p) (1408 * (t.val / 4) + q) := by
  unfold dactA nt
  refine Finset.sum_congr rfl fun k hk => ?_
  have hk := Finset.mem_range.1 hk
  rw [blk2_0_at V c t p k hp hk, blk2_1_at V c t q k hq hk]

theorem out2_gate (p : Fin 2048) (q : Fin 5632) :
    (dat2 V c).arrAt 4 cfg2.N (ix2 p q : S2048x5632.Idx)
      = dgS (dactA (V c main_arg3) (V c main_arg2) p q) (at2 (a := 2048) (b := 5632) (V c main_v2_0) p q) (at2 (a := 2048) (b := 5632) (V c main_v2_1) p q) :=
  arr2_4_at V c (fun p q => dgS (dactA (V c main_arg3) (V c main_arg2) p q) (at2 (a := 2048) (b := 5632) (V c main_v2_0) p q) (at2 (a := 2048) (b := 5632) (V c main_v2_1) p q)) (fun t p q => by
    rw [after2_4]; unfold out2_4
    rw [View.canon_cons_unit_lit _ _ _ (by decide), View.ld_unit_lit _ _ (by decide), View.ld_unit_lit _ _ (by decide), View.ld_unit_lit _ _ (by decide), View.ld_unit_lit _ _ (by decide)]
    refine (pay2_4 _ _ _ _ p q).trans ?_
    rw [dact_blk V c t p q p.isLt q.isLt]
    exact congrArg₂ (dgS _) ((at2_ix (a := 512) (b := 1408) (iblk2 V c 2 t) p q).trans (blk2_2_at V c t p q p.isLt q.isLt))
      ((at2_ix (a := 512) (b := 1408) (iblk2 V c 3 t) p q).trans (blk2_3_at V c t p q p.isLt q.isLt))) p q

theorem out2_up (p : Fin 2048) (q : Fin 5632) :
    (dat2 V c).arrAt 5 cfg2.N (ix2 p q : S2048x5632.Idx)
      = duS (dactA (V c main_arg3) (V c main_arg2) p q) (at2 (a := 2048) (b := 5632) (V c main_v2_0) p q) :=
  arr2_5_at V c (fun p q => duS (dactA (V c main_arg3) (V c main_arg2) p q) (at2 (a := 2048) (b := 5632) (V c main_v2_0) p q)) (fun t p q => by
    rw [after2_5]; unfold out2_5
    rw [View.canon_cons_unit_lit _ _ _ (by decide), View.ld_unit_lit _ _ (by decide), View.ld_unit_lit _ _ (by decide), View.ld_unit_lit _ _ (by decide)]
    refine (pay2_5 _ _ _ p q).trans ?_
    rw [dact_blk V c t p q p.isLt q.isLt]
    exact congrArg (duS _) ((at2_ix (a := 512) (b := 1408) (iblk2 V c 2 t) p q).trans (blk2_2_at V c t p q p.isLt q.isLt))) p q

theorem out3 (h : Fin 8) (hh : h.val < 4) (p : Fin 2048) (q : Fin 1408) :
    (dat3 V c).arrAt 2 cfg3.N (ix3 h p q : S8x2048x1408.Idx)
      = tn (at2 (a := 2048) (b := 2048) (V c main_arg0)) (at2 (a := 2048) (b := 5632) (V c main_v4_0)) p (1408 * h + q) :=
  arr3_2_at V c (fun h p q => tn (at2 (a := 2048) (b := 2048) (V c main_arg0)) (at2 (a := 2048) (b := 5632) (V c main_v4_0)) p (1408 * h + q)) (fun t p q => by
    rw [after3_2]; unfold out3_2
    rw [View.canon_cons_unit_lit _ _ _ (by decide), View.ld_unit_lit _ _ (by decide), View.ld_unit_lit _ _ (by decide)]
    refine (pay3_1 _ _ p q).trans (Finset.sum_congr rfl fun k hk => ?_)
    have hk := Finset.mem_range.1 hk
    rw [blk3_0_at V c t k p hk p.isLt, blk3_1_at V c t k q hk q.isLt]) h (Nat.zero_le _) (by omega) p q

theorem after4_eq (t : Fin cfg4.N) : (dat4 V c).after 2 t = k4_pay1 (F := Ideal) (iblk4 V c 0 t) (iblk4 V c 1 t) := by
  rw [after4_2]
  unfold outsAt4 out4_A_2 kernelRun4_A
  refine (View.read_writes_full _ _ _ _ _).trans ?_
  refine congrArg₂ (k4_pay1 (F := Ideal)) ?_ ?_
  · exact (View.readAt_full (ms4_0 t).view _ _).trans ((hs4_0 t).read_unread _)
  · exact (View.readAt_full (ms4_1 t).view _ _).trans ((hs4_1 t).read_unread _)

theorem out4 (h : Fin 8) (hh : 4 ≤ h.val) (p : Fin 2048) (q : Fin 1408) :
    (dat4 V c).arrAt 2 cfg4.N (ix3 h p q : S8x2048x1408.Idx)
      = tn (at2 (a := 2048) (b := 2048) (V c main_arg0)) (at2 (a := 2048) (b := 5632) (V c main_v4_1)) p (1408 * (h - 4) + q) :=
  arr4_2_at V c (fun h p q => tn (at2 (a := 2048) (b := 2048) (V c main_arg0)) (at2 (a := 2048) (b := 5632) (V c main_v4_1)) p (1408 * (h - 4) + q)) (fun t p q => by
    rw [after4_eq]
    refine (pay4_1 _ _ p q).trans (Finset.sum_congr rfl fun k hk => ?_)
    have hk := Finset.mem_range.1 hk
    rw [blk4_0_at V c t k p hk p.isLt, blk4_1_at V c t k q hk q.isLt, show t.val % 4 + 4 - 4 = t.val % 4 by omega]) h hh (by omega) p q

end Cert.Kernel2Ideal.Value
end
-- ==== Proof.Chain2.lean ====
/-
  The feed-forward program's two results in terms of its arguments.
-/
module
public import proofs.«01_k».proof.Proof.Arr2
@[expose] public section
set_option maxRecDepth 16384
noncomputable section
namespace Cert.Kernel2Ideal.Value
open Cert.Kernel2Ideal Cert.Kernel2Ideal.Gen Cert.Attn Cert.Ffn
open Idealize.ShloMosaic Idealize.ShloMosaic.ValueIdx Idealize.ShloMosaic.TcCoe Idealize.ShloMosaic.Tactic

variable (m : (l : Loc nD τ sig) → Buf (Elt Ideal) l) (ρ : Dev nD → PrngReg) (c : Dev nD)

/-! ## The arguments -/

abbrev aH : S2048x2048.Idx → EReal := m ((c : Thread nD τ).loc main_arg0)
abbrev aW : S2048x11264.Idx → EReal := m ((c : Thread nD τ).loc main_arg1)
abbrev aO : S5632x2048.Idx → EReal := m ((c : Thread nD τ).loc main_arg2)
abbrev aD : S2048x2048.Idx → EReal := m ((c : Thread nD τ).loc main_arg3)

/-! ## What the host leaves between the calls -/

theorem W1_v1 : W1 m ρ c (Proc.devRef .tc main_v1) =
    transpose S8x2048x1408 [1, 0, 2] (shapeCast S2048x8x1408 (m ((c : Thread nD τ).loc main_arg1)) shapeCasts_S2048x11264_S2048x8x1408) transposes_S2048x8x1408_S8x2048x1408_1_0_2 := by
  after_results_simp; rfl

theorem W6_v6 : W6 m ρ c (Proc.devRef .tc main_v6) = W5 m ρ c (Proc.devRef .tc main_v5) := by
  after_results_simp; rfl

theorem W8_v8 : W8 m ρ c (Proc.devRef .tc main_v8) =
    shapeCast S2048x11264 (transpose S2048x8x1408 [1, 0, 2] (W7 m ρ c (Proc.devRef .tc main_v6)) transposes_S8x2048x1408_S2048x8x1408_1_0_2) shapeCasts_S2048x8x1408_S2048x11264 := by
  after_results_simp; rfl

/-- The weight's blocks on the host: block `b` holds the columns from `1408 b` on. -/
theorem blocks_at (w : S2048x11264.Idx → EReal) (b k x : ℕ) (hb : b < 8) (hk : k < 2048) (hx : x < 1408) :
    at3 (a := 8) (b := 2048) (c := 1408) (transpose S8x2048x1408 [1, 0, 2] (shapeCast S2048x8x1408 w shapeCasts_S2048x11264_S2048x8x1408) transposes_S2048x8x1408_S8x2048x1408_1_0_2) b k x
      = at2 (a := 2048) (b := 11264) w k (1408 * b + x) := by
  rw [at3_mk _ _ _ _ hb hk hx, at2_mk _ _ _ hk (by omega : 1408 * b + x < 11264)]
  refine (congrArg (shapeCast S2048x8x1408 w shapeCasts_S2048x11264_S2048x8x1408) (funext fun a => Fin.ext ?_ : _ = (ix3 ⟨k, hk⟩ ⟨b, hb⟩ ⟨x, hx⟩ : S2048x8x1408.Idx))).trans ?_
  · match a with
    | ⟨0, _⟩ => rfl
    | ⟨1, _⟩ => rfl
    | ⟨2, _⟩ => rfl
  · exact shapeCast_apply _ _ _ (ix2 ⟨k, hk⟩ ⟨1408 * b + x, by omega⟩) (by
      rw [Shape.rowMajor_val_two, Shape.rowMajor_val_three]
      show k * 11264 + (1408 * b + x) = (k * 8 + b) * 1408 + x
      omega)

/-- The gradient's blocks joined: the columns from `1408 b` on are block `b`. -/
theorem join_at (v : S8x2048x1408.Idx → EReal) (i : Fin 2048) (j : Fin 11264) :
    shapeCast S2048x11264 (transpose S2048x8x1408 [1, 0, 2] v transposes_S8x2048x1408_S2048x8x1408_1_0_2) shapeCasts_S2048x8x1408_S2048x11264 (ix2 i j)
      = v (ix3 (⟨j.val / 1408, by omega⟩ : Fin 8) i (⟨j.val % 1408, Nat.mod_lt _ (by omega)⟩ : Fin 1408)) := by
  refine (shapeCast_apply _ _ _ (ix3 i (⟨j.val / 1408, by omega⟩ : Fin 8) (⟨j.val % 1408, Nat.mod_lt _ (by omega)⟩ : Fin 1408)) (by
      rw [Shape.rowMajor_val_two, Shape.rowMajor_val_three]
      show (i.val * 8 + j.val / 1408) * 1408 + j.val % 1408 = i.val * 11264 + j.val
      omega)).trans ?_
  refine congrArg v (funext fun a => Fin.ext ?_)
  match a with
  | ⟨0, _⟩ => rfl
  | ⟨1, _⟩ => rfl
  | ⟨2, _⟩ => rfl

/-! ## What each call reads -/

theorem V1_0 : V1 m ρ c main_arg0 = aH m c := W1_args m ρ c main_arg0 (by decide)
theorem V1_v1 : V1 m ρ c main_v1 = transpose S8x2048x1408 [1, 0, 2] (shapeCast S2048x8x1408 (aW m c) shapeCasts_S2048x11264_S2048x8x1408) transposes_S2048x8x1408_S8x2048x1408_1_0_2 := W1_v1 m ρ c
theorem V2_3 : V2 m ρ c main_arg3 = aD m c := W2_args m ρ c main_arg3 (by decide)
theorem V3_3 : V3 m ρ c main_arg3 = aD m c := W3_args m ρ c main_arg3 (by decide)
theorem V3_2 : V3 m ρ c main_arg2 = aO m c := W3_args m ρ c main_arg2 (by decide)
theorem V4_0 : V4 m ρ c main_arg0 = aH m c := W4_args m ρ c main_arg0 (by decide)
theorem V6_0 : V6 m ρ c main_arg0 = aH m c := W6_args m ρ c main_arg0 (by decide)

/-- The gate of a token. -/
def gS (i j : ℕ) : EReal := nn (at2 (a := 2048) (b := 2048) (aH m c)) (at2 (a := 2048) (b := 11264) (aW m c)) i j
/-- The other factor. -/
def uS (i j : ℕ) : EReal := gS m c i (5632 + j)
/-- The activation's gradient. -/
def tS (i j : ℕ) : EReal := nt (at2 (a := 2048) (b := 2048) (aD m c)) (at2 (a := 5632) (b := 2048) (aO m c)) i j

theorem gateA_eq (i j : ℕ) (hj : j < 5632) : gateA (V1 m ρ c main_arg0) (V1 m ρ c main_v1) i j = gS m c i j := by
  rw [V1_0, V1_v1]
  unfold gateA gS nn
  refine Finset.sum_congr rfl fun k hk => congrArg _ ?_
  have hk := Finset.mem_range.1 hk
  unfold wcols
  rw [blocks_at _ _ _ _ (by omega) hk (Nat.mod_lt _ (by omega)), show 1408 * (j / 1408 + 0) + j % 1408 = j by omega]

theorem upA_eq (i j : ℕ) (hj : j < 5632) : upA (V1 m ρ c main_arg0) (V1 m ρ c main_v1) i j = uS m c i j := by
  rw [V1_0, V1_v1]
  unfold upA uS gS nn
  refine Finset.sum_congr rfl fun k hk => congrArg _ ?_
  have hk := Finset.mem_range.1 hk
  unfold wcols
  rw [blocks_at _ _ _ _ (by omega) hk (Nat.mod_lt _ (by omega)), show 1408 * (j / 1408 + 4) + j % 1408 = 5632 + j by omega]

theorem v2_0_at (i j : ℕ) (hi : i < 2048) (hj : j < 5632) : at2 (a := 2048) (b := 5632) (W2 m ρ c (Proc.devRef .tc main_v2_0)) i j = gS m c i j := by
  rw [at2_mk _ _ _ hi hj]
  refine (congrFun (W2_arr m ρ c 3) (ix2 ⟨i, hi⟩ ⟨j, hj⟩ : S2048x5632.Idx)).trans ?_
  exact (out0_gate (V1 m ρ) c ⟨i, hi⟩ ⟨j, hj⟩).trans (gateA_eq m ρ c i j hj)
theorem v2_1_at (i j : ℕ) (hi : i < 2048) (hj : j < 5632) : at2 (a := 2048) (b := 5632) (W2 m ρ c (Proc.devRef .tc main_v2_1)) i j = uS m c i j := by
  rw [at2_mk _ _ _ hi hj]
  refine (congrFun (W2_arr m ρ c 4) (ix2 ⟨i, hi⟩ ⟨j, hj⟩ : S2048x5632.Idx)).trans ?_
  exact (out0_up (V1 m ρ) c ⟨i, hi⟩ ⟨j, hj⟩).trans (upA_eq m ρ c i j hj)
theorem v2_2_at (i j : ℕ) (hi : i < 2048) (hj : j < 5632) : at2 (a := 2048) (b := 5632) (W2 m ρ c (Proc.devRef .tc main_v2_2)) i j = actS (gS m c i j) (uS m c i j) := by
  rw [at2_mk _ _ _ hi hj]
  refine (congrFun (W2_arr m ρ c 5) (ix2 ⟨i, hi⟩ ⟨j, hj⟩ : S2048x5632.Idx)).trans ?_
  refine (out0_act (V1 m ρ) c ⟨i, hi⟩ ⟨j, hj⟩).trans ?_
  exact congrArg₂ actS (gateA_eq m ρ c i j hj) (upA_eq m ρ c i j hj)

theorem V3_v2_0 : V3 m ρ c main_v2_0 = W2 m ρ c (Proc.devRef .tc main_v2_0) := W3_of m ρ c _ (by decide)
theorem V3_v2_1 : V3 m ρ c main_v2_1 = W2 m ρ c (Proc.devRef .tc main_v2_1) := W3_of m ρ c _ (by decide)

theorem v4_0_at (i j : ℕ) (hi : i < 2048) (hj : j < 5632) : at2 (a := 2048) (b := 5632) (W4 m ρ c (Proc.devRef .tc main_v4_0)) i j = dgS (tS m c i j) (gS m c i j) (uS m c i j) := by
  rw [at2_mk _ _ _ hi hj]
  refine (congrFun (W4_arr m ρ c 4) (ix2 ⟨i, hi⟩ ⟨j, hj⟩ : S2048x5632.Idx)).trans ?_
  refine (out2_gate (V3 m ρ) c ⟨i, hi⟩ ⟨j, hj⟩).trans ?_
  rw [V3_3, V3_2, V3_v2_0, V3_v2_1, v2_0_at m ρ c i j hi hj, v2_1_at m ρ c i j hi hj]; rfl
theorem v4_1_at (i j : ℕ) (hi : i < 2048) (hj : j < 5632) : at2 (a := 2048) (b := 5632) (W4 m ρ c (Proc.devRef .tc main_v4_1)) i j = duS (tS m c i j) (gS m c i j) := by
  rw [at2_mk _ _ _ hi hj]
  refine (congrFun (W4_arr m ρ c 5) (ix2 ⟨i, hi⟩ ⟨j, hj⟩ : S2048x5632.Idx)).trans ?_
  refine (out2_up (V3 m ρ) c ⟨i, hi⟩ ⟨j, hj⟩).trans ?_
  rw [V3_3, V3_2, V3_v2_0, v2_0_at m ρ c i j hi hj]; rfl

/-! ## The results -/

/-- The gradient of the second product's weight. -/
theorem res_out (i : Fin 5632) (j : Fin 2048) : W8 m ρ c (Proc.devRef .tc main_v3) (ix2 i j : S5632x2048.Idx)
    = ∑ k ∈ Finset.range 2048, actS (gS m c k i) (uS m c k i) * at2 (a := 2048) (b := 2048) (aD m c) k j := by
  have e : W8 m ρ c (Proc.devRef .tc main_v3) = W3 m ρ c (Proc.devRef .tc main_v3) :=
    (W8_of m ρ c _ (by decide)).trans ((W7_of m ρ c _ (by decide)).trans ((W6_of m ρ c _ (by decide)).trans ((W5_of m ρ c _ (by decide)).trans (W4_of m ρ c _ (by decide)))))
  rw [e]
  refine (congrFun (W3_arr m ρ c 2) (ix2 i j : S5632x2048.Idx)).trans ?_
  refine (out1 (V2 m ρ) c i j).trans ?_
  unfold tn
  refine Finset.sum_congr (M := EReal) rfl fun k hk => ?_
  have hk := Finset.mem_range.1 hk
  rw [V2_3]
  exact congrArg (· * _) (v2_2_at m ρ c k i hk i.isLt)

theorem V6_v4_1 : V6 m ρ c main_v4_1 = W4 m ρ c (Proc.devRef .tc main_v4_1) := (W6_of m ρ c _ (by decide)).trans (W5_of m ρ c _ (by decide))

/-- The gradient of the first product's weight: the gate's half, then the other factor's. -/
theorem res_in (i : Fin 2048) (j : Fin 11264) : W8 m ρ c (Proc.devRef .tc main_v8) (ix2 i j : S2048x11264.Idx)
    = ∑ k ∈ Finset.range 2048, at2 (a := 2048) (b := 2048) (aH m c) k i *
        (if j.val < 5632 then dgS (tS m c k j) (gS m c k j) (uS m c k j) else duS (tS m c k (j - 5632)) (gS m c k (j - 5632))) := by
  have hj := j.isLt
  rw [W8_v8]
  refine (join_at _ i j).trans ?_
  refine (congrFun (W7_arr m ρ c 2) (ix3 (⟨j.val / 1408, by omega⟩ : Fin 8) i (⟨j.val % 1408, Nat.mod_lt _ (by omega)⟩ : Fin 1408) : S8x2048x1408.Idx)).trans ?_
  by_cases h : j.val < 5632
  · refine (arr4_2_old (V6 m ρ) c ⟨j.val / 1408, by omega⟩ (by show j.val / 1408 < 4; omega) i ⟨j.val % 1408, Nat.mod_lt _ (by omega)⟩).trans ?_
    show W6 m ρ c (Proc.devRef .tc main_v6) (ix3 (⟨j.val / 1408, by omega⟩ : Fin 8) i (⟨j.val % 1408, Nat.mod_lt _ (by omega)⟩ : Fin 1408) : S8x2048x1408.Idx) = _
    rw [W6_v6]
    refine (congrFun (W5_arr m ρ c 2) (ix3 (⟨j.val / 1408, by omega⟩ : Fin 8) i (⟨j.val % 1408, Nat.mod_lt _ (by omega)⟩ : Fin 1408) : S8x2048x1408.Idx)).trans ?_
    refine (out3 (V4 m ρ) c ⟨j.val / 1408, by omega⟩ (by show j.val / 1408 < 4; omega) i ⟨j.val % 1408, Nat.mod_lt _ (by omega)⟩).trans ?_
    unfold tn
    refine Finset.sum_congr (M := EReal) rfl fun k hk => ?_
    have hk := Finset.mem_range.1 hk
    rw [V4_0, if_pos h]
    refine congrArg (_ * ·) ?_
    show at2 (a := 2048) (b := 5632) (W4 m ρ c (Proc.devRef .tc main_v4_0)) k (1408 * (j.val / 1408) + j.val % 1408) = _
    rw [show 1408 * (j.val / 1408) + j.val % 1408 = j.val by omega]
    exact v4_0_at m ρ c k j hk h
  · refine (out4 (V6 m ρ) c ⟨j.val / 1408, by omega⟩ (by show 4 ≤ j.val / 1408; omega) i ⟨j.val % 1408, Nat.mod_lt _ (by omega)⟩).trans ?_
    unfold tn
    refine Finset.sum_congr (M := EReal) rfl fun k hk => ?_
    have hk := Finset.mem_range.1 hk
    rw [V6_0, if_neg h, V6_v4_1]
    refine congrArg (_ * ·) ?_
    show at2 (a := 2048) (b := 5632) (W4 m ρ c (Proc.devRef .tc main_v4_1)) k (1408 * (j.val / 1408 - 4) + j.val % 1408) = _
    rw [show 1408 * (j.val / 1408 - 4) + j.val % 1408 = j.val - 5632 by omega]
    exact v4_1_at m ρ c k (j - 5632) hk (by omega)
end Cert.Kernel2Ideal.Value
end
-- ==== Proof.Ref2.lean ====
/-
  The feed-forward block's reference at an index: its results are sums of products of the gate's, the other factor's and
  their gradients' entries.
-/
module
public import proofs.«01_k».proof.Proof.Gen.Reference2Ideal.Run
public import Idealize.ShloMosaic.Lib.Pointwise
public import Idealize.ShloMosaic.Lib.IdealHost
public import proofs.«01_k».proof.Proof.Window
public import proofs.«01_k».proof.Proof.Tile2
@[expose] public section
set_option maxRecDepth 8192
set_option maxHeartbeats 1000000
noncomputable section
namespace Cert.Reference2Ideal.Value
open Cert.Reference2Ideal Cert.Reference2Ideal.Gen Cert.Attn Cert.Ffn
open Idealize.ShloMosaic Idealize.ShloMosaic.TcCoe

theorem p2 {a b : ℕ} (x : (⟨2, ![a, b]⟩ : Shape).Idx → EReal) (i : Fin a) (j : Fin b) : x (ix2 i j) = at2 x i j := by
  rw [ix2_eq_valueIdx]; exact at2_ix x i j

section
variable (H : FVec Ideal S2048x2048 .bf16) (W : FVec Ideal S2048x11264 .bf16) (O : FVec Ideal S5632x2048 .bf16) (D : FVec Ideal S2048x2048 .bf16)

/-! ## The reference's arrays -/

def rHW : FVec Ideal S2048x11264 .f32 :=
  Host.dotGeneral dot_S2048x2048_S2048x11264_S2048x11264_1_0_0_1_n_n none (extf .f32 H bitsLt_bf16_f32) (extf .f32 W bitsLt_bf16_f32)
def rDact : FVec Ideal S2048x5632 .f32 :=
  Host.dotGeneral dot_S2048x2048_S5632x2048_S2048x5632_1_1_0_0_n_n none (extf .f32 D bitsLt_bf16_f32) (extf .f32 O bitsLt_bf16_f32)
end

section
variable (Z : FVec Ideal S2048x11264 .f32) (T : FVec Ideal S2048x5632 .f32) (H : FVec Ideal S2048x2048 .bf16) (D : FVec Ideal S2048x2048 .bf16)
def rG : FVec Ideal S2048x5632 .f32 := extractStridedSlice S2048x5632 ![0, 0] Z slices_S2048x11264_S2048x5632_0_0
def rU : FVec Ideal S2048x5632 .f32 := extractStridedSlice S2048x5632 ![0, 5632] Z slices_S2048x11264_S2048x5632_0_5632
def rOne : FVec Ideal S2048x5632 .f32 := broadcastInDim S2048x5632 ![] bcast_S_S2048x5632 (constant S_ .f32 0x3F800000#32)
def rS : FVec Ideal S2048x5632 .f32 := Host.divf rOne (addf rOne (Host.exp (Host.negf (rG Z))))
def rAct : FVec Ideal S2048x5632 .f32 := mulf (mulf (rG Z) (rS Z)) (rU Z)
def rDg : FVec Ideal S2048x5632 .f32 := addf (mulf (mulf T (rU Z)) (rS Z)) (mulf (mulf (rG Z) (mulf T (rU Z))) (mulf (rS Z) (subf rOne (rS Z))))
def rDu : FVec Ideal S2048x5632 .f32 := mulf (mulf (rG Z) (rS Z)) T
def rCat : FVec Ideal S2048x11264 .f32 := concatenate S2048x11264 1 [⟨S2048x5632, rDg Z T⟩, ⟨S2048x5632, rDu Z T⟩] concatenates_S2048x5632_S2048x5632_S2048x11264_d1
def rIn (C : FVec Ideal S2048x11264 .f32) (H : FVec Ideal S2048x2048 .bf16) : FVec Ideal S2048x11264 .bf16 :=
  truncf .bf16 (transpose S2048x11264 [1, 0] (Host.dotGeneral dot_S2048x11264_S2048x2048_S11264x2048_0_0_1_1_n_n none C (extf .f32 H bitsLt_bf16_f32)) transposes_S11264x2048_S2048x11264_1_0) bitsLt_bf16_f32
def rOut (A : FVec Ideal S2048x5632 .f32) (D : FVec Ideal S2048x2048 .bf16) : FVec Ideal S5632x2048 .bf16 :=
  truncf .bf16 (transpose S5632x2048 [1, 0] (Host.dotGeneral dot_S2048x2048_S2048x5632_S2048x5632_0_0_1_1_n_n none (extf .f32 D bitsLt_bf16_f32) A) transposes_S2048x5632_S5632x2048_1_0) bitsLt_bf16_f32
end

/-! ## The same arrays at an index -/

section
variable (H : S2048x2048.Idx → EReal) (W : S2048x11264.Idx → EReal) (O : S5632x2048.Idx → EReal) (D : S2048x2048.Idx → EReal)
abbrev nHW : S2048x11264.Idx → EReal := rHW H W
abbrev nDact : S2048x5632.Idx → EReal := rDact O D

theorem hw_at (i : Fin 2048) (j : Fin 11264) : nHW H W (ix2 i j) = nn (at2 (a := 2048) (b := 2048) H) (at2 (a := 2048) (b := 11264) W) i j := by
  have e : nHW H W (ix2 i j) = ∑ x : Fin 2048, H (ix2 i x) * W (ix2 x j) := by
    unfold nHW rHW
    pointwise <;> rfl
  rw [e]
  unfold nn
  rw [← Fin.sum_univ_eq_sum_range (fun k => at2 (a := 2048) (b := 2048) H i k * at2 (a := 2048) (b := 11264) W k j) 2048]
  exact Finset.sum_congr rfl fun x _ => by rw [p2 H, p2 W]

theorem dact_at (i : Fin 2048) (j : Fin 5632) : nDact O D (ix2 i j) = nt (at2 (a := 2048) (b := 2048) D) (at2 (a := 5632) (b := 2048) O) i j := by
  have e : nDact O D (ix2 i j) = ∑ x : Fin 2048, D (ix2 i x) * O (ix2 j x) := by
    unfold nDact rDact
    pointwise <;> rfl
  rw [e]
  unfold nt
  rw [← Fin.sum_univ_eq_sum_range (fun k => at2 (a := 2048) (b := 2048) D i k * at2 (a := 5632) (b := 2048) O j k) 2048]
  exact Finset.sum_congr rfl fun x _ => by rw [p2 D, p2 O]
end

section
variable (Z : S2048x11264.Idx → EReal) (T : S2048x5632.Idx → EReal)
abbrev nG : S2048x5632.Idx → EReal := rG Z
abbrev nU : S2048x5632.Idx → EReal := rU Z
abbrev nOne : S2048x5632.Idx → EReal := rOne
abbrev nS : S2048x5632.Idx → EReal := rS Z
abbrev nAct : S2048x5632.Idx → EReal := rAct Z
abbrev nDg : S2048x5632.Idx → EReal := rDg Z T
abbrev nDu : S2048x5632.Idx → EReal := rDu Z T
abbrev nCat : S2048x11264.Idx → EReal := rCat Z T

theorem g_at (i : Fin 2048) (j : Fin 5632) : nG Z (ix2 i j) = at2 (a := 2048) (b := 11264) Z i j := by
  have hj := j.isLt
  have e : nG Z (ix2 i j) = Z (ix2 i ⟨j.val, by omega⟩) := by
    unfold nG rG
    rw [ix2_eq_valueIdx, ix2_eq_valueIdx]
    exact extractStridedSlice_apply _ _ _ _ _ (fun a => by
      match a with
      | ⟨0, _⟩ => exact (Nat.zero_add _).symm
      | ⟨1, _⟩ => exact (Nat.zero_add _).symm)
  exact e.trans (p2 Z _ _)

theorem u_at (i : Fin 2048) (j : Fin 5632) : nU Z (ix2 i j) = at2 (a := 2048) (b := 11264) Z i (5632 + j) := by
  have hj := j.isLt
  have e : nU Z (ix2 i j) = Z (ix2 i ⟨5632 + j.val, by omega⟩) := by
    unfold nU rU
    rw [ix2_eq_valueIdx, ix2_eq_valueIdx]
    exact extractStridedSlice_apply _ _ _ _ _ (fun a => by
      match a with
      | ⟨0, _⟩ => exact (Nat.zero_add _).symm
      | ⟨1, _⟩ => rfl)
  exact e.trans (p2 Z _ _)

theorem one_at (i : Fin 2048) (j : Fin 5632) : nOne (ix2 i j) = 1 := Ideal.ofBits_one_f32

theorem s_at (i : Fin 2048) (j : Fin 5632) : nS Z (ix2 i j) = Ideal.logistic (at2 (a := 2048) (b := 11264) Z i j) := by
  rw [← g_at]
  show Ideal.div (nOne (ix2 i j)) (nOne (ix2 i j) + Ideal.exp (-(nG Z (ix2 i j)))) = _
  rw [one_at]; rfl

theorem act_at (i : Fin 2048) (j : Fin 5632) : nAct Z (ix2 i j) = actS (at2 (a := 2048) (b := 11264) Z i j) (at2 (a := 2048) (b := 11264) Z i (5632 + j)) := by
  show nG Z (ix2 i j) * nS Z (ix2 i j) * nU Z (ix2 i j) = _
  rw [g_at, s_at, u_at]; rfl

/-- The gate's gradient as the derivative of the product writes it. -/
def dgR (t g u : EReal) : EReal := t * u * Ideal.logistic g + g * (t * u) * (Ideal.logistic g * (1 - Ideal.logistic g))
def duR (t g : EReal) : EReal := g * Ideal.logistic g * t

theorem dg_at (i : Fin 2048) (j : Fin 5632) : nDg Z T (ix2 i j) = dgR (at2 (a := 2048) (b := 5632) T i j) (at2 (a := 2048) (b := 11264) Z i j) (at2 (a := 2048) (b := 11264) Z i (5632 + j)) := by
  show T (ix2 i j) * nU Z (ix2 i j) * nS Z (ix2 i j) + nG Z (ix2 i j) * (T (ix2 i j) * nU Z (ix2 i j)) * (nS Z (ix2 i j) * (nOne (ix2 i j) - nS Z (ix2 i j))) = _
  rw [g_at, s_at, u_at, one_at, p2 T]; rfl

theorem du_at (i : Fin 2048) (j : Fin 5632) : nDu Z T (ix2 i j) = duR (at2 (a := 2048) (b := 5632) T i j) (at2 (a := 2048) (b := 11264) Z i j) := by
  show nG Z (ix2 i j) * nS Z (ix2 i j) * T (ix2 i j) = _
  rw [g_at, s_at, p2 T]; rfl

theorem cat_lo (i : Fin 2048) (j : Fin 11264) (h : j.val < 5632) : nCat Z T (ix2 i j) = nDg Z T (ix2 i ⟨j.val, h⟩) := by
  unfold nCat rCat
  rw [ix2_eq_valueIdx, ix2_eq_valueIdx]
  exact concatenate_pair_apply_left (t := S2048x11264) (s₁ := S2048x5632) (s₂ := S2048x5632) 1 _ _ _ _ rfl _ (fun a => by
    match a with
    | ⟨0, _⟩ => rfl
    | ⟨1, _⟩ => rfl)

theorem cat_hi (i : Fin 2048) (j : Fin 11264) (h : 5632 ≤ j.val) : nCat Z T (ix2 i j) = nDu Z T (ix2 i ⟨j.val - 5632, by omega⟩) := by
  unfold nCat rCat
  rw [ix2_eq_valueIdx, ix2_eq_valueIdx]
  exact concatenate_pair_apply_right (t := S2048x11264) (s₁ := S2048x5632) (s₂ := S2048x5632) 1 _ _ _ _ rfl rfl _ (fun a ha => by
    match a, ha with
    | ⟨0, _⟩, _ => rfl
    | ⟨1, _⟩, ha => exact absurd rfl ha) (by show j.val - 5632 + 5632 = j.val; omega)
end

section
variable (C : S2048x11264.Idx → EReal) (A : S2048x5632.Idx → EReal) (H D : S2048x2048.Idx → EReal)
abbrev nIn : S2048x11264.Idx → EReal := rIn C H
abbrev nOut : S5632x2048.Idx → EReal := rOut A D

theorem in_at (i : Fin 2048) (j : Fin 11264) : nIn C H (ix2 i j) = ∑ x : Fin 2048, C (ix2 x j) * H (ix2 x i) := by
  unfold nIn rIn
  pointwise <;> rfl

theorem out_at (i : Fin 5632) (j : Fin 2048) : nOut A D (ix2 i j) = ∑ x : Fin 2048, D (ix2 x j) * A (ix2 x i) := by
  unfold nOut rOut
  pointwise <;> rfl
end

/-! ## The run's results -/

variable (m : (ℓ : Loc nD τ sig) → Buf (Elt Ideal) ℓ) (c : Dev nD)
abbrev aH : S2048x2048.Idx → EReal := m ((c.tc : Thread nD τ).loc main_arg0)
abbrev aW : S2048x11264.Idx → EReal := m ((c.tc : Thread nD τ).loc main_arg1)
abbrev aO : S5632x2048.Idx → EReal := m ((c.tc : Thread nD τ).loc main_arg2)
abbrev aD : S2048x2048.Idx → EReal := m ((c.tc : Thread nD τ).loc main_arg3)

theorem v20_eq : res_main_v20 (F := Ideal) m c = nIn (nCat (nHW (aH m c) (aW m c)) (nDact (aO m c) (aD m c))) (aH m c) := by
  unfold res_main_v20; rfl

theorem run2 (ρ : Dev nD → PrngReg) :
    θ_run defs (onTc (τ := τ) (main (F := Ideal))) ⟨m, fun _ => 0, ρ⟩ fun r => ∀ c : Dev nD,
      r.2.mem ((c.tc : Thread nD τ).loc main_v20) = nIn (nCat (nHW (aH m c) (aW m c)) (nDact (aO m c) (aD m c))) (aH m c)
      ∧ r.2.mem ((c.tc : Thread nD τ).loc main_v21) = nOut (nAct (nHW (aH m c) (aW m c))) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (v20_eq m c), (h c).2.1.trans rfl, (h c).2.2⟩) (run (F := Ideal) m ρ)

/-- The gradient of the first product's weight. -/
theorem v20_at (i : Fin 2048) (j : Fin 11264) : nIn (nCat (nHW (aH m c) (aW m c)) (nDact (aO m c) (aD m c))) (aH m c) (ix2 i j)
    = ∑ k ∈ Finset.range 2048, (if j.val < 5632
        then dgR (nt (at2 (aD m c)) (at2 (aO m c)) k j) (nn (at2 (aH m c)) (at2 (aW m c)) k j) (nn (at2 (aH m c)) (at2 (aW m c)) k (5632 + j))
        else duR (nt (at2 (aD m c)) (at2 (aO m c)) k (j - 5632)) (nn (at2 (aH m c)) (at2 (aW m c)) k (j - 5632))) * at2 (aH m c) k i := by
  have hj := j.isLt
  rw [in_at]
  rw [← Fin.sum_univ_eq_sum_range (fun k => (if j.val < 5632
        then dgR (nt (at2 (aD m c)) (at2 (aO m c)) k j) (nn (at2 (aH m c)) (at2 (aW m c)) k j) (nn (at2 (aH m c)) (at2 (aW m c)) k (5632 + j))
        else duR (nt (at2 (aD m c)) (at2 (aO m c)) k (j - 5632)) (nn (at2 (aH m c)) (at2 (aW m c)) k (j - 5632))) * at2 (aH m c) k i) 2048]
  refine Finset.sum_congr rfl fun x _ => ?_
  rw [p2 (aH m c)]
  refine congrArg (· * _) ?_
  have hz : ∀ q : ℕ, q < 11264 → at2 (nHW (aH m c) (aW m c)) x q = nn (at2 (aH m c)) (at2 (aW m c)) x q := fun q hq => (p2 (nHW (aH m c) (aW m c)) x ⟨q, hq⟩).symm.trans (hw_at _ _ x ⟨q, hq⟩)
  have ht : ∀ q : ℕ, q < 5632 → at2 (nDact (aO m c) (aD m c)) x q = nt (at2 (aD m c)) (at2 (aO m c)) x q := fun q hq => (p2 (nDact (aO m c) (aD m c)) x ⟨q, hq⟩).symm.trans (dact_at _ _ x ⟨q, hq⟩)
  by_cases h : j.val < 5632
  · rw [if_pos h, cat_lo _ _ _ _ h, dg_at, ht _ h]
    rw [hz _ (by omega), hz _ (by show 5632 + j.val < 11264; omega)]
  · rw [if_neg h, cat_hi _ _ _ _ (by omega), du_at, ht _ (by show j.val - 5632 < 5632; omega)]
    rw [hz _ (by show j.val - 5632 < 11264; omega)]

/-- The gradient of the second product's weight. -/
theorem v21_at (i : Fin 5632) (j : Fin 2048) : nOut (nAct (nHW (aH m c) (aW m c))) (aD m c) (ix2 i j)
    = ∑ k ∈ Finset.range 2048, at2 (aD m c) k j * actS (nn (at2 (aH m c)) (at2 (aW m c)) k i) (nn (at2 (aH m c)) (at2 (aW m c)) k (5632 + i)) := by
  have hi := i.isLt
  rw [out_at]
  rw [← Fin.sum_univ_eq_sum_range (fun k => at2 (aD m c) k j * actS (nn (at2 (aH m c)) (at2 (aW m c)) k i) (nn (at2 (aH m c)) (at2 (aW m c)) k (5632 + i))) 2048]
  refine Finset.sum_congr rfl fun x _ => ?_
  have hz : ∀ q : ℕ, q < 11264 → at2 (nHW (aH m c) (aW m c)) x q = nn (at2 (aH m c)) (at2 (aW m c)) x q := fun q hq => (p2 (nHW (aH m c) (aW m c)) x ⟨q, hq⟩).symm.trans (hw_at _ _ x ⟨q, hq⟩)
  rw [p2 (aD m c), act_at, hz _ (by omega), hz _ (by omega)]

end Cert.Reference2Ideal.Value
end
-- ==== Proof.Algebraic2.lean ====
/-
  The feed-forward program: its frames, and the claim on its values. From the same arguments, all real, the kernel and
  the reference end with the same gradients of the two weights.
-/
module
public import proofs.«01_k».proof.Defs
public import proofs.«01_k».proof.Proof.Launch2
public import proofs.«01_k».proof.Proof.Chain2
public import proofs.«01_k».proof.Proof.Ref2
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import Idealize.ShloMosaic.Lib.Quiescent
@[expose] public section
set_option maxRecDepth 8192
set_option maxHeartbeats 1000000
noncomputable section
namespace Cert.Ffn
open Idealize.ShloMosaic Idealize.ShloMosaic.TcCoe Idealize.SL.Sem
open Cert.Attn

/-! ## The precondition -/

theorem pre_facts : Cert.Pre_finite2.Facts where
  bitsLt_bf16_f32 := by decide
  bcast_S_S2048x2048 := by decide
  bcast_S_S2048x11264 := by decide
  bcast_S_S5632x2048 := by decide

section Pre
variable [Cert.Pre_finite2.Facts] (x0 : FVec Ideal Cert.Pre_finite2.S2048x2048 .bf16) (x1 : FVec Ideal Cert.Pre_finite2.S2048x11264 .bf16)
  (x2 : FVec Ideal Cert.Pre_finite2.S5632x2048 .bf16) (x3 : FVec Ideal Cert.Pre_finite2.S2048x2048 .bf16)

theorem pre_0 (h : (Cert.Pre_finite2.fn (F := Ideal) x0 x1 x2 x3).1 = fun _ => 1#1) (i j : ℕ) (hi : i < 2048) (hj : j < 2048) :
    Fin' (at2 (a := 2048) (b := 2048) x0 i j) := by
  rw [at2_mk _ _ _ hi hj]
  exact fin_of _ (congrFun h (ValueIdx.ix2 ⟨i, hi⟩ ⟨j, hj⟩ : Cert.Pre_finite2.S2048x2048.Idx))
theorem pre_1 (h : (Cert.Pre_finite2.fn (F := Ideal) x0 x1 x2 x3).2.1 = fun _ => 1#1) (i j : ℕ) (hi : i < 2048) (hj : j < 11264) :
    Fin' (at2 (a := 2048) (b := 11264) x1 i j) := by
  rw [at2_mk _ _ _ hi hj]
  exact fin_of _ (congrFun h (ValueIdx.ix2 ⟨i, hi⟩ ⟨j, hj⟩ : Cert.Pre_finite2.S2048x11264.Idx))
theorem pre_2 (h : (Cert.Pre_finite2.fn (F := Ideal) x0 x1 x2 x3).2.2.1 = fun _ => 1#1) (i j : ℕ) (hi : i < 5632) (hj : j < 2048) :
    Fin' (at2 (a := 5632) (b := 2048) x2 i j) := by
  rw [at2_mk _ _ _ hi hj]
  exact fin_of _ (congrFun h (ValueIdx.ix2 ⟨i, hi⟩ ⟨j, hj⟩ : Cert.Pre_finite2.S5632x2048.Idx))
theorem pre_3 (h : (Cert.Pre_finite2.fn (F := Ideal) x0 x1 x2 x3).2.2.2 = fun _ => 1#1) (i j : ℕ) (hi : i < 2048) (hj : j < 2048) :
    Fin' (at2 (a := 2048) (b := 2048) x3 i j) := by
  rw [at2_mk _ _ _ hi hj]
  exact fin_of _ (congrFun h (ValueIdx.ix2 ⟨i, hi⟩ ⟨j, hj⟩ : Cert.Pre_finite2.S2048x2048.Idx))
end Pre

/-! ## The two forms of the gate's derivative -/

/-- On reals the factored and the expanded derivative agree. -/
theorem dg_eq {t g u : EReal} (ht : Fin' t) (hg : Fin' g) (hu : Fin' u) : Cert.Reference2Ideal.Value.dgR t g u = dgS t g u := by
  obtain ⟨t, rfl⟩ := ht
  obtain ⟨g, rfl⟩ := hg
  obtain ⟨u, rfl⟩ := hu
  unfold Cert.Reference2Ideal.Value.dgR dgS
  rw [Ideal.logistic_coe, ← EReal.coe_one]
  simp only [← EReal.coe_mul, ← EReal.coe_sub, ← EReal.coe_add]
  exact congrArg _ (by ring)

theorem du_eq (t g : EReal) : Cert.Reference2Ideal.Value.duR t g = duS t g := by
  unfold Cert.Reference2Ideal.Value.duR duS
  rw [mul_comm (g * _) t, mul_assoc]

theorem nn_fin {A B : ℕ → ℕ → EReal} (i j : ℕ) (hA : ∀ k, k < 2048 → Fin' (A i k)) (hB : ∀ k, k < 2048 → Fin' (B k j)) : Fin' (nn A B i j) :=
  Fin'.sum fun k hk => (hA k hk).mul (hB k hk)
theorem nt_fin {A B : ℕ → ℕ → EReal} (i j : ℕ) (hA : ∀ k, k < 2048 → Fin' (A i k)) (hB : ∀ k, k < 2048 → Fin' (B j k)) : Fin' (nt A B i j) :=
  Fin'.sum fun k hk => (hA k hk).mul (hB k hk)

/-- Two arrays of rank two that agree at every pair of coordinates are equal. -/
theorem ext2 {a b : ℕ} {x y : (⟨2, ![a, b]⟩ : Shape).Idx → EReal} (h : ∀ (i : Fin a) (j : Fin b), x (ValueIdx.ix2 i j) = y (ValueIdx.ix2 i j)) : x = y := by
  funext k
  rw [ValueIdx.eq_ix2 k]
  exact h _ _

/-! ## The claims -/

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

theorem preserves : Cert.preserves_Kernel2_Kernel2Ideal := trivial

theorem algebraic [hPre_finite2 : Cert.Pre_finite2.Facts] : Cert.algebraic_Kernel2Ideal_Reference2Ideal_pre_finite2 := by
  intro m g m' g' hp ha
  refine ⟨fun c => Cert.Kernel2Ideal.Gen.W8 m g c (Proc.devRef .tc Cert.Kernel2Ideal.main_v8), fun c => Cert.Kernel2Ideal.Gen.W8 m g c (Proc.devRef .tc Cert.Kernel2Ideal.main_v3), ?_, ?_⟩
  · refine (θ_run Cert.Kernel2Ideal.defs _ _).mono (fun r h c => ?_) (Cert.Kernel2Ideal.Gen.launch (F := Ideal) m g)
    exact ⟨h.1 c _ (Cert.Kernel2Ideal.Gen.mem_uc Cert.Kernel2Ideal.main_v8 (by decide)), h.1 c _ (Cert.Kernel2Ideal.Gen.mem_uc Cert.Kernel2Ideal.main_v3 (by decide)),
      (h.1 c _ (Cert.Kernel2Ideal.Gen.mem_uc Cert.Kernel2Ideal.main_arg0 (by decide))).trans (Cert.Kernel2Ideal.Gen.W8_main_arg0 m g c),
      (h.1 c _ (Cert.Kernel2Ideal.Gen.mem_uc Cert.Kernel2Ideal.main_arg1 (by decide))).trans (Cert.Kernel2Ideal.Gen.W8_main_arg1 m g c),
      (h.1 c _ (Cert.Kernel2Ideal.Gen.mem_uc Cert.Kernel2Ideal.main_arg2 (by decide))).trans (Cert.Kernel2Ideal.Gen.W8_main_arg2 m g c),
      (h.1 c _ (Cert.Kernel2Ideal.Gen.mem_uc Cert.Kernel2Ideal.main_arg3 (by decide))).trans (Cert.Kernel2Ideal.Gen.W8_main_arg3 m g c)⟩
  · refine (θ_run Cert.Reference2Ideal.defs _ _).mono (fun r h c => ?_) (Cert.Reference2Ideal.Value.run2 (m := m') (ρ := g'))
    obtain ⟨e20, e21, k0, k1, k2, k3⟩ := h c
    obtain ⟨a0, a1, a2, a3⟩ := ha c
    obtain ⟨p0, p1, p2, p3⟩ := hp c
    have b0 : Cert.Reference2Ideal.Value.aH m' c = Cert.Kernel2Ideal.Value.aH m c := a0
    have b1 : Cert.Reference2Ideal.Value.aW m' c = Cert.Kernel2Ideal.Value.aW m c := a1
    have b2 : Cert.Reference2Ideal.Value.aO m' c = Cert.Kernel2Ideal.Value.aO m c := a2
    have b3 : Cert.Reference2Ideal.Value.aD m' c = Cert.Kernel2Ideal.Value.aD m c := a3
    have hH : ∀ i j, i < 2048 → j < 2048 → Fin' (at2 (a := 2048) (b := 2048) (Cert.Kernel2Ideal.Value.aH m c) i j) := fun i j hi hj => pre_0 _ _ _ _ p0 i j hi hj
    have hW : ∀ i j, i < 2048 → j < 11264 → Fin' (at2 (a := 2048) (b := 11264) (Cert.Kernel2Ideal.Value.aW m c) i j) := fun i j hi hj => pre_1 _ _ _ _ p1 i j hi hj
    have hO : ∀ i j, i < 5632 → j < 2048 → Fin' (at2 (a := 5632) (b := 2048) (Cert.Kernel2Ideal.Value.aO m c) i j) := fun i j hi hj => pre_2 _ _ _ _ p2 i j hi hj
    have hD : ∀ i j, i < 2048 → j < 2048 → Fin' (at2 (a := 2048) (b := 2048) (Cert.Kernel2Ideal.Value.aD m c) i j) := fun i j hi hj => pre_3 _ _ _ _ p3 i j hi hj
    refine ⟨e20.trans (ext2 (a := 2048) (b := 11264) fun p q => ?_), e21.trans (ext2 (a := 5632) (b := 2048) fun p q => ?_), k0, k1, k2, k3⟩
    · refine Eq.trans ?_ (Cert.Kernel2Ideal.Value.res_in m g c p q).symm
      rw [← ix2_eq_valueIdx]
      refine (Cert.Reference2Ideal.Value.v20_at m' c p q).trans ?_
      rw [b0, b1, b2, b3]
      refine Finset.sum_congr (M := EReal) rfl fun k hk => ?_
      have hk := Finset.mem_range.1 hk
      have hq := q.isLt
      refine (mul_comm _ _).trans (congrArg (_ * ·) ?_)
      by_cases h : q.val < 5632
      · rw [if_pos h, if_pos h]
        exact dg_eq (nt_fin k q (fun x hx => hD k x hk hx) (fun x hx => hO q x h hx)) (nn_fin k q (fun x hx => hH k x hk hx) (fun x hx => hW x q hx hq))
          (nn_fin k (5632 + q) (fun x hx => hH k x hk hx) (fun x hx => hW x (5632 + q) hx (by omega)))
      · rw [if_neg h, if_neg h]
        exact du_eq _ _
    · refine Eq.trans ?_ (Cert.Kernel2Ideal.Value.res_out m g c p q).symm
      rw [← ix2_eq_valueIdx]
      refine (Cert.Reference2Ideal.Value.v21_at m' c p q).trans ?_
      rw [b0, b1, b3]
      exact Finset.sum_congr (M := EReal) rfl fun k hk => mul_comm _ _

end Cert.Ffn
end
-- ==== Proof.Launch3.lean ====
/-
  The run of the projection's calls, read back whole: every buffer of every device ends at the contents that the
  generated fold through the calls gives it.
-/
module
public import proofs.«01_k».proof.Proof.Gen.Kernel3Ideal.Frame
@[expose] public section
set_option maxRecDepth 16384
noncomputable section
namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem launch : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.Kernel3Ideal.Gen
end
-- ==== Proof.Arr3.lean ====
/-
  The projection's products: what each call's body leaves at an index of its block, the blocks read at coordinates of
  their arrays, and the arrays the calls leave.
-/
module
public import proofs.«01_k».proof.Proof.Acc
public import proofs.«01_k».proof.Proof.Blk
public import proofs.«01_k».proof.Proof.Gen.Kernel3Ideal.Frame
public import proofs.«01_k».proof.Proof.Mm
public import Idealize.ShloMosaic.PureOps.IdealRules
public import Idealize.ShloMosaic.Lib.Pipeline.Value
public import Idealize.ShloMosaic.Lib.ValueLayout
public import Idealize.ShloMosaic.Lib.IdealHost
public import Idealize.ShloMosaic.Lib.ValueLayoutCasts
public import Idealize.ShloMosaic.Lib.Pipeline.ValueKit.Basic
public import Idealize.ShloMosaic.Lib.VecWindow
@[expose] public section
set_option maxRecDepth 16384
noncomputable section
namespace Cert.Kernel3Ideal.Value
open Cert.Kernel3Ideal Cert.Kernel3Ideal.Gen Cert.Attn Cert.Mm
open Idealize.ShloMosaic Idealize.ShloMosaic.ValueIdx Idealize.ShloMosaic.TcCoe Idealize.ShloMosaic.Tactic

/-! ## The bodies -/

theorem mm0 (φ₁ φ₂ : FTy) (prec) (x : FVec Ideal S1024x1024 φ₁) (y : FVec Ideal S1024x1280 φ₂) (i : Fin 1024) (j : Fin 1280) :
    matmul dot_S1024x1024_S1024x1280_S1024x1280_1_0_0_1_n_n prec x y (constant S1024x1280 .f32 0x00000000#32) (ix2 i j) = nn 1024 (at2 x) (at2 y) i j :=
  matmul_at _ prec 1024 rfl rfl x y (ix2 i j) _ _
    (fun k => at2_of x _ _ _ rfl (contrEquiv1_symm_val dot_S1024x1024_S1024x1280_S1024x1280_1_0_0_1_n_n 1024 rfl rfl k))
    (fun k => at2_of y _ _ _ (contrEquiv1_symm_val dot_S1024x1024_S1024x1280_S1024x1280_1_0_0_1_n_n 1024 rfl rfl k) rfl)

theorem mm1 (φ₁ φ₂ : FTy) (prec) (x : FVec Ideal S2048x1024 φ₁) (y : FVec Ideal S2048x1280 φ₂) (i : Fin 1024) (j : Fin 1280) :
    matmul dot_S2048x1024_S2048x1280_S1024x1280_0_0_1_1_n_n prec x y (constant S1024x1280 .f32 0x00000000#32) (ix2 i j) = tn 2048 (at2 x) (at2 y) i j :=
  matmul_at _ prec 2048 rfl rfl x y (ix2 i j) _ _
    (fun k => at2_of x _ _ _ (contrEquiv1_symm_val dot_S2048x1024_S2048x1280_S1024x1280_0_0_1_1_n_n 2048 rfl rfl k) rfl)
    (fun k => at2_of y _ _ _ (contrEquiv1_symm_val dot_S2048x1024_S2048x1280_S1024x1280_0_0_1_1_n_n 2048 rfl rfl k) rfl)

/-- A gradient block with its unit axis. -/
theorem cast_out (v : FVec Ideal S1024x1280 .bf16) (g : Fin 1) (i : Fin 1024) (j : Fin 1280) :
    shapeCast S1x1024x1280 v shapeCasts_S1024x1280_S1x1024x1280 (ix3 g i j) = v (ix2 i j) :=
  shapeCast_apply _ _ _ (ix2 i j) (by
    rw [Shape.rowMajor_val_two, Shape.rowMajor_val_three]
    show i.val * 1280 + j.val = (g.val * 1024 + i.val) * 1280 + j.val
    omega)

theorem pay0_1 (v0 : Vec Ideal S1024x1024 .bf16) (v1 : Vec Ideal S1x1024x1280 .bf16) (i : Fin 1024) (j : Fin 1280) :
    k0_pay1 (F := Ideal) v0 v1 (ix2 i j) = nn 1024 (at2 (a := 1024) (b := 1024) v0) (at3 (a := 1) (b := 1024) (c := 1280) v1 0) i j :=
  (mm0 .bf16 .bf16 none v0 _ i j).trans (nn_congr (fun _ _ => rfl) fun k hk => Mm.cast_unit v1 _ k j hk j.isLt)

theorem pay1_1 (v0 : Vec Ideal S1024x1024 .bf16) (v1 : Vec Ideal S1x1024x1280 .bf16) (v4 : Vec Ideal S1024x1280 .f32) (i : Fin 1024) (j : Fin 1280) :
    k1_pay1 (F := Ideal) v0 v1 v4 (ix2 i j)
      = nn 1024 (at2 (a := 1024) (b := 1024) v0) (at3 (a := 1) (b := 1024) (c := 1280) v1 0) i j + at2 (a := 1024) (b := 1280) v4 i j := by
  rw [← pay0_1, ← at2_ix]
  unfold k1_pay1
  rw [shapeCast_self]; rfl

theorem pay2_1 (v0 : Vec Ideal S2048x1024 .bf16) (v1 : Vec Ideal S2048x1280 .bf16) (g : Fin 1) (i : Fin 1024) (j : Fin 1280) :
    k2_pay1 (F := Ideal) v0 v1 (ix3 g i j) = tn 2048 (at2 (a := 2048) (b := 1024) v0) (at2 (a := 2048) (b := 1280) v1) i j := by
  refine Eq.trans ?_ (mm1 .bf16 .bf16 none v0 v1 i j)
  unfold k2_pay1
  rw [cast_out]; rfl

/-! ## The blocks and the arrays -/

variable (V : (c : Dev nD) → (b : Ref sig .tc) → Buf (Elt Ideal) ((c : Thread nD τ).loc b)) (c : Dev nD)

theorem blk0_0_at (t : Fin cfg0.N) (p q : ℕ) (hp : p < 1024) (hq : q < 1024) :
    at2 (a := 1024) (b := 1024) (iblk0 V c 0 t) p q = at2 (a := 2048) (b := 2048) (V c main_arg0) (1024 * (t.val / 8) + p) (q) :=
  (Moves2.read (a := 1024) (b := 1024) (a' := 2048) (b' := 2048) (e := ((cfg0.win 0).rect t).emb) (Moves2.all (o₀ := fun t => t.val / 8) (o₁ := fun _ => 0) (Pipeline.Window.rect_emb_val (cfg0.win 0)) rfl rfl (by decide +kernel) t) (V c main_arg0) _ (fun _ => rfl) p q hp hq).trans (by congr 1 <;> omega)

theorem blk0_1_at (t : Fin cfg0.N) (g p q : ℕ) (hg : g < 1) (hp : p < 1024) (hq : q < 1280) :
    at3 (a := 1) (b := 1024) (c := 1280) (iblk0 V c 1 t) g p q = at3 (a := 8) (b := 1024) (c := 1280) (V c main_v2) (1 * (t.val % 8) + g) (p) (q) :=
  (Moves3.read (a := 1) (b := 1024) (d := 1280) (a' := 8) (b' := 1024) (d' := 1280) (e := ((cfg0.win 1).rect t).emb) (Moves3.all (o₀ := fun t => t.val % 8) (o₁ := fun _ => 0) (o₂ := fun _ => 0) (Pipeline.Window.rect_emb_val (cfg0.win 1)) rfl rfl rfl (by decide +kernel) t) (V c main_v2) _ (fun _ => rfl) g p q hg hp hq).trans (by congr 1 <;> omega)

theorem arr0_2_at (G : ℕ → ℕ → EReal)
    (hG : ∀ (t : Fin cfg0.N) (p : Fin 1024) (q : Fin 1280), (dat0 V c).after 2 t (ix2 p q : S1024x1280.Idx) = G (1024 * (t.val / 8) + p) (1280 * (t.val % 8) + q)) (p : Fin 2048) (q : Fin 10240) :
    (dat0 V c).arrAt 2 cfg0.N (ix2 p q : S2048x10240.Idx) = G p q := by
  have mv : ∀ t : Fin cfg0.N, Moves2 (a := 1024) (b := 1280) (a' := 2048) (b' := 10240) ((cfg0.win 2).rect t).emb (t.val / 8) (t.val % 8) := Moves2.all (Pipeline.Window.rect_emb_val (cfg0.win 2)) rfl rfl (by decide +kernel)
  refine Pipeline.Dat.arrAt_forall_of_cover (dat0 V c) 2 (fun i v => v = G ((i : S2048x10240.Idx) 0).val ((i : S2048x10240.Idx) 1).val) (fun t hf y => (mv t).write _ G (fun p q => (hG t p q).trans (congrArg₂ G (by omega) (by omega))) y) (fun i => ?_) (ix2 p q : S2048x10240.Idx)
  obtain ⟨t, ht, y, e⟩ := Moves2.cover (P := fun t => (cfg0.win 2).flush t = true) (n := 2) (m := 8) mv (by decide +kernel) rfl rfl i
  exact ⟨t, ht, e ▸ View.emb_mem_set _ y⟩

theorem blk1_0_at (t : Fin cfg1.N) (p q : ℕ) (hp : p < 1024) (hq : q < 1024) :
    at2 (a := 1024) (b := 1024) (iblk1 V c 0 t) p q = at2 (a := 2048) (b := 2048) (V c main_arg0) (1024 * (t.val / 8) + p) (1024 * (1) + q) :=
  (Moves2.read (a := 1024) (b := 1024) (a' := 2048) (b' := 2048) (e := ((cfg1.win 0).rect t).emb) (Moves2.all (o₀ := fun t => t.val / 8) (o₁ := fun _ => 1) (Pipeline.Window.rect_emb_val (cfg1.win 0)) rfl rfl (by decide +kernel) t) (V c main_arg0) _ (fun _ => rfl) p q hp hq).trans (by congr 1 <;> omega)

theorem blk1_1_at (t : Fin cfg1.N) (g p q : ℕ) (hg : g < 1) (hp : p < 1024) (hq : q < 1280) :
    at3 (a := 1) (b := 1024) (c := 1280) (iblk1 V c 1 t) g p q = at3 (a := 8) (b := 1024) (c := 1280) (V c main_v5) (1 * (t.val % 8) + g) (p) (q) :=
  (Moves3.read (a := 1) (b := 1024) (d := 1280) (a' := 8) (b' := 1024) (d' := 1280) (e := ((cfg1.win 1).rect t).emb) (Moves3.all (o₀ := fun t => t.val % 8) (o₁ := fun _ => 0) (o₂ := fun _ => 0) (Pipeline.Window.rect_emb_val (cfg1.win 1)) rfl rfl rfl (by decide +kernel) t) (V c main_v5) _ (fun _ => rfl) g p q hg hp hq).trans (by congr 1 <;> omega)

theorem blk1_2_at (t : Fin cfg1.N) (p q : ℕ) (hp : p < 1024) (hq : q < 1280) :
    at2 (a := 1024) (b := 1280) (iblk1 V c 2 t) p q = at2 (a := 2048) (b := 10240) (V c main_v6) (1024 * (t.val / 8) + p) (1280 * (t.val % 8) + q) :=
  (Moves2.read (a := 1024) (b := 1280) (a' := 2048) (b' := 10240) (e := ((cfg1.win 2).rect t).emb) (Moves2.all (o₀ := fun t => t.val / 8) (o₁ := fun t => t.val % 8) (Pipeline.Window.rect_emb_val (cfg1.win 2)) rfl rfl (by decide +kernel) t) (V c main_v6) _ (fun _ => rfl) p q hp hq).trans (by congr 1 <;> omega)

theorem arr1_3_at (G : ℕ → ℕ → EReal)
    (hG : ∀ (t : Fin cfg1.N) (p : Fin 1024) (q : Fin 1280), (dat1 V c).after 3 t (ix2 p q : S1024x1280.Idx) = G (1024 * (t.val / 8) + p) (1280 * (t.val % 8) + q)) (p : Fin 2048) (q : Fin 10240) :
    (dat1 V c).arrAt 3 cfg1.N (ix2 p q : S2048x10240.Idx) = G p q := by
  have mv : ∀ t : Fin cfg1.N, Moves2 (a := 1024) (b := 1280) (a' := 2048) (b' := 10240) ((cfg1.win 3).rect t).emb (t.val / 8) (t.val % 8) := Moves2.all (Pipeline.Window.rect_emb_val (cfg1.win 3)) rfl rfl (by decide +kernel)
  refine Pipeline.Dat.arrAt_forall_of_cover (dat1 V c) 3 (fun i v => v = G ((i : S2048x10240.Idx) 0).val ((i : S2048x10240.Idx) 1).val) (fun t hf y => (mv t).write _ G (fun p q => (hG t p q).trans (congrArg₂ G (by omega) (by omega))) y) (fun i => ?_) (ix2 p q : S2048x10240.Idx)
  obtain ⟨t, ht, y, e⟩ := Moves2.cover (P := fun t => (cfg1.win 3).flush t = true) (n := 2) (m := 8) mv (by decide +kernel) rfl rfl i
  exact ⟨t, ht, e ▸ View.emb_mem_set _ y⟩

theorem blk2_0_at (t : Fin cfg2.N) (p q : ℕ) (hp : p < 2048) (hq : q < 1024) :
    at2 (a := 2048) (b := 1024) (iblk2 V c 0 t) p q = at2 (a := 2048) (b := 2048) (V c main_arg0) (p) (1024 * (t.val / 8) + q) :=
  (Moves2.read (a := 2048) (b := 1024) (a' := 2048) (b' := 2048) (e := ((cfg2.win 0).rect t).emb) (Moves2.all (o₀ := fun _ => 0) (o₁ := fun t => t.val / 8) (Pipeline.Window.rect_emb_val (cfg2.win 0)) rfl rfl (by decide +kernel) t) (V c main_arg0) _ (fun _ => rfl) p q hp hq).trans (by congr 1 <;> omega)

theorem blk2_1_at (t : Fin cfg2.N) (p q : ℕ) (hp : p < 2048) (hq : q < 1280) :
    at2 (a := 2048) (b := 1280) (iblk2 V c 1 t) p q = at2 (a := 2048) (b := 10240) (V c main_arg2) (p) (1280 * (t.val % 8) + q) :=
  (Moves2.read (a := 2048) (b := 1280) (a' := 2048) (b' := 10240) (e := ((cfg2.win 1).rect t).emb) (Moves2.all (o₀ := fun _ => 0) (o₁ := fun t => t.val % 8) (Pipeline.Window.rect_emb_val (cfg2.win 1)) rfl rfl (by decide +kernel) t) (V c main_arg2) _ (fun _ => rfl) p q hp hq).trans (by congr 1 <;> omega)

theorem arr2_2_at (G : ℕ → ℕ → ℕ → EReal)
    (hG : ∀ (t : Fin cfg2.N) (g : Fin 1) (p : Fin 1024) (q : Fin 1280), (dat2 V c).after 2 t (ix3 g p q : S1x1024x1280.Idx) = G (1 * (t.val % 8) + g) (1024 * (t.val / 8) + p) (q)) (g : Fin 8) (p : Fin 2048) (q : Fin 1280) :
    (dat2 V c).arrAt 2 cfg2.N (ix3 g p q : S8x2048x1280.Idx) = G g p q := by
  have mv : ∀ t : Fin cfg2.N, Moves3 (a := 1) (b := 1024) (d := 1280) (a' := 8) (b' := 2048) (d' := 1280) ((cfg2.win 2).rect t).emb (t.val % 8) (t.val / 8) (0) := Moves3.all (Pipeline.Window.rect_emb_val (cfg2.win 2)) rfl rfl rfl (by decide +kernel)
  refine Pipeline.Dat.arrAt_forall_of_cover (dat2 V c) 2 (fun i v => v = G ((i : S8x2048x1280.Idx) 0).val ((i : S8x2048x1280.Idx) 1).val ((i : S8x2048x1280.Idx) 2).val) (fun t hf y => (mv t).write _ G (fun g p q => (hG t g p q).trans (by congr 1 <;> omega)) y) (fun i => ?_) (ix3 g p q : S8x2048x1280.Idx)
  obtain ⟨t, ht, y, e⟩ := Moves3.cover (P := fun t => (cfg2.win 2).flush t = true) (n := 8) (m := 2) (l := 1) mv (by decide +kernel) rfl rfl rfl i
  exact ⟨t, ht, e ▸ View.emb_mem_set _ y⟩

/-- The columns of a weight kept as eight blocks of columns. -/
def wcols (B : ℕ → ℕ → ℕ → EReal) (k j : ℕ) : EReal := B (j / 1280) k (j % 1280)

/-- The first half of the contraction. -/
theorem out0 (p : Fin 2048) (q : Fin 10240) :
    (dat0 V c).arrAt 2 cfg0.N (ix2 p q : S2048x10240.Idx)
      = nn 1024 (at2 (a := 2048) (b := 2048) (V c main_arg0)) (wcols (at3 (a := 8) (b := 1024) (c := 1280) (V c main_v2))) p q :=
  arr0_2_at V c (nn 1024 (at2 (a := 2048) (b := 2048) (V c main_arg0)) (wcols (at3 (a := 8) (b := 1024) (c := 1280) (V c main_v2)))) (fun t p q => by
    have hp := p.isLt; have hq := q.isLt
    rw [after0_2]; unfold out0_2
    rw [View.canon_cons_unit_lit _ _ _ (by decide), View.ld_unit_lit _ _ (by decide), View.ld_unit_lit _ _ (by decide)]
    refine (pay0_1 _ _ p q).trans (nn_congr (fun k hk => ?_) fun k hk => ?_)
    · rw [blk0_0_at V c t p k p.isLt hk]
    · unfold wcols
      rw [blk0_1_at V c t 0 k q (by omega) hk q.isLt, show (1280 * (t.val % 8) + q.val) / 1280 = 1 * (t.val % 8) + 0 by omega, show (1280 * (t.val % 8) + q.val) % 1280 = q.val by omega]) p q

/-- The second half, added to what the first call left. -/
theorem out1 (p : Fin 2048) (q : Fin 10240) :
    (dat1 V c).arrAt 3 cfg1.N (ix2 p q : S2048x10240.Idx)
      = nn 1024 (fun i k => at2 (a := 2048) (b := 2048) (V c main_arg0) i (1024 + k)) (wcols (at3 (a := 8) (b := 1024) (c := 1280) (V c main_v5))) p q
        + at2 (a := 2048) (b := 10240) (V c main_v6) p q :=
  arr1_3_at V c (fun p q => nn 1024 (fun i k => at2 (a := 2048) (b := 2048) (V c main_arg0) i (1024 + k)) (wcols (at3 (a := 8) (b := 1024) (c := 1280) (V c main_v5))) p q
        + at2 (a := 2048) (b := 10240) (V c main_v6) p q) (fun t p q => by
    have hp := p.isLt; have hq := q.isLt
    rw [after1_3]; unfold out1_3
    rw [View.canon_cons_unit_lit _ _ _ (by decide), View.ld_unit_lit _ _ (by decide), View.ld_unit_lit _ _ (by decide), View.ld_unit_lit _ _ (by decide)]
    refine (pay1_1 _ _ _ p q).trans ?_
    rw [blk1_2_at V c t p q p.isLt q.isLt]
    refine congrArg (· + _) (nn_congr (fun k hk => ?_) fun k hk => ?_)
    · rw [blk1_0_at V c t p k p.isLt hk]
    · unfold wcols
      rw [blk1_1_at V c t 0 k q (by omega) hk q.isLt, show (1280 * (t.val % 8) + q.val) / 1280 = 1 * (t.val % 8) + 0 by omega, show (1280 * (t.val % 8) + q.val) % 1280 = q.val by omega]) p q

/-- The weight's gradient, in eight blocks of columns. -/
theorem out2 (h : Fin 8) (p : Fin 2048) (q : Fin 1280) :
    (dat2 V c).arrAt 2 cfg2.N (ix3 h p q : S8x2048x1280.Idx)
      = tn 2048 (at2 (a := 2048) (b := 2048) (V c main_arg0)) (at2 (a := 2048) (b := 10240) (V c main_arg2)) p (1280 * h + q) :=
  arr2_2_at V c (fun h p q => tn 2048 (at2 (a := 2048) (b := 2048) (V c main_arg0)) (at2 (a := 2048) (b := 10240) (V c main_arg2)) p (1280 * h + q)) (fun t h p q => by
    have hh := h.isLt
    rw [after2_2]; unfold out2_2
    rw [View.canon_cons_unit_lit _ _ _ (by decide), View.ld_unit_lit _ _ (by decide), View.ld_unit_lit _ _ (by decide)]
    refine (pay2_1 _ _ h p q).trans (tn_congr (fun k hk => ?_) fun k hk => ?_)
    · rw [blk2_0_at V c t k p hk p.isLt]
    · rw [blk2_1_at V c t k q hk q.isLt, show 1 * (t.val % 8) + h.val = t.val % 8 by omega]) h p q
end Cert.Kernel3Ideal.Value
end
-- ==== Proof.Chain3.lean ====
/-
  The projection program's two results in terms of its arguments.
-/
module
public import proofs.«01_k».proof.Proof.Arr3
@[expose] public section
set_option maxRecDepth 16384
noncomputable section
namespace Cert.Kernel3Ideal.Value
open Cert.Kernel3Ideal Cert.Kernel3Ideal.Gen Cert.Attn Cert.Mm
open Idealize.ShloMosaic Idealize.ShloMosaic.ValueIdx Idealize.ShloMosaic.TcCoe Idealize.ShloMosaic.Tactic

variable (m : (l : Loc nD τ sig) → Buf (Elt Ideal) l) (ρ : Dev nD → PrngReg) (c : Dev nD)

abbrev aH : S2048x2048.Idx → EReal := m ((c : Thread nD τ).loc main_arg0)
abbrev aW : S2048x10240.Idx → EReal := m ((c : Thread nD τ).loc main_arg1)
abbrev aD : S2048x10240.Idx → EReal := m ((c : Thread nD τ).loc main_arg2)

/-! ## What the host leaves between the calls -/

/-- Half of the weight's rows as eight blocks of columns. -/
def half (w : S1024x10240.Idx → EReal) : S8x1024x1280.Idx → EReal :=
  transpose S8x1024x1280 [1, 0, 2] (shapeCast S1024x8x1280 w shapeCasts_S1024x10240_S1024x8x1280) transposes_S1024x8x1280_S8x1024x1280_1_0_2

theorem W1_v2 : W1 m ρ c (Proc.devRef .tc main_v2) = half (extractStridedSlice S1024x10240 ![0, 0] (aW m c) slices_S2048x10240_S1024x10240_0_0) := by
  after_results_simp; rfl
theorem W1_v5 : W1 m ρ c (Proc.devRef .tc main_v5) = half (extractStridedSlice S1024x10240 ![1024, 0] (aW m c) slices_S2048x10240_S1024x10240_1024_0) := by
  after_results_simp; rfl
theorem W5_v10 : W5 m ρ c (Proc.devRef .tc main_v10) =
    shapeCast S2048x10240 (transpose S2048x8x1280 [1, 0, 2] (W4 m ρ c (Proc.devRef .tc main_v8)) transposes_S8x2048x1280_S2048x8x1280_1_0_2) shapeCasts_S2048x8x1280_S2048x10240 := by
  after_results_simp; rfl

theorem half_at (w : S1024x10240.Idx → EReal) (k j : ℕ) (hk : k < 1024) (hj : j < 10240) :
    wcols (at3 (a := 8) (b := 1024) (c := 1280) (half w)) k j = at2 (a := 1024) (b := 10240) w k j := by
  unfold wcols
  rw [at3_mk _ _ _ _ (by omega : j / 1280 < 8) hk (Nat.mod_lt _ (by omega)), at2_mk _ _ _ hk hj]
  unfold half
  refine (congrArg (shapeCast S1024x8x1280 w shapeCasts_S1024x10240_S1024x8x1280) (funext fun a => Fin.ext ?_ : _ = (ix3 ⟨k, hk⟩ ⟨j / 1280, by omega⟩ ⟨j % 1280, Nat.mod_lt _ (by omega)⟩ : S1024x8x1280.Idx))).trans ?_
  · match a with
    | ⟨0, _⟩ => rfl
    | ⟨1, _⟩ => rfl
    | ⟨2, _⟩ => rfl
  · exact shapeCast_apply _ _ _ (ix2 ⟨k, hk⟩ ⟨j, hj⟩) (by
      rw [Shape.rowMajor_val_two, Shape.rowMajor_val_three]
      show k * 10240 + j = (k * 8 + j / 1280) * 1280 + j % 1280
      omega)

theorem slice_at (o : ℕ) (h) (w : S2048x10240.Idx → EReal) (k j : ℕ) (ho : o + k < 2048) (hk : k < 1024) (hj : j < 10240) :
    at2 (a := 1024) (b := 10240) (extractStridedSlice S1024x10240 ![o, 0] w h) k j = at2 (a := 2048) (b := 10240) w (o + k) j := by
  rw [at2_mk _ _ _ hk hj, at2_mk _ _ _ ho hj]
  exact extractStridedSlice_apply _ _ _ _ _ (fun a => by
    match a with
    | ⟨0, _⟩ => rfl
    | ⟨1, _⟩ => exact (Nat.zero_add _).symm)

/-- The gradient's blocks joined: the columns from `1280 b` on are block `b`. -/
theorem join_at (v : S8x2048x1280.Idx → EReal) (i : Fin 2048) (j : Fin 10240) :
    shapeCast S2048x10240 (transpose S2048x8x1280 [1, 0, 2] v transposes_S8x2048x1280_S2048x8x1280_1_0_2) shapeCasts_S2048x8x1280_S2048x10240 (ix2 i j)
      = v (ix3 (⟨j.val / 1280, by omega⟩ : Fin 8) i (⟨j.val % 1280, Nat.mod_lt _ (by omega)⟩ : Fin 1280)) := by
  refine (shapeCast_apply _ _ _ (ix3 i (⟨j.val / 1280, by omega⟩ : Fin 8) (⟨j.val % 1280, Nat.mod_lt _ (by omega)⟩ : Fin 1280)) (by
      rw [Shape.rowMajor_val_two, Shape.rowMajor_val_three]
      show (i.val * 8 + j.val / 1280) * 1280 + j.val % 1280 = i.val * 10240 + j.val
      omega)).trans ?_
  refine congrArg v (funext fun a => Fin.ext ?_)
  match a with
  | ⟨0, _⟩ => rfl
  | ⟨1, _⟩ => rfl
  | ⟨2, _⟩ => rfl

/-! ## What each call reads -/

theorem V1_0 : V1 m ρ c main_arg0 = aH m c := W1_args m ρ c main_arg0 (by decide)
theorem V1_v2 : V1 m ρ c main_v2 = half (extractStridedSlice S1024x10240 ![0, 0] (aW m c) slices_S2048x10240_S1024x10240_0_0) := W1_v2 m ρ c
theorem V2_0 : V2 m ρ c main_arg0 = aH m c := W2_args m ρ c main_arg0 (by decide)
theorem V2_v5 : V2 m ρ c main_v5 = half (extractStridedSlice S1024x10240 ![1024, 0] (aW m c) slices_S2048x10240_S1024x10240_1024_0) := (W2_of m ρ c _ (by decide)).trans (W1_v5 m ρ c)
theorem V3_0 : V3 m ρ c main_arg0 = aH m c := W3_args m ρ c main_arg0 (by decide)
theorem V3_2 : V3 m ρ c main_arg2 = aD m c := W3_args m ρ c main_arg2 (by decide)

/-! ## The results -/

theorem first_at (i j : ℕ) (hi : i < 2048) (hj : j < 10240) : at2 (a := 2048) (b := 10240) (V2 m ρ c main_v6) i j
    = nn 1024 (at2 (a := 2048) (b := 2048) (aH m c)) (at2 (a := 2048) (b := 10240) (aW m c)) i j := by
  rw [at2_mk _ _ _ hi hj]
  refine (congrFun (W2_arr m ρ c 2) (ix2 ⟨i, hi⟩ ⟨j, hj⟩ : S2048x10240.Idx)).trans ?_
  refine (out0 (V1 m ρ) c ⟨i, hi⟩ ⟨j, hj⟩).trans ?_
  rw [V1_0, V1_v2]
  refine nn_congr (fun _ _ => rfl) fun k hk => ?_
  rw [half_at _ k j hk hj, slice_at 0 _ _ k j (by omega) hk hj, Nat.zero_add]

/-- The projection. -/
theorem res_proj (i : Fin 2048) (j : Fin 10240) : W5 m ρ c (Proc.devRef .tc main_v7) (ix2 i j : S2048x10240.Idx)
    = nn 2048 (at2 (a := 2048) (b := 2048) (aH m c)) (at2 (a := 2048) (b := 10240) (aW m c)) i j := by
  have e : W5 m ρ c (Proc.devRef .tc main_v7) = W3 m ρ c (Proc.devRef .tc main_v7) := (W5_of m ρ c _ (by decide)).trans (W4_of m ρ c _ (by decide))
  rw [e]
  refine (congrFun (W3_arr m ρ c 3) (ix2 i j : S2048x10240.Idx)).trans ?_
  refine (out1 (V2 m ρ) c i j).trans ?_
  rw [first_at m ρ c i j i.isLt j.isLt, V2_0, V2_v5]
  refine Eq.trans ?_ (nn_split 1024 1024 _ _ _ _).symm
  rw [add_comm]
  refine congrArg (_ + ·) (nn_congr (fun _ _ => rfl) fun k hk => ?_)
  rw [half_at _ k j hk j.isLt, slice_at 1024 _ _ k j (by omega) hk j.isLt]

/-- The gradient of its weight. -/
theorem res_d (i : Fin 2048) (j : Fin 10240) : W5 m ρ c (Proc.devRef .tc main_v10) (ix2 i j : S2048x10240.Idx)
    = tn 2048 (at2 (a := 2048) (b := 2048) (aH m c)) (at2 (a := 2048) (b := 10240) (aD m c)) i j := by
  have hj := j.isLt
  rw [W5_v10]
  refine (join_at _ i j).trans ?_
  refine (congrFun (W4_arr m ρ c 2) (ix3 (⟨j.val / 1280, by omega⟩ : Fin 8) i (⟨j.val % 1280, Nat.mod_lt _ (by omega)⟩ : Fin 1280) : S8x2048x1280.Idx)).trans ?_
  refine (out2 (V3 m ρ) c ⟨j.val / 1280, by omega⟩ i ⟨j.val % 1280, Nat.mod_lt _ (by omega)⟩).trans ?_
  rw [V3_0, V3_2]
  show tn 2048 _ _ i.val (1280 * (j.val / 1280) + j.val % 1280) = _
  rw [show 1280 * (j.val / 1280) + j.val % 1280 = j.val by omega]
end Cert.Kernel3Ideal.Value
end
-- ==== Proof.MmRef.lean ====
/-
  Reading a reference's arrays at natural indices.
-/
module
public import proofs.«01_k».proof.Proof.Mm
public import proofs.«01_k».proof.Proof.Window
public import Idealize.ShloMosaic.Lib.Pointwise
@[expose] public section
noncomputable section
namespace Cert.Mm
open Idealize.ShloMosaic Cert.Attn

theorem p2 {a b : ℕ} (x : (⟨2, ![a, b]⟩ : Shape).Idx → EReal) (i : Fin a) (j : Fin b) : x (ix2 i j) = at2 x i j := by
  rw [ix2_eq_valueIdx]; exact at2_ix x i j

theorem congr3 {α β γ δ : Type} (f : α → β → γ → δ) {a a' : α} {b b' : β} {c c' : γ} (h : a = a') (h' : b = b') (h'' : c = c') :
    f a b c = f a' b' c' := by rw [h, h', h'']

/-- Two arrays of rank two that agree at every pair of coordinates are equal. -/
theorem ext2 {a b : ℕ} {x y : (⟨2, ![a, b]⟩ : Shape).Idx → EReal} (h : ∀ (i : Fin a) (j : Fin b), x (ix2 i j) = y (ix2 i j)) : x = y := by
  funext k
  rw [ValueIdx.eq_ix2 k]
  rw [← ix2_eq_valueIdx]
  exact h _ _

end Cert.Mm
end
-- ==== Proof.Algebraic3.lean ====
/-
  The projection's reference at an index, and the program's claims: from the same arguments the kernel and the reference
  end with the same projection and the same gradient of its weight.
-/
module
public import proofs.«01_k».proof.Defs
public import proofs.«01_k».proof.Proof.Launch3
public import proofs.«01_k».proof.Proof.Chain3
public import proofs.«01_k».proof.Proof.MmRef
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import Idealize.ShloMosaic.Lib.Pointwise
public import Idealize.ShloMosaic.Lib.Quiescent
@[expose] public section
set_option maxRecDepth 16384
set_option maxHeartbeats 1000000
noncomputable section
namespace Cert.Reference3Ideal.Value
open Cert.Reference3Ideal Cert.Reference3Ideal.Gen Cert.Attn Cert.Mm
open Idealize.ShloMosaic Idealize.ShloMosaic.TcCoe

section
variable (H : FVec Ideal S2048x2048 .bf16) (W D : FVec Ideal S2048x10240 .bf16)
def rProj : FVec Ideal S2048x10240 .f32 :=
  Host.dotGeneral dot_S2048x2048_S2048x10240_S2048x10240_1_0_0_1_n_n none (extf .f32 H bitsLt_bf16_f32) (extf .f32 W bitsLt_bf16_f32)
def rGrad : FVec Ideal S2048x10240 .bf16 :=
  truncf .bf16 (transpose S2048x10240 [1, 0] (Host.dotGeneral dot_S2048x10240_S2048x2048_S10240x2048_0_0_1_1_n_n none (extf .f32 D bitsLt_bf16_f32) (extf .f32 H bitsLt_bf16_f32)) transposes_S10240x2048_S2048x10240_1_0) bitsLt_bf16_f32
end

section
variable (H : S2048x2048.Idx → EReal) (W D : S2048x10240.Idx → EReal)
abbrev nProj : S2048x10240.Idx → EReal := rProj H W
abbrev nGrad : S2048x10240.Idx → EReal := rGrad H D

theorem proj_at (i : Fin 2048) (j : Fin 10240) : nProj H W (ix2 i j) = nn 2048 (at2 (a := 2048) (b := 2048) H) (at2 (a := 2048) (b := 10240) W) i j := by
  have e : nProj H W (ix2 i j) = ∑ x : Fin 2048, H (ix2 i x) * W (ix2 x j) := by
    unfold nProj rProj
    pointwise <;> rfl
  exact e.trans (nn_fin _ _ i j _ fun x => by rw [p2 H, p2 W])

theorem grad_at (i : Fin 2048) (j : Fin 10240) : nGrad H D (ix2 i j) = tn 2048 (at2 (a := 2048) (b := 2048) H) (at2 (a := 2048) (b := 10240) D) i j := by
  have e : nGrad H D (ix2 i j) = ∑ x : Fin 2048, D (ix2 x j) * H (ix2 x i) := by
    unfold nGrad rGrad
    pointwise <;> rfl
  exact e.trans (tn_fin _ _ i j _ fun x => by rw [p2 H, p2 D]; exact mul_comm _ _)
end
end Cert.Reference3Ideal.Value

namespace Cert.Proj
open Idealize.ShloMosaic Idealize.ShloMosaic.TcCoe Idealize.SL.Sem
open Cert.Attn Cert.Mm

/-! ## The claims -/

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m g m' g' _ ha
  refine ⟨fun c => Cert.Kernel3Ideal.Gen.W5 m g c (Proc.devRef .tc Cert.Kernel3Ideal.main_v7), fun c => Cert.Kernel3Ideal.Gen.W5 m g c (Proc.devRef .tc Cert.Kernel3Ideal.main_v10), ?_, ?_⟩
  · refine (θ_run Cert.Kernel3Ideal.defs _ _).mono (fun r h c => ?_) (Cert.Kernel3Ideal.Gen.launch (F := Ideal) m g)
    exact ⟨h.1 c _ (Cert.Kernel3Ideal.Gen.mem_uc Cert.Kernel3Ideal.main_v7 (by decide)), h.1 c _ (Cert.Kernel3Ideal.Gen.mem_uc Cert.Kernel3Ideal.main_v10 (by decide)),
      (h.1 c _ (Cert.Kernel3Ideal.Gen.mem_uc Cert.Kernel3Ideal.main_arg0 (by decide))).trans (Cert.Kernel3Ideal.Gen.W5_main_arg0 m g c),
      (h.1 c _ (Cert.Kernel3Ideal.Gen.mem_uc Cert.Kernel3Ideal.main_arg1 (by decide))).trans (Cert.Kernel3Ideal.Gen.W5_main_arg1 m g c),
      (h.1 c _ (Cert.Kernel3Ideal.Gen.mem_uc Cert.Kernel3Ideal.main_arg2 (by decide))).trans (Cert.Kernel3Ideal.Gen.W5_main_arg2 m g c)⟩
  · refine (θ_run Cert.Reference3Ideal.defs _ _).mono (fun r h c => ?_) (Cert.Reference3Ideal.Value.run (F := Ideal) m' g')
    obtain ⟨e0, e1, k0, k1, k2⟩ := h c
    obtain ⟨a0, a1, a2⟩ := ha c
    have f0 : _ = Cert.Reference3Ideal.Value.nProj (Cert.Kernel3Ideal.Value.aH m c) (Cert.Kernel3Ideal.Value.aW m c) :=
      e0.trans (congrArg₂ Cert.Reference3Ideal.Value.nProj a0 a1)
    have f1 : _ = Cert.Reference3Ideal.Value.nGrad (Cert.Kernel3Ideal.Value.aH m c) (Cert.Kernel3Ideal.Value.aD m c) :=
      e1.trans (congrArg₂ Cert.Reference3Ideal.Value.nGrad a0 a2)
    refine ⟨f0.trans (ext2 (a := 2048) (b := 10240) fun p q => ?_), f1.trans (ext2 (a := 2048) (b := 10240) fun p q => ?_), k0, k1, k2⟩
    · refine (Cert.Reference3Ideal.Value.proj_at _ _ p q).trans ?_
      rw [ix2_eq_valueIdx]
      exact (Cert.Kernel3Ideal.Value.res_proj m g c p q).symm
    · refine (Cert.Reference3Ideal.Value.grad_at _ _ p q).trans ?_
      rw [ix2_eq_valueIdx]
      exact (Cert.Kernel3Ideal.Value.res_d m g c p q).symm

end Cert.Proj
end
-- ==== Proof.Acc4.lean ====
/-
  The accumulating call: what its body leaves in the block it carries, and the array it ends with: the product summed
  tile by tile over the grid's last axis.
-/
module
public import proofs.«01_k».proof.Proof.Blk
public import proofs.«01_k».proof.Proof.Acc
public import proofs.«01_k».proof.Proof.Gen.Kernel4Ideal.Value
public import proofs.«01_k».proof.Proof.Mm
public import Idealize.ShloMosaic.PureOps.IdealRules
public import Idealize.ShloMosaic.Lib.Pipeline.Value
public import Idealize.ShloMosaic.Lib.ValueLayout
public import Idealize.ShloMosaic.Lib.IdealHost
public import Idealize.ShloMosaic.Lib.ValueLayoutCasts
public import Idealize.ShloMosaic.Lib.Pipeline.ValueKit.Basic
public import Idealize.ShloMosaic.Lib.VecWindow
@[expose] public section
set_option maxRecDepth 16384
noncomputable section
namespace Cert.Kernel4Ideal.Value
open Cert.Kernel4Ideal Cert.Kernel4Ideal.Gen Cert.Attn Cert.Mm
open Idealize.ShloMosaic Idealize.ShloMosaic.ValueIdx Idealize.ShloMosaic.TcCoe Idealize.ShloMosaic.Tactic

/-! ## The body -/

theorem mm0 (φ₁ φ₂ : FTy) (prec) (x : FVec Ideal S1024x1408 φ₁) (y : FVec Ideal S2048x1408 φ₂) (i : Fin 1024) (j : Fin 2048) :
    matmul dot_S1024x1408_S2048x1408_S1024x2048_1_1_0_0_n_n prec x y (constant S1024x2048 .f32 0x00000000#32) (ix2 i j) = nt 1408 (at2 x) (at2 y) i j :=
  matmul_at _ prec 1408 rfl rfl x y (ix2 i j) _ _
    (fun k => at2_of x _ _ _ rfl (contrEquiv1_symm_val dot_S1024x1408_S2048x1408_S1024x2048_1_1_0_0_n_n 1408 rfl rfl k))
    (fun k => at2_of y _ _ _ rfl (contrEquiv1_symm_val dot_S1024x1408_S2048x1408_S1024x2048_1_1_0_0_n_n 1408 rfl rfl k))

theorem pay1_at (i : Fin 1024) (j : Fin 2048) : k0_pay1 (F := Ideal) (ix2 i j) = 0 := by
  unfold k0_pay1
  rw [shapeCast_self]
  exact Ideal.ofBits_zero_f32

theorem pay2_at (v3 : Vec Ideal S1024x2048 .f32) (v4 : Vec Ideal S1024x1408 .bf16) (v5 : Vec Ideal S1x2048x1408 .bf16) (i : Fin 1024) (j : Fin 2048) :
    k0_pay2 (F := Ideal) v3 v4 v5 (ix2 i j) = v3 (ix2 i j) + nt 1408 (at2 (a := 1024) (b := 1408) v4) (at3 (a := 1) (b := 2048) (c := 1408) v5 0) i j := by
  have e := (mm0 .bf16 .bf16 none v4 (shapeCast S2048x1408 v5 shapeCasts_S1x2048x1408_S2048x1408) i j).trans (nt_congr (fun _ _ => rfl) fun k hk => cast_unit v5 shapeCasts_S1x2048x1408_S2048x1408 j k j.isLt hk)
  rw [← e]
  unfold k0_pay2
  rw [shapeCast_self]; rfl

/-! ## What the carried block holds after each point -/

variable (m : (ℓ : Loc nD τ sig) → Buf (Elt Ideal) ℓ) (ρ : Dev nD → PrngReg) (c : Dev nD)

theorem sc_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  refine (View.read_writes_full _ _ _ _ _).trans ?_
  congr 1
  · exact View.readCov_full _ _ _ _ _
  · exact (View.readAt_full (ms0_0 t).view _ _).trans ((hs0_0 t).read_unread _)
  · exact (View.readAt_full (ms0_1 t).view _ _).trans ((hs0_1 t).read_unread _)

theorem sc_next (t : Fin cfg0.N) (h0 : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 4 = 3
  on_goal 1 => rw [outsAt0_C m c t h0 h1]; dsimp only; unfold sout0_C_0 kernelRun0_C
  on_goal 2 => rw [outsAt0_B m c t h0 h1]; dsimp only; unfold sout0_B_0 kernelRun0_B
  all_goals
    refine (View.read_writes_full _ _ _ _ _).trans ?_
    congr 1
    · exact (View.readAt_full scM0_0.view _ _).trans ((Memref.isWhole_whole _).read_unread _)
    · exact (View.readAt_full (ms0_0 t).view _ _).trans ((hs0_0 t).read_unread _)
    · exact (View.readAt_full (ms0_1 t).view _ _).trans ((hs0_1 t).read_unread _)

theorem out_last (t : Fin cfg0.N) (h0 : ¬t.val % 4 = 0) (h1 : t.val % 4 = 3) :
    (outsAt0 m c t.val t.isLt).1 = (outsAt0 m c t.val t.isLt).2 := by
  rw [sc_next m c t h0, outsAt0_C m c t h0 h1]
  dsimp only
  unfold out0_C_2 kernelRun0_C
  refine (View.read_writes_full _ _ _ _ _).trans ?_
  refine (View.readCov_full _ _ _ _ _).trans ?_
  congr 1
  · exact (View.readAt_full scM0_0.view _ _).trans ((Memref.isWhole_whole _).read_unread _)
  · exact (View.readAt_full (ms0_0 t).view _ _).trans ((hs0_0 t).read_unread _)
  · exact (View.readAt_full (ms0_1 t).view _ _).trans ((hs0_1 t).read_unread _)

/-! ## The blocks and the array -/

theorem blk0_0_at (t : Fin cfg0.N) (p q : ℕ) (hp : p < 1024) (hq : q < 1408) :
    at2 (a := 1024) (b := 1408) (iblk m c 0 t) p q = at2 (a := 2048) (b := 5632) (V m c main_arg0) (1024 * (t.val / 4) + p) (1408 * (t.val % 4) + q) :=
  (Moves2.read (a := 1024) (b := 1408) (a' := 2048) (b' := 5632) (e := ((cfg0.win 0).rect t).emb) (Moves2.all (o₀ := fun t => t.val / 4) (o₁ := fun t => t.val % 4) (Pipeline.Window.rect_emb_val (cfg0.win 0)) rfl rfl (by decide +kernel) t) (V m c main_arg0) _ (fun _ => rfl) p q hp hq).trans (by congr 1 <;> omega)

theorem blk0_1_at (t : Fin cfg0.N) (g p q : ℕ) (hg : g < 1) (hp : p < 2048) (hq : q < 1408) :
    at3 (a := 1) (b := 2048) (c := 1408) (iblk m c 1 t) g p q = at3 (a := 8) (b := 2048) (c := 1408) (V m c main_v1) (1 * (t.val % 4) + g) (p) (q) :=
  (Moves3.read (a := 1) (b := 2048) (d := 1408) (a' := 8) (b' := 2048) (d' := 1408) (e := ((cfg0.win 1).rect t).emb) (Moves3.all (o₀ := fun t => t.val % 4) (o₁ := fun _ => 0) (o₂ := fun _ => 0) (Pipeline.Window.rect_emb_val (cfg0.win 1)) rfl rfl rfl (by decide +kernel) t) (V m c main_v1) _ (fun _ => rfl) g p q hg hp hq).trans (by congr 1 <;> omega)

theorem arr0_2_at (G : ℕ → ℕ → EReal)
    (hG : ∀ (t : Fin cfg0.N) (_ : (cfg0.win 2).flush t = true) (p : Fin 1024) (q : Fin 2048), (dats m 0 c).after 2 t (ix2 p q : S1024x2048.Idx) = G (1024 * (t.val / 4) + p) (q)) (p : Fin 2048) (q : Fin 2048) :
    (dats m 0 c).arrAt 2 cfg0.N (ix2 p q : S2048x2048.Idx) = G p q := by
  have mv : ∀ t : Fin cfg0.N, Moves2 (a := 1024) (b := 2048) (a' := 2048) (b' := 2048) ((cfg0.win 2).rect t).emb (t.val / 4) (0) := Moves2.all (Pipeline.Window.rect_emb_val (cfg0.win 2)) rfl rfl (by decide +kernel)
  refine Pipeline.Dat.arrAt_forall_of_cover (dats m 0 c) 2 (fun i v => v = G ((i : S2048x2048.Idx) 0).val ((i : S2048x2048.Idx) 1).val) (fun t hf y => (mv t).write _ G (fun p q => (hG t hf p q).trans (congrArg₂ G (by omega) (by omega))) y) (fun i => ?_) (ix2 p q : S2048x2048.Idx)
  obtain ⟨t, ht, y, e⟩ := Moves2.cover (P := fun t => (cfg0.win 2).flush t = true) (n := 2) (m := 1) mv (by decide +kernel) rfl rfl i
  exact ⟨t, ht, e ▸ View.emb_mem_set _ y⟩

/-- One tile's product is a stretch of the whole product. -/
theorem tile (t : Fin cfg0.N) (p q : ℕ) (hp : p < 1024) (hq : q < 2048) :
    nt 1408 (at2 (a := 1024) (b := 1408) (iblk m c 0 t)) (at3 (a := 1) (b := 2048) (c := 1408) (iblk m c 1 t) 0) p q
      = nt 1408 (fun i k => (at2 (a := 2048) (b := 5632) (V m c main_arg0)) i (1408 * (t.val % 4) + k)) (fun j k => (wrows 1408 0 (at3 (a := 8) (b := 2048) (c := 1408) (V m c main_v1))) j (1408 * (t.val % 4) + k)) (1024 * (t.val / 4) + p) (q) := by
  refine nt_congr (fun k hk => ?_) fun k hk => ?_
  · rw [blk0_0_at m c t p k hp hk]
  · show _ = wrows _ _ _ q (1408 * (t.val % 4) + k)
    unfold wrows
    rw [blk0_1_at m c t 0 q k (by omega) hq hk, show (1408 * (t.val % 4) + k) / 1408 + 0 = 1 * (t.val % 4) + 0 by omega, show (1408 * (t.val % 4) + k) % 1408 = k by omega]

/-- After point `n` the carried block holds the product over the tiles met so far. -/
theorem sc_at : ∀ (n : ℕ) (hn : n < cfg0.N) (p : Fin 1024) (q : Fin 2048),
    (outsAt0 m c n hn).2 (ix2 p q : S1024x2048.Idx) = nt (1408 * (n % 4 + 1)) (at2 (a := 2048) (b := 5632) (V m c main_arg0)) (wrows 1408 0 (at3 (a := 8) (b := 2048) (c := 1408) (V m c main_v1))) (1024 * (n / 4) + p) q :=
  acc_nt (by omega) _ _ (fun n hn p q => (outsAt0 m c n hn).2 (ix2 p q : S1024x2048.Idx))
    (fun t p q => nt 1408 (at2 (a := 1024) (b := 1408) (iblk m c 0 t)) (at3 (a := 1) (b := 2048) (c := 1408) (iblk m c 1 t) 0) p q) (fun t p q => tile m c t p q p.isLt q.isLt)
    (fun t h0 p q => (congrFun (sc_A m c t h0 (by omega)) _).trans ((pay2_at _ _ _ p q).trans (by rw [pay1_at, zero_add])))
    (fun n hn h0 p q => (congrFun (sc_next m c ⟨n + 1, hn⟩ h0) _).trans (pay2_at _ _ _ p q))

theorem out (p q : Fin 2048) : (dats m 0 c).arrAt 2 cfg0.N (ix2 p q : S2048x2048.Idx)
    = (fun p q => nt 5632 (at2 (a := 2048) (b := 5632) (V m c main_arg0)) (wrows 1408 0 (at3 (a := 8) (b := 2048) (c := 1408) (V m c main_v1))) p q) p q :=
  arr0_2_at m c (fun p q => nt 5632 (at2 (a := 2048) (b := 5632) (V m c main_arg0)) (wrows 1408 0 (at3 (a := 8) (b := 2048) (c := 1408) (V m c main_v1))) p q) (fun t hft p q => by
    have hp := p.isLt; have hq := q.isLt
    have h1 : t.val % 4 = 3 := (flush0_2 t).1 hft
    rw [after0_2, out_last m c t (by omega) h1]
    rw [sc_at m c t.val t.isLt p q, show 1408 * (t.val % 4 + 1) = 5632 by omega]) p q

/-! ## In the arguments -/

abbrev aA : S2048x5632.Idx → EReal := m ((c : Thread nD τ).loc main_arg0)
abbrev aW : S2048x11264.Idx → EReal := m ((c : Thread nD τ).loc main_arg1)

theorem V_v1 : V m c main_v1 = transpose S8x2048x1408 [1, 0, 2] (shapeCast S2048x8x1408 (aW m c) shapeCasts_S2048x11264_S2048x8x1408) transposes_S2048x8x1408_S8x2048x1408_1_0_2 := by
  after_results_simp; rfl

/-- The blocks' rows are the weight's, 0 columns on. -/
theorem wrows_at (j k : ℕ) (hj : j < 2048) (hk : k < 5632) :
    wrows 1408 0 (at3 (a := 8) (b := 2048) (c := 1408) (V m c main_v1)) j k = at2 (a := 2048) (b := 11264) (aW m c) j (0 + k) := by
  rw [V_v1]; exact Cert.Mm.wrows_at 0 _ _ _ (by norm_num) (by norm_num) j k hj (by omega)

theorem res_at (p q : Fin 2048) : (dats m 0 c).arrAt 2 cfg0.N (ix2 p q : S2048x2048.Idx)
    = nt 5632 (at2 (a := 2048) (b := 5632) (aA m c)) (fun j k => at2 (a := 2048) (b := 11264) (aW m c) j (0 + k)) p q := by
  refine (out m c p q).trans ?_
  have e0 : at2 (a := 2048) (b := 5632) (V m c main_arg0) = at2 (a := 2048) (b := 5632) (aA m c) := congrArg at2 (V_main_arg0 m c)
  beta_reduce
  rw [e0]
  exact nt_congr (fun _ _ => rfl) fun k hk => wrows_at m c q k q.isLt hk
end Cert.Kernel4Ideal.Value
end
-- ==== Proof.Algebraic4.lean ====
/-
  The call's reference at an index, and the program's claims: from the same arguments the kernel and the reference end with
  the same first half of the gradient of the normalised activations.
-/
module
public import proofs.«01_k».proof.Defs
public import proofs.«01_k».proof.Proof.Acc4
public import proofs.«01_k».proof.Proof.MmRef
public import proofs.«01_k».proof.Proof.Gen.Reference4Ideal.Run
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import Idealize.ShloMosaic.Lib.Pointwise
public import Idealize.ShloMosaic.Lib.Quiescent
@[expose] public section
set_option maxRecDepth 16384
noncomputable section
namespace Cert.Reference4Ideal.Value
open Cert.Reference4Ideal Cert.Reference4Ideal.Gen Cert.Attn Cert.Mm
open Idealize.ShloMosaic Idealize.ShloMosaic.TcCoe

def rOut (A : FVec Ideal S2048x5632 .bf16) (W : FVec Ideal S2048x11264 .bf16) : FVec Ideal S2048x2048 .f32 :=
  Host.dotGeneral dot_S2048x5632_S2048x5632_S2048x2048_1_1_0_0_n_n none (extf .f32 A bitsLt_bf16_f32) (extf .f32 (extractStridedSlice S2048x5632 ![0, 0] W slices_S2048x11264_S2048x5632_0_0) bitsLt_bf16_f32)

abbrev nOut (A : S2048x5632.Idx → EReal) (W : S2048x11264.Idx → EReal) : S2048x2048.Idx → EReal := rOut A W

theorem out_at (A : S2048x5632.Idx → EReal) (W : S2048x11264.Idx → EReal) (i j : Fin 2048) :
    nOut A W (ix2 i j) = nt 5632 (at2 (a := 2048) (b := 5632) A) (fun j k => at2 (a := 2048) (b := 11264) W j (0 + k)) i j := by
  have e : nOut A W (ix2 i j) = ∑ x : Fin 5632, A (ix2 i x) * W (ix2 j (⟨0 + x.val, by omega⟩ : Fin 11264)) := by
    unfold nOut rOut
    pointwise
    all_goals first | rfl | (congr 1; funext a; apply Fin.ext; match a with | ⟨0, _⟩ => rfl | ⟨1, _⟩ => show _ = _; simp)
  rw [e]

  exact nt_fin _ _ i j _ fun x => by rw [p2 A, p2 W]
end Cert.Reference4Ideal.Value

namespace Cert.Ffn4
open Idealize.ShloMosaic Idealize.ShloMosaic.TcCoe Idealize.SL.Sem
open Cert.Attn Cert.Mm

/-! ## The claims -/

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m g m' g' _ ha
  refine ⟨fun c => (Cert.Kernel4Ideal.Gen.dats m 0 c).arrAt 2 Cert.Kernel4Ideal.cfg0.N, ?_, ?_⟩
  · refine (θ_run Cert.Kernel4Ideal.defs _ _).mono (fun r h c => ?_) (Cert.Kernel4Ideal.Gen.run_main (F := Ideal) m g)
    exact ⟨Cert.Kernel4Ideal.Value.post2 m r h c, Cert.Kernel4Ideal.Value.kept_main_arg0 m r h c, Cert.Kernel4Ideal.Value.kept_main_arg1 m r h c⟩
  · refine (θ_run Cert.Reference4Ideal.defs _ _).mono (fun r h c => ?_) (Cert.Reference4Ideal.Value.run (F := Ideal) m' g')
    obtain ⟨e0, k0, k1⟩ := h c
    obtain ⟨a0, a1⟩ := ha c
    have f0 : _ = Cert.Reference4Ideal.Value.nOut (Cert.Kernel4Ideal.Value.aA m c) (Cert.Kernel4Ideal.Value.aW m c) :=
      e0.trans (congrArg₂ Cert.Reference4Ideal.Value.nOut a0 a1)
    refine ⟨f0.trans (ext2 (a := 2048) (b := 2048) fun p q => ?_), k0, k1⟩
    refine (Cert.Reference4Ideal.Value.out_at _ _ p q).trans ?_
    rw [ix2_eq_valueIdx]
    exact (Cert.Kernel4Ideal.Value.res_at m c p q).symm

end Cert.Ffn4
end
-- ==== Proof.Acc5.lean ====
/-
  The accumulating call: what its body leaves in the block it carries, and the array it ends with: the product summed
  tile by tile over the grid's last axis, and the earlier sum added.
-/
module
public import proofs.«01_k».proof.Proof.Blk
public import proofs.«01_k».proof.Proof.Acc
public import proofs.«01_k».proof.Proof.Gen.Kernel5Ideal.Value
public import proofs.«01_k».proof.Proof.Mm
public import Idealize.ShloMosaic.PureOps.IdealRules
public import Idealize.ShloMosaic.Lib.Pipeline.Value
public import Idealize.ShloMosaic.Lib.ValueLayout
public import Idealize.ShloMosaic.Lib.IdealHost
public import Idealize.ShloMosaic.Lib.ValueLayoutCasts
public import Idealize.ShloMosaic.Lib.Pipeline.ValueKit.Basic
public import Idealize.ShloMosaic.Lib.VecWindow
@[expose] public section
set_option maxRecDepth 16384
noncomputable section
namespace Cert.Kernel5Ideal.Value
open Cert.Kernel5Ideal Cert.Kernel5Ideal.Gen Cert.Attn Cert.Mm
open Idealize.ShloMosaic Idealize.ShloMosaic.ValueIdx Idealize.ShloMosaic.TcCoe Idealize.ShloMosaic.Tactic

/-! ## The body -/

theorem mm0 (φ₁ φ₂ : FTy) (prec) (x : FVec Ideal S512x1408 φ₁) (y : FVec Ideal S2048x1408 φ₂) (i : Fin 512) (j : Fin 2048) :
    matmul dot_S512x1408_S2048x1408_S512x2048_1_1_0_0_n_n prec x y (constant S512x2048 .f32 0x00000000#32) (ix2 i j) = nt 1408 (at2 x) (at2 y) i j :=
  matmul_at _ prec 1408 rfl rfl x y (ix2 i j) _ _
    (fun k => at2_of x _ _ _ rfl (contrEquiv1_symm_val dot_S512x1408_S2048x1408_S512x2048_1_1_0_0_n_n 1408 rfl rfl k))
    (fun k => at2_of y _ _ _ rfl (contrEquiv1_symm_val dot_S512x1408_S2048x1408_S512x2048_1_1_0_0_n_n 1408 rfl rfl k))

theorem pay1_at (i : Fin 512) (j : Fin 2048) : k0_pay1 (F := Ideal) (ix2 i j) = 0 := by
  unfold k0_pay1
  rw [shapeCast_self]
  exact Ideal.ofBits_zero_f32

theorem pay2_at (v3 : Vec Ideal S512x2048 .f32) (v4 : Vec Ideal S512x1408 .bf16) (v5 : Vec Ideal S1x2048x1408 .bf16) (i : Fin 512) (j : Fin 2048) :
    k0_pay2 (F := Ideal) v3 v4 v5 (ix2 i j) = v3 (ix2 i j) + nt 1408 (at2 (a := 512) (b := 1408) v4) (at3 (a := 1) (b := 2048) (c := 1408) v5 0) i j := by
  have e := (mm0 .bf16 .bf16 none v4 (shapeCast S2048x1408 v5 shapeCasts_S1x2048x1408_S2048x1408) i j).trans (nt_congr (fun _ _ => rfl) fun k hk => cast_unit v5 shapeCasts_S1x2048x1408_S2048x1408 j k j.isLt hk)
  rw [← e]
  unfold k0_pay2
  rw [shapeCast_self]; rfl

/-! ## What the carried block holds after each point -/

variable (m : (ℓ : Loc nD τ sig) → Buf (Elt Ideal) ℓ) (ρ : Dev nD → PrngReg) (c : Dev nD)

theorem sc_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  refine (View.read_writes_full _ _ _ _ _).trans ?_
  congr 1
  · exact View.readCov_full _ _ _ _ _
  · exact (View.readAt_full (ms0_0 t).view _ _).trans ((hs0_0 t).read_unread _)
  · exact (View.readAt_full (ms0_1 t).view _ _).trans ((hs0_1 t).read_unread _)

theorem sc_next (t : Fin cfg0.N) (h0 : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 4 = 3
  on_goal 1 => rw [outsAt0_C m c t h0 h1]; dsimp only; unfold sout0_C_0 kernelRun0_C
  on_goal 2 => rw [outsAt0_B m c t h0 h1]; dsimp only; unfold sout0_B_0 kernelRun0_B
  all_goals
    refine (View.read_writes_full _ _ _ _ _).trans ?_
    congr 1
    · exact (View.readAt_full scM0_0.view _ _).trans ((Memref.isWhole_whole _).read_unread _)
    · exact (View.readAt_full (ms0_0 t).view _ _).trans ((hs0_0 t).read_unread _)
    · exact (View.readAt_full (ms0_1 t).view _ _).trans ((hs0_1 t).read_unread _)

theorem out_last (t : Fin cfg0.N) (h0 : ¬t.val % 4 = 0) (h1 : t.val % 4 = 3) :
    (outsAt0 m c t.val t.isLt).1 = k0_pay3 (F := Ideal) (outsAt0 m c t.val t.isLt).2 (iblk m c 2 t) := by
  rw [sc_next m c t h0, outsAt0_C m c t h0 h1]
  dsimp only
  unfold out0_C_3 kernelRun0_C
  refine (View.read_writes_full _ _ _ _ _).trans ?_
  refine congrArg₂ (k0_pay3 (F := Ideal)) ?_ ?_
  · refine (View.readCov_full _ _ _ _ _).trans ?_
    refine congrArg₂ (fun f x => f x) (congrArg₂ (k0_pay2 (F := Ideal)) ?_ ?_) ?_
    · exact (View.readAt_full scM0_0.view _ _).trans ((Memref.isWhole_whole _).read_unread _)
    · exact (View.readAt_full (ms0_0 t).view _ _).trans ((hs0_0 t).read_unread _)
    · exact (View.readAt_full (ms0_1 t).view _ _).trans ((hs0_1 t).read_unread _)
  · exact (View.readAt_full (ms0_2 t).view _ _).trans ((hs0_2 t).read_unread _)

/-! ## The blocks and the array -/

theorem blk0_0_at (t : Fin cfg0.N) (p q : ℕ) (hp : p < 512) (hq : q < 1408) :
    at2 (a := 512) (b := 1408) (iblk m c 0 t) p q = at2 (a := 2048) (b := 5632) (V m c main_arg0) (512 * (t.val / 4) + p) (1408 * (t.val % 4) + q) :=
  (Moves2.read (a := 512) (b := 1408) (a' := 2048) (b' := 5632) (e := ((cfg0.win 0).rect t).emb) (Moves2.all (o₀ := fun t => t.val / 4) (o₁ := fun t => t.val % 4) (Pipeline.Window.rect_emb_val (cfg0.win 0)) rfl rfl (by decide +kernel) t) (V m c main_arg0) _ (fun _ => rfl) p q hp hq).trans (by congr 1 <;> omega)

theorem blk0_1_at (t : Fin cfg0.N) (g p q : ℕ) (hg : g < 1) (hp : p < 2048) (hq : q < 1408) :
    at3 (a := 1) (b := 2048) (c := 1408) (iblk m c 1 t) g p q = at3 (a := 8) (b := 2048) (c := 1408) (V m c main_v1) (1 * (t.val % 4 + 4) + g) (p) (q) :=
  (Moves3.read (a := 1) (b := 2048) (d := 1408) (a' := 8) (b' := 2048) (d' := 1408) (e := ((cfg0.win 1).rect t).emb) (Moves3.all (o₀ := fun t => t.val % 4 + 4) (o₁ := fun _ => 0) (o₂ := fun _ => 0) (Pipeline.Window.rect_emb_val (cfg0.win 1)) rfl rfl rfl (by decide +kernel) t) (V m c main_v1) _ (fun _ => rfl) g p q hg hp hq).trans (by congr 1 <;> omega)

theorem blk0_2_at (t : Fin cfg0.N) (p q : ℕ) (hp : p < 512) (hq : q < 2048) :
    at2 (a := 512) (b := 2048) (iblk m c 2 t) p q = at2 (a := 2048) (b := 2048) (V m c main_arg2) (512 * (t.val / 4) + p) (q) :=
  (Moves2.read (a := 512) (b := 2048) (a' := 2048) (b' := 2048) (e := ((cfg0.win 2).rect t).emb) (Moves2.all (o₀ := fun t => t.val / 4) (o₁ := fun _ => 0) (Pipeline.Window.rect_emb_val (cfg0.win 2)) rfl rfl (by decide +kernel) t) (V m c main_arg2) _ (fun _ => rfl) p q hp hq).trans (by congr 1 <;> omega)

theorem arr0_3_at (G : ℕ → ℕ → EReal)
    (hG : ∀ (t : Fin cfg0.N) (_ : (cfg0.win 3).flush t = true) (p : Fin 512) (q : Fin 2048), (dats m 0 c).after 3 t (ix2 p q : S512x2048.Idx) = G (512 * (t.val / 4) + p) (q)) (p : Fin 2048) (q : Fin 2048) :
    (dats m 0 c).arrAt 3 cfg0.N (ix2 p q : S2048x2048.Idx) = G p q := by
  have mv : ∀ t : Fin cfg0.N, Moves2 (a := 512) (b := 2048) (a' := 2048) (b' := 2048) ((cfg0.win 3).rect t).emb (t.val / 4) (0) := Moves2.all (Pipeline.Window.rect_emb_val (cfg0.win 3)) rfl rfl (by decide +kernel)
  refine Pipeline.Dat.arrAt_forall_of_cover (dats m 0 c) 3 (fun i v => v = G ((i : S2048x2048.Idx) 0).val ((i : S2048x2048.Idx) 1).val) (fun t hf y => (mv t).write _ G (fun p q => (hG t hf p q).trans (congrArg₂ G (by omega) (by omega))) y) (fun i => ?_) (ix2 p q : S2048x2048.Idx)
  obtain ⟨t, ht, y, e⟩ := Moves2.cover (P := fun t => (cfg0.win 3).flush t = true) (n := 4) (m := 1) mv (by decide +kernel) rfl rfl i
  exact ⟨t, ht, e ▸ View.emb_mem_set _ y⟩

/-- One tile's product is a stretch of the whole product. -/
theorem tile (t : Fin cfg0.N) (p q : ℕ) (hp : p < 512) (hq : q < 2048) :
    nt 1408 (at2 (a := 512) (b := 1408) (iblk m c 0 t)) (at3 (a := 1) (b := 2048) (c := 1408) (iblk m c 1 t) 0) p q
      = nt 1408 (fun i k => (at2 (a := 2048) (b := 5632) (V m c main_arg0)) i (1408 * (t.val % 4) + k)) (fun j k => (wrows 1408 4 (at3 (a := 8) (b := 2048) (c := 1408) (V m c main_v1))) j (1408 * (t.val % 4) + k)) (512 * (t.val / 4) + p) (q) := by
  refine nt_congr (fun k hk => ?_) fun k hk => ?_
  · rw [blk0_0_at m c t p k hp hk]
  · show _ = wrows _ _ _ q (1408 * (t.val % 4) + k)
    unfold wrows
    rw [blk0_1_at m c t 0 q k (by omega) hq hk, show (1408 * (t.val % 4) + k) / 1408 + 4 = 1 * (t.val % 4 + 4) + 0 by omega, show (1408 * (t.val % 4) + k) % 1408 = k by omega]

/-- After point `n` the carried block holds the product over the tiles met so far. -/
theorem sc_at : ∀ (n : ℕ) (hn : n < cfg0.N) (p : Fin 512) (q : Fin 2048),
    (outsAt0 m c n hn).2 (ix2 p q : S512x2048.Idx) = nt (1408 * (n % 4 + 1)) (at2 (a := 2048) (b := 5632) (V m c main_arg0)) (wrows 1408 4 (at3 (a := 8) (b := 2048) (c := 1408) (V m c main_v1))) (512 * (n / 4) + p) q :=
  acc_nt (by omega) _ _ (fun n hn p q => (outsAt0 m c n hn).2 (ix2 p q : S512x2048.Idx))
    (fun t p q => nt 1408 (at2 (a := 512) (b := 1408) (iblk m c 0 t)) (at3 (a := 1) (b := 2048) (c := 1408) (iblk m c 1 t) 0) p q) (fun t p q => tile m c t p q p.isLt q.isLt)
    (fun t h0 p q => (congrFun (sc_A m c t h0 (by omega)) _).trans ((pay2_at _ _ _ p q).trans (by rw [pay1_at, zero_add])))
    (fun n hn h0 p q => (congrFun (sc_next m c ⟨n + 1, hn⟩ h0) _).trans (pay2_at _ _ _ p q))

theorem out (p q : Fin 2048) : (dats m 0 c).arrAt 3 cfg0.N (ix2 p q : S2048x2048.Idx)
    = (fun p q => nt 5632 (at2 (a := 2048) (b := 5632) (V m c main_arg0)) (wrows 1408 4 (at3 (a := 8) (b := 2048) (c := 1408) (V m c main_v1))) p q + at2 (a := 2048) (b := 2048) (V m c main_arg2) p q) p q :=
  arr0_3_at m c (fun p q => nt 5632 (at2 (a := 2048) (b := 5632) (V m c main_arg0)) (wrows 1408 4 (at3 (a := 8) (b := 2048) (c := 1408) (V m c main_v1))) p q + at2 (a := 2048) (b := 2048) (V m c main_arg2) p q) (fun t hft p q => by
    have hp := p.isLt; have hq := q.isLt
    have h1 : t.val % 4 = 3 := (flush0_3 t).1 hft
    rw [after0_3, out_last m c t (by omega) h1]
    show (outsAt0 m c t.val t.isLt).2 (ix2 p q : S512x2048.Idx) + iblk m c 2 t (ix2 p q : S512x2048.Idx) = _
    refine congrArg₂ (· + ·) ?_ ((at2_ix (a := 512) (b := 2048) (iblk m c 2 t) p q).trans (blk0_2_at m c t p q p.isLt q.isLt))
    rw [sc_at m c t.val t.isLt p q, show 1408 * (t.val % 4 + 1) = 5632 by omega]) p q

/-! ## In the arguments -/

abbrev aA : S2048x5632.Idx → EReal := m ((c : Thread nD τ).loc main_arg0)
abbrev aW : S2048x11264.Idx → EReal := m ((c : Thread nD τ).loc main_arg1)
abbrev aR : S2048x2048.Idx → EReal := m ((c : Thread nD τ).loc main_arg2)

theorem V_v1 : V m c main_v1 = transpose S8x2048x1408 [1, 0, 2] (shapeCast S2048x8x1408 (aW m c) shapeCasts_S2048x11264_S2048x8x1408) transposes_S2048x8x1408_S8x2048x1408_1_0_2 := by
  after_results_simp; rfl

/-- The blocks' rows are the weight's, 5632 columns on. -/
theorem wrows_at (j k : ℕ) (hj : j < 2048) (hk : k < 5632) :
    wrows 1408 4 (at3 (a := 8) (b := 2048) (c := 1408) (V m c main_v1)) j k = at2 (a := 2048) (b := 11264) (aW m c) j (5632 + k) := by
  rw [V_v1]; exact Cert.Mm.wrows_at 4 _ _ _ (by norm_num) (by norm_num) j k hj (by omega)

theorem res_at (p q : Fin 2048) : (dats m 0 c).arrAt 3 cfg0.N (ix2 p q : S2048x2048.Idx)
    = nt 5632 (at2 (a := 2048) (b := 5632) (aA m c)) (fun j k => at2 (a := 2048) (b := 11264) (aW m c) j (5632 + k)) p q + at2 (a := 2048) (b := 2048) (aR m c) p q := by
  refine (out m c p q).trans ?_
  have e0 : at2 (a := 2048) (b := 5632) (V m c main_arg0) = at2 (a := 2048) (b := 5632) (aA m c) := congrArg at2 (V_main_arg0 m c)
  have e2 : at2 (a := 2048) (b := 2048) (V m c main_arg2) = at2 (a := 2048) (b := 2048) (aR m c) := congrArg at2 (V_main_arg2 m c)
  beta_reduce
  rw [e0, e2]
  exact congrArg (· + _) (nt_congr (fun _ _ => rfl) fun k hk => wrows_at m c q k q.isLt hk)
end Cert.Kernel5Ideal.Value
end
-- ==== Proof.Algebraic5.lean ====
/-
  The call's reference at an index, and the program's claims: from the same arguments the kernel and the reference end with
  the same gradient of the normalised activations.
-/
module
public import proofs.«01_k».proof.Defs
public import proofs.«01_k».proof.Proof.Acc5
public import proofs.«01_k».proof.Proof.MmRef
public import proofs.«01_k».proof.Proof.Gen.Reference5Ideal.Run
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import Idealize.ShloMosaic.Lib.Pointwise
public import Idealize.ShloMosaic.Lib.Quiescent
@[expose] public section
set_option maxRecDepth 16384
noncomputable section
namespace Cert.Reference5Ideal.Value
open Cert.Reference5Ideal Cert.Reference5Ideal.Gen Cert.Attn Cert.Mm
open Idealize.ShloMosaic Idealize.ShloMosaic.TcCoe

def rOut (A : FVec Ideal S2048x5632 .bf16) (W : FVec Ideal S2048x11264 .bf16) (R : FVec Ideal S2048x2048 .f32) : FVec Ideal S2048x2048 .f32 :=
  addf R (Host.dotGeneral dot_S2048x5632_S2048x5632_S2048x2048_1_1_0_0_n_n none (extf .f32 A bitsLt_bf16_f32) (extf .f32 (extractStridedSlice S2048x5632 ![0, 5632] W slices_S2048x11264_S2048x5632_0_5632) bitsLt_bf16_f32))

abbrev nOut (A : S2048x5632.Idx → EReal) (W : S2048x11264.Idx → EReal) (R : S2048x2048.Idx → EReal) : S2048x2048.Idx → EReal := rOut A W R

theorem out_at (A : S2048x5632.Idx → EReal) (W : S2048x11264.Idx → EReal) (R : S2048x2048.Idx → EReal) (i j : Fin 2048) :
    nOut A W R (ix2 i j) = nt 5632 (at2 (a := 2048) (b := 5632) A) (fun j k => at2 (a := 2048) (b := 11264) W j (5632 + k)) i j + at2 (a := 2048) (b := 2048) R i j := by
  have e : nOut A W R (ix2 i j) = R (ix2 i j) + ∑ x : Fin 5632, A (ix2 i x) * W (ix2 j (⟨5632 + x.val, by omega⟩ : Fin 11264)) := by
    unfold nOut rOut
    pointwise
    all_goals first | rfl | (congr 1; funext a; apply Fin.ext; match a with | ⟨0, _⟩ => rfl | ⟨1, _⟩ => show _ = _; simp)
  rw [e, add_comm, p2 R]
  refine congrArg (· + _) ?_
  exact nt_fin _ _ i j _ fun x => by rw [p2 A, p2 W]
end Cert.Reference5Ideal.Value

namespace Cert.Ffn5
open Idealize.ShloMosaic Idealize.ShloMosaic.TcCoe Idealize.SL.Sem
open Cert.Attn Cert.Mm

/-! ## The claims -/

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m g m' g' _ ha
  refine ⟨fun c => (Cert.Kernel5Ideal.Gen.dats m 0 c).arrAt 3 Cert.Kernel5Ideal.cfg0.N, ?_, ?_⟩
  · refine (θ_run Cert.Kernel5Ideal.defs _ _).mono (fun r h c => ?_) (Cert.Kernel5Ideal.Gen.run_main (F := Ideal) m g)
    exact ⟨Cert.Kernel5Ideal.Value.post3 m r h c, Cert.Kernel5Ideal.Value.kept_main_arg0 m r h c, Cert.Kernel5Ideal.Value.kept_main_arg1 m r h c, Cert.Kernel5Ideal.Value.kept_main_arg2 m r h c⟩
  · refine (θ_run Cert.Reference5Ideal.defs _ _).mono (fun r h c => ?_) (Cert.Reference5Ideal.Value.run (F := Ideal) m' g')
    obtain ⟨e0, k0, k1, k2⟩ := h c
    obtain ⟨a0, a1, a2⟩ := ha c
    have f0 : _ = Cert.Reference5Ideal.Value.nOut (Cert.Kernel5Ideal.Value.aA m c) (Cert.Kernel5Ideal.Value.aW m c) (Cert.Kernel5Ideal.Value.aR m c) :=
      e0.trans (congr3 Cert.Reference5Ideal.Value.nOut a0 a1 a2)
    refine ⟨f0.trans (ext2 (a := 2048) (b := 2048) fun p q => ?_), k0, k1, k2⟩
    refine (Cert.Reference5Ideal.Value.out_at _ _ _ p q).trans ?_
    rw [ix2_eq_valueIdx]
    exact (Cert.Kernel5Ideal.Value.res_at m c p q).symm

end Cert.Ffn5
end
-- ==== Proof.Acc6.lean ====
/-
  The accumulating call: what its body leaves in the block it carries, and the array it ends with: the product summed
  tile by tile over the grid's last axis, and the residual added.
-/
module
public import proofs.«01_k».proof.Proof.Blk
public import proofs.«01_k».proof.Proof.Gen.Kernel6Ideal.Value
public import proofs.«01_k».proof.Proof.Mm
public import Idealize.ShloMosaic.PureOps.IdealRules
public import Idealize.ShloMosaic.Lib.Pipeline.Value
public import Idealize.ShloMosaic.Lib.ValueLayout
public import Idealize.ShloMosaic.Lib.IdealHost
public import Idealize.ShloMosaic.Lib.ValueLayoutCasts
public import Idealize.ShloMosaic.Lib.Pipeline.ValueKit.Basic
public import Idealize.ShloMosaic.Lib.VecWindow
@[expose] public section
set_option maxRecDepth 16384
noncomputable section
namespace Cert.Kernel6Ideal.Value
open Cert.Kernel6Ideal Cert.Kernel6Ideal.Gen Cert.Attn Cert.Mm
open Idealize.ShloMosaic Idealize.ShloMosaic.ValueIdx Idealize.ShloMosaic.TcCoe Idealize.ShloMosaic.Tactic

/-! ## The body -/

theorem mm0 (φ₁ φ₂ : FTy) (prec) (x : FVec Ideal S1024x2816 φ₁) (y : FVec Ideal S2816x1024 φ₂) (i : Fin 1024) (j : Fin 1024) :
    matmul dot_S1024x2816_S2816x1024_S1024x1024_1_0_0_1_n_n prec x y (constant S1024x1024 .f32 0x00000000#32) (ix2 i j) = nn 2816 (at2 x) (at2 y) i j :=
  matmul_at _ prec 2816 rfl rfl x y (ix2 i j) _ _
    (fun k => at2_of x _ _ _ rfl (contrEquiv1_symm_val dot_S1024x2816_S2816x1024_S1024x1024_1_0_0_1_n_n 2816 rfl rfl k))
    (fun k => at2_of y _ _ _ (contrEquiv1_symm_val dot_S1024x2816_S2816x1024_S1024x1024_1_0_0_1_n_n 2816 rfl rfl k) rfl)

theorem pay1_at (i : Fin 1024) (j : Fin 1024) : k0_pay1 (F := Ideal) (ix2 i j) = 0 := by
  unfold k0_pay1
  rw [shapeCast_self]
  exact Ideal.ofBits_zero_f32

theorem pay2_at (v3 : Vec Ideal S1024x1024 .f32) (v4 : Vec Ideal S1024x2816 .bf16) (v5 : Vec Ideal S2816x1024 .bf16) (i : Fin 1024) (j : Fin 1024) :
    k0_pay2 (F := Ideal) v3 v4 v5 (ix2 i j) = v3 (ix2 i j) + nn 2816 (at2 (a := 1024) (b := 2816) v4) (at2 (a := 2816) (b := 1024) v5) i j := by
  have e := mm0 .bf16 .bf16 none v4 v5 i j
  rw [← e]
  unfold k0_pay2
  rw [shapeCast_self]; rfl

/-! ## What the carried block holds after each point -/

variable (m : (ℓ : Loc nD τ sig) → Buf (Elt Ideal) ℓ) (ρ : Dev nD → PrngReg) (c : Dev nD)

theorem sc_A (t : Fin cfg0.N) (h0 : t.val % 2 = 0) (h1 : ¬t.val % 2 = 1) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  refine (View.read_writes_full _ _ _ _ _).trans ?_
  congr 1
  · exact View.readCov_full _ _ _ _ _
  · exact (View.readAt_full (ms0_0 t).view _ _).trans ((hs0_0 t).read_unread _)
  · exact (View.readAt_full (ms0_1 t).view _ _).trans ((hs0_1 t).read_unread _)

theorem sc_B (t : Fin cfg0.N) (h0 : ¬t.val % 2 = 0) (h1 : t.val % 2 = 1) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  unfold sout0_B_0 kernelRun0_B
  refine (View.read_writes_full _ _ _ _ _).trans ?_
  congr 1
  · exact (View.readAt_full scM0_0.view _ _).trans ((Memref.isWhole_whole _).read_unread _)
  · exact (View.readAt_full (ms0_0 t).view _ _).trans ((hs0_0 t).read_unread _)
  · exact (View.readAt_full (ms0_1 t).view _ _).trans ((hs0_1 t).read_unread _)

theorem out_last (t : Fin cfg0.N) (h0 : ¬t.val % 2 = 0) (h1 : t.val % 2 = 1) :
    (outsAt0 m c t.val t.isLt).1 = k0_pay3 (F := Ideal) (outsAt0 m c t.val t.isLt).2 (iblk m c 2 t) := by
  rw [sc_B m c t h0 h1, outsAt0_B m c t h0 h1]
  dsimp only
  unfold out0_B_3 kernelRun0_B
  refine (View.read_writes_full _ _ _ _ _).trans ?_
  refine congrArg₂ (k0_pay3 (F := Ideal)) ?_ ?_
  · refine (View.readCov_full _ _ _ _ _).trans ?_
    refine congrArg₂ (fun f x => f x) (congrArg₂ (k0_pay2 (F := Ideal)) ?_ ?_) ?_
    · exact (View.readAt_full scM0_0.view _ _).trans ((Memref.isWhole_whole _).read_unread _)
    · exact (View.readAt_full (ms0_0 t).view _ _).trans ((hs0_0 t).read_unread _)
    · exact (View.readAt_full (ms0_1 t).view _ _).trans ((hs0_1 t).read_unread _)
  · exact (View.readAt_full (ms0_2 t).view _ _).trans ((hs0_2 t).read_unread _)

/-! ## The blocks and the array -/

theorem blk0_0_at (t : Fin cfg0.N) (p q : ℕ) (hp : p < 1024) (hq : q < 2816) :
    at2 (a := 1024) (b := 2816) (iblk m c 0 t) p q = at2 (a := 2048) (b := 5632) (V m c main_arg0) (1024 * (t.val / 4) + p) (2816 * (t.val % 2) + q) :=
  (Moves2.read (a := 1024) (b := 2816) (a' := 2048) (b' := 5632) (e := ((cfg0.win 0).rect t).emb) (Moves2.all (o₀ := fun t => t.val / 4) (o₁ := fun t => t.val % 2) (Pipeline.Window.rect_emb_val (cfg0.win 0)) rfl rfl (by decide +kernel) t) (V m c main_arg0) _ (fun _ => rfl) p q hp hq).trans (by congr 1 <;> omega)

theorem blk0_1_at (t : Fin cfg0.N) (p q : ℕ) (hp : p < 2816) (hq : q < 1024) :
    at2 (a := 2816) (b := 1024) (iblk m c 1 t) p q = at2 (a := 5632) (b := 2048) (V m c main_arg1) (2816 * (t.val % 2) + p) (1024 * (t.val / 2 % 2) + q) :=
  (Moves2.read (a := 2816) (b := 1024) (a' := 5632) (b' := 2048) (e := ((cfg0.win 1).rect t).emb) (Moves2.all (o₀ := fun t => t.val % 2) (o₁ := fun t => t.val / 2 % 2) (Pipeline.Window.rect_emb_val (cfg0.win 1)) rfl rfl (by decide +kernel) t) (V m c main_arg1) _ (fun _ => rfl) p q hp hq).trans (by congr 1 <;> omega)

theorem blk0_2_at (t : Fin cfg0.N) (p q : ℕ) (hp : p < 1024) (hq : q < 1024) :
    at2 (a := 1024) (b := 1024) (iblk m c 2 t) p q = at2 (a := 2048) (b := 2048) (V m c main_arg2) (1024 * (t.val / 4) + p) (1024 * (t.val / 2 % 2) + q) :=
  (Moves2.read (a := 1024) (b := 1024) (a' := 2048) (b' := 2048) (e := ((cfg0.win 2).rect t).emb) (Moves2.all (o₀ := fun t => t.val / 4) (o₁ := fun t => t.val / 2 % 2) (Pipeline.Window.rect_emb_val (cfg0.win 2)) rfl rfl (by decide +kernel) t) (V m c main_arg2) _ (fun _ => rfl) p q hp hq).trans (by congr 1 <;> omega)

theorem arr0_3_at (G : ℕ → ℕ → EReal)
    (hG : ∀ (t : Fin cfg0.N) (_ : (cfg0.win 3).flush t = true) (p : Fin 1024) (q : Fin 1024), (dats m 0 c).after 3 t (ix2 p q : S1024x1024.Idx) = G (1024 * (t.val / 4) + p) (1024 * (t.val / 2 % 2) + q)) (p : Fin 2048) (q : Fin 2048) :
    (dats m 0 c).arrAt 3 cfg0.N (ix2 p q : S2048x2048.Idx) = G p q := by
  have mv : ∀ t : Fin cfg0.N, Moves2 (a := 1024) (b := 1024) (a' := 2048) (b' := 2048) ((cfg0.win 3).rect t).emb (t.val / 4) (t.val / 2 % 2) := Moves2.all (Pipeline.Window.rect_emb_val (cfg0.win 3)) rfl rfl (by decide +kernel)
  refine Pipeline.Dat.arrAt_forall_of_cover (dats m 0 c) 3 (fun i v => v = G ((i : S2048x2048.Idx) 0).val ((i : S2048x2048.Idx) 1).val) (fun t hf y => (mv t).write _ G (fun p q => (hG t hf p q).trans (congrArg₂ G (by omega) (by omega))) y) (fun i => ?_) (ix2 p q : S2048x2048.Idx)
  obtain ⟨t, ht, y, e⟩ := Moves2.cover (P := fun t => (cfg0.win 3).flush t = true) (n := 2) (m := 2) mv (by decide +kernel) rfl rfl i
  exact ⟨t, ht, e ▸ View.emb_mem_set _ y⟩

/-- One tile's product is a stretch of the whole product. -/
theorem tile (t : Fin cfg0.N) (p q : ℕ) (hp : p < 1024) (hq : q < 1024) :
    nn 2816 (at2 (a := 1024) (b := 2816) (iblk m c 0 t)) (at2 (a := 2816) (b := 1024) (iblk m c 1 t)) p q
      = nn 2816 (fun i k => (at2 (a := 2048) (b := 5632) (V m c main_arg0)) i (2816 * (t.val % 2) + k)) (fun k j => (at2 (a := 5632) (b := 2048) (V m c main_arg1)) (2816 * (t.val % 2) + k) j) (1024 * (t.val / 4) + p) (1024 * (t.val / 2 % 2) + q) := by
  refine nn_congr (fun k hk => ?_) fun k hk => ?_
  · rw [blk0_0_at m c t p k hp hk]
  · rw [blk0_1_at m c t k q hk hq]

/-- After point `n` the carried block holds the product over the tiles met so far. -/
theorem sc_at (n : ℕ) : ∀ (hn : n < cfg0.N) (p : Fin 1024) (q : Fin 1024),
    (outsAt0 m c n hn).2 (ix2 p q : S1024x1024.Idx) = nn (2816 * (n % 2 + 1)) (at2 (a := 2048) (b := 5632) (V m c main_arg0)) (at2 (a := 5632) (b := 2048) (V m c main_arg1)) (1024 * (n / 4) + p) (1024 * (n / 2 % 2) + q) := by
  induction n with
  | zero =>
    intro hn p q
    rw [sc_A m c ⟨0, hn⟩ rfl (by show ¬0 % 2 = 1; omega)]
    refine (pay2_at _ _ _ p q).trans ?_
    rw [pay1_at, zero_add, tile m c ⟨0, hn⟩ p q p.isLt q.isLt]
    exact nn_congr (fun k _ => congrArg _ (by show 2816 * (0 % 2) + k = k; omega)) fun k _ => congrFun (congrArg _ (by show 2816 * (0 % 2) + k = k; omega)) _
  | succ n ih =>
    intro hn p q
    have hN : n + 1 < 8 := hn
    by_cases h0 : (n + 1) % 2 = 0
    · rw [sc_A m c ⟨n + 1, hn⟩ h0 (by show ¬(n + 1) % 2 = 1; omega)]
      refine (pay2_at _ _ _ p q).trans ?_
      rw [pay1_at, zero_add, tile m c ⟨n + 1, hn⟩ p q p.isLt q.isLt, h0]
      exact nn_congr (fun k _ => congrArg _ (by show 2816 * 0 + k = k; omega)) fun k _ => congrFun (congrArg _ (by show 2816 * 0 + k = k; omega)) _
    · have e : (outsAt0 m c (n + 1) hn).2 = k0_pay2 (F := Ideal) (outsAt0 m c n (Nat.lt_of_succ_lt hn)).2 (iblk m c 0 ⟨n + 1, hn⟩) (iblk m c 1 ⟨n + 1, hn⟩) := by
        exact sc_B m c ⟨n + 1, hn⟩ h0 (by show (n + 1) % 2 = 1; omega)
      rw [e]
      refine (pay2_at _ _ _ p q).trans ?_
      rw [ih (Nat.lt_of_succ_lt hn) p q, tile m c ⟨n + 1, hn⟩ p q p.isLt q.isLt]
      show _ + nn 2816 (fun i k => (at2 (a := 2048) (b := 5632) (V m c main_arg0)) i (2816 * ((n + 1) % 2) + k)) (fun k j => (at2 (a := 5632) (b := 2048) (V m c main_arg1)) (2816 * ((n + 1) % 2) + k) j) (1024 * ((n + 1) / 4) + p) (1024 * ((n + 1) / 2 % 2) + q) = _
      rw [show 2816 * ((n + 1) % 2 + 1) = 2816 * ((n + 1) % 2) + 2816 by omega, nn_split]
      rw [show 2816 * (n % 2 + 1) = 2816 * ((n + 1) % 2) by omega, show n / 4 = (n + 1) / 4 by omega, show n / 2 % 2 = (n + 1) / 2 % 2 by omega]

theorem out (p q : Fin 2048) : (dats m 0 c).arrAt 3 cfg0.N (ix2 p q : S2048x2048.Idx)
    = (fun p q => nn 5632 (at2 (a := 2048) (b := 5632) (V m c main_arg0)) (at2 (a := 5632) (b := 2048) (V m c main_arg1)) p q + at2 (a := 2048) (b := 2048) (V m c main_arg2) p q) p q :=
  arr0_3_at m c (fun p q => nn 5632 (at2 (a := 2048) (b := 5632) (V m c main_arg0)) (at2 (a := 5632) (b := 2048) (V m c main_arg1)) p q + at2 (a := 2048) (b := 2048) (V m c main_arg2) p q) (fun t hft p q => by
    have hp := p.isLt; have hq := q.isLt
    have h1 : t.val % 2 = 1 := (flush0_3 t).1 hft
    rw [after0_3, out_last m c t (by omega) h1]
    show (outsAt0 m c t.val t.isLt).2 (ix2 p q : S1024x1024.Idx) + iblk m c 2 t (ix2 p q : S1024x1024.Idx) = _
    refine congrArg₂ (· + ·) ?_ ((at2_ix (a := 1024) (b := 1024) (iblk m c 2 t) p q).trans (blk0_2_at m c t p q p.isLt q.isLt))
    rw [sc_at m c t.val t.isLt p q, show 2816 * (t.val % 2 + 1) = 5632 by omega]) p q

/-! ## In the arguments -/

abbrev aA : S2048x5632.Idx → EReal := m ((c : Thread nD τ).loc main_arg0)
abbrev aW : S5632x2048.Idx → EReal := m ((c : Thread nD τ).loc main_arg1)
abbrev aR : S2048x2048.Idx → EReal := m ((c : Thread nD τ).loc main_arg2)

theorem res_at (p q : Fin 2048) : (dats m 0 c).arrAt 3 cfg0.N (ix2 p q : S2048x2048.Idx)
    = nn 5632 (at2 (a := 2048) (b := 5632) (aA m c)) (at2 (a := 5632) (b := 2048) (aW m c)) p q + at2 (a := 2048) (b := 2048) (aR m c) p q := by
  refine (out m c p q).trans ?_
  rfl
end Cert.Kernel6Ideal.Value
end
-- ==== Proof.Algebraic6.lean ====
/-
  The call's reference at an index, and the program's claims: from the same arguments the kernel and the reference end with
  the same feed-forward output with the residual added.
-/
module
public import proofs.«01_k».proof.Defs
public import proofs.«01_k».proof.Proof.Acc6
public import proofs.«01_k».proof.Proof.MmRef
public import proofs.«01_k».proof.Proof.Gen.Reference6Ideal.Run
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import Idealize.ShloMosaic.Lib.Pointwise
public import Idealize.ShloMosaic.Lib.Quiescent
@[expose] public section
set_option maxRecDepth 16384
noncomputable section
namespace Cert.Reference6Ideal.Value
open Cert.Reference6Ideal Cert.Reference6Ideal.Gen Cert.Attn Cert.Mm
open Idealize.ShloMosaic Idealize.ShloMosaic.TcCoe

def rOut (A : FVec Ideal S2048x5632 .bf16) (W : FVec Ideal S5632x2048 .bf16) (R : FVec Ideal S2048x2048 .f32) : FVec Ideal S2048x2048 .f32 :=
  addf R (Host.dotGeneral dot_S2048x5632_S5632x2048_S2048x2048_1_0_0_1_n_n none (extf .f32 A bitsLt_bf16_f32) (extf .f32 W bitsLt_bf16_f32))

abbrev nOut (A : S2048x5632.Idx → EReal) (W : S5632x2048.Idx → EReal) (R : S2048x2048.Idx → EReal) : S2048x2048.Idx → EReal := rOut A W R

theorem out_at (A : S2048x5632.Idx → EReal) (W : S5632x2048.Idx → EReal) (R : S2048x2048.Idx → EReal) (i j : Fin 2048) :
    nOut A W R (ix2 i j) = nn 5632 (at2 (a := 2048) (b := 5632) A) (at2 (a := 5632) (b := 2048) W) i j + at2 (a := 2048) (b := 2048) R i j := by
  have e : nOut A W R (ix2 i j) = R (ix2 i j) + ∑ x : Fin 5632, A (ix2 i x) * W (ix2 x j) := by
    unfold nOut rOut
    pointwise
    all_goals first | rfl | (congr 1; funext a; apply Fin.ext; match a with | ⟨0, _⟩ => rfl | ⟨1, _⟩ => show _ = _; simp)
  rw [e, add_comm, p2 R]
  refine congrArg (· + _) ?_
  exact nn_fin _ _ i j _ fun x => by rw [p2 A, p2 W]
end Cert.Reference6Ideal.Value

namespace Cert.Ffn6
open Idealize.ShloMosaic Idealize.ShloMosaic.TcCoe Idealize.SL.Sem
open Cert.Attn Cert.Mm

/-! ## The claims -/

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m g m' g' _ ha
  refine ⟨fun c => (Cert.Kernel6Ideal.Gen.dats m 0 c).arrAt 3 Cert.Kernel6Ideal.cfg0.N, ?_, ?_⟩
  · refine (θ_run Cert.Kernel6Ideal.defs _ _).mono (fun r h c => ?_) (Cert.Kernel6Ideal.Gen.run_main (F := Ideal) m g)
    exact ⟨Cert.Kernel6Ideal.Value.post3 m r h c, Cert.Kernel6Ideal.Value.kept_main_arg0 m r h c, Cert.Kernel6Ideal.Value.kept_main_arg1 m r h c, Cert.Kernel6Ideal.Value.kept_main_arg2 m r h c⟩
  · refine (θ_run Cert.Reference6Ideal.defs _ _).mono (fun r h c => ?_) (Cert.Reference6Ideal.Value.run (F := Ideal) m' g')
    obtain ⟨e0, k0, k1, k2⟩ := h c
    obtain ⟨a0, a1, a2⟩ := ha c
    have f0 : _ = Cert.Reference6Ideal.Value.nOut (Cert.Kernel6Ideal.Value.aA m c) (Cert.Kernel6Ideal.Value.aW m c) (Cert.Kernel6Ideal.Value.aR m c) :=
      e0.trans (congr3 Cert.Reference6Ideal.Value.nOut a0 a1 a2)
    refine ⟨f0.trans (ext2 (a := 2048) (b := 2048) fun p q => ?_), k0, k1, k2⟩
    refine (Cert.Reference6Ideal.Value.out_at _ _ _ p q).trans ?_
    rw [ix2_eq_valueIdx]
    exact (Cert.Kernel6Ideal.Value.res_at m c p q).symm

end Cert.Ffn6
end
-- ==== Proof.Launch7.lean ====
/-
  The gated merge's program: what its buffers hold when it ends.
-/
module
public import proofs.«01_k».proof.Proof.Gen.Kernel7Ideal.Frame
@[expose] public section
set_option maxRecDepth 16384
noncomputable section
namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem launch : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.Kernel7Ideal.Gen
end
-- ==== Proof.Arr7.lean ====
/-
  The gated merge's products: what each call's body leaves at an index of its block, the blocks read at coordinates of
  their arrays, and the arrays the calls leave.
-/
module
public import proofs.«01_k».proof.Proof.Acc
public import proofs.«01_k».proof.Proof.Gen.Kernel7Ideal.Frame
public import proofs.«01_k».proof.Proof.Mm
public import proofs.«01_k».proof.Proof.Blk
public import Idealize.ShloMosaic.PureOps.IdealRules
public import Idealize.ShloMosaic.Lib.Pipeline.Value
public import Idealize.ShloMosaic.Lib.ValueLayout
public import Idealize.ShloMosaic.Lib.IdealHost
public import Idealize.ShloMosaic.Lib.ValueLayoutCasts
public import Idealize.ShloMosaic.Lib.Pipeline.ValueKit.Basic
public import Idealize.ShloMosaic.Lib.Pipeline.ValueKit.Tiles
public import Idealize.ShloMosaic.Lib.VecWindow
@[expose] public section
set_option maxRecDepth 16384
noncomputable section
namespace Cert.Kernel7Ideal.Value
open Cert.Kernel7Ideal Cert.Kernel7Ideal.Gen Cert.Attn Cert.Mm
open Idealize.ShloMosaic Idealize.ShloMosaic.ValueIdx Idealize.ShloMosaic.TcCoe Idealize.ShloMosaic.Tactic

/-! ## The bodies -/

theorem mm0 (φ₁ φ₂ : FTy) (prec) (x : FVec Ideal S512x1024 φ₁) (y : FVec Ideal S1024x256 φ₂) (i : Fin 512) (j : Fin 256) :
    matmul dot_S512x1024_S1024x256_S512x256_1_0_0_1_n_n prec x y (constant S512x256 .f32 0x00000000#32) (ix2 i j) = nn 1024 (at2 x) (at2 y) i j :=
  matmul_at _ prec 1024 rfl rfl x y (ix2 i j) _ _
    (fun k => at2_of x _ _ _ rfl (contrEquiv1_symm_val dot_S512x1024_S1024x256_S512x256_1_0_0_1_n_n 1024 rfl rfl k))
    (fun k => at2_of y _ _ _ (contrEquiv1_symm_val dot_S512x1024_S1024x256_S512x256_1_0_0_1_n_n 1024 rfl rfl k) rfl)

theorem mm1 (φ₁ φ₂ : FTy) (prec) (x : FVec Ideal S512x2048 φ₁) (y : FVec Ideal S1024x2048 φ₂) (i : Fin 512) (j : Fin 1024) :
    matmul dot_S512x2048_S1024x2048_S512x1024_1_1_0_0_n_n prec x y (constant S512x1024 .f32 0x00000000#32) (ix2 i j) = nt 2048 (at2 x) (at2 y) i j :=
  matmul_at _ prec 2048 rfl rfl x y (ix2 i j) _ _
    (fun k => at2_of x _ _ _ rfl (contrEquiv1_symm_val dot_S512x2048_S1024x2048_S512x1024_1_1_0_0_n_n 2048 rfl rfl k))
    (fun k => at2_of y _ _ _ rfl (contrEquiv1_symm_val dot_S512x2048_S1024x2048_S512x1024_1_1_0_0_n_n 2048 rfl rfl k))

theorem mm2 (φ₁ φ₂ : FTy) (prec) (x : FVec Ideal S2048x1024 φ₁) (y : FVec Ideal S2048x1024 φ₂) (i : Fin 1024) (j : Fin 1024) :
    matmul dot_S2048x1024_S2048x1024_S1024x1024_0_0_1_1_n_n prec x y (constant S1024x1024 .f32 0x00000000#32) (ix2 i j) = tn 2048 (at2 x) (at2 y) i j :=
  matmul_at _ prec 2048 rfl rfl x y (ix2 i j) _ _
    (fun k => at2_of x _ _ _ (contrEquiv1_symm_val dot_S2048x1024_S2048x1024_S1024x1024_0_0_1_1_n_n 2048 rfl rfl k) rfl)
    (fun k => at2_of y _ _ _ (contrEquiv1_symm_val dot_S2048x1024_S2048x1024_S1024x1024_0_0_1_1_n_n 2048 rfl rfl k) rfl)

theorem mm3 (φ₁ φ₂ : FTy) (prec) (x : FVec Ideal S2048x512 φ₁) (y : FVec Ideal S2048x1024 φ₂) (i : Fin 512) (j : Fin 1024) :
    matmul dot_S2048x512_S2048x1024_S512x1024_0_0_1_1_n_n prec x y (constant S512x1024 .f32 0x00000000#32) (ix2 i j) = tn 2048 (at2 x) (at2 y) i j :=
  matmul_at _ prec 2048 rfl rfl x y (ix2 i j) _ _
    (fun k => at2_of x _ _ _ (contrEquiv1_symm_val dot_S2048x512_S2048x1024_S512x1024_0_0_1_1_n_n 2048 rfl rfl k) rfl)
    (fun k => at2_of y _ _ _ (contrEquiv1_symm_val dot_S2048x512_S2048x1024_S512x1024_0_0_1_1_n_n 2048 rfl rfl k) rfl)

/-- A gradient block with its unit axis. -/
theorem cast_out (v : FVec Ideal S512x256 .bf16) (g : Fin 1) (i : Fin 512) (j : Fin 256) :
    shapeCast S1x512x256 v shapeCasts_S512x256_S1x512x256 (ix3 g i j) = v (ix2 i j) :=
  shapeCast_apply _ _ _ (ix2 i j) (by
    rw [Shape.rowMajor_val_two, Shape.rowMajor_val_three]
    show i.val * 256 + j.val = (g.val * 512 + i.val) * 256 + j.val
    omega)

/-- One of the four products of a tile: the rows by one block of the weight's columns. -/
theorem piece (x : FVec Ideal S512x1024 .bf16) (w : FVec Ideal S4x1024x256 .bf16) (r : S1x1024x256.Idx → S4x1024x256.Idx) (g : ℕ)
    (h : Moves3 (a := 1) (b := 1024) (d := 256) (a' := 4) (b' := 1024) (d' := 256) r g 0 0) (i : Fin 512) (j : Fin 256) :
    matmul dot_S512x1024_S1024x256_S512x256_1_0_0_1_n_n none x (shapeCast S1024x256 (fun y => w (r y) : FVec Ideal S1x1024x256 .bf16) shapeCasts_S1x1024x256_S1024x256)
      (constant S512x256 .f32 0x00000000#32) (ix2 i j) = nn 1024 (at2 (a := 512) (b := 1024) x) (at3 (a := 4) (b := 1024) (c := 256) w g) i j :=
  (mm0 .bf16 .bf16 none x _ i j).trans (nn_congr (fun _ _ => rfl) fun k hk => by
    rw [Mm.cast_unit _ _ k j hk j.isLt, h.read w _ (fun _ => rfl) 0 k j (by omega) hk j.isLt]
    congr 1 <;> omega)

theorem r0_1_moves : Moves3 (a := 1) (b := 1024) (d := 256) (a' := 4) (b' := 1024) (d' := 256) (r0_1).idx 0 0 0 := fun y =>
  ⟨by rw [Rect.idx_unit_val]; show 0 + _ = 0 * 1 + _; omega, by rw [Rect.idx_unit_val]; show 0 + _ = 0 * 1024 + _; omega, by rw [Rect.idx_unit_val]; show 0 + _ = 0 * 256 + _; omega⟩
theorem r0_2_moves : Moves3 (a := 1) (b := 1024) (d := 256) (a' := 4) (b' := 1024) (d' := 256) (r0_2).idx 1 0 0 := fun y =>
  ⟨by rw [Rect.idx_unit_val]; show 1 + _ = 1 * 1 + _; omega, by rw [Rect.idx_unit_val]; show 0 + _ = 0 * 1024 + _; omega, by rw [Rect.idx_unit_val]; show 0 + _ = 0 * 256 + _; omega⟩
theorem r0_3_moves : Moves3 (a := 1) (b := 1024) (d := 256) (a' := 4) (b' := 1024) (d' := 256) (r0_3).idx 2 0 0 := fun y =>
  ⟨by rw [Rect.idx_unit_val]; show 2 + _ = 2 * 1 + _; omega, by rw [Rect.idx_unit_val]; show 0 + _ = 0 * 1024 + _; omega, by rw [Rect.idx_unit_val]; show 0 + _ = 0 * 256 + _; omega⟩
theorem r0_4_moves : Moves3 (a := 1) (b := 1024) (d := 256) (a' := 4) (b' := 1024) (d' := 256) (r0_4).idx 3 0 0 := fun y =>
  ⟨by rw [Rect.idx_unit_val]; show 3 + _ = 3 * 1 + _; omega, by rw [Rect.idx_unit_val]; show 0 + _ = 0 * 1024 + _; omega, by rw [Rect.idx_unit_val]; show 0 + _ = 0 * 256 + _; omega⟩

/-- Four products side by side. -/
theorem cat (f0 f1 f2 f3 : FVec Ideal S512x256 .f32) (T : ℕ → ℕ → ℕ → EReal) (h0 : ∀ (i : Fin 512) (j : Fin 256), f0 (ix2 i j) = T 0 i j)
    (h1 : ∀ (i : Fin 512) (j : Fin 256), f1 (ix2 i j) = T 1 i j) (h2 : ∀ (i : Fin 512) (j : Fin 256), f2 (ix2 i j) = T 2 i j)
    (h3 : ∀ (i : Fin 512) (j : Fin 256), f3 (ix2 i j) = T 3 i j) (p : Fin 512) (q : Fin 1024) :
    concatenate S512x1024 1 [⟨S512x256, f0⟩, ⟨S512x256, f1⟩, ⟨S512x256, f2⟩, ⟨S512x256, f3⟩] concatenates_S512x256_S512x256_S512x256_S512x256_S512x1024_d1 (ix2 p q)
      = T (q.val / 256) p (q.val % 256) := by
  have hq := q.isLt
  have hT : ∀ (n : Fin 4) (i : Fin 512) (j : Fin 256), (![f0, f1, f2, f3] n) (ix2 i j) = T n i j := fun n i j => by
    match n with
    | ⟨0, _⟩ => exact h0 i j
    | ⟨1, _⟩ => exact h1 i j
    | ⟨2, _⟩ => exact h2 i j
    | ⟨3, _⟩ => exact h3 i j
  refine Eq.trans ?_ (hT ⟨q.val / 256, by omega⟩ p ⟨q.val % 256, Nat.mod_lt _ (by omega)⟩)
  exact concatenate_ofFn_apply (t := S512x1024) (s₁ := S512x256) 1 (N := 4) ![f0, f1, f2, f3] concatenates_S512x256_S512x256_S512x256_S512x256_S512x1024_d1 rfl 256 rfl (ix2 p q)
    ⟨q.val / 256, by omega⟩ rfl (ix2 p ⟨q.val % 256, Nat.mod_lt _ (by omega)⟩) rfl (fun b hb => by
      match b with
      | ⟨0, _⟩ => rfl
      | ⟨1, _⟩ => exact absurd rfl hb)

/-- A tile of the product of one mixer's output. -/
theorem tile_a (x : Vec Ideal S512x1024 .bf16) (w : Vec Ideal S4x1024x256 .bf16) (p : Fin 512) (q : Fin 1024) :
    k0_pay3 (F := Ideal) x (View.ld w r0_1) x (View.ld w r0_2) x (View.ld w r0_3) x (View.ld w r0_4) (ix2 p q)
      = nn 1024 (at2 (a := 512) (b := 1024) x) (at3 (a := 4) (b := 1024) (c := 256) w (q.val / 256)) p (q.val % 256) :=
  cat _ _ _ _ (fun g i j => nn 1024 (at2 (a := 512) (b := 1024) x) (at3 (a := 4) (b := 1024) (c := 256) w g) i j)
    (piece x w _ 0 r0_1_moves) (piece x w _ 1 r0_2_moves) (piece x w _ 2 r0_3_moves) (piece x w _ 3 r0_4_moves) p q
/-- The same of the other's. -/
theorem tile_b (x : Vec Ideal S512x1024 .bf16) (w : Vec Ideal S4x1024x256 .bf16) :
    k0_pay1 (F := Ideal) (k0_pay4 x (View.ld w r0_1)) x (View.ld w r0_2) x (View.ld w r0_3) x (View.ld w r0_4)
      = k0_pay3 (F := Ideal) x (View.ld w r0_1) x (View.ld w r0_2) x (View.ld w r0_3) x (View.ld w r0_4) := rfl

/-- The merge of two products under their gates. -/
def mergeS (s a t b : EReal) : EReal := Ideal.logistic s * a + Ideal.logistic t * b
/-- A gate's gradient from the merged gradient `d` and the gated product `a`. -/
def dgateS (d a s : EReal) : EReal := d * a * Ideal.logistic s * (1 - Ideal.logistic s)

theorem pay1_6 (v0 : Vec Ideal S512x2048 .bf16) (v1 : Vec Ideal S1024x2048 .bf16) (s a : Vec Ideal S512x1024 .f32) (i : Fin 512) (j : Fin 1024) :
    k1_pay6 (F := Ideal) v0 v1 s a (ix2 i j) = dgateS (nt 2048 (at2 (a := 512) (b := 2048) v0) (at2 (a := 1024) (b := 2048) v1) i j) (a (ix2 i j)) (s (ix2 i j)) := by
  rw [← mm1 .bf16 .bf16 none v0 v1 i j]
  unfold k1_pay6 dgateS
  rw [shapeCast_self, ← Ideal.ofBits_one_f32]; rfl

theorem pay1_7 (v0 : Vec Ideal S512x2048 .bf16) (v1 : Vec Ideal S1024x2048 .bf16) (s a : Vec Ideal S512x1024 .f32) :
    k1_pay7 (F := Ideal) v0 v1 s a = k1_pay6 (F := Ideal) v0 v1 s a := rfl

theorem pay1_4 (v0 : Vec Ideal S512x2048 .bf16) (v1 : Vec Ideal S1024x2048 .bf16) (s : Vec Ideal S512x1024 .f32) (i : Fin 512) (j : Fin 1024) :
    k1_pay4 (F := Ideal) v0 v1 s (ix2 i j) = nt 2048 (at2 (a := 512) (b := 2048) v0) (at2 (a := 1024) (b := 2048) v1) i j * Ideal.logistic (s (ix2 i j)) := by
  rw [← mm1 .bf16 .bf16 none v0 v1 i j]; rfl
theorem pay1_5 (v0 : Vec Ideal S512x2048 .bf16) (v1 : Vec Ideal S1024x2048 .bf16) (s : Vec Ideal S512x1024 .f32) :
    k1_pay5 (F := Ideal) v0 v1 s = k1_pay4 (F := Ideal) v0 v1 s := rfl

theorem pay2_1 (v0 v1 : Vec Ideal S2048x1024 .bf16) (i j : Fin 1024) :
    k2_pay1 (F := Ideal) v0 v1 (ix2 i j) = tn 2048 (at2 (a := 2048) (b := 1024) v0) (at2 (a := 2048) (b := 1024) v1) i j := by
  refine Eq.trans ?_ (mm2 .bf16 .bf16 none v0 v1 i j)
  unfold k2_pay1
  rw [shapeCast_self]; rfl

/-- A weight's gradient in blocks of columns: block `k` of a tile. -/
theorem pay3_k (o : ℕ) (v0 : Vec Ideal S2048x512 .bf16) (v1 : Vec Ideal S2048x1024 .bf16) (h : S512x1024.Slices ![0, o] S512x256) (ho : o + 256 ≤ 1024) (g : Fin 1) (i : Fin 512) (j : Fin 256) :
    shapeCast S1x512x256 (truncf .bf16 (extractStridedSlice S512x256 ![0, o] (k3_pay1 (F := Ideal) v0 v1) h) bitsLt_bf16_f32 : FVec Ideal S512x256 .bf16) shapeCasts_S512x256_S1x512x256 (ix3 g i j)
      = tn 2048 (at2 (a := 2048) (b := 512) v0) (at2 (a := 2048) (b := 1024) v1) i (o + j) := by
  have hj := j.isLt
  rw [cast_out]
  show extractStridedSlice S512x256 ![0, o] (k3_pay1 (F := Ideal) v0 v1) h (ix2 i j) = _
  refine (extractStridedSlice_apply _ _ _ _ (ix2 i (⟨o + j.val, by omega⟩ : Fin 1024)) (fun a => by
    match a with
    | ⟨0, _⟩ => exact (Nat.zero_add _).symm
    | ⟨1, _⟩ => rfl)).trans ?_
  unfold k3_pay1
  rw [shapeCast_self]
  exact mm3 .bf16 .bf16 none v0 v1 i ⟨o + j.val, by omega⟩

/-- A piece of a tile's output, where it holds an index. -/
theorem tile_at (k o : ℕ) (w : FVec Ideal S1x512x256 .bf16) (T : ℕ → ℕ → EReal) (ho : o = 256 * k) (hw : ∀ (g : Fin 1) (i : Fin 512) (j : Fin 256), w (ix3 g i j) = T i (o + j))
    (y : S4x512x256.Idx) : View.TileAt (Val := Elt Ideal) (e := .bf16) y ![k, 0, 0] S1x512x256.size w (T (y 1).val (256 * (y 0).val + (y 2).val)) := fun x hx => by
  have e0 : (y 0).val = k + (x (0 : Fin 3)).val := hx 0
  have e1 : (y 1).val = 0 + (x (1 : Fin 3)).val := hx 1
  have e2 : (y 2).val = 0 + (x (2 : Fin 3)).val := hx 2
  have l0 : (x (0 : Fin 3)).val < 1 := (x (0 : Fin 3)).isLt
  have ex : x = (ix3 (x (0 : Fin 3)) (x (1 : Fin 3)) (x (2 : Fin 3)) : S1x512x256.Idx) := eq_ix3 (n0 := 1) (n1 := 512) (n2 := 256) x
  refine (congrArg w ex).trans ((hw (x (0 : Fin 3)) (x (1 : Fin 3)) (x (2 : Fin 3))).trans ?_)
  rw [e1, Nat.zero_add, show 256 * (y 0).val + (y 2).val = o + (x (2 : Fin 3)).val by omega]

theorem out3_at (v0 : Vec Ideal S2048x512 .bf16) (v1 : Vec Ideal S2048x1024 .bf16) (g : Fin 4) (i : Fin 512) (j : Fin 256) :
    out3_2 (F := Ideal) v0 v1 (ix3 g i j) = tn 2048 (at2 (a := 2048) (b := 512) v0) (at2 (a := 2048) (b := 1024) v1) i (256 * g + j) := by
  unfold out3_2
  rw [View.ld_unit_lit _ _ (by decide), View.ld_unit_lit _ _ (by decide)]
  refine View.canon_eq_of_allAt _ _ _ (cover3_2 _ _ _ _ _) ?_
  exact View.allAt_cons_unit _ _ _ _ _ (tile_at 3 768 _ _ rfl (pay3_k 768 v0 v1 slices_S512x1024_o0_768_S512x256 (by omega)) (ix3 g i j))
    (View.allAt_cons_unit _ _ _ _ _ (tile_at 2 512 _ _ rfl (pay3_k 512 v0 v1 slices_S512x1024_o0_512_S512x256 (by omega)) (ix3 g i j))
    (View.allAt_cons_unit _ _ _ _ _ (tile_at 1 256 _ _ rfl (pay3_k 256 v0 v1 slices_S512x1024_o0_256_S512x256 (by omega)) (ix3 g i j))
    (View.allAt_cons_unit _ _ _ _ _ (tile_at 0 0 _ _ rfl (pay3_k 0 v0 v1 slices_S512x1024_o0_0_S512x256 (by omega)) (ix3 g i j)) (View.allAt_nil _ _))))

theorem out4_eq (v0 : Vec Ideal S2048x512 .bf16) (v1 : Vec Ideal S2048x1024 .bf16) : out4_2 (F := Ideal) v0 v1 = out3_2 (F := Ideal) v0 v1 := rfl

/-! ## The blocks and the arrays -/

variable (V : (c : Dev nD) → (b : Ref sig .tc) → Buf (Elt Ideal) ((c : Thread nD τ).loc b)) (c : Dev nD)

theorem mv0_0 : ∀ t : Fin cfg0.N, Moves2 (a := 512) (b := 1024) (a' := 2048) (b' := 1024) ((cfg0.win 0).rect t).emb (t.val / 2) (0) :=
  Moves2.all (Pipeline.Window.rect_emb_val (cfg0.win 0)) rfl rfl (by decide +kernel)
theorem mv0_1 : ∀ t : Fin cfg0.N, Moves2 (a := 512) (b := 1024) (a' := 2048) (b' := 1024) ((cfg0.win 1).rect t).emb (t.val / 2) (0) :=
  Moves2.all (Pipeline.Window.rect_emb_val (cfg0.win 1)) rfl rfl (by decide +kernel)
theorem mv0_2 : ∀ t : Fin cfg0.N, Moves3 (a := 4) (b := 1024) (d := 256) (a' := 8) (b' := 1024) (d' := 256) ((cfg0.win 2).rect t).emb (t.val % 2) (0) (0) :=
  Moves3.all (Pipeline.Window.rect_emb_val (cfg0.win 2)) rfl rfl rfl (by decide +kernel)
theorem mv0_3 : ∀ t : Fin cfg0.N, Moves3 (a := 4) (b := 1024) (d := 256) (a' := 8) (b' := 1024) (d' := 256) ((cfg0.win 3).rect t).emb (t.val % 2) (0) (0) :=
  Moves3.all (Pipeline.Window.rect_emb_val (cfg0.win 3)) rfl rfl rfl (by decide +kernel)
theorem mv0_4 : ∀ t : Fin cfg0.N, Moves2 (a := 512) (b := 1024) (a' := 2048) (b' := 10240) ((cfg0.win 4).rect t).emb (t.val / 2) (6 + t.val % 2) :=
  Moves2.all (Pipeline.Window.rect_emb_val (cfg0.win 4)) rfl rfl (by decide +kernel)
theorem mv0_5 : ∀ t : Fin cfg0.N, Moves2 (a := 512) (b := 1024) (a' := 2048) (b' := 10240) ((cfg0.win 5).rect t).emb (t.val / 2) (8 + t.val % 2) :=
  Moves2.all (Pipeline.Window.rect_emb_val (cfg0.win 5)) rfl rfl (by decide +kernel)
theorem mv0_6 : ∀ t : Fin cfg0.N, Moves2 (a := 512) (b := 1024) (a' := 2048) (b' := 2048) ((cfg0.win 6).rect t).emb (t.val / 2) (t.val % 2) :=
  Moves2.all (Pipeline.Window.rect_emb_val (cfg0.win 6)) rfl rfl (by decide +kernel)
theorem arr0_6 (G : ℕ → ℕ → EReal)
    (hG : ∀ (t : Fin cfg0.N) (p : Fin 512) (q : Fin 1024), (dat0 V c).after 6 t (ix2 p q : S512x1024.Idx) = G (t.val / 2 * 512 + p) (t.val % 2 * 1024 + q)) (p : Fin 2048) (q : Fin 2048) :
    (dat0 V c).arrAt 6 cfg0.N (ix2 p q : S2048x2048.Idx) = G p q :=
  Pipeline.Dat.arrAt_forall_of_cover (dat0 V c) 6 (fun i v => v = G ((i : S2048x2048.Idx) 0).val ((i : S2048x2048.Idx) 1).val)
    (fun t _ y => (mv0_6 t).write _ G (hG t) y)
    (fun i => by
      obtain ⟨t, ht, y, e⟩ := Moves2.cover (P := fun t => (cfg0.win 6).flush t = true) (n := 4) (m := 2) mv0_6 (by decide +kernel) rfl rfl i
      exact ⟨t, ht, e ▸ View.emb_mem_set _ y⟩) (ix2 p q : S2048x2048.Idx)
theorem mv0_7 : ∀ t : Fin cfg0.N, Moves2 (a := 512) (b := 1024) (a' := 2048) (b' := 2048) ((cfg0.win 7).rect t).emb (t.val / 2) (t.val % 2) :=
  Moves2.all (Pipeline.Window.rect_emb_val (cfg0.win 7)) rfl rfl (by decide +kernel)
theorem arr0_7 (G : ℕ → ℕ → EReal)
    (hG : ∀ (t : Fin cfg0.N) (p : Fin 512) (q : Fin 1024), (dat0 V c).after 7 t (ix2 p q : S512x1024.Idx) = G (t.val / 2 * 512 + p) (t.val % 2 * 1024 + q)) (p : Fin 2048) (q : Fin 2048) :
    (dat0 V c).arrAt 7 cfg0.N (ix2 p q : S2048x2048.Idx) = G p q :=
  Pipeline.Dat.arrAt_forall_of_cover (dat0 V c) 7 (fun i v => v = G ((i : S2048x2048.Idx) 0).val ((i : S2048x2048.Idx) 1).val)
    (fun t _ y => (mv0_7 t).write _ G (hG t) y)
    (fun i => by
      obtain ⟨t, ht, y, e⟩ := Moves2.cover (P := fun t => (cfg0.win 7).flush t = true) (n := 4) (m := 2) mv0_7 (by decide +kernel) rfl rfl i
      exact ⟨t, ht, e ▸ View.emb_mem_set _ y⟩) (ix2 p q : S2048x2048.Idx)
theorem mv0_8 : ∀ t : Fin cfg0.N, Moves2 (a := 512) (b := 1024) (a' := 2048) (b' := 2048) ((cfg0.win 8).rect t).emb (t.val / 2) (t.val % 2) :=
  Moves2.all (Pipeline.Window.rect_emb_val (cfg0.win 8)) rfl rfl (by decide +kernel)
theorem arr0_8 (G : ℕ → ℕ → EReal)
    (hG : ∀ (t : Fin cfg0.N) (p : Fin 512) (q : Fin 1024), (dat0 V c).after 8 t (ix2 p q : S512x1024.Idx) = G (t.val / 2 * 512 + p) (t.val % 2 * 1024 + q)) (p : Fin 2048) (q : Fin 2048) :
    (dat0 V c).arrAt 8 cfg0.N (ix2 p q : S2048x2048.Idx) = G p q :=
  Pipeline.Dat.arrAt_forall_of_cover (dat0 V c) 8 (fun i v => v = G ((i : S2048x2048.Idx) 0).val ((i : S2048x2048.Idx) 1).val)
    (fun t _ y => (mv0_8 t).write _ G (hG t) y)
    (fun i => by
      obtain ⟨t, ht, y, e⟩ := Moves2.cover (P := fun t => (cfg0.win 8).flush t = true) (n := 4) (m := 2) mv0_8 (by decide +kernel) rfl rfl i
      exact ⟨t, ht, e ▸ View.emb_mem_set _ y⟩) (ix2 p q : S2048x2048.Idx)
theorem mv1_0 : ∀ t : Fin cfg1.N, Moves2 (a := 512) (b := 2048) (a' := 2048) (b' := 2048) ((cfg1.win 0).rect t).emb (t.val / 2) (0) :=
  Moves2.all (Pipeline.Window.rect_emb_val (cfg1.win 0)) rfl rfl (by decide +kernel)
theorem mv1_1 : ∀ t : Fin cfg1.N, Moves2 (a := 1024) (b := 2048) (a' := 2048) (b' := 2048) ((cfg1.win 1).rect t).emb (t.val % 2) (0) :=
  Moves2.all (Pipeline.Window.rect_emb_val (cfg1.win 1)) rfl rfl (by decide +kernel)
theorem mv1_2 : ∀ t : Fin cfg1.N, Moves2 (a := 512) (b := 1024) (a' := 2048) (b' := 10240) ((cfg1.win 2).rect t).emb (t.val / 2) (6 + t.val % 2) :=
  Moves2.all (Pipeline.Window.rect_emb_val (cfg1.win 2)) rfl rfl (by decide +kernel)
theorem mv1_3 : ∀ t : Fin cfg1.N, Moves2 (a := 512) (b := 1024) (a' := 2048) (b' := 10240) ((cfg1.win 3).rect t).emb (t.val / 2) (8 + t.val % 2) :=
  Moves2.all (Pipeline.Window.rect_emb_val (cfg1.win 3)) rfl rfl (by decide +kernel)
theorem mv1_4 : ∀ t : Fin cfg1.N, Moves2 (a := 512) (b := 1024) (a' := 2048) (b' := 2048) ((cfg1.win 4).rect t).emb (t.val / 2) (t.val % 2) :=
  Moves2.all (Pipeline.Window.rect_emb_val (cfg1.win 4)) rfl rfl (by decide +kernel)
theorem mv1_5 : ∀ t : Fin cfg1.N, Moves2 (a := 512) (b := 1024) (a' := 2048) (b' := 2048) ((cfg1.win 5).rect t).emb (t.val / 2) (t.val % 2) :=
  Moves2.all (Pipeline.Window.rect_emb_val (cfg1.win 5)) rfl rfl (by decide +kernel)
theorem mv1_6 : ∀ t : Fin cfg1.N, Moves2 (a := 512) (b := 1024) (a' := 2048) (b' := 2048) ((cfg1.win 6).rect t).emb (t.val / 2) (t.val % 2) :=
  Moves2.all (Pipeline.Window.rect_emb_val (cfg1.win 6)) rfl rfl (by decide +kernel)
theorem arr1_6 (G : ℕ → ℕ → EReal)
    (hG : ∀ (t : Fin cfg1.N) (p : Fin 512) (q : Fin 1024), (dat1 V c).after 6 t (ix2 p q : S512x1024.Idx) = G (t.val / 2 * 512 + p) (t.val % 2 * 1024 + q)) (p : Fin 2048) (q : Fin 2048) :
    (dat1 V c).arrAt 6 cfg1.N (ix2 p q : S2048x2048.Idx) = G p q :=
  Pipeline.Dat.arrAt_forall_of_cover (dat1 V c) 6 (fun i v => v = G ((i : S2048x2048.Idx) 0).val ((i : S2048x2048.Idx) 1).val)
    (fun t _ y => (mv1_6 t).write _ G (hG t) y)
    (fun i => by
      obtain ⟨t, ht, y, e⟩ := Moves2.cover (P := fun t => (cfg1.win 6).flush t = true) (n := 4) (m := 2) mv1_6 (by decide +kernel) rfl rfl i
      exact ⟨t, ht, e ▸ View.emb_mem_set _ y⟩) (ix2 p q : S2048x2048.Idx)
theorem mv1_7 : ∀ t : Fin cfg1.N, Moves2 (a := 512) (b := 1024) (a' := 2048) (b' := 2048) ((cfg1.win 7).rect t).emb (t.val / 2) (t.val % 2) :=
  Moves2.all (Pipeline.Window.rect_emb_val (cfg1.win 7)) rfl rfl (by decide +kernel)
theorem arr1_7 (G : ℕ → ℕ → EReal)
    (hG : ∀ (t : Fin cfg1.N) (p : Fin 512) (q : Fin 1024), (dat1 V c).after 7 t (ix2 p q : S512x1024.Idx) = G (t.val / 2 * 512 + p) (t.val % 2 * 1024 + q)) (p : Fin 2048) (q : Fin 2048) :
    (dat1 V c).arrAt 7 cfg1.N (ix2 p q : S2048x2048.Idx) = G p q :=
  Pipeline.Dat.arrAt_forall_of_cover (dat1 V c) 7 (fun i v => v = G ((i : S2048x2048.Idx) 0).val ((i : S2048x2048.Idx) 1).val)
    (fun t _ y => (mv1_7 t).write _ G (hG t) y)
    (fun i => by
      obtain ⟨t, ht, y, e⟩ := Moves2.cover (P := fun t => (cfg1.win 7).flush t = true) (n := 4) (m := 2) mv1_7 (by decide +kernel) rfl rfl i
      exact ⟨t, ht, e ▸ View.emb_mem_set _ y⟩) (ix2 p q : S2048x2048.Idx)
theorem mv1_8 : ∀ t : Fin cfg1.N, Moves2 (a := 512) (b := 1024) (a' := 2048) (b' := 2048) ((cfg1.win 8).rect t).emb (t.val / 2) (t.val % 2) :=
  Moves2.all (Pipeline.Window.rect_emb_val (cfg1.win 8)) rfl rfl (by decide +kernel)
theorem arr1_8 (G : ℕ → ℕ → EReal)
    (hG : ∀ (t : Fin cfg1.N) (p : Fin 512) (q : Fin 1024), (dat1 V c).after 8 t (ix2 p q : S512x1024.Idx) = G (t.val / 2 * 512 + p) (t.val % 2 * 1024 + q)) (p : Fin 2048) (q : Fin 2048) :
    (dat1 V c).arrAt 8 cfg1.N (ix2 p q : S2048x2048.Idx) = G p q :=
  Pipeline.Dat.arrAt_forall_of_cover (dat1 V c) 8 (fun i v => v = G ((i : S2048x2048.Idx) 0).val ((i : S2048x2048.Idx) 1).val)
    (fun t _ y => (mv1_8 t).write _ G (hG t) y)
    (fun i => by
      obtain ⟨t, ht, y, e⟩ := Moves2.cover (P := fun t => (cfg1.win 8).flush t = true) (n := 4) (m := 2) mv1_8 (by decide +kernel) rfl rfl i
      exact ⟨t, ht, e ▸ View.emb_mem_set _ y⟩) (ix2 p q : S2048x2048.Idx)
theorem mv1_9 : ∀ t : Fin cfg1.N, Moves2 (a := 512) (b := 1024) (a' := 2048) (b' := 2048) ((cfg1.win 9).rect t).emb (t.val / 2) (t.val % 2) :=
  Moves2.all (Pipeline.Window.rect_emb_val (cfg1.win 9)) rfl rfl (by decide +kernel)
theorem arr1_9 (G : ℕ → ℕ → EReal)
    (hG : ∀ (t : Fin cfg1.N) (p : Fin 512) (q : Fin 1024), (dat1 V c).after 9 t (ix2 p q : S512x1024.Idx) = G (t.val / 2 * 512 + p) (t.val % 2 * 1024 + q)) (p : Fin 2048) (q : Fin 2048) :
    (dat1 V c).arrAt 9 cfg1.N (ix2 p q : S2048x2048.Idx) = G p q :=
  Pipeline.Dat.arrAt_forall_of_cover (dat1 V c) 9 (fun i v => v = G ((i : S2048x2048.Idx) 0).val ((i : S2048x2048.Idx) 1).val)
    (fun t _ y => (mv1_9 t).write _ G (hG t) y)
    (fun i => by
      obtain ⟨t, ht, y, e⟩ := Moves2.cover (P := fun t => (cfg1.win 9).flush t = true) (n := 4) (m := 2) mv1_9 (by decide +kernel) rfl rfl i
      exact ⟨t, ht, e ▸ View.emb_mem_set _ y⟩) (ix2 p q : S2048x2048.Idx)
theorem mv2_0 : ∀ t : Fin cfg2.N, Moves2 (a := 2048) (b := 1024) (a' := 2048) (b' := 2048) ((cfg2.win 0).rect t).emb (0) (t.val / 2) :=
  Moves2.all (Pipeline.Window.rect_emb_val (cfg2.win 0)) rfl rfl (by decide +kernel)
theorem mv2_1 : ∀ t : Fin cfg2.N, Moves2 (a := 2048) (b := 1024) (a' := 2048) (b' := 2048) ((cfg2.win 1).rect t).emb (0) (t.val % 2) :=
  Moves2.all (Pipeline.Window.rect_emb_val (cfg2.win 1)) rfl rfl (by decide +kernel)
theorem mv2_2 : ∀ t : Fin cfg2.N, Moves2 (a := 1024) (b := 1024) (a' := 2048) (b' := 2048) ((cfg2.win 2).rect t).emb (t.val / 2) (t.val % 2) :=
  Moves2.all (Pipeline.Window.rect_emb_val (cfg2.win 2)) rfl rfl (by decide +kernel)
theorem arr2_2 (G : ℕ → ℕ → EReal)
    (hG : ∀ (t : Fin cfg2.N) (p : Fin 1024) (q : Fin 1024), (dat2 V c).after 2 t (ix2 p q : S1024x1024.Idx) = G (t.val / 2 * 1024 + p) (t.val % 2 * 1024 + q)) (p : Fin 2048) (q : Fin 2048) :
    (dat2 V c).arrAt 2 cfg2.N (ix2 p q : S2048x2048.Idx) = G p q :=
  Pipeline.Dat.arrAt_forall_of_cover (dat2 V c) 2 (fun i v => v = G ((i : S2048x2048.Idx) 0).val ((i : S2048x2048.Idx) 1).val)
    (fun t _ y => (mv2_2 t).write _ G (hG t) y)
    (fun i => by
      obtain ⟨t, ht, y, e⟩ := Moves2.cover (P := fun t => (cfg2.win 2).flush t = true) (n := 2) (m := 2) mv2_2 (by decide +kernel) rfl rfl i
      exact ⟨t, ht, e ▸ View.emb_mem_set _ y⟩) (ix2 p q : S2048x2048.Idx)
theorem mv3_0 : ∀ t : Fin cfg3.N, Moves2 (a := 2048) (b := 512) (a' := 2048) (b' := 1024) ((cfg3.win 0).rect t).emb (0) (t.val / 2) :=
  Moves2.all (Pipeline.Window.rect_emb_val (cfg3.win 0)) rfl rfl (by decide +kernel)
theorem mv3_1 : ∀ t : Fin cfg3.N, Moves2 (a := 2048) (b := 1024) (a' := 2048) (b' := 2048) ((cfg3.win 1).rect t).emb (0) (t.val % 2) :=
  Moves2.all (Pipeline.Window.rect_emb_val (cfg3.win 1)) rfl rfl (by decide +kernel)
theorem mv3_2 : ∀ t : Fin cfg3.N, Moves3 (a := 4) (b := 512) (d := 256) (a' := 8) (b' := 1024) (d' := 256) ((cfg3.win 2).rect t).emb (t.val % 2) (t.val / 2) (0) :=
  Moves3.all (Pipeline.Window.rect_emb_val (cfg3.win 2)) rfl rfl rfl (by decide +kernel)
theorem arr3_2 (G : ℕ → ℕ → ℕ → EReal)
    (hG : ∀ (t : Fin cfg3.N) (g : Fin 4) (p : Fin 512) (q : Fin 256), (dat3 V c).after 2 t (ix3 g p q : S4x512x256.Idx) = G (t.val % 2 * 4 + g) (t.val / 2 * 512 + p) (0 * 256 + q))
    (g : Fin 8) (p : Fin 1024) (q : Fin 256) : (dat3 V c).arrAt 2 cfg3.N (ix3 g p q : S8x1024x256.Idx) = G g p q :=
  Pipeline.Dat.arrAt_forall_of_cover (dat3 V c) 2 (fun i v => v = G ((i : S8x1024x256.Idx) 0).val ((i : S8x1024x256.Idx) 1).val ((i : S8x1024x256.Idx) 2).val)
    (fun t _ y => (mv3_2 t).write _ G (hG t) y)
    (fun i => by
      obtain ⟨t, ht, y, e⟩ := Moves3.cover (P := fun t => (cfg3.win 2).flush t = true) (n := 2) (m := 2) (l := 1) mv3_2 (by decide +kernel) rfl rfl rfl i
      exact ⟨t, ht, e ▸ View.emb_mem_set _ y⟩) (ix3 g p q : S8x1024x256.Idx)
theorem mv4_0 : ∀ t : Fin cfg4.N, Moves2 (a := 2048) (b := 512) (a' := 2048) (b' := 1024) ((cfg4.win 0).rect t).emb (0) (t.val / 2) :=
  Moves2.all (Pipeline.Window.rect_emb_val (cfg4.win 0)) rfl rfl (by decide +kernel)
theorem mv4_1 : ∀ t : Fin cfg4.N, Moves2 (a := 2048) (b := 1024) (a' := 2048) (b' := 2048) ((cfg4.win 1).rect t).emb (0) (t.val % 2) :=
  Moves2.all (Pipeline.Window.rect_emb_val (cfg4.win 1)) rfl rfl (by decide +kernel)
theorem mv4_2 : ∀ t : Fin cfg4.N, Moves3 (a := 4) (b := 512) (d := 256) (a' := 8) (b' := 1024) (d' := 256) ((cfg4.win 2).rect t).emb (t.val % 2) (t.val / 2) (0) :=
  Moves3.all (Pipeline.Window.rect_emb_val (cfg4.win 2)) rfl rfl rfl (by decide +kernel)
theorem arr4_2 (G : ℕ → ℕ → ℕ → EReal)
    (hG : ∀ (t : Fin cfg4.N) (g : Fin 4) (p : Fin 512) (q : Fin 256), (dat4 V c).after 2 t (ix3 g p q : S4x512x256.Idx) = G (t.val % 2 * 4 + g) (t.val / 2 * 512 + p) (0 * 256 + q))
    (g : Fin 8) (p : Fin 1024) (q : Fin 256) : (dat4 V c).arrAt 2 cfg4.N (ix3 g p q : S8x1024x256.Idx) = G g p q :=
  Pipeline.Dat.arrAt_forall_of_cover (dat4 V c) 2 (fun i v => v = G ((i : S8x1024x256.Idx) 0).val ((i : S8x1024x256.Idx) 1).val ((i : S8x1024x256.Idx) 2).val)
    (fun t _ y => (mv4_2 t).write _ G (hG t) y)
    (fun i => by
      obtain ⟨t, ht, y, e⟩ := Moves3.cover (P := fun t => (cfg4.win 2).flush t = true) (n := 2) (m := 2) (l := 1) mv4_2 (by decide +kernel) rfl rfl rfl i
      exact ⟨t, ht, e ▸ View.emb_mem_set _ y⟩) (ix3 g p q : S8x1024x256.Idx)

/-- The columns of a weight kept as eight blocks of columns. -/
def wcols (B : ℕ → ℕ → ℕ → EReal) (k j : ℕ) : EReal := B (j / 256) k (j % 256)

/-- A gate's tile. -/
theorem gate_blk (k : ℕ) {e : S512x1024.Idx → S2048x10240.Idx} (t m : ℕ) (h : Moves2 (a := 512) (b := 1024) (a' := 2048) (b' := 10240) e t (k + m))
    (x : S2048x10240.Idx → EReal) (v : S512x1024.Idx → EReal) (hv : ∀ y, v y = x (e y)) (p : Fin 512) (q : Fin 1024) :
    v (ix2 p q) = at2 (a := 2048) (b := 10240) x (t * 512 + p) (1024 * k + (m * 1024 + q)) := by
  rw [at2_ix v, h.read x v hv p q p.isLt q.isLt]
  congr 1; omega

/-- A tile of one mixer's product, in the whole product. -/
theorem prod_blk {e : S512x1024.Idx → S2048x1024.Idx} {f : S4x1024x256.Idx → S8x1024x256.Idx} (t m : ℕ) (he : Moves2 (a := 512) (b := 1024) (a' := 2048) (b' := 1024) e t 0)
    (hf : Moves3 (a := 4) (b := 1024) (d := 256) (a' := 8) (b' := 1024) (d' := 256) f m 0 0) (Y : S2048x1024.Idx → EReal) (B : S8x1024x256.Idx → EReal)
    (x : S512x1024.Idx → EReal) (w : S4x1024x256.Idx → EReal) (hx : ∀ y, x y = Y (e y)) (hw : ∀ y, w y = B (f y)) (p : Fin 512) (q : Fin 1024) :
    nn 1024 (at2 (a := 512) (b := 1024) x) (at3 (a := 4) (b := 1024) (c := 256) w (q.val / 256)) p (q.val % 256)
      = nn 1024 (at2 (a := 2048) (b := 1024) Y) (wcols (at3 (a := 8) (b := 1024) (c := 256) B)) (t * 512 + p) (m * 1024 + q) := by
  have hq := q.isLt
  refine nn_congr (fun k hk => ?_) fun k hk => ?_
  · rw [he.read Y x hx p k p.isLt hk]; congr 1; omega
  · unfold wcols
    rw [hf.read B w hw (q.val / 256) k (q.val % 256) (by omega) hk (Nat.mod_lt _ (by omega)), show (m * 1024 + q.val) / 256 = m * 4 + q.val / 256 by omega,
      show (m * 1024 + q.val) % 256 = 0 * 256 + q.val % 256 by omega, Nat.zero_mul, Nat.zero_add]

/-! ## What the calls leave -/

theorem blkA (t : Fin cfg0.N) (p : Fin 512) (q : Fin 1024) :
    nn 1024 (at2 (a := 512) (b := 1024) (iblk0 V c 0 t)) (at3 (a := 4) (b := 1024) (c := 256) (iblk0 V c 2 t) (q.val / 256)) p (q.val % 256)
      = nn 1024 (at2 (a := 2048) (b := 1024) (V c main_arg0)) (wcols (at3 (a := 8) (b := 1024) (c := 256) (V c main_v1))) (t.val / 2 * 512 + p) (t.val % 2 * 1024 + q) :=
  prod_blk _ _ (mv0_0 t) (mv0_2 t) (V c main_arg0) (V c main_v1) _ _ (fun _ => rfl) (fun _ => rfl) p q
theorem blkB (t : Fin cfg0.N) (p : Fin 512) (q : Fin 1024) :
    nn 1024 (at2 (a := 512) (b := 1024) (iblk0 V c 1 t)) (at3 (a := 4) (b := 1024) (c := 256) (iblk0 V c 3 t) (q.val / 256)) p (q.val % 256)
      = nn 1024 (at2 (a := 2048) (b := 1024) (V c main_arg1)) (wcols (at3 (a := 8) (b := 1024) (c := 256) (V c main_v3))) (t.val / 2 * 512 + p) (t.val % 2 * 1024 + q) :=
  prod_blk _ _ (mv0_1 t) (mv0_3 t) (V c main_arg1) (V c main_v3) _ _ (fun _ => rfl) (fun _ => rfl) p q

/-- The first mixer's product. -/
theorem out0_a (p q : Fin 2048) : (dat0 V c).arrAt 6 cfg0.N (ix2 p q : S2048x2048.Idx) = nn 1024 (at2 (a := 2048) (b := 1024) (V c main_arg0)) (wcols (at3 (a := 8) (b := 1024) (c := 256) (V c main_v1))) p q :=
  arr0_6 V c (nn 1024 (at2 (a := 2048) (b := 1024) (V c main_arg0)) (wcols (at3 (a := 8) (b := 1024) (c := 256) (V c main_v1)))) (fun t p q => by
    rw [after0_6]; unfold out0_6 k0_pay5
    rw [View.canon_cons_unit_lit _ _ _ (by decide), View.ld_unit_lit _ _ (by decide)]
    exact (tile_a _ _ p q).trans (blkA V c t p q)) p q
/-- The second mixer's. -/
theorem out0_b (p q : Fin 2048) : (dat0 V c).arrAt 7 cfg0.N (ix2 p q : S2048x2048.Idx) = nn 1024 (at2 (a := 2048) (b := 1024) (V c main_arg1)) (wcols (at3 (a := 8) (b := 1024) (c := 256) (V c main_v3))) p q :=
  arr0_7 V c (nn 1024 (at2 (a := 2048) (b := 1024) (V c main_arg1)) (wcols (at3 (a := 8) (b := 1024) (c := 256) (V c main_v3)))) (fun t p q => by
    rw [after0_7]; unfold out0_7 k0_pay6
    rw [View.canon_cons_unit_lit _ _ _ (by decide), View.ld_unit_lit _ _ (by decide)]
    rw [tile_b]
    exact (tile_a _ _ p q).trans (blkB V c t p q)) p q
/-- Their merge under the gates. -/
theorem out0_m (p q : Fin 2048) : (dat0 V c).arrAt 8 cfg0.N (ix2 p q : S2048x2048.Idx)
    = mergeS (at2 (a := 2048) (b := 10240) (V c main_arg5) p (6144 + q)) (nn 1024 (at2 (a := 2048) (b := 1024) (V c main_arg0)) (wcols (at3 (a := 8) (b := 1024) (c := 256) (V c main_v1))) p q) (at2 (a := 2048) (b := 10240) (V c main_arg5) p (8192 + q)) (nn 1024 (at2 (a := 2048) (b := 1024) (V c main_arg1)) (wcols (at3 (a := 8) (b := 1024) (c := 256) (V c main_v3))) p q) :=
  arr0_8 V c (fun p q => mergeS (at2 (a := 2048) (b := 10240) (V c main_arg5) p (6144 + q)) (nn 1024 (at2 (a := 2048) (b := 1024) (V c main_arg0)) (wcols (at3 (a := 8) (b := 1024) (c := 256) (V c main_v1))) p q) (at2 (a := 2048) (b := 10240) (V c main_arg5) p (8192 + q)) (nn 1024 (at2 (a := 2048) (b := 1024) (V c main_arg1)) (wcols (at3 (a := 8) (b := 1024) (c := 256) (V c main_v3))) p q)) (fun t p q => by
    rw [after0_8]; unfold out0_8 k0_pay5 k0_pay6
    rw [View.canon_cons_unit_lit _ _ _ (by decide), View.ld_unit_lit _ _ (by decide), View.ld_unit_lit _ _ (by decide), View.ld_unit_lit _ _ (by decide), View.ld_unit_lit _ _ (by decide)]
    unfold k0_pay2
    rw [tile_b]
    show mergeS (iblk0 V c 4 t (ix2 p q)) (k0_pay3 (F := Ideal) _ _ _ _ _ _ _ _ (ix2 p q)) (iblk0 V c 5 t (ix2 p q)) (k0_pay3 (F := Ideal) _ _ _ _ _ _ _ _ (ix2 p q)) = _
    rw [tile_a, tile_a, blkA V c t p q, blkB V c t p q, gate_blk 6 _ _ (mv0_4 t) (V c main_arg5) (iblk0 V c 4 t) (fun _ => rfl) p q, gate_blk 8 _ _ (mv0_5 t) (V c main_arg5) (iblk0 V c 5 t) (fun _ => rfl) p q]) p q

/-- The merged gradient's tile. -/
theorem dmg_blk (t : Fin cfg1.N) (p : Fin 512) (q : Fin 1024) :
    nt 2048 (at2 (a := 512) (b := 2048) (iblk1 V c 0 t)) (at2 (a := 1024) (b := 2048) (iblk1 V c 1 t)) p q = nt 2048 (at2 (a := 2048) (b := 2048) (V c main_arg6)) (at2 (a := 2048) (b := 2048) (V c main_arg4)) (t.val / 2 * 512 + p) (t.val % 2 * 1024 + q) :=
  nt_congr
    (fun k hk => by rw [(mv1_0 t).read (V c main_arg6) (iblk1 V c 0 t) (fun _ => rfl) p k p.isLt hk, Nat.zero_mul, Nat.zero_add])
    (fun k hk => by rw [(mv1_1 t).read (V c main_arg4) (iblk1 V c 1 t) (fun _ => rfl) q k q.isLt hk, Nat.zero_mul, Nat.zero_add])
theorem sb_blk (t : Fin cfg1.N) (p : Fin 512) (q : Fin 1024) : iblk1 V c 2 t (ix2 p q) = at2 (a := 2048) (b := 10240) (V c main_arg5) (t.val / 2 * 512 + p) (6144 + (t.val % 2 * 1024 + q)) :=
  gate_blk 6 _ _ (mv1_2 t) (V c main_arg5) (iblk1 V c 2 t) (fun _ => rfl) p q
theorem ca_blk (t : Fin cfg1.N) (p : Fin 512) (q : Fin 1024) : iblk1 V c 3 t (ix2 p q) = at2 (a := 2048) (b := 10240) (V c main_arg5) (t.val / 2 * 512 + p) (8192 + (t.val % 2 * 1024 + q)) :=
  gate_blk 8 _ _ (mv1_3 t) (V c main_arg5) (iblk1 V c 3 t) (fun _ => rfl) p q
theorem a_blk (t : Fin cfg1.N) (p : Fin 512) (q : Fin 1024) : iblk1 V c 4 t (ix2 p q) = at2 (a := 2048) (b := 2048) (V c main_v4_0) (t.val / 2 * 512 + p) (t.val % 2 * 1024 + q) :=
  (at2_ix (a := 512) (b := 1024) (iblk1 V c 4 t) p q).trans ((mv1_4 t).read (V c main_v4_0) (iblk1 V c 4 t) (fun _ => rfl) p q p.isLt q.isLt)
theorem b_blk (t : Fin cfg1.N) (p : Fin 512) (q : Fin 1024) : iblk1 V c 5 t (ix2 p q) = at2 (a := 2048) (b := 2048) (V c main_v4_1) (t.val / 2 * 512 + p) (t.val % 2 * 1024 + q) :=
  (at2_ix (a := 512) (b := 1024) (iblk1 V c 5 t) p q).trans ((mv1_5 t).read (V c main_v4_1) (iblk1 V c 5 t) (fun _ => rfl) p q p.isLt q.isLt)

theorem out1_da (p q : Fin 2048) : (dat1 V c).arrAt 6 cfg1.N (ix2 p q : S2048x2048.Idx) = nt 2048 (at2 (a := 2048) (b := 2048) (V c main_arg6)) (at2 (a := 2048) (b := 2048) (V c main_arg4)) p q * Ideal.logistic (at2 (a := 2048) (b := 10240) (V c main_arg5) p (6144 + q)) :=
  arr1_6 V c (fun p q => nt 2048 (at2 (a := 2048) (b := 2048) (V c main_arg6)) (at2 (a := 2048) (b := 2048) (V c main_arg4)) p q * Ideal.logistic (at2 (a := 2048) (b := 10240) (V c main_arg5) p (6144 + q))) (fun t p q => by
    rw [after1_6]; unfold out1_6
    rw [View.canon_cons_unit_lit _ _ _ (by decide), View.ld_unit_lit _ _ (by decide), View.ld_unit_lit _ _ (by decide), View.ld_unit_lit _ _ (by decide)]
    refine (pay1_4 _ _ _ p q).trans ?_
    rw [dmg_blk V c t p q, sb_blk V c t p q]) p q
theorem out1_db (p q : Fin 2048) : (dat1 V c).arrAt 7 cfg1.N (ix2 p q : S2048x2048.Idx) = nt 2048 (at2 (a := 2048) (b := 2048) (V c main_arg6)) (at2 (a := 2048) (b := 2048) (V c main_arg4)) p q * Ideal.logistic (at2 (a := 2048) (b := 10240) (V c main_arg5) p (8192 + q)) :=
  arr1_7 V c (fun p q => nt 2048 (at2 (a := 2048) (b := 2048) (V c main_arg6)) (at2 (a := 2048) (b := 2048) (V c main_arg4)) p q * Ideal.logistic (at2 (a := 2048) (b := 10240) (V c main_arg5) p (8192 + q))) (fun t p q => by
    rw [after1_7]; unfold out1_7
    rw [View.canon_cons_unit_lit _ _ _ (by decide), View.ld_unit_lit _ _ (by decide), View.ld_unit_lit _ _ (by decide), View.ld_unit_lit _ _ (by decide)]
    rw [pay1_5]
    refine (pay1_4 _ _ _ p q).trans ?_
    rw [dmg_blk V c t p q, ca_blk V c t p q]) p q
theorem out1_ga (p q : Fin 2048) : (dat1 V c).arrAt 8 cfg1.N (ix2 p q : S2048x2048.Idx) = dgateS (nt 2048 (at2 (a := 2048) (b := 2048) (V c main_arg6)) (at2 (a := 2048) (b := 2048) (V c main_arg4)) p q) (at2 (a := 2048) (b := 2048) (V c main_v4_0) p q) (at2 (a := 2048) (b := 10240) (V c main_arg5) p (6144 + q)) :=
  arr1_8 V c (fun p q => dgateS (nt 2048 (at2 (a := 2048) (b := 2048) (V c main_arg6)) (at2 (a := 2048) (b := 2048) (V c main_arg4)) p q) (at2 (a := 2048) (b := 2048) (V c main_v4_0) p q) (at2 (a := 2048) (b := 10240) (V c main_arg5) p (6144 + q))) (fun t p q => by
    rw [after1_8]; unfold out1_8
    rw [View.canon_cons_unit_lit _ _ _ (by decide), View.ld_unit_lit _ _ (by decide), View.ld_unit_lit _ _ (by decide), View.ld_unit_lit _ _ (by decide), View.ld_unit_lit _ _ (by decide)]
    refine (pay1_6 _ _ _ _ p q).trans ?_
    rw [dmg_blk V c t p q, sb_blk V c t p q, a_blk V c t p q]) p q
theorem out1_gb (p q : Fin 2048) : (dat1 V c).arrAt 9 cfg1.N (ix2 p q : S2048x2048.Idx) = dgateS (nt 2048 (at2 (a := 2048) (b := 2048) (V c main_arg6)) (at2 (a := 2048) (b := 2048) (V c main_arg4)) p q) (at2 (a := 2048) (b := 2048) (V c main_v4_1) p q) (at2 (a := 2048) (b := 10240) (V c main_arg5) p (8192 + q)) :=
  arr1_9 V c (fun p q => dgateS (nt 2048 (at2 (a := 2048) (b := 2048) (V c main_arg6)) (at2 (a := 2048) (b := 2048) (V c main_arg4)) p q) (at2 (a := 2048) (b := 2048) (V c main_v4_1) p q) (at2 (a := 2048) (b := 10240) (V c main_arg5) p (8192 + q))) (fun t p q => by
    rw [after1_9]; unfold out1_9
    rw [View.canon_cons_unit_lit _ _ _ (by decide), View.ld_unit_lit _ _ (by decide), View.ld_unit_lit _ _ (by decide), View.ld_unit_lit _ _ (by decide), View.ld_unit_lit _ _ (by decide)]
    rw [pay1_7]
    refine (pay1_6 _ _ _ _ p q).trans ?_
    rw [dmg_blk V c t p q, ca_blk V c t p q, b_blk V c t p q]) p q

/-- The mixing weight's gradient. -/
theorem out2_d (p q : Fin 2048) : (dat2 V c).arrAt 2 cfg2.N (ix2 p q : S2048x2048.Idx) = tn 2048 (at2 (a := 2048) (b := 2048) (V c main_v4_2)) (at2 (a := 2048) (b := 2048) (V c main_arg6)) p q :=
  arr2_2 V c (tn 2048 (at2 (a := 2048) (b := 2048) (V c main_v4_2)) (at2 (a := 2048) (b := 2048) (V c main_arg6))) (fun t p q => by
    rw [after2_2]; unfold out2_2
    rw [View.canon_cons_unit_lit _ _ _ (by decide), View.ld_unit_lit _ _ (by decide), View.ld_unit_lit _ _ (by decide)]
    exact (pay2_1 _ _ p q).trans (tn_congr
      (fun k hk => by rw [(mv2_0 t).read (V c main_v4_2) (iblk2 V c 0 t) (fun _ => rfl) k p hk p.isLt, Nat.zero_mul, Nat.zero_add])
      (fun k hk => by rw [(mv2_1 t).read (V c main_arg6) (iblk2 V c 1 t) (fun _ => rfl) k q hk q.isLt, Nat.zero_mul, Nat.zero_add]))) p q

/-- The first mixer's output weight's gradient, in eight blocks of columns. -/
theorem out3_d (g : Fin 8) (p : Fin 1024) (q : Fin 256) : (dat3 V c).arrAt 2 cfg3.N (ix3 g p q : S8x1024x256.Idx) = tn 2048 (at2 (a := 2048) (b := 1024) (V c main_arg0)) (at2 (a := 2048) (b := 2048) (V c main_v5_0)) p (256 * g + q) :=
  arr3_2 V c (fun g p q => tn 2048 (at2 (a := 2048) (b := 1024) (V c main_arg0)) (at2 (a := 2048) (b := 2048) (V c main_v5_0)) p (256 * g + q)) (fun t g p q => by
    have hg := g.isLt; have hq := q.isLt
    rw [after3_2]
    refine (out3_at _ _ g p q).trans (tn_congr (fun k hk => ?_) fun k hk => ?_)
    · rw [(mv3_0 t).read (V c main_arg0) (iblk3 V c 0 t) (fun _ => rfl) k p hk p.isLt, Nat.zero_mul, Nat.zero_add]
    · rw [(mv3_1 t).read (V c main_v5_0) (iblk3 V c 1 t) (fun _ => rfl) k (256 * g + q) hk (by omega), Nat.zero_mul, Nat.zero_add]
      congr 1; omega) g p q
/-- The second mixer's output weight's gradient, in eight blocks of columns. -/
theorem out4_d (g : Fin 8) (p : Fin 1024) (q : Fin 256) : (dat4 V c).arrAt 2 cfg4.N (ix3 g p q : S8x1024x256.Idx) = tn 2048 (at2 (a := 2048) (b := 1024) (V c main_arg1)) (at2 (a := 2048) (b := 2048) (V c main_v5_1)) p (256 * g + q) :=
  arr4_2 V c (fun g p q => tn 2048 (at2 (a := 2048) (b := 1024) (V c main_arg1)) (at2 (a := 2048) (b := 2048) (V c main_v5_1)) p (256 * g + q)) (fun t g p q => by
    have hg := g.isLt; have hq := q.isLt
    rw [after4_2]
    rw [out4_eq]
    refine (out3_at _ _ g p q).trans (tn_congr (fun k hk => ?_) fun k hk => ?_)
    · rw [(mv4_0 t).read (V c main_arg1) (iblk4 V c 0 t) (fun _ => rfl) k p hk p.isLt, Nat.zero_mul, Nat.zero_add]
    · rw [(mv4_1 t).read (V c main_v5_1) (iblk4 V c 1 t) (fun _ => rfl) k (256 * g + q) hk (by omega), Nat.zero_mul, Nat.zero_add]
      congr 1; omega) g p q
end Cert.Kernel7Ideal.Value
end
-- ==== Proof.Chain7.lean ====
/-
  The gated merge's results in terms of its arguments.
-/
module
public import proofs.«01_k».proof.Proof.Arr7
@[expose] public section
set_option maxRecDepth 16384
noncomputable section
namespace Cert.Kernel7Ideal.Value
open Cert.Kernel7Ideal Cert.Kernel7Ideal.Gen Cert.Attn Cert.Mm
open Idealize.ShloMosaic Idealize.ShloMosaic.ValueIdx Idealize.ShloMosaic.TcCoe Idealize.ShloMosaic.Tactic

variable (m : (l : Loc nD τ sig) → Buf (Elt Ideal) l) (ρ : Dev nD → PrngReg) (c : Dev nD)

abbrev aY : S2048x1024.Idx → EReal := m ((c : Thread nD τ).loc main_arg0)
abbrev aZ : S2048x1024.Idx → EReal := m ((c : Thread nD τ).loc main_arg1)
abbrev aU : S1024x2048.Idx → EReal := m ((c : Thread nD τ).loc main_arg2)
abbrev aW : S1024x2048.Idx → EReal := m ((c : Thread nD τ).loc main_arg3)
abbrev aM : S2048x2048.Idx → EReal := m ((c : Thread nD τ).loc main_arg4)
abbrev aP : S2048x10240.Idx → EReal := m ((c : Thread nD τ).loc main_arg5)
abbrev aD : S2048x2048.Idx → EReal := m ((c : Thread nD τ).loc main_arg6)

/-- The two mixers' products, their gates, their merge, and the merged gradient. -/
def kA : ℕ → ℕ → EReal := nn 1024 (at2 (a := 2048) (b := 1024) (aY m c)) (at2 (a := 1024) (b := 2048) (aU m c))
def kB : ℕ → ℕ → EReal := nn 1024 (at2 (a := 2048) (b := 1024) (aZ m c)) (at2 (a := 1024) (b := 2048) (aW m c))
def kS (i j : ℕ) : EReal := at2 (a := 2048) (b := 10240) (aP m c) i (6144 + j)
def kT (i j : ℕ) : EReal := at2 (a := 2048) (b := 10240) (aP m c) i (8192 + j)
def kM (i j : ℕ) : EReal := mergeS (kS m c i j) (kA m c i j) (kT m c i j) (kB m c i j)
def kD : ℕ → ℕ → EReal := nt 2048 (at2 (a := 2048) (b := 2048) (aD m c)) (at2 (a := 2048) (b := 2048) (aM m c))

/-! ## What the host leaves between the calls -/

/-- A weight as eight blocks of columns. -/
def blocks (w : S1024x2048.Idx → EReal) : S8x1024x256.Idx → EReal :=
  transpose S8x1024x256 [1, 0, 2] (shapeCast S1024x8x256 w shapeCasts_S1024x2048_S1024x8x256) transposes_S1024x8x256_S8x1024x256_1_0_2
/-- Eight blocks of columns joined. -/
def join (v : S8x1024x256.Idx → EReal) : S1024x2048.Idx → EReal :=
  shapeCast S1024x2048 (transpose S1024x8x256 [1, 0, 2] v transposes_S8x1024x256_S1024x8x256_1_0_2) shapeCasts_S1024x8x256_S1024x2048

theorem W1_v1 : W1 m ρ c (Proc.devRef .tc main_v1) = blocks (aU m c) := by
  after_results_simp; rfl
theorem W1_v3 : W1 m ρ c (Proc.devRef .tc main_v3) = blocks (aW m c) := by
  after_results_simp; rfl
theorem W7_v10 : W7 m ρ c (Proc.devRef .tc main_v10) = join (W6 m ρ c (Proc.devRef .tc main_v7)) := by
  after_results_simp; rfl
theorem W7_v12 : W7 m ρ c (Proc.devRef .tc main_v12) = join (W6 m ρ c (Proc.devRef .tc main_v8)) := by
  after_results_simp; rfl

theorem blocks_at (w : S1024x2048.Idx → EReal) (k j : ℕ) (hk : k < 1024) (hj : j < 2048) :
    wcols (at3 (a := 8) (b := 1024) (c := 256) (blocks w)) k j = at2 (a := 1024) (b := 2048) w k j := by
  unfold wcols
  rw [at3_mk _ _ _ _ (by omega : j / 256 < 8) hk (Nat.mod_lt _ (by omega)), at2_mk _ _ _ hk hj]
  unfold blocks
  refine (congrArg (shapeCast S1024x8x256 w shapeCasts_S1024x2048_S1024x8x256) (funext fun a => Fin.ext ?_ : _ = (ix3 ⟨k, hk⟩ ⟨j / 256, by omega⟩ ⟨j % 256, Nat.mod_lt _ (by omega)⟩ : S1024x8x256.Idx))).trans ?_
  · match a with
    | ⟨0, _⟩ => rfl
    | ⟨1, _⟩ => rfl
    | ⟨2, _⟩ => rfl
  · exact shapeCast_apply _ _ _ (ix2 ⟨k, hk⟩ ⟨j, hj⟩) (by
      rw [Shape.rowMajor_val_two, Shape.rowMajor_val_three]
      show k * 2048 + j = (k * 8 + j / 256) * 256 + j % 256
      omega)

theorem join_at (v : S8x1024x256.Idx → EReal) (i : Fin 1024) (j : Fin 2048) :
    join v (ix2 i j) = v (ix3 (⟨j.val / 256, by omega⟩ : Fin 8) i (⟨j.val % 256, Nat.mod_lt _ (by omega)⟩ : Fin 256)) := by
  unfold join
  refine (shapeCast_apply _ _ _ (ix3 i (⟨j.val / 256, by omega⟩ : Fin 8) (⟨j.val % 256, Nat.mod_lt _ (by omega)⟩ : Fin 256)) (by
      rw [Shape.rowMajor_val_two, Shape.rowMajor_val_three]
      show (i.val * 8 + j.val / 256) * 256 + j.val % 256 = i.val * 2048 + j.val
      omega)).trans ?_
  refine congrArg v (funext fun a => Fin.ext ?_)
  match a with
  | ⟨0, _⟩ => rfl
  | ⟨1, _⟩ => rfl
  | ⟨2, _⟩ => rfl

/-! ## What each call reads -/

theorem V1_0 : V1 m ρ c main_arg0 = aY m c := W1_args m ρ c main_arg0 (by decide)
theorem V1_1 : V1 m ρ c main_arg1 = aZ m c := W1_args m ρ c main_arg1 (by decide)
theorem V1_5 : V1 m ρ c main_arg5 = aP m c := W1_args m ρ c main_arg5 (by decide)
theorem V2_4 : V2 m ρ c main_arg4 = aM m c := W2_args m ρ c main_arg4 (by decide)
theorem V2_5 : V2 m ρ c main_arg5 = aP m c := W2_args m ρ c main_arg5 (by decide)
theorem V2_6 : V2 m ρ c main_arg6 = aD m c := W2_args m ρ c main_arg6 (by decide)
theorem V3_6 : V3 m ρ c main_arg6 = aD m c := W3_args m ρ c main_arg6 (by decide)
theorem V4_0 : V4 m ρ c main_arg0 = aY m c := W4_args m ρ c main_arg0 (by decide)
theorem V5_1 : V5 m ρ c main_arg1 = aZ m c := W5_args m ρ c main_arg1 (by decide)
theorem V1_v1 : V1 m ρ c main_v1 = blocks (aU m c) := W1_v1 m ρ c
theorem V1_v3 : V1 m ρ c main_v3 = blocks (aW m c) := W1_v3 m ρ c

/-- The first call's two products, whole. -/
theorem whole_a (i j : ℕ) (hj : j < 2048) : nn 1024 (at2 (a := 2048) (b := 1024) (V1 m ρ c main_arg0)) (wcols (at3 (a := 8) (b := 1024) (c := 256) (V1 m ρ c main_v1))) i j = kA m c i j := by
  rw [V1_0, V1_v1]
  exact nn_congr (fun _ _ => rfl) fun k hk => blocks_at _ k j hk hj
theorem whole_b (i j : ℕ) (hj : j < 2048) : nn 1024 (at2 (a := 2048) (b := 1024) (V1 m ρ c main_arg1)) (wcols (at3 (a := 8) (b := 1024) (c := 256) (V1 m ρ c main_v3))) i j = kB m c i j := by
  rw [V1_1, V1_v3]
  exact nn_congr (fun _ _ => rfl) fun k hk => blocks_at _ k j hk hj

theorem V2_a (i j : ℕ) (hi : i < 2048) (hj : j < 2048) : at2 (a := 2048) (b := 2048) (V2 m ρ c main_v4_0) i j = kA m c i j := by
  rw [at2_mk _ _ _ hi hj]
  exact (congrFun (W2_arr m ρ c 6) (ix2 ⟨i, hi⟩ ⟨j, hj⟩ : S2048x2048.Idx)).trans ((out0_a (V1 m ρ) c ⟨i, hi⟩ ⟨j, hj⟩).trans (whole_a m ρ c i j hj))
theorem V2_b (i j : ℕ) (hi : i < 2048) (hj : j < 2048) : at2 (a := 2048) (b := 2048) (V2 m ρ c main_v4_1) i j = kB m c i j := by
  rw [at2_mk _ _ _ hi hj]
  exact (congrFun (W2_arr m ρ c 7) (ix2 ⟨i, hi⟩ ⟨j, hj⟩ : S2048x2048.Idx)).trans ((out0_b (V1 m ρ) c ⟨i, hi⟩ ⟨j, hj⟩).trans (whole_b m ρ c i j hj))
theorem V3_m (i j : ℕ) (hi : i < 2048) (hj : j < 2048) : at2 (a := 2048) (b := 2048) (V3 m ρ c main_v4_2) i j = kM m c i j := by
  rw [at2_mk _ _ _ hi hj]
  refine (congrFun ((W3_of m ρ c _ (by decide)).trans (W2_arr m ρ c 8)) (ix2 ⟨i, hi⟩ ⟨j, hj⟩ : S2048x2048.Idx)).trans ((out0_m (V1 m ρ) c ⟨i, hi⟩ ⟨j, hj⟩).trans ?_)
  rw [V1_5]
  exact congrArg₂ (fun a b => mergeS _ a _ b) (whole_a m ρ c i j hj) (whole_b m ρ c i j hj)
theorem V4_da (i j : ℕ) (hi : i < 2048) (hj : j < 2048) : at2 (a := 2048) (b := 2048) (V4 m ρ c main_v5_0) i j = kD m c i j * Ideal.logistic (kS m c i j) := by
  rw [at2_mk _ _ _ hi hj]
  refine (congrFun ((W4_of m ρ c _ (by decide)).trans (W3_arr m ρ c 6)) (ix2 ⟨i, hi⟩ ⟨j, hj⟩ : S2048x2048.Idx)).trans ((out1_da (V2 m ρ) c ⟨i, hi⟩ ⟨j, hj⟩).trans ?_)
  rw [V2_6, V2_4, V2_5]; rfl
theorem V5_db (i j : ℕ) (hi : i < 2048) (hj : j < 2048) : at2 (a := 2048) (b := 2048) (V5 m ρ c main_v5_1) i j = kD m c i j * Ideal.logistic (kT m c i j) := by
  rw [at2_mk _ _ _ hi hj]
  refine (congrFun ((W5_of m ρ c _ (by decide)).trans ((W4_of m ρ c _ (by decide)).trans (W3_arr m ρ c 7))) (ix2 ⟨i, hi⟩ ⟨j, hj⟩ : S2048x2048.Idx)).trans ((out1_db (V2 m ρ) c ⟨i, hi⟩ ⟨j, hj⟩).trans ?_)
  rw [V2_6, V2_4, V2_5]; rfl

/-! ## The results -/

/-- The gradients of the mixers' output weights. -/
theorem res_u (i : Fin 1024) (j : Fin 2048) : W7 m ρ c (Proc.devRef .tc main_v10) (ix2 i j : S1024x2048.Idx)
    = tn 2048 (at2 (a := 2048) (b := 1024) (aY m c)) (fun k j => kD m c k j * Ideal.logistic (kS m c k j)) i j := by
  have hj := j.isLt
  rw [W7_v10]
  refine (join_at _ i j).trans ?_
  refine (congrFun ((W6_of m ρ c _ (by decide)).trans (W5_arr m ρ c 2)) (ix3 (⟨j.val / 256, by omega⟩ : Fin 8) i (⟨j.val % 256, Nat.mod_lt _ (by omega)⟩ : Fin 256) : S8x1024x256.Idx)).trans ?_
  refine (out3_d (V4 m ρ) c ⟨j.val / 256, by omega⟩ i ⟨j.val % 256, Nat.mod_lt _ (by omega)⟩).trans ?_
  rw [V4_0]
  refine tn_congr (fun _ _ => rfl) fun k hk => ?_
  show at2 (a := 2048) (b := 2048) (V4 m ρ c main_v5_0) k (256 * (j.val / 256) + j.val % 256) = _
  rw [show 256 * (j.val / 256) + j.val % 256 = j.val by omega]
  exact V4_da m ρ c k j hk hj
theorem res_w (i : Fin 1024) (j : Fin 2048) : W7 m ρ c (Proc.devRef .tc main_v12) (ix2 i j : S1024x2048.Idx)
    = tn 2048 (at2 (a := 2048) (b := 1024) (aZ m c)) (fun k j => kD m c k j * Ideal.logistic (kT m c k j)) i j := by
  have hj := j.isLt
  rw [W7_v12]
  refine (join_at _ i j).trans ?_
  refine (congrFun (W6_arr m ρ c 2) (ix3 (⟨j.val / 256, by omega⟩ : Fin 8) i (⟨j.val % 256, Nat.mod_lt _ (by omega)⟩ : Fin 256) : S8x1024x256.Idx)).trans ?_
  refine (out4_d (V5 m ρ) c ⟨j.val / 256, by omega⟩ i ⟨j.val % 256, Nat.mod_lt _ (by omega)⟩).trans ?_
  rw [V5_1]
  refine tn_congr (fun _ _ => rfl) fun k hk => ?_
  show at2 (a := 2048) (b := 2048) (V5 m ρ c main_v5_1) k (256 * (j.val / 256) + j.val % 256) = _
  rw [show 256 * (j.val / 256) + j.val % 256 = j.val by omega]
  exact V5_db m ρ c k j hk hj

/-- The mixing weight's gradient. -/
theorem res_m (i j : Fin 2048) : W7 m ρ c (Proc.devRef .tc main_v6) (ix2 i j : S2048x2048.Idx) = tn 2048 (kM m c) (at2 (a := 2048) (b := 2048) (aD m c)) i j := by
  refine (congrFun ((W7_of m ρ c _ (by decide)).trans ((W6_of m ρ c _ (by decide)).trans ((W5_of m ρ c _ (by decide)).trans (W4_arr m ρ c 2)))) (ix2 i j : S2048x2048.Idx)).trans ((out2_d (V3 m ρ) c i j).trans ?_)
  rw [V3_6]
  exact tn_congr (fun k hk => V3_m m ρ c k i hk i.isLt) fun _ _ => rfl

/-- The gates' gradients. -/
theorem res_s (i j : Fin 2048) : W7 m ρ c (Proc.devRef .tc main_v5_2) (ix2 i j : S2048x2048.Idx) = dgateS (kD m c i j) (kA m c i j) (kS m c i j) := by
  refine (congrFun ((W7_of m ρ c _ (by decide)).trans ((W6_of m ρ c _ (by decide)).trans ((W5_of m ρ c _ (by decide)).trans ((W4_of m ρ c _ (by decide)).trans (W3_arr m ρ c 8))))) (ix2 i j : S2048x2048.Idx)).trans ((out1_ga (V2 m ρ) c i j).trans ?_)
  rw [V2_6, V2_4, V2_5, V2_a m ρ c i j i.isLt j.isLt]; rfl
theorem res_t (i j : Fin 2048) : W7 m ρ c (Proc.devRef .tc main_v5_3) (ix2 i j : S2048x2048.Idx) = dgateS (kD m c i j) (kB m c i j) (kT m c i j) := by
  refine (congrFun ((W7_of m ρ c _ (by decide)).trans ((W6_of m ρ c _ (by decide)).trans ((W5_of m ρ c _ (by decide)).trans ((W4_of m ρ c _ (by decide)).trans (W3_arr m ρ c 9))))) (ix2 i j : S2048x2048.Idx)).trans ((out1_gb (V2 m ρ) c i j).trans ?_)
  rw [V2_6, V2_4, V2_5, V2_b m ρ c i j i.isLt j.isLt]; rfl
end Cert.Kernel7Ideal.Value
end
-- ==== Proof.Algebraic7.lean ====
/-
  The gated merge's reference at an index, and the program's claims: from the same arguments the kernel and the reference
  end with the same gradients of the three weights and of the two gates.
-/
module
public import proofs.«01_k».proof.Defs
public import proofs.«01_k».proof.Proof.Launch7
public import proofs.«01_k».proof.Proof.Chain7
public import proofs.«01_k».proof.Proof.MmRef
public import proofs.«01_k».proof.Proof.Gen.Reference7Ideal.Run
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import Idealize.ShloMosaic.Lib.Pointwise
public import Idealize.ShloMosaic.Lib.Quiescent
@[expose] public section
set_option maxRecDepth 16384
set_option maxHeartbeats 1000000
noncomputable section
namespace Cert.Reference7Ideal.Value
open Cert.Reference7Ideal Cert.Reference7Ideal.Gen Cert.Attn Cert.Mm
open Idealize.ShloMosaic Idealize.ShloMosaic.TcCoe

def rOne : FVec Ideal S2048x2048 .f32 := broadcastInDim S2048x2048 ![] bcast_S_S2048x2048 (constant S_ .f32 0x3F800000#32)
/-- The gate of the columns from `o` on. -/
def rSig (o : ℕ) (h : S2048x10240.Slices ![0, o] S2048x2048) (G : FVec Ideal S2048x10240 .f32) : FVec Ideal S2048x2048 .f32 :=
  Host.divf rOne (addf rOne (Host.exp (Host.negf (extractStridedSlice S2048x2048 ![0, o] G h))))
def rProd (Y : FVec Ideal S2048x1024 .bf16) (U : FVec Ideal S1024x2048 .bf16) : FVec Ideal S2048x2048 .f32 :=
  Host.dotGeneral dot_S2048x1024_S1024x2048_S2048x2048_1_0_0_1_n_n none (extf .f32 Y bitsLt_bf16_f32) (extf .f32 U bitsLt_bf16_f32)
def rBack (D M : FVec Ideal S2048x2048 .bf16) : FVec Ideal S2048x2048 .f32 :=
  Host.dotGeneral dot_S2048x2048_S2048x2048_S2048x2048_1_1_0_0_n_n none (extf .f32 D bitsLt_bf16_f32) (extf .f32 M bitsLt_bf16_f32)
def rWt (T : FVec Ideal S2048x2048 .f32) (Y : FVec Ideal S2048x1024 .bf16) : FVec Ideal S1024x2048 .bf16 :=
  truncf .bf16 (transpose S1024x2048 [1, 0] (Host.dotGeneral dot_S2048x2048_S2048x1024_S2048x1024_0_0_1_1_n_n none T (extf .f32 Y bitsLt_bf16_f32)) transposes_S2048x1024_S1024x2048_1_0) bitsLt_bf16_f32
def rMx (D : FVec Ideal S2048x2048 .bf16) (T : FVec Ideal S2048x2048 .f32) : FVec Ideal S2048x2048 .bf16 :=
  truncf .bf16 (transpose S2048x2048 [1, 0] (Host.dotGeneral dot_S2048x2048_S2048x2048_S2048x2048_0_0_1_1_n_n none (extf .f32 D bitsLt_bf16_f32) T) transposes_S2048x2048_S2048x2048_1_0) bitsLt_bf16_f32
def rGate (s d a : FVec Ideal S2048x2048 .f32) : FVec Ideal S2048x2048 .bf16 :=
  truncf .bf16 (mulf (mulf d a) (mulf s (subf rOne s))) bitsLt_bf16_f32

/-! ## The results of the reference -/

section
variable (o : ℕ) (h : S2048x10240.Slices ![0, o] S2048x2048) (Y Z : S2048x1024.Idx → EReal) (U W : S1024x2048.Idx → EReal) (M D T A : S2048x2048.Idx → EReal) (G : S2048x10240.Idx → EReal)
abbrev nOne : S2048x2048.Idx → EReal := rOne
abbrev nSig : S2048x2048.Idx → EReal := rSig o h G
abbrev nProd : S2048x2048.Idx → EReal := rProd Y U
abbrev nBack : S2048x2048.Idx → EReal := rBack D M
abbrev nWt : S1024x2048.Idx → EReal := rWt T Y
abbrev nMx : S2048x2048.Idx → EReal := rMx D T
abbrev nDU : S1024x2048.Idx → EReal := rWt (mulf (F := Ideal) (φ := .f32) (rSig o h G) (rBack D M)) Y
abbrev nDM : S2048x2048.Idx → EReal :=
  rMx D (addf (F := Ideal) (φ := .f32) (mulf (rSig 6144 slices_S2048x10240_S2048x2048_0_6144 G) (rProd Y U)) (mulf (rSig 8192 slices_S2048x10240_S2048x2048_0_8192 G) (rProd Z W)))
abbrev nDG : S2048x2048.Idx → EReal := rGate (rSig o h G) (rBack D M) (rProd Y U)

theorem one_at (i j : Fin 2048) : nOne (ix2 i j) = 1 := Ideal.ofBits_one_f32

theorem sig_at (i j : Fin 2048) (ho : o + 2048 ≤ 10240) : nSig o h G (ix2 i j) = Ideal.logistic (at2 (a := 2048) (b := 10240) G i (o + j)) := by
  have hj := j.isLt
  have e : extractStridedSlice S2048x2048 ![0, o] G h (ix2 i j) = at2 (a := 2048) (b := 10240) G i (o + j) := by
    refine Eq.trans ?_ (p2 G i ⟨o + j.val, by omega⟩)
    rw [ix2_eq_valueIdx, ix2_eq_valueIdx]
    exact extractStridedSlice_apply _ _ _ _ _ (fun a => by
      match a with
      | ⟨0, _⟩ => exact (Nat.zero_add _).symm
      | ⟨1, _⟩ => rfl)
  show Ideal.div (nOne (ix2 i j)) (nOne (ix2 i j) + Ideal.exp (-(extractStridedSlice S2048x2048 ![0, o] G h (ix2 i j)))) = _
  rw [one_at, e]; rfl

theorem prod_at (i j : Fin 2048) : nProd Y U (ix2 i j) = nn 1024 (at2 (a := 2048) (b := 1024) Y) (at2 (a := 1024) (b := 2048) U) i j := by
  have e : nProd Y U (ix2 i j) = ∑ x : Fin 1024, Y (ix2 i x) * U (ix2 x j) := by
    unfold nProd rProd
    pointwise <;> rfl
  exact e.trans (nn_fin _ _ i j _ fun x => by rw [p2 Y, p2 U])

theorem back_at (i j : Fin 2048) : nBack M D (ix2 i j) = nt 2048 (at2 (a := 2048) (b := 2048) D) (at2 (a := 2048) (b := 2048) M) i j := by
  have e : nBack M D (ix2 i j) = ∑ x : Fin 2048, D (ix2 i x) * M (ix2 j x) := by
    unfold nBack rBack
    pointwise <;> rfl
  exact e.trans (nt_fin _ _ i j _ fun x => by rw [p2 D, p2 M])

theorem wt_at (i : Fin 1024) (j : Fin 2048) : nWt Y T (ix2 i j) = tn 2048 (at2 (a := 2048) (b := 1024) Y) (at2 (a := 2048) (b := 2048) T) i j := by
  have e : nWt Y T (ix2 i j) = ∑ x : Fin 2048, T (ix2 x j) * Y (ix2 x i) := by
    unfold nWt rWt
    pointwise <;> rfl
  exact e.trans (tn_fin _ _ i j _ fun x => by rw [p2 T, p2 Y]; exact mul_comm _ _)

theorem mx_at (i j : Fin 2048) : nMx D T (ix2 i j) = tn 2048 (at2 (a := 2048) (b := 2048) T) (at2 (a := 2048) (b := 2048) D) i j := by
  have e : nMx D T (ix2 i j) = ∑ x : Fin 2048, D (ix2 x j) * T (ix2 x i) := by
    unfold nMx rMx
    pointwise <;> rfl
  exact e.trans (tn_fin _ _ i j _ fun x => by rw [p2 T, p2 D]; exact mul_comm _ _)

theorem du_at (i : Fin 1024) (j : Fin 2048) (ho : o + 2048 ≤ 10240) : nDU o h Y M D G (ix2 i j)
    = tn 2048 (at2 (a := 2048) (b := 1024) Y)
      (fun k j => nt 2048 (at2 (a := 2048) (b := 2048) D) (at2 (a := 2048) (b := 2048) M) k j * Ideal.logistic (at2 (a := 2048) (b := 10240) G k (o + j))) i j := by
  refine (wt_at _ _ i j).trans (tn_congr (fun _ _ => rfl) fun k hk => ?_)
  refine (p2 _ ⟨k, hk⟩ j).symm.trans ?_
  show nSig o h G (ix2 ⟨k, hk⟩ j) * nBack M D (ix2 ⟨k, hk⟩ j) = _
  rw [sig_at o h G ⟨k, hk⟩ j ho, back_at]
  exact mul_comm _ _

theorem dm_at (i j : Fin 2048) : nDM Y Z U W D G (ix2 i j)
    = tn 2048 (fun i j => Cert.Kernel7Ideal.Value.mergeS (at2 (a := 2048) (b := 10240) G i (6144 + j)) (nn 1024 (at2 (a := 2048) (b := 1024) Y) (at2 (a := 1024) (b := 2048) U) i j)
        (at2 (a := 2048) (b := 10240) G i (8192 + j)) (nn 1024 (at2 (a := 2048) (b := 1024) Z) (at2 (a := 1024) (b := 2048) W) i j)) (at2 (a := 2048) (b := 2048) D) i j := by
  refine (mx_at D _ i j).trans (tn_congr (fun k hk => ?_) fun _ _ => rfl)
  refine (p2 _ ⟨k, hk⟩ i).symm.trans ?_
  show nSig 6144 slices_S2048x10240_S2048x2048_0_6144 G (ix2 ⟨k, hk⟩ i) * nProd Y U (ix2 ⟨k, hk⟩ i) + nSig 8192 slices_S2048x10240_S2048x2048_0_8192 G (ix2 ⟨k, hk⟩ i) * nProd Z W (ix2 ⟨k, hk⟩ i) = _
  rw [sig_at _ _ _ _ _ (by omega), sig_at _ _ _ _ _ (by omega), prod_at, prod_at]; rfl

theorem dg_at (i j : Fin 2048) (ho : o + 2048 ≤ 10240) : nDG o h Y U M D G (ix2 i j)
    = Cert.Kernel7Ideal.Value.dgateS (nt 2048 (at2 (a := 2048) (b := 2048) D) (at2 (a := 2048) (b := 2048) M) i j)
        (nn 1024 (at2 (a := 2048) (b := 1024) Y) (at2 (a := 1024) (b := 2048) U) i j) (at2 (a := 2048) (b := 10240) G i (o + j)) := by
  show nBack M D (ix2 i j) * nProd Y U (ix2 i j) * (nSig o h G (ix2 i j) * (nOne (ix2 i j) - nSig o h G (ix2 i j))) = _
  rw [sig_at o h G i j ho, back_at, prod_at, one_at]
  exact (mul_assoc _ _ _).symm
end
end Cert.Reference7Ideal.Value

namespace Cert.Gate
open Idealize.ShloMosaic Idealize.ShloMosaic.TcCoe Idealize.SL.Sem
open Cert.Attn Cert.Mm

/-! ## The claims -/

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono
    (fun r h => ⟨fun c => (h c).2.2.2.2.2, Idealize.ShloMosaic.sem_eq_zero_of_no_sems (by decide) r.2⟩)
    (Cert.Reference7Ideal.Value.run (F := Ideal) m ρ)

theorem preserves : Cert.preserves_Kernel7_Kernel7Ideal := trivial

theorem algebraic : Cert.algebraic_Kernel7Ideal_Reference7Ideal := by
  intro m g m' g' _ ha
  refine ⟨fun c => Cert.Kernel7Ideal.Gen.W7 m g c (Proc.devRef .tc Cert.Kernel7Ideal.main_v10), fun c => Cert.Kernel7Ideal.Gen.W7 m g c (Proc.devRef .tc Cert.Kernel7Ideal.main_v12), fun c => Cert.Kernel7Ideal.Gen.W7 m g c (Proc.devRef .tc Cert.Kernel7Ideal.main_v6), fun c => Cert.Kernel7Ideal.Gen.W7 m g c (Proc.devRef .tc Cert.Kernel7Ideal.main_v5_2), fun c => Cert.Kernel7Ideal.Gen.W7 m g c (Proc.devRef .tc Cert.Kernel7Ideal.main_v5_3), ?_, ?_⟩
  · refine (θ_run Cert.Kernel7Ideal.defs _ _).mono (fun r h c => ?_) (Cert.Kernel7Ideal.Gen.launch (F := Ideal) m g)
    exact ⟨h.1 c _ (Cert.Kernel7Ideal.Gen.mem_uc Cert.Kernel7Ideal.main_v10 (by decide)), h.1 c _ (Cert.Kernel7Ideal.Gen.mem_uc Cert.Kernel7Ideal.main_v12 (by decide)), h.1 c _ (Cert.Kernel7Ideal.Gen.mem_uc Cert.Kernel7Ideal.main_v6 (by decide)), h.1 c _ (Cert.Kernel7Ideal.Gen.mem_uc Cert.Kernel7Ideal.main_v5_2 (by decide)), h.1 c _ (Cert.Kernel7Ideal.Gen.mem_uc Cert.Kernel7Ideal.main_v5_3 (by decide)),
      (h.1 c _ (Cert.Kernel7Ideal.Gen.mem_uc Cert.Kernel7Ideal.main_arg0 (by decide))).trans (Cert.Kernel7Ideal.Gen.W7_main_arg0 m g c),
      (h.1 c _ (Cert.Kernel7Ideal.Gen.mem_uc Cert.Kernel7Ideal.main_arg1 (by decide))).trans (Cert.Kernel7Ideal.Gen.W7_main_arg1 m g c),
      (h.1 c _ (Cert.Kernel7Ideal.Gen.mem_uc Cert.Kernel7Ideal.main_arg2 (by decide))).trans (Cert.Kernel7Ideal.Gen.W7_main_arg2 m g c),
      (h.1 c _ (Cert.Kernel7Ideal.Gen.mem_uc Cert.Kernel7Ideal.main_arg3 (by decide))).trans (Cert.Kernel7Ideal.Gen.W7_main_arg3 m g c),
      (h.1 c _ (Cert.Kernel7Ideal.Gen.mem_uc Cert.Kernel7Ideal.main_arg4 (by decide))).trans (Cert.Kernel7Ideal.Gen.W7_main_arg4 m g c),
      (h.1 c _ (Cert.Kernel7Ideal.Gen.mem_uc Cert.Kernel7Ideal.main_arg5 (by decide))).trans (Cert.Kernel7Ideal.Gen.W7_main_arg5 m g c),
      (h.1 c _ (Cert.Kernel7Ideal.Gen.mem_uc Cert.Kernel7Ideal.main_arg6 (by decide))).trans (Cert.Kernel7Ideal.Gen.W7_main_arg6 m g c)⟩
  · refine (θ_run Cert.Reference7Ideal.defs _ _).mono (fun r h c => ?_) (Cert.Reference7Ideal.Value.run (F := Ideal) m' g')
    obtain ⟨e0, e1, e2, e3, e4, k0, k1, k2, k3, k4, k5, k6⟩ := h c
    obtain ⟨a0, a1, a2, a3, a4, a5, a6⟩ := ha c
    have g0 := congr (congr (congr (congrArg (Cert.Reference7Ideal.Value.nDU 6144 Cert.Reference7Ideal.Gen.slices_S2048x10240_S2048x2048_0_6144) a0) a4) a6) a5
    have f0 : _ = Cert.Reference7Ideal.Value.nDU 6144 Cert.Reference7Ideal.Gen.slices_S2048x10240_S2048x2048_0_6144 (Cert.Kernel7Ideal.Value.aY m c) (Cert.Kernel7Ideal.Value.aM m c) (Cert.Kernel7Ideal.Value.aD m c) (Cert.Kernel7Ideal.Value.aP m c) := e0.trans g0
    have g1 := congr (congr (congr (congrArg (Cert.Reference7Ideal.Value.nDU 8192 Cert.Reference7Ideal.Gen.slices_S2048x10240_S2048x2048_0_8192) a1) a4) a6) a5
    have f1 : _ = Cert.Reference7Ideal.Value.nDU 8192 Cert.Reference7Ideal.Gen.slices_S2048x10240_S2048x2048_0_8192 (Cert.Kernel7Ideal.Value.aZ m c) (Cert.Kernel7Ideal.Value.aM m c) (Cert.Kernel7Ideal.Value.aD m c) (Cert.Kernel7Ideal.Value.aP m c) := e1.trans g1
    have g2 := congr (congr (congr (congr (congr (congrArg Cert.Reference7Ideal.Value.nDM a0) a1) a2) a3) a6) a5
    have f2 : _ = Cert.Reference7Ideal.Value.nDM (Cert.Kernel7Ideal.Value.aY m c) (Cert.Kernel7Ideal.Value.aZ m c) (Cert.Kernel7Ideal.Value.aU m c) (Cert.Kernel7Ideal.Value.aW m c) (Cert.Kernel7Ideal.Value.aD m c) (Cert.Kernel7Ideal.Value.aP m c) := e2.trans g2
    have g3 := congr (congr (congr (congr (congrArg (Cert.Reference7Ideal.Value.nDG 6144 Cert.Reference7Ideal.Gen.slices_S2048x10240_S2048x2048_0_6144) a0) a2) a4) a6) a5
    have f3 : _ = Cert.Reference7Ideal.Value.nDG 6144 Cert.Reference7Ideal.Gen.slices_S2048x10240_S2048x2048_0_6144 (Cert.Kernel7Ideal.Value.aY m c) (Cert.Kernel7Ideal.Value.aU m c) (Cert.Kernel7Ideal.Value.aM m c) (Cert.Kernel7Ideal.Value.aD m c) (Cert.Kernel7Ideal.Value.aP m c) := e3.trans g3
    have g4 := congr (congr (congr (congr (congrArg (Cert.Reference7Ideal.Value.nDG 8192 Cert.Reference7Ideal.Gen.slices_S2048x10240_S2048x2048_0_8192) a1) a3) a4) a6) a5
    have f4 : _ = Cert.Reference7Ideal.Value.nDG 8192 Cert.Reference7Ideal.Gen.slices_S2048x10240_S2048x2048_0_8192 (Cert.Kernel7Ideal.Value.aZ m c) (Cert.Kernel7Ideal.Value.aW m c) (Cert.Kernel7Ideal.Value.aM m c) (Cert.Kernel7Ideal.Value.aD m c) (Cert.Kernel7Ideal.Value.aP m c) := e4.trans g4
    refine ⟨f0.trans (ext2 (a := 1024) (b := 2048) fun p q => ?_), f1.trans (ext2 (a := 1024) (b := 2048) fun p q => ?_), f2.trans (ext2 (a := 2048) (b := 2048) fun p q => ?_), f3.trans (ext2 (a := 2048) (b := 2048) fun p q => ?_), f4.trans (ext2 (a := 2048) (b := 2048) fun p q => ?_), k0, k1, k2, k3, k4, k5, k6⟩
    · refine (Cert.Reference7Ideal.Value.du_at _ _ _ _ _ _ p q (by omega)).trans ?_
      rw [ix2_eq_valueIdx]
      exact (Cert.Kernel7Ideal.Value.res_u m g c p q).symm
    · refine (Cert.Reference7Ideal.Value.du_at _ _ _ _ _ _ p q (by omega)).trans ?_
      rw [ix2_eq_valueIdx]
      exact (Cert.Kernel7Ideal.Value.res_w m g c p q).symm
    · refine (Cert.Reference7Ideal.Value.dm_at _ _ _ _ _ _ p q).trans ?_
      rw [ix2_eq_valueIdx]
      exact (Cert.Kernel7Ideal.Value.res_m m g c p q).symm
    · refine (Cert.Reference7Ideal.Value.dg_at _ _ _ _ _ _ _ p q (by omega)).trans ?_
      rw [ix2_eq_valueIdx]
      exact (Cert.Kernel7Ideal.Value.res_s m g c p q).symm
    · refine (Cert.Reference7Ideal.Value.dg_at _ _ _ _ _ _ _ p q (by omega)).trans ?_
      rw [ix2_eq_valueIdx]
      exact (Cert.Kernel7Ideal.Value.res_t m g c p q).symm

end Cert.Gate
end
-- ==== Proof.Acc8.lean ====
/-
  The first half of the gradient of the projection's rows: what the call's body leaves in the block it carries, and the
  array the program returns: the product summed tile by tile over the grid's last axis.
-/
module
public import proofs.«01_k».proof.Proof.Acc
public import proofs.«01_k».proof.Proof.Gen.Kernel8Ideal.Frame
public import Idealize.ShloMosaic.PureOps.IdealRules
public import Idealize.ShloMosaic.Lib.Pipeline.Value
public import Idealize.ShloMosaic.Lib.ValueLayout
public import Idealize.ShloMosaic.Lib.IdealHost
public import Idealize.ShloMosaic.Lib.ValueLayoutCasts
public import Idealize.ShloMosaic.Lib.Pipeline.ValueKit.Basic
public import Idealize.ShloMosaic.Lib.VecWindow
@[expose] public section
set_option maxRecDepth 16384
noncomputable section
namespace Cert.Kernel8Ideal.Value
open Cert.Kernel8Ideal Cert.Kernel8Ideal.Gen Cert.Attn Cert.Mm
open Idealize.ShloMosaic Idealize.ShloMosaic.ValueIdx Idealize.ShloMosaic.TcCoe Idealize.ShloMosaic.Tactic

theorem mm0 (φ₁ φ₂ : FTy) (prec) (x : FVec Ideal S1024x1280 φ₁) (y : FVec Ideal S1024x1280 φ₂) (i j : Fin 1024) :
    matmul dot_S1024x1280_S1024x1280_S1024x1024_1_1_0_0_n_n prec x y (constant S1024x1024 .f32 0x00000000#32) (ix2 i j) = nt 1280 (at2 x) (at2 y) i j :=
  matmul_at _ prec 1280 rfl rfl x y (ix2 i j) _ _
    (fun k => at2_of x _ _ _ rfl (contrEquiv1_symm_val dot_S1024x1280_S1024x1280_S1024x1024_1_1_0_0_n_n 1280 rfl rfl k))
    (fun k => at2_of y _ _ _ rfl (contrEquiv1_symm_val dot_S1024x1280_S1024x1280_S1024x1024_1_1_0_0_n_n 1280 rfl rfl k))

theorem pay1_at (i : Fin 1024) (j : Fin 1024) : k0_pay1 (F := Ideal) (ix2 i j) = 0 := by
  unfold k0_pay1
  rw [shapeCast_self]
  exact Ideal.ofBits_zero_f32

theorem pay2_at (v3 : Vec Ideal S1024x1024 .f32) (v4 : Vec Ideal S1024x1280 .bf16) (v5 : Vec Ideal S1x1024x1280 .bf16) (i : Fin 1024) (j : Fin 1024) :
    k0_pay2 (F := Ideal) v3 v4 v5 (ix2 i j) = v3 (ix2 i j) + nt 1280 (at2 (a := 1024) (b := 1280) v4) (at3 (a := 1) (b := 1024) (c := 1280) v5 0) i j := by
  have e := (mm0 .bf16 .bf16 none v4 (shapeCast S1024x1280 v5 shapeCasts_S1x1024x1280_S1024x1280) i j).trans (nt_congr (fun _ _ => rfl) fun k hk => cast_unit v5 shapeCasts_S1x1024x1280_S1024x1280 j k j.isLt hk)
  rw [← e]
  unfold k0_pay2
  rw [shapeCast_self]; rfl

/-! ## What the carried block holds after each point -/

variable (m : (ℓ : Loc nD τ sig) → Buf (Elt Ideal) ℓ) (ρ : Dev nD → PrngReg) (c : Dev nD)

theorem sc_first (t : Fin cfg0.N) (h0 : t.val % 8 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0 kernelRun0_A
  refine (View.read_writes_full _ _ _ _ _).trans ?_
  congr 1
  · exact View.readCov_full _ _ _ _ _
  · exact (View.readAt_full (ms0_0 t).view _ _).trans ((hs0_0 t).read_unread _)
  · exact (View.readAt_full (ms0_1 t).view _ _).trans ((hs0_1 t).read_unread _)

theorem sc_next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  on_goal 1 => rw [outsAt0_C m c t h0 h1]; dsimp only; unfold sout0_C_0 kernelRun0_C
  on_goal 2 => rw [outsAt0_B m c t h0 h1]; dsimp only; unfold sout0_B_0 kernelRun0_B
  all_goals
    refine (View.read_writes_full _ _ _ _ _).trans ?_
    congr 1
    · exact (View.readAt_full scM0_0.view _ _).trans ((Memref.isWhole_whole _).read_unread _)
    · exact (View.readAt_full (ms0_0 t).view _ _).trans ((hs0_0 t).read_unread _)
    · exact (View.readAt_full (ms0_1 t).view _ _).trans ((hs0_1 t).read_unread _)

theorem out_last (t : Fin cfg0.N) (h1 : t.val % 8 = 7) : (outsAt0 m c t.val t.isLt).1 = (outsAt0 m c t.val t.isLt).2 := by
  have h0 : ¬t.val % 8 = 0 := by omega
  rw [sc_next m c t h0, outsAt0_C m c t h0 h1]
  dsimp only
  unfold out0_C_2 kernelRun0_C
  refine (View.read_writes_full _ _ _ _ _).trans ?_
  refine (View.readCov_full _ _ _ _ _).trans ?_
  congr 1
  · exact (View.readAt_full scM0_0.view _ _).trans ((Memref.isWhole_whole _).read_unread _)
  · exact (View.readAt_full (ms0_0 t).view _ _).trans ((hs0_0 t).read_unread _)
  · exact (View.readAt_full (ms0_1 t).view _ _).trans ((hs0_1 t).read_unread _)

/-! ## The blocks and the array -/

/-- The two factors: the gradient of the projection, and the half of the weight by its eight blocks of columns. -/
abbrev fA : ℕ → ℕ → EReal := at2 (a := 2048) (b := 10240) (V m c main_arg0)
abbrev fW : ℕ → ℕ → EReal := wrows 1280 0 (at3 (a := 8) (b := 1024) (c := 1280) (V m c main_v2))

theorem idx0_0 : ∀ t : Fin cfg0.N, (cfg0.win 0).index t (0 : Fin 2) = t.val / 8 ∧ (cfg0.win 0).index t (1 : Fin 2) = t.val % 8 := by decide +kernel
theorem idx0_1 : ∀ t : Fin cfg0.N, (cfg0.win 1).index t (0 : Fin 3) = t.val % 8 ∧ (cfg0.win 1).index t (1 : Fin 3) = 0 ∧ (cfg0.win 1).index t (2 : Fin 3) = 0 := by decide +kernel
theorem idx0_2 : ∀ t : Fin cfg0.N, (cfg0.win 2).index t (0 : Fin 2) = t.val / 8 ∧ (cfg0.win 2).index t (1 : Fin 2) = 0 := by decide +kernel
theorem mv (t : Fin cfg0.N) : Moves2 (a := 1024) (b := 1024) (a' := 2048) (b' := 2048) ((cfg0.win 2).rect t).emb (t.val / 8) 0 :=
  .of (Pipeline.Window.rect_emb_val (cfg0.win 2) t) rfl rfl (idx0_2 t)

/-- One tile's product is a stretch of the whole product. -/
theorem tile (t : Fin cfg0.N) (p q : Fin 1024) :
    nt 1280 (at2 (a := 1024) (b := 1280) (iblk m c 0 t)) (at3 (a := 1) (b := 1024) (c := 1280) (iblk m c 1 t) 0) p q
      = nt 1280 (fun i k => fA m c i (1280 * (t.val % 8) + k)) (fun j k => fW m c j (1280 * (t.val % 8) + k)) (1024 * (t.val / 8) + p) q := by
  refine nt_congr (fun k hk => ?_) fun k hk => ?_
  · exact (Moves2.read (a := 1024) (b := 1280) (a' := 2048) (b' := 10240) (e := ((cfg0.win 0).rect t).emb) (.of (Pipeline.Window.rect_emb_val (cfg0.win 0) t) rfl rfl (idx0_0 t)) (V m c main_arg0) _ (fun _ => rfl) p k p.isLt hk).trans (by congr 1 <;> omega)
  · refine (Moves3.read (a := 1) (b := 1024) (d := 1280) (a' := 8) (b' := 1024) (d' := 1280) (e := ((cfg0.win 1).rect t).emb) (.of (Pipeline.Window.rect_emb_val (cfg0.win 1) t) rfl rfl rfl (idx0_1 t)) (V m c main_v2) _ (fun _ => rfl) 0 q k (by omega) q.isLt hk).trans ?_
    unfold fW wrows
    congr 1 <;> omega

theorem sc_at : ∀ (n : ℕ) (hn : n < cfg0.N) (p q : Fin 1024),
    (outsAt0 m c n hn).2 (ix2 p q : S1024x1024.Idx) = nt (1280 * (n % 8 + 1)) (fA m c) (fW m c) (1024 * (n / 8) + p) q :=
  acc_nt (by omega) (fA m c) (fW m c) (fun n hn p q => (outsAt0 m c n hn).2 (ix2 p q : S1024x1024.Idx))
    (fun t p q => nt 1280 (at2 (a := 1024) (b := 1280) (iblk m c 0 t)) (at3 (a := 1) (b := 1024) (c := 1280) (iblk m c 1 t) 0) p q) (tile m c)
    (fun t h0 p q => (congrFun (sc_first m c t h0) _).trans ((pay2_at _ _ _ p q).trans (by rw [pay1_at, zero_add])))
    (fun n hn h0 p q => (congrFun (sc_next m c ⟨n + 1, hn⟩ h0) _).trans (pay2_at _ _ _ p q))

theorem out (p : Fin 2048) (q : Fin 1024) :
    (dats m 0 c).arrAt 2 cfg0.N (ix2 p ⟨0 * 1024 + q.val, by omega⟩ : S2048x2048.Idx) = nt 10240 (fA m c) (fW m c) p q := by
  have hN : cfg0.N = 16 := N_0
  have ht : 8 * (p.val / 1024) + 7 < cfg0.N := by omega
  obtain ⟨y, e⟩ := (mv ⟨_, ht⟩).hit (ix2 p ⟨0 * 1024 + q.val, by omega⟩ : S2048x2048.Idx) (by show (8 * (p.val / 1024) + 7) / 8 = p.val / 1024; omega) (by show 0 = (0 * 1024 + q.val) / 1024; omega) (by omega) (by omega)
  refine (Pipeline.Dat.arrAt_forall_of_flushed (dats m 0 c) 2 (fun i v => v = nt 10240 (fA m c) (fW m c) ((i : S2048x2048.Idx) 0).val (((i : S2048x2048.Idx) 1).val - 0 * 1024))
    (fun t hf y => (mv t).write _ (fun i j => nt 10240 (fA m c) (fW m c) i (j - 0 * 1024)) (fun p q => ?_) y) cfg0.N ⟨_, ht⟩ _ ht
    ((flush0_2 _).2 (by show (8 * (p.val / 1024) + 7) % 8 = 7; omega)) (e ▸ View.emb_mem_set _ y)).trans (congrArg _ (by show 0 * 1024 + q.val - 0 * 1024 = q.val; omega))
  have h7 : t.val % 8 = 7 := (flush0_2 t).1 hf
  refine (congrFun ((after0_2 m c t).trans (out_last m c t h7)) _).trans ((sc_at m c t.val t.isLt p q).trans ?_)
  rw [show 1280 * (t.val % 8 + 1) = 10240 by omega, show 1024 * (t.val / 8) + p.val = t.val / 8 * 1024 + p.val by omega, show 0 * 1024 + q.val - 0 * 1024 = q.val by omega]

/-! ## In the arguments -/

abbrev aA : S2048x10240.Idx → EReal := m ((c : Thread nD τ).loc main_arg0)
abbrev aW : S2048x10240.Idx → EReal := m ((c : Thread nD τ).loc main_arg1)

theorem V_v2 : V m c main_v2 = transpose S8x1024x1280 [1, 0, 2] (shapeCast S1024x8x1280 (extractStridedSlice S1024x10240 ![0, 0] (aW m c) slices_S2048x10240_S1024x10240_0_0) shapeCasts_S1024x10240_S1024x8x1280) transposes_S1024x8x1280_S8x1024x1280_1_0_2 := by
  after_results_simp; rfl

theorem res_at (p : Fin 2048) (q : Fin 1024) : (dats m 0 c).arrAt 2 cfg0.N (ix2 p ⟨0 * 1024 + q.val, by omega⟩ : S2048x2048.Idx)
    = nt 10240 (at2 (a := 2048) (b := 10240) (aA m c)) (fun j k => at2 (a := 2048) (b := 10240) (aW m c) (0 + j) k) p q := by
  refine (out m c p q).trans (nt_congr (fun k _ => ?_) fun k hk => ?_)
  · exact congrFun (congrFun (congrArg (at2 (a := 2048) (b := 10240)) (V_main_arg0 m c)) _) _
  · unfold fW
    rw [V_v2]
    refine (wrows_at 0 _ _ _ (by norm_num) (by norm_num) q k q.isLt (by omega)).trans ((slice_at _ _ _ _ q.isLt (by omega)).trans ?_)
    congr 1; omega

/-- The part of the array that the program returns. -/
theorem V_v4 : Pipeline.afterTail₀ cfgs (dats m) 0 (V0 m) [hostOps1] c main_v4
    = extractStridedSlice S2048x1024 ![0, 0] ((dats m 0 c).arrAt 2 cfg0.N : S2048x2048.Idx → EReal) slices_S2048x2048_S2048x1024_0_0 := by
  unfold Pipeline.afterTail₀
  after_results_simp
  exact congrArg (fun x => extractStridedSlice S2048x1024 ![0, 0] x slices_S2048x2048_S2048x1024_0_0) (Pipeline.withArrays_arr spec0 launch0.win.arr_inj c (V0 m c) (fun w => (dats m 0 c).arrAt w cfg0.N) 2)

theorem ret_at (p : Fin 2048) (q : Fin 1024) : (Pipeline.afterTail₀ cfgs (dats m) 0 (V0 m) [hostOps1] c main_v4 : S2048x1024.Idx → EReal) (ix2 p q)
    = nt 10240 (at2 (a := 2048) (b := 10240) (aA m c)) (fun j k => at2 (a := 2048) (b := 10240) (aW m c) (0 + j) k) p q := by
  rw [V_v4]
  refine Eq.trans ?_ (res_at m c p q)
  refine congrArg ((dats m 0 c).arrAt 2 cfg0.N : S2048x2048.Idx → EReal) (funext fun a => Fin.ext ?_)
  match a with
  | ⟨0, _⟩ => show 0 + p.val = p.val; omega
  | ⟨1, _⟩ => show 0 + q.val = 0 * 1024 + q.val; omega

/-! ## The arguments are as launched -/

theorem kept0 (r : PUnit × MemSt nD τ sig (Elt Ideal)) (h : Pipeline.FramePost cfgs (dats m) 0 (Pipeline.afterTail₀ cfgs (dats m) 0 (V0 m) [hostOps1]) r) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (Pipeline.afterTail₀ cfgs (dats m) 0 (V0 m) [hostOps1]) r) :
    r.2.mem ((c : Thread nD τ).loc main_arg1) = m ((c : Thread nD τ).loc main_arg1) :=
  ((h c).2 main_arg1 (Pipeline.mem_restRefs_of main_arg1 (by decide) (by decide))).trans (W_main_arg1 m (dats m) c)
end Cert.Kernel8Ideal.Value
end
-- ==== Proof.Algebraic8.lean ====
/-
  The call's reference at an index, and the program's claims: from the same arguments the kernel and the reference end with
  the same first half of the columns of the gradient of the projection's rows.
-/
module
public import proofs.«01_k».proof.Defs
public import proofs.«01_k».proof.Proof.Acc8
public import proofs.«01_k».proof.Proof.MmRef
public import proofs.«01_k».proof.Proof.Gen.Reference8Ideal.Run
public import proofs.«01_k».proof.Proof.Gen.Kernel8
public import proofs.«01_k».proof.Proof.Gen.Kernel8.Frame
public import proofs.«01_k».proof.Proof.Gen.Kernel8Ideal
public import proofs.«01_k».proof.Proof.Gen.Reference8Ideal
public import Idealize.ShloMosaic.Lib.Pointwise
public import Idealize.ShloMosaic.Lib.Quiescent
@[expose] public section
set_option maxRecDepth 16384
noncomputable section
namespace Cert.Reference8Ideal.Value
open Cert.Reference8Ideal Cert.Reference8Ideal.Gen Cert.Attn Cert.Mm
open Idealize.ShloMosaic Idealize.ShloMosaic.TcCoe

def rOut (A : FVec Ideal S2048x10240 .bf16) (W : FVec Ideal S2048x10240 .bf16) : FVec Ideal S2048x1024 .f32 :=
  Host.dotGeneral dot_S2048x10240_S1024x10240_S2048x1024_1_1_0_0_n_n none (extf .f32 A bitsLt_bf16_f32) (extf .f32 (extractStridedSlice S1024x10240 ![0, 0] W slices_S2048x10240_S1024x10240_0_0) bitsLt_bf16_f32)

abbrev nOut (A : S2048x10240.Idx → EReal) (W : S2048x10240.Idx → EReal) : S2048x1024.Idx → EReal := rOut A W

theorem out_at (A : S2048x10240.Idx → EReal) (W : S2048x10240.Idx → EReal) (i : Fin 2048) (j : Fin 1024) :
    nOut A W (ix2 i j) = nt 10240 (at2 (a := 2048) (b := 10240) A) (fun j k => at2 (a := 2048) (b := 10240) W (0 + j) k) i j := by
  have e : nOut A W (ix2 i j) = ∑ x : Fin 10240, A (ix2 i x) * W (ix2 (⟨0 + j.val, by omega⟩ : Fin 2048) x) := by
    unfold nOut rOut
    pointwise
    all_goals first | rfl | (congr 1; funext a; apply Fin.ext; match a with | ⟨0, _⟩ => show _ = _; simp | ⟨1, _⟩ => rfl)
  rw [e]
  exact nt_fin _ _ i j _ fun x => by rw [p2 A, p2 W]
end Cert.Reference8Ideal.Value

namespace Cert.In8
open Idealize.ShloMosaic Idealize.ShloMosaic.TcCoe Idealize.SL.Sem
open Cert.Attn Cert.Mm

/-! ## The claims -/

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem preserves : Cert.preserves_Kernel8_Kernel8Ideal := trivial

theorem algebraic : Cert.algebraic_Kernel8Ideal_Reference8Ideal := by
  intro m g m' g' _ ha
  refine ⟨fun c => Pipeline.afterTail₀ Cert.Kernel8Ideal.cfgs (Cert.Kernel8Ideal.Gen.dats m) 0 (Cert.Kernel8Ideal.Gen.V0 m) [Cert.Kernel8Ideal.Gen.hostOps1] c Cert.Kernel8Ideal.main_v4, ?_, ?_⟩
  · refine (θ_run Cert.Kernel8Ideal.defs _ _).mono (fun r h c => ?_) (Cert.Kernel8Ideal.Gen.run_main (F := Ideal) m g)
    exact ⟨(h c).2 Cert.Kernel8Ideal.main_v4 (Pipeline.mem_restRefs_of Cert.Kernel8Ideal.main_v4 (by decide) (by decide)), Cert.Kernel8Ideal.Value.kept0 m c r h, Cert.Kernel8Ideal.Value.kept1 m c r h⟩
  · refine (θ_run Cert.Reference8Ideal.defs _ _).mono (fun r h c => ?_) (Cert.Reference8Ideal.Value.run (F := Ideal) m' g')
    obtain ⟨e0, k0, k1⟩ := h c
    obtain ⟨a0, a1⟩ := ha c
    have f0 : _ = Cert.Reference8Ideal.Value.nOut (Cert.Kernel8Ideal.Value.aA m c) (Cert.Kernel8Ideal.Value.aW m c) :=
      e0.trans (congrArg₂ Cert.Reference8Ideal.Value.nOut a0 a1)
    refine ⟨f0.trans (ext2 (a := 2048) (b := 1024) fun p q => ?_), k0, k1⟩
    refine (Cert.Reference8Ideal.Value.out_at _ _ p q).trans ?_
    rw [ix2_eq_valueIdx]
    exact (Cert.Kernel8Ideal.Value.ret_at m c p q).symm

end Cert.In8
end
-- ==== Proof.Acc9.lean ====
/-
  The second half of the gradient of the projection's rows: what the call's body leaves in the block it carries, and the
  array it writes in place: the product summed tile by tile over the grid's last axis in the right half of the columns, the
  earlier array in the left half.
-/
module
public import proofs.«01_k».proof.Proof.Acc
public import proofs.«01_k».proof.Proof.Gen.Kernel9Ideal.Value
public import Idealize.ShloMosaic.PureOps.IdealRules
public import Idealize.ShloMosaic.Lib.Pipeline.Value
public import Idealize.ShloMosaic.Lib.ValueLayout
public import Idealize.ShloMosaic.Lib.IdealHost
public import Idealize.ShloMosaic.Lib.ValueLayoutCasts
public import Idealize.ShloMosaic.Lib.Pipeline.ValueKit.Basic
public import Idealize.ShloMosaic.Lib.VecWindow
@[expose] public section
set_option maxRecDepth 16384
noncomputable section
namespace Cert.Kernel9Ideal.Value
open Cert.Kernel9Ideal Cert.Kernel9Ideal.Gen Cert.Attn Cert.Mm
open Idealize.ShloMosaic Idealize.ShloMosaic.ValueIdx Idealize.ShloMosaic.TcCoe Idealize.ShloMosaic.Tactic

theorem mm0 (φ₁ φ₂ : FTy) (prec) (x : FVec Ideal S1024x1280 φ₁) (y : FVec Ideal S1024x1280 φ₂) (i j : Fin 1024) :
    matmul dot_S1024x1280_S1024x1280_S1024x1024_1_1_0_0_n_n prec x y (constant S1024x1024 .f32 0x00000000#32) (ix2 i j) = nt 1280 (at2 x) (at2 y) i j :=
  matmul_at _ prec 1280 rfl rfl x y (ix2 i j) _ _
    (fun k => at2_of x _ _ _ rfl (contrEquiv1_symm_val dot_S1024x1280_S1024x1280_S1024x1024_1_1_0_0_n_n 1280 rfl rfl k))
    (fun k => at2_of y _ _ _ rfl (contrEquiv1_symm_val dot_S1024x1280_S1024x1280_S1024x1024_1_1_0_0_n_n 1280 rfl rfl k))

theorem pay1_at (i : Fin 1024) (j : Fin 1024) : k0_pay1 (F := Ideal) (ix2 i j) = 0 := by
  unfold k0_pay1
  rw [shapeCast_self]
  exact Ideal.ofBits_zero_f32

theorem pay2_at (v3 : Vec Ideal S1024x1024 .f32) (v4 : Vec Ideal S1024x1280 .bf16) (v5 : Vec Ideal S1x1024x1280 .bf16) (i : Fin 1024) (j : Fin 1024) :
    k0_pay2 (F := Ideal) v3 v4 v5 (ix2 i j) = v3 (ix2 i j) + nt 1280 (at2 (a := 1024) (b := 1280) v4) (at3 (a := 1) (b := 1024) (c := 1280) v5 0) i j := by
  have e := (mm0 .bf16 .bf16 none v4 (shapeCast S1024x1280 v5 shapeCasts_S1x1024x1280_S1024x1280) i j).trans (nt_congr (fun _ _ => rfl) fun k hk => cast_unit v5 shapeCasts_S1x1024x1280_S1024x1280 j k j.isLt hk)
  rw [← e]
  unfold k0_pay2
  rw [shapeCast_self]; rfl

/-! ## What the carried block holds after each point -/

variable (m : (ℓ : Loc nD τ sig) → Buf (Elt Ideal) ℓ) (ρ : Dev nD → PrngReg) (c : Dev nD)

theorem sc_first (t : Fin cfg0.N) (h0 : t.val % 8 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0 kernelRun0_A
  refine (View.read_writes_full _ _ _ _ _).trans ?_
  congr 1
  · exact View.readCov_full _ _ _ _ _
  · exact (View.readAt_full (ms0_0 t).view _ _).trans ((hs0_0 t).read_unread _)
  · exact (View.readAt_full (ms0_1 t).view _ _).trans ((hs0_1 t).read_unread _)

theorem sc_next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  on_goal 1 => rw [outsAt0_C m c t h0 h1]; dsimp only; unfold sout0_C_0 kernelRun0_C
  on_goal 2 => rw [outsAt0_B m c t h0 h1]; dsimp only; unfold sout0_B_0 kernelRun0_B
  all_goals
    refine (View.read_writes_full _ _ _ _ _).trans ?_
    congr 1
    · exact (View.readAt_full scM0_0.view _ _).trans ((Memref.isWhole_whole _).read_unread _)
    · exact (View.readAt_full (ms0_0 t).view _ _).trans ((hs0_0 t).read_unread _)
    · exact (View.readAt_full (ms0_1 t).view _ _).trans ((hs0_1 t).read_unread _)

theorem out_last (t : Fin cfg0.N) (h1 : t.val % 8 = 7) : (outsAt0 m c t.val t.isLt).1 = (outsAt0 m c t.val t.isLt).2 := by
  have h0 : ¬t.val % 8 = 0 := by omega
  rw [sc_next m c t h0, outsAt0_C m c t h0 h1]
  dsimp only
  unfold out0_C_2 kernelRun0_C
  refine (View.read_writes_full _ _ _ _ _).trans ?_
  refine (View.readCov_full _ _ _ _ _).trans ?_
  congr 1
  · exact (View.readAt_full scM0_0.view _ _).trans ((Memref.isWhole_whole _).read_unread _)
  · exact (View.readAt_full (ms0_0 t).view _ _).trans ((hs0_0 t).read_unread _)
  · exact (View.readAt_full (ms0_1 t).view _ _).trans ((hs0_1 t).read_unread _)

/-! ## The blocks and the array -/

/-- The two factors: the gradient of the projection, and the half of the weight by its eight blocks of columns. -/
abbrev fA : ℕ → ℕ → EReal := at2 (a := 2048) (b := 10240) (V m c main_arg0)
abbrev fW : ℕ → ℕ → EReal := wrows 1280 0 (at3 (a := 8) (b := 1024) (c := 1280) (V m c main_v2))

theorem idx0_0 : ∀ t : Fin cfg0.N, (cfg0.win 0).index t (0 : Fin 2) = t.val / 8 ∧ (cfg0.win 0).index t (1 : Fin 2) = t.val % 8 := by decide +kernel
theorem idx0_1 : ∀ t : Fin cfg0.N, (cfg0.win 1).index t (0 : Fin 3) = t.val % 8 ∧ (cfg0.win 1).index t (1 : Fin 3) = 0 ∧ (cfg0.win 1).index t (2 : Fin 3) = 0 := by decide +kernel
theorem idx0_2 : ∀ t : Fin cfg0.N, (cfg0.win 2).index t (0 : Fin 2) = t.val / 8 ∧ (cfg0.win 2).index t (1 : Fin 2) = 1 := by decide +kernel
theorem mv (t : Fin cfg0.N) : Moves2 (a := 1024) (b := 1024) (a' := 2048) (b' := 2048) ((cfg0.win 2).rect t).emb (t.val / 8) 1 :=
  .of (Pipeline.Window.rect_emb_val (cfg0.win 2) t) rfl rfl (idx0_2 t)

/-- One tile's product is a stretch of the whole product. -/
theorem tile (t : Fin cfg0.N) (p q : Fin 1024) :
    nt 1280 (at2 (a := 1024) (b := 1280) (iblk m c 0 t)) (at3 (a := 1) (b := 1024) (c := 1280) (iblk m c 1 t) 0) p q
      = nt 1280 (fun i k => fA m c i (1280 * (t.val % 8) + k)) (fun j k => fW m c j (1280 * (t.val % 8) + k)) (1024 * (t.val / 8) + p) q := by
  refine nt_congr (fun k hk => ?_) fun k hk => ?_
  · exact (Moves2.read (a := 1024) (b := 1280) (a' := 2048) (b' := 10240) (e := ((cfg0.win 0).rect t).emb) (.of (Pipeline.Window.rect_emb_val (cfg0.win 0) t) rfl rfl (idx0_0 t)) (V m c main_arg0) _ (fun _ => rfl) p k p.isLt hk).trans (by congr 1 <;> omega)
  · refine (Moves3.read (a := 1) (b := 1024) (d := 1280) (a' := 8) (b' := 1024) (d' := 1280) (e := ((cfg0.win 1).rect t).emb) (.of (Pipeline.Window.rect_emb_val (cfg0.win 1) t) rfl rfl rfl (idx0_1 t)) (V m c main_v2) _ (fun _ => rfl) 0 q k (by omega) q.isLt hk).trans ?_
    unfold fW wrows
    congr 1 <;> omega

theorem sc_at : ∀ (n : ℕ) (hn : n < cfg0.N) (p q : Fin 1024),
    (outsAt0 m c n hn).2 (ix2 p q : S1024x1024.Idx) = nt (1280 * (n % 8 + 1)) (fA m c) (fW m c) (1024 * (n / 8) + p) q :=
  acc_nt (by omega) (fA m c) (fW m c) (fun n hn p q => (outsAt0 m c n hn).2 (ix2 p q : S1024x1024.Idx))
    (fun t p q => nt 1280 (at2 (a := 1024) (b := 1280) (iblk m c 0 t)) (at3 (a := 1) (b := 1024) (c := 1280) (iblk m c 1 t) 0) p q) (tile m c)
    (fun t h0 p q => (congrFun (sc_first m c t h0) _).trans ((pay2_at _ _ _ p q).trans (by rw [pay1_at, zero_add])))
    (fun n hn h0 p q => (congrFun (sc_next m c ⟨n + 1, hn⟩ h0) _).trans (pay2_at _ _ _ p q))

theorem out (p : Fin 2048) (q : Fin 1024) :
    (dats m 0 c).arrAt 2 cfg0.N (ix2 p ⟨1 * 1024 + q.val, by omega⟩ : S2048x2048.Idx) = nt 10240 (fA m c) (fW m c) p q := by
  have hN : cfg0.N = 16 := N_0
  have ht : 8 * (p.val / 1024) + 7 < cfg0.N := by omega
  obtain ⟨y, e⟩ := (mv ⟨_, ht⟩).hit (ix2 p ⟨1 * 1024 + q.val, by omega⟩ : S2048x2048.Idx) (by show (8 * (p.val / 1024) + 7) / 8 = p.val / 1024; omega) (by show 1 = (1 * 1024 + q.val) / 1024; omega) (by omega) (by omega)
  refine (Pipeline.Dat.arrAt_forall_of_flushed (dats m 0 c) 2 (fun i v => v = nt 10240 (fA m c) (fW m c) ((i : S2048x2048.Idx) 0).val (((i : S2048x2048.Idx) 1).val - 1 * 1024))
    (fun t hf y => (mv t).write _ (fun i j => nt 10240 (fA m c) (fW m c) i (j - 1 * 1024)) (fun p q => ?_) y) cfg0.N ⟨_, ht⟩ _ ht
    ((flush0_2 _).2 (by show (8 * (p.val / 1024) + 7) % 8 = 7; omega)) (e ▸ View.emb_mem_set _ y)).trans (congrArg _ (by show 1 * 1024 + q.val - 1 * 1024 = q.val; omega))
  have h7 : t.val % 8 = 7 := (flush0_2 t).1 hf
  refine (congrFun ((after0_2 m c t).trans (out_last m c t h7)) _).trans ((sc_at m c t.val t.isLt p q).trans ?_)
  rw [show 1280 * (t.val % 8 + 1) = 10240 by omega, show 1024 * (t.val / 8) + p.val = t.val / 8 * 1024 + p.val by omega, show 1 * 1024 + q.val - 1 * 1024 = q.val by omega]

/-! ## In the arguments -/

abbrev aA : S2048x10240.Idx → EReal := m ((c : Thread nD τ).loc main_arg0)
abbrev aW : S2048x10240.Idx → EReal := m ((c : Thread nD τ).loc main_arg1)

theorem V_v2 : V m c main_v2 = transpose S8x1024x1280 [1, 0, 2] (shapeCast S1024x8x1280 (extractStridedSlice S1024x10240 ![1024, 0] (aW m c) slices_S2048x10240_S1024x10240_1024_0) shapeCasts_S1024x10240_S1024x8x1280) transposes_S1024x8x1280_S8x1024x1280_1_0_2 := by
  after_results_simp; rfl

theorem res_at (p : Fin 2048) (q : Fin 1024) : (dats m 0 c).arrAt 2 cfg0.N (ix2 p ⟨1 * 1024 + q.val, by omega⟩ : S2048x2048.Idx)
    = nt 10240 (at2 (a := 2048) (b := 10240) (aA m c)) (fun j k => at2 (a := 2048) (b := 10240) (aW m c) (1024 + j) k) p q := by
  refine (out m c p q).trans (nt_congr (fun k _ => ?_) fun k hk => ?_)
  · exact congrFun (congrFun (congrArg (at2 (a := 2048) (b := 10240)) (V_main_arg0 m c)) _) _
  · unfold fW
    rw [V_v2]
    refine (wrows_at 0 _ _ _ (by norm_num) (by norm_num) q k q.isLt (by omega)).trans ((slice_at _ _ _ _ q.isLt (by omega)).trans ?_)
    congr 1; omega

abbrev aX : S2048x2048.Idx → EReal := m ((c : Thread nD τ).loc main_arg2)

theorem V_v3 : V m c main_v3 = aX m c := by
  rfl

/-- The left half of the columns is not written. -/
theorem kept_at (p : Fin 2048) (q : Fin 2048) (hq : q.val < 1024) : (dats m 0 c).arrAt 2 cfg0.N (ix2 p q : S2048x2048.Idx) = aX m c (ix2 p q) := by
  refine (entry2 m c _ fun t _ h => ?_).trans (congrFun (V_v3 m c) _)
  obtain ⟨y, e⟩ := View.exists_emb_of_mem_set _ h
  have e1 : _ = q.val := congrArg (fun i : S2048x2048.Idx => (i (1 : Fin 2)).val) e
  have e2 := (mv t y).2.symm.trans e1
  omega
end Cert.Kernel9Ideal.Value
end
-- ==== Proof.Algebraic9.lean ====
/-
  The call's reference at an index, and the program's claims: from the same arguments the kernel and the reference end with
  the same gradient of the projection's rows.
-/
module
public import proofs.«01_k».proof.Defs
public import proofs.«01_k».proof.Proof.Acc9
public import proofs.«01_k».proof.Proof.MmRef
public import proofs.«01_k».proof.Proof.Gen.Reference9Ideal.Run
public import proofs.«01_k».proof.Proof.Gen.Kernel9
public import proofs.«01_k».proof.Proof.Gen.Kernel9.Frame
public import proofs.«01_k».proof.Proof.Gen.Kernel9Ideal
public import proofs.«01_k».proof.Proof.Gen.Reference9Ideal
public import Idealize.ShloMosaic.Lib.Pointwise
public import Idealize.ShloMosaic.Lib.Quiescent
@[expose] public section
set_option maxRecDepth 16384
noncomputable section
namespace Cert.Reference9Ideal.Value
open Cert.Reference9Ideal Cert.Reference9Ideal.Gen Cert.Attn Cert.Mm
open Idealize.ShloMosaic Idealize.ShloMosaic.TcCoe

def rOut (A : FVec Ideal S2048x10240 .bf16) (W : FVec Ideal S2048x10240 .bf16) : FVec Ideal S2048x1024 .f32 :=
  Host.dotGeneral dot_S2048x10240_S1024x10240_S2048x1024_1_1_0_0_n_n none (extf .f32 A bitsLt_bf16_f32) (extf .f32 (extractStridedSlice S1024x10240 ![1024, 0] W slices_S2048x10240_S1024x10240_1024_0) bitsLt_bf16_f32)

abbrev nOut (A : S2048x10240.Idx → EReal) (W : S2048x10240.Idx → EReal) : S2048x1024.Idx → EReal := rOut A W

theorem out_at (A : S2048x10240.Idx → EReal) (W : S2048x10240.Idx → EReal) (i : Fin 2048) (j : Fin 1024) :
    nOut A W (ix2 i j) = nt 10240 (at2 (a := 2048) (b := 10240) A) (fun j k => at2 (a := 2048) (b := 10240) W (1024 + j) k) i j := by
  have e : nOut A W (ix2 i j) = ∑ x : Fin 10240, A (ix2 i x) * W (ix2 (⟨1024 + j.val, by omega⟩ : Fin 2048) x) := by
    unfold nOut rOut
    pointwise
    all_goals first | rfl | (congr 1; funext a; apply Fin.ext; match a with | ⟨0, _⟩ => show _ = _; simp | ⟨1, _⟩ => rfl)
  rw [e]
  exact nt_fin _ _ i j _ fun x => by rw [p2 A, p2 W]

def rAll (A : FVec Ideal S2048x10240 .bf16) (W : FVec Ideal S2048x10240 .bf16) (X : FVec Ideal S2048x2048 .f32) : FVec Ideal S2048x2048 .f32 :=
  concatenate S2048x2048 1 [⟨S2048x1024, extractStridedSlice S2048x1024 ![0, 0] X slices_S2048x2048_S2048x1024_0_0⟩, ⟨S2048x1024, rOut A W⟩] concatenates_S2048x1024_S2048x1024_S2048x2048_d1

abbrev nAll (A : S2048x10240.Idx → EReal) (W : S2048x10240.Idx → EReal) (X : S2048x2048.Idx → EReal) : S2048x2048.Idx → EReal := rAll A W X

theorem left_at (A : S2048x10240.Idx → EReal) (W : S2048x10240.Idx → EReal) (X : S2048x2048.Idx → EReal) (i j : Fin 2048) (h : j.val < 1024) :
    nAll A W X (ix2 i j) = X (ix2 i j) := by
  refine (concatenate_pair_apply_left (t := S2048x2048) (s₁ := S2048x1024) (s₂ := S2048x1024) 1 _ _ _ (ix2 i j) rfl (ix2 i (⟨j.val, h⟩ : Fin 1024)) (fun a => by
    match a with | ⟨0, _⟩ => rfl | ⟨1, _⟩ => rfl)).trans (congrArg X (funext fun a => Fin.ext ?_))
  match a with | ⟨0, _⟩ => show 0 + i.val = i.val; omega | ⟨1, _⟩ => show 0 + j.val = j.val; omega

theorem right_at (A : S2048x10240.Idx → EReal) (W : S2048x10240.Idx → EReal) (X : S2048x2048.Idx → EReal) (i j : Fin 2048) (q : Fin 1024) (h : j.val = 1 * 1024 + q.val) :
    nAll A W X (ix2 i j) = nOut A W (ix2 i q) :=
  concatenate_pair_apply_right (t := S2048x2048) (s₁ := S2048x1024) (s₂ := S2048x1024) 1 _ _ _ (ix2 i j) rfl rfl (ix2 i q) (fun a ha => by
    match a with | ⟨0, _⟩ => rfl | ⟨1, _⟩ => exact absurd rfl ha) (by show q.val + 1024 = j.val; omega)
end Cert.Reference9Ideal.Value

namespace Cert.In9
open Idealize.ShloMosaic Idealize.ShloMosaic.TcCoe Idealize.SL.Sem
open Cert.Attn Cert.Mm

/-! ## The claims -/

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

theorem preserves : Cert.preserves_Kernel9_Kernel9Ideal := trivial

theorem algebraic : Cert.algebraic_Kernel9Ideal_Reference9Ideal := by
  intro m g m' g' _ ha
  refine ⟨fun c => (Cert.Kernel9Ideal.Gen.dats m 0 c).arrAt 2 Cert.Kernel9Ideal.cfg0.N, ?_, ?_⟩
  · refine (θ_run Cert.Kernel9Ideal.defs _ _).mono (fun r h c => ?_) (Cert.Kernel9Ideal.Gen.run_main (F := Ideal) m g)
    exact ⟨Cert.Kernel9Ideal.Value.post2 m r h c, Cert.Kernel9Ideal.Value.kept_main_arg0 m r h c, Cert.Kernel9Ideal.Value.kept_main_arg1 m r h c, Cert.Kernel9Ideal.Value.kept_main_arg2 m r h c⟩
  · refine (θ_run Cert.Reference9Ideal.defs _ _).mono (fun r h c => ?_) (Cert.Reference9Ideal.Value.run (F := Ideal) m' g')
    obtain ⟨e0, k0, k1, k2⟩ := h c
    obtain ⟨a0, a1, a2⟩ := ha c
    have f0 : _ = Cert.Reference9Ideal.Value.nAll (Cert.Kernel9Ideal.Value.aA m c) (Cert.Kernel9Ideal.Value.aW m c) (Cert.Kernel9Ideal.Value.aX m c) :=
      e0.trans (congr3 Cert.Reference9Ideal.Value.nAll a0 a1 a2)
    refine ⟨f0.trans (ext2 (a := 2048) (b := 2048) fun p q => ?_), k0, k1, k2⟩
    by_cases hq : q.val < 1024
    · refine (Cert.Reference9Ideal.Value.left_at _ _ _ p q hq).trans ?_
      rw [ix2_eq_valueIdx]
      exact (Cert.Kernel9Ideal.Value.kept_at m c p q hq).symm
    · obtain ⟨j, e⟩ : ∃ j : Fin 1024, q = ⟨1 * 1024 + j.val, by omega⟩ := ⟨⟨q.val - 1024, by omega⟩, Fin.ext (by show q.val = 1 * 1024 + (q.val - 1024); omega)⟩
      rw [e]
      refine (Cert.Reference9Ideal.Value.right_at _ _ _ p _ j rfl).trans ((Cert.Reference9Ideal.Value.out_at _ _ p j).trans ?_)
      rw [ix2_eq_valueIdx]
      exact (Cert.Kernel9Ideal.Value.res_at m c p j).symm

end Cert.In9
end
-- ==== Proof.lean ====
module

public import proofs.«01_k».proof.Defs
public import proofs.«01_k».proof.Proof.Frames
public import proofs.«01_k».proof.Proof.Algebraic
public import proofs.«01_k».proof.Proof.Algebraic2
public import proofs.«01_k».proof.Proof.Algebraic3
public import proofs.«01_k».proof.Proof.Algebraic4
public import proofs.«01_k».proof.Proof.Algebraic5
public import proofs.«01_k».proof.Proof.Algebraic6
public import proofs.«01_k».proof.Proof.Algebraic7
public import proofs.«01_k».proof.Proof.Algebraic8
public import proofs.«01_k».proof.Proof.Algebraic9

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Attn.pre_facts, Cert.Ffn.pre_facts,
  Cert.Frames.frame_p, Cert.Frames.frame_pi, fun m g _ => Cert.Frames.frame_pi m g trivial, Cert.Frames.frame_ri,
  fun m g _ => Cert.Frames.frame_ri m g trivial,
  Cert.Ffn.frame_p, Cert.Ffn.frame_pi, fun m g _ => Cert.Ffn.frame_pi m g trivial, Cert.Ffn.frame_ri,
  fun m g _ => Cert.Ffn.frame_ri m g trivial,
  Cert.Proj.frame_p, Cert.Proj.frame_pi, Cert.Proj.frame_ri,
  Cert.Ffn4.frame_p, Cert.Ffn4.frame_pi, Cert.Ffn4.frame_ri,
  Cert.Ffn5.frame_p, Cert.Ffn5.frame_pi, Cert.Ffn5.frame_ri,
  Cert.Ffn6.frame_p, Cert.Ffn6.frame_pi, Cert.Ffn6.frame_ri,
  Cert.Gate.frame_p, Cert.Gate.frame_pi, Cert.Gate.frame_ri,
  Cert.In8.frame_p, Cert.In8.frame_pi, Cert.In8.frame_ri,
  Cert.In9.frame_p, Cert.In9.frame_pi, Cert.In9.frame_ri,
  Cert.Frames.preserves, Cert.Algebraic.algebraic (hPre_finite := Cert.Attn.pre_facts),
  Cert.Ffn.preserves, Cert.Ffn.algebraic (hPre_finite2 := Cert.Ffn.pre_facts),
  Cert.Proj.preserves, Cert.Proj.algebraic,
  Cert.Ffn4.preserves, Cert.Ffn4.algebraic,
  Cert.Ffn5.preserves, Cert.Ffn5.algebraic,
  Cert.Ffn6.preserves, Cert.Ffn6.algebraic,
  Cert.Gate.preserves, Cert.Gate.algebraic,
  Cert.In8.preserves, Cert.In8.algebraic,
  Cert.In9.preserves, Cert.In9.algebraic⟩

end Cert.Proof

end
